-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_CopyKernel (m : (ℓ : Loc Cert.CopyKernel.nD Cert.CopyKernel.τ Cert.CopyKernel.sig) → Buf (Elt Bits) ℓ) : Prop :=
  True

def Pre_CopyKernelIdeal (m : (ℓ : Loc Cert.CopyKernelIdeal.nD Cert.CopyKernelIdeal.τ Cert.CopyKernelIdeal.sig) → Buf (Elt Ideal) ℓ) : Prop :=
  True

def Pre_CopyReferenceIdeal (m : (ℓ : Loc Cert.CopyReferenceIdeal.nD Cert.CopyReferenceIdeal.τ Cert.CopyReferenceIdeal.sig) → Buf (Elt Ideal) ℓ) : Prop :=
  True

def Pre_AddKernel [hPre_each_once : Cert.Pre_each_once.Facts] (m : (ℓ : Loc Cert.AddKernel.nD Cert.AddKernel.τ Cert.AddKernel.sig) → Buf (Elt Bits) ℓ) : Prop :=
  ∀ c : Dev Cert.AddKernel.nD,
    (Cert.Pre_each_once.fn (F := Bits) (m ((c.tc : Thread Cert.AddKernel.nD Cert.AddKernel.τ).loc Cert.AddKernel.main_arg0)) (m ((c.tc : Thread Cert.AddKernel.nD Cert.AddKernel.τ).loc Cert.AddKernel.main_arg1)) (m ((c.tc : Thread Cert.AddKernel.nD Cert.AddKernel.τ).loc Cert.AddKernel.main_arg2))).1 = (fun _ => 1#1)
    ∧ (Cert.Pre_each_once.fn (F := Bits) (m ((c.tc : Thread Cert.AddKernel.nD Cert.AddKernel.τ).loc Cert.AddKernel.main_arg0)) (m ((c.tc : Thread Cert.AddKernel.nD Cert.AddKernel.τ).loc Cert.AddKernel.main_arg1)) (m ((c.tc : Thread Cert.AddKernel.nD Cert.AddKernel.τ).loc Cert.AddKernel.main_arg2))).2.1 = (fun _ => 1#1)
    ∧ (Cert.Pre_each_once.fn (F := Bits) (m ((c.tc : Thread Cert.AddKernel.nD Cert.AddKernel.τ).loc Cert.AddKernel.main_arg0)) (m ((c.tc : Thread Cert.AddKernel.nD Cert.AddKernel.τ).loc Cert.AddKernel.main_arg1)) (m ((c.tc : Thread Cert.AddKernel.nD Cert.AddKernel.τ).loc Cert.AddKernel.main_arg2))).2.2 = (fun _ => 1#1)

def Pre_AddKernelIdeal [hPre_each_once : Cert.Pre_each_once.Facts] (m : (ℓ : Loc Cert.AddKernelIdeal.nD Cert.AddKernelIdeal.τ Cert.AddKernelIdeal.sig) → Buf (Elt Ideal) ℓ) : Prop :=
  ∀ c : Dev Cert.AddKernelIdeal.nD,
    (Cert.Pre_each_once.fn (F := Ideal) (m ((c.tc : Thread Cert.AddKernelIdeal.nD Cert.AddKernelIdeal.τ).loc Cert.AddKernelIdeal.main_arg0)) (m ((c.tc : Thread Cert.AddKernelIdeal.nD Cert.AddKernelIdeal.τ).loc Cert.AddKernelIdeal.main_arg1)) (m ((c.tc : Thread Cert.AddKernelIdeal.nD Cert.AddKernelIdeal.τ).loc Cert.AddKernelIdeal.main_arg2))).1 = (fun _ => 1#1)
    ∧ (Cert.Pre_each_once.fn (F := Ideal) (m ((c.tc : Thread Cert.AddKernelIdeal.nD Cert.AddKernelIdeal.τ).loc Cert.AddKernelIdeal.main_arg0)) (m ((c.tc : Thread Cert.AddKernelIdeal.nD Cert.AddKernelIdeal.τ).loc Cert.AddKernelIdeal.main_arg1)) (m ((c.tc : Thread Cert.AddKernelIdeal.nD Cert.AddKernelIdeal.τ).loc Cert.AddKernelIdeal.main_arg2))).2.1 = (fun _ => 1#1)
    ∧ (Cert.Pre_each_once.fn (F := Ideal) (m ((c.tc : Thread Cert.AddKernelIdeal.nD Cert.AddKernelIdeal.τ).loc Cert.AddKernelIdeal.main_arg0)) (m ((c.tc : Thread Cert.AddKernelIdeal.nD Cert.AddKernelIdeal.τ).loc Cert.AddKernelIdeal.main_arg1)) (m ((c.tc : Thread Cert.AddKernelIdeal.nD Cert.AddKernelIdeal.τ).loc Cert.AddKernelIdeal.main_arg2))).2.2 = (fun _ => 1#1)

def Pre_AddReferenceIdeal (m : (ℓ : Loc Cert.AddReferenceIdeal.nD Cert.AddReferenceIdeal.τ Cert.AddReferenceIdeal.sig) → Buf (Elt Ideal) ℓ) : Prop :=
  True

def Pre_AddReferenceIdeal_each_once [hPre_each_once : Cert.Pre_each_once.Facts] (m : (ℓ : Loc Cert.AddReferenceIdeal.nD Cert.AddReferenceIdeal.τ Cert.AddReferenceIdeal.sig) → Buf (Elt Ideal) ℓ) : Prop :=
  ∀ c : Dev Cert.AddReferenceIdeal.nD,
    (Cert.Pre_each_once.fn (F := Ideal) (m ((c.tc : Thread Cert.AddReferenceIdeal.nD Cert.AddReferenceIdeal.τ).loc Cert.AddReferenceIdeal.main_arg0)) (m ((c.tc : Thread Cert.AddReferenceIdeal.nD Cert.AddReferenceIdeal.τ).loc Cert.AddReferenceIdeal.main_arg1)) (m ((c.tc : Thread Cert.AddReferenceIdeal.nD Cert.AddReferenceIdeal.τ).loc Cert.AddReferenceIdeal.main_arg2))).1 = (fun _ => 1#1)
    ∧ (Cert.Pre_each_once.fn (F := Ideal) (m ((c.tc : Thread Cert.AddReferenceIdeal.nD Cert.AddReferenceIdeal.τ).loc Cert.AddReferenceIdeal.main_arg0)) (m ((c.tc : Thread Cert.AddReferenceIdeal.nD Cert.AddReferenceIdeal.τ).loc Cert.AddReferenceIdeal.main_arg1)) (m ((c.tc : Thread Cert.AddReferenceIdeal.nD Cert.AddReferenceIdeal.τ).loc Cert.AddReferenceIdeal.main_arg2))).2.1 = (fun _ => 1#1)
    ∧ (Cert.Pre_each_once.fn (F := Ideal) (m ((c.tc : Thread Cert.AddReferenceIdeal.nD Cert.AddReferenceIdeal.τ).loc Cert.AddReferenceIdeal.main_arg0)) (m ((c.tc : Thread Cert.AddReferenceIdeal.nD Cert.AddReferenceIdeal.τ).loc Cert.AddReferenceIdeal.main_arg1)) (m ((c.tc : Thread Cert.AddReferenceIdeal.nD Cert.AddReferenceIdeal.τ).loc Cert.AddReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_CopyKernel [hCopyKernel : Cert.CopyKernel.Facts] : Prop :=
  ∀ (m : (ℓ : Loc Cert.CopyKernel.nD Cert.CopyKernel.τ Cert.CopyKernel.sig) → Buf (Elt Bits) ℓ) (g : Dev Cert.CopyKernel.nD → PrngReg), Pre_CopyKernel m →
    θ_run (Cert.CopyKernel.defs (F := Bits)) (Cert.CopyKernel.threads (F := Bits)) ⟨m, fun _ => 0, g⟩ (fun r => (∀ c : Dev Cert.CopyKernel.nD,
      r.2.mem ((c.tc : Thread Cert.CopyKernel.nD Cert.CopyKernel.τ).loc Cert.CopyKernel.main_arg0) = m ((c.tc : Thread Cert.CopyKernel.nD Cert.CopyKernel.τ).loc Cert.CopyKernel.main_arg0))
      ∧ r.2.sem = fun _ => 0)

def quiescent_CopyKernelIdeal [hCopyKernelIdeal : Cert.CopyKernelIdeal.Facts] : Prop :=
  ∀ (m : (ℓ : Loc Cert.CopyKernelIdeal.nD Cert.CopyKernelIdeal.τ Cert.CopyKernelIdeal.sig) → Buf (Elt Ideal) ℓ) (g : Dev Cert.CopyKernelIdeal.nD → PrngReg), Pre_CopyKernelIdeal m →
    θ_run (Cert.CopyKernelIdeal.defs (F := Ideal)) (Cert.CopyKernelIdeal.threads (F := Ideal)) ⟨m, fun _ => 0, g⟩ (fun r => (∀ c : Dev Cert.CopyKernelIdeal.nD,
      r.2.mem ((c.tc : Thread Cert.CopyKernelIdeal.nD Cert.CopyKernelIdeal.τ).loc Cert.CopyKernelIdeal.main_arg0) = m ((c.tc : Thread Cert.CopyKernelIdeal.nD Cert.CopyKernelIdeal.τ).loc Cert.CopyKernelIdeal.main_arg0))
      ∧ r.2.sem = fun _ => 0)

def quiescent_CopyReferenceIdeal [hCopyReferenceIdeal : Cert.CopyReferenceIdeal.Facts] : Prop :=
  ∀ (m : (ℓ : Loc Cert.CopyReferenceIdeal.nD Cert.CopyReferenceIdeal.τ Cert.CopyReferenceIdeal.sig) → Buf (Elt Ideal) ℓ) (g : Dev Cert.CopyReferenceIdeal.nD → PrngReg), Pre_CopyReferenceIdeal m →
    θ_run (Cert.CopyReferenceIdeal.defs (F := Ideal)) (onTc (τ := Cert.CopyReferenceIdeal.τ) (Cert.CopyReferenceIdeal.main (F := Ideal))) ⟨m, fun _ => 0, g⟩ (fun r => (∀ c : Dev Cert.CopyReferenceIdeal.nD,
      r.2.mem ((c.tc : Thread Cert.CopyReferenceIdeal.nD Cert.CopyReferenceIdeal.τ).loc Cert.CopyReferenceIdeal.main_arg0) = m ((c.tc : Thread Cert.CopyReferenceIdeal.nD Cert.CopyReferenceIdeal.τ).loc Cert.CopyReferenceIdeal.main_arg0))
      ∧ r.2.sem = fun _ => 0)

def quiescent_AddKernel [hAddKernel : Cert.AddKernel.Facts] [hPre_each_once : Cert.Pre_each_once.Facts] : Prop :=
  ∀ (m : (ℓ : Loc Cert.AddKernel.nD Cert.AddKernel.τ Cert.AddKernel.sig) → Buf (Elt Bits) ℓ) (g : Dev Cert.AddKernel.nD → PrngReg), Pre_AddKernel m →
    θ_run (Cert.AddKernel.defs (F := Bits)) (Cert.AddKernel.threads (F := Bits)) ⟨m, fun _ => 0, g⟩ (fun r => (∀ c : Dev Cert.AddKernel.nD,
      r.2.mem ((c.tc : Thread Cert.AddKernel.nD Cert.AddKernel.τ).loc Cert.AddKernel.main_arg0) = m ((c.tc : Thread Cert.AddKernel.nD Cert.AddKernel.τ).loc Cert.AddKernel.main_arg0)
      ∧ r.2.mem ((c.tc : Thread Cert.AddKernel.nD Cert.AddKernel.τ).loc Cert.AddKernel.main_arg1) = m ((c.tc : Thread Cert.AddKernel.nD Cert.AddKernel.τ).loc Cert.AddKernel.main_arg1)
      ∧ r.2.mem ((c.tc : Thread Cert.AddKernel.nD Cert.AddKernel.τ).loc Cert.AddKernel.main_arg2) = m ((c.tc : Thread Cert.AddKernel.nD Cert.AddKernel.τ).loc Cert.AddKernel.main_arg2))
      ∧ r.2.sem = fun _ => 0)

def quiescent_AddKernelIdeal [hAddKernelIdeal : Cert.AddKernelIdeal.Facts] [hPre_each_once : Cert.Pre_each_once.Facts] : Prop :=
  ∀ (m : (ℓ : Loc Cert.AddKernelIdeal.nD Cert.AddKernelIdeal.τ Cert.AddKernelIdeal.sig) → Buf (Elt Ideal) ℓ) (g : Dev Cert.AddKernelIdeal.nD → PrngReg), Pre_AddKernelIdeal m →
    θ_run (Cert.AddKernelIdeal.defs (F := Ideal)) (Cert.AddKernelIdeal.threads (F := Ideal)) ⟨m, fun _ => 0, g⟩ (fun r => (∀ c : Dev Cert.AddKernelIdeal.nD,
      r.2.mem ((c.tc : Thread Cert.AddKernelIdeal.nD Cert.AddKernelIdeal.τ).loc Cert.AddKernelIdeal.main_arg0) = m ((c.tc : Thread Cert.AddKernelIdeal.nD Cert.AddKernelIdeal.τ).loc Cert.AddKernelIdeal.main_arg0)
      ∧ r.2.mem ((c.tc : Thread Cert.AddKernelIdeal.nD Cert.AddKernelIdeal.τ).loc Cert.AddKernelIdeal.main_arg1) = m ((c.tc : Thread Cert.AddKernelIdeal.nD Cert.AddKernelIdeal.τ).loc Cert.AddKernelIdeal.main_arg1)
      ∧ r.2.mem ((c.tc : Thread Cert.AddKernelIdeal.nD Cert.AddKernelIdeal.τ).loc Cert.AddKernelIdeal.main_arg2) = m ((c.tc : Thread Cert.AddKernelIdeal.nD Cert.AddKernelIdeal.τ).loc Cert.AddKernelIdeal.main_arg2))
      ∧ r.2.sem = fun _ => 0)

def quiescent_AddReferenceIdeal [hAddReferenceIdeal : Cert.AddReferenceIdeal.Facts] : Prop :=
  ∀ (m : (ℓ : Loc Cert.AddReferenceIdeal.nD Cert.AddReferenceIdeal.τ Cert.AddReferenceIdeal.sig) → Buf (Elt Ideal) ℓ) (g : Dev Cert.AddReferenceIdeal.nD → PrngReg), Pre_AddReferenceIdeal m →
    θ_run (Cert.AddReferenceIdeal.defs (F := Ideal)) (onTc (τ := Cert.AddReferenceIdeal.τ) (Cert.AddReferenceIdeal.main (F := Ideal))) ⟨m, fun _ => 0, g⟩ (fun r => (∀ c : Dev Cert.AddReferenceIdeal.nD,
      r.2.mem ((c.tc : Thread Cert.AddReferenceIdeal.nD Cert.AddReferenceIdeal.τ).loc Cert.AddReferenceIdeal.main_arg0) = m ((c.tc : Thread Cert.AddReferenceIdeal.nD Cert.AddReferenceIdeal.τ).loc Cert.AddReferenceIdeal.main_arg0)
      ∧ r.2.mem ((c.tc : Thread Cert.AddReferenceIdeal.nD Cert.AddReferenceIdeal.τ).loc Cert.AddReferenceIdeal.main_arg1) = m ((c.tc : Thread Cert.AddReferenceIdeal.nD Cert.AddReferenceIdeal.τ).loc Cert.AddReferenceIdeal.main_arg1)
      ∧ r.2.mem ((c.tc : Thread Cert.AddReferenceIdeal.nD Cert.AddReferenceIdeal.τ).loc Cert.AddReferenceIdeal.main_arg2) = m ((c.tc : Thread Cert.AddReferenceIdeal.nD Cert.AddReferenceIdeal.τ).loc Cert.AddReferenceIdeal.main_arg2))
      ∧ r.2.sem = fun _ => 0)

def quiescent_AddReferenceIdeal_pre_each_once [hAddReferenceIdeal : Cert.AddReferenceIdeal.Facts] [hPre_each_once : Cert.Pre_each_once.Facts] : Prop :=
  ∀ (m : (ℓ : Loc Cert.AddReferenceIdeal.nD Cert.AddReferenceIdeal.τ Cert.AddReferenceIdeal.sig) → Buf (Elt Ideal) ℓ) (g : Dev Cert.AddReferenceIdeal.nD → PrngReg), Pre_AddReferenceIdeal_each_once m →
    θ_run (Cert.AddReferenceIdeal.defs (F := Ideal)) (onTc (τ := Cert.AddReferenceIdeal.τ) (Cert.AddReferenceIdeal.main (F := Ideal))) ⟨m, fun _ => 0, g⟩ (fun r => (∀ c : Dev Cert.AddReferenceIdeal.nD,
      r.2.mem ((c.tc : Thread Cert.AddReferenceIdeal.nD Cert.AddReferenceIdeal.τ).loc Cert.AddReferenceIdeal.main_arg0) = m ((c.tc : Thread Cert.AddReferenceIdeal.nD Cert.AddReferenceIdeal.τ).loc Cert.AddReferenceIdeal.main_arg0)
      ∧ r.2.mem ((c.tc : Thread Cert.AddReferenceIdeal.nD Cert.AddReferenceIdeal.τ).loc Cert.AddReferenceIdeal.main_arg1) = m ((c.tc : Thread Cert.AddReferenceIdeal.nD Cert.AddReferenceIdeal.τ).loc Cert.AddReferenceIdeal.main_arg1)
      ∧ r.2.mem ((c.tc : Thread Cert.AddReferenceIdeal.nD Cert.AddReferenceIdeal.τ).loc Cert.AddReferenceIdeal.main_arg2) = m ((c.tc : Thread Cert.AddReferenceIdeal.nD Cert.AddReferenceIdeal.τ).loc Cert.AddReferenceIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v0)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v0) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_CopyKernel_CopyKernelIdeal : Prop :=
  True

def algebraic_CopyKernelIdeal_CopyReferenceIdeal [hCopyKernelIdeal : Cert.CopyKernelIdeal.Facts] [hCopyReferenceIdeal : Cert.CopyReferenceIdeal.Facts] : Prop :=
  ∀ (m : (ℓ : Loc Cert.CopyKernelIdeal.nD Cert.CopyKernelIdeal.τ Cert.CopyKernelIdeal.sig) → Buf (Elt Ideal) ℓ) (g : Dev Cert.CopyKernelIdeal.nD → PrngReg)
    (m' : (ℓ : Loc Cert.CopyReferenceIdeal.nD Cert.CopyReferenceIdeal.τ Cert.CopyReferenceIdeal.sig) → Buf (Elt Ideal) ℓ) (g' : Dev Cert.CopyReferenceIdeal.nD → PrngReg), Pre_CopyKernelIdeal m →
    (∀ c : Dev Cert.CopyKernelIdeal.nD,
      m' ((c.tc : Thread Cert.CopyReferenceIdeal.nD Cert.CopyReferenceIdeal.τ).loc Cert.CopyReferenceIdeal.main_arg0) = m ((c.tc : Thread Cert.CopyKernelIdeal.nD Cert.CopyKernelIdeal.τ).loc Cert.CopyKernelIdeal.main_arg0)) →
    ∃ (v0 : (c : Dev Cert.CopyKernelIdeal.nD) → Buf (Elt Ideal) ((c.tc : Thread Cert.CopyKernelIdeal.nD Cert.CopyKernelIdeal.τ).loc Cert.CopyKernelIdeal.main_v0)),
      θ_run (Cert.CopyKernelIdeal.defs (F := Ideal)) (Cert.CopyKernelIdeal.threads (F := Ideal)) ⟨m, fun _ => 0, g⟩ (fun r => ∀ c : Dev Cert.CopyKernelIdeal.nD,
          r.2.mem ((c.tc : Thread Cert.CopyKernelIdeal.nD Cert.CopyKernelIdeal.τ).loc Cert.CopyKernelIdeal.main_v0) = v0 c
          ∧ r.2.mem ((c.tc : Thread Cert.CopyKernelIdeal.nD Cert.CopyKernelIdeal.τ).loc Cert.CopyKernelIdeal.main_arg0) = m ((c.tc : Thread Cert.CopyKernelIdeal.nD Cert.CopyKernelIdeal.τ).loc Cert.CopyKernelIdeal.main_arg0))
      ∧ θ_run (Cert.CopyReferenceIdeal.defs (F := Ideal)) (onTc (τ := Cert.CopyReferenceIdeal.τ) (Cert.CopyReferenceIdeal.main (F := Ideal))) ⟨m', fun _ => 0, g'⟩ (fun r => ∀ c : Dev Cert.CopyReferenceIdeal.nD,
          r.2.mem ((c.tc : Thread Cert.CopyReferenceIdeal.nD Cert.CopyReferenceIdeal.τ).loc Cert.CopyReferenceIdeal.main_arg0) = v0 c
          ∧ r.2.mem ((c.tc : Thread Cert.CopyReferenceIdeal.nD Cert.CopyReferenceIdeal.τ).loc Cert.CopyReferenceIdeal.main_arg0) = m' ((c.tc : Thread Cert.CopyReferenceIdeal.nD Cert.CopyReferenceIdeal.τ).loc Cert.CopyReferenceIdeal.main_arg0))

def preserves_AddKernel_AddKernelIdeal : Prop :=
  True

def algebraic_AddKernelIdeal_AddReferenceIdeal [hAddKernelIdeal : Cert.AddKernelIdeal.Facts] [hAddReferenceIdeal : Cert.AddReferenceIdeal.Facts] [hPre_each_once : Cert.Pre_each_once.Facts] : Prop :=
  ∀ (m : (ℓ : Loc Cert.AddKernelIdeal.nD Cert.AddKernelIdeal.τ Cert.AddKernelIdeal.sig) → Buf (Elt Ideal) ℓ) (g : Dev Cert.AddKernelIdeal.nD → PrngReg)
    (m' : (ℓ : Loc Cert.AddReferenceIdeal.nD Cert.AddReferenceIdeal.τ Cert.AddReferenceIdeal.sig) → Buf (Elt Ideal) ℓ) (g' : Dev Cert.AddReferenceIdeal.nD → PrngReg), Pre_AddKernelIdeal m →
    (∀ c : Dev Cert.AddKernelIdeal.nD,
      m' ((c.tc : Thread Cert.AddReferenceIdeal.nD Cert.AddReferenceIdeal.τ).loc Cert.AddReferenceIdeal.main_arg0) = m ((c.tc : Thread Cert.AddKernelIdeal.nD Cert.AddKernelIdeal.τ).loc Cert.AddKernelIdeal.main_arg0)
      ∧ m' ((c.tc : Thread Cert.AddReferenceIdeal.nD Cert.AddReferenceIdeal.τ).loc Cert.AddReferenceIdeal.main_arg1) = m ((c.tc : Thread Cert.AddKernelIdeal.nD Cert.AddKernelIdeal.τ).loc Cert.AddKernelIdeal.main_arg1)
      ∧ m' ((c.tc : Thread Cert.AddReferenceIdeal.nD Cert.AddReferenceIdeal.τ).loc Cert.AddReferenceIdeal.main_arg2) = m ((c.tc : Thread Cert.AddKernelIdeal.nD Cert.AddKernelIdeal.τ).loc Cert.AddKernelIdeal.main_arg2)) →
    ∃ (v0 : (c : Dev Cert.AddKernelIdeal.nD) → Buf (Elt Ideal) ((c.tc : Thread Cert.AddKernelIdeal.nD Cert.AddKernelIdeal.τ).loc Cert.AddKernelIdeal.main_v0)),
      θ_run (Cert.AddKernelIdeal.defs (F := Ideal)) (Cert.AddKernelIdeal.threads (F := Ideal)) ⟨m, fun _ => 0, g⟩ (fun r => ∀ c : Dev Cert.AddKernelIdeal.nD,
          r.2.mem ((c.tc : Thread Cert.AddKernelIdeal.nD Cert.AddKernelIdeal.τ).loc Cert.AddKernelIdeal.main_v0) = v0 c
          ∧ r.2.mem ((c.tc : Thread Cert.AddKernelIdeal.nD Cert.AddKernelIdeal.τ).loc Cert.AddKernelIdeal.main_arg0) = m ((c.tc : Thread Cert.AddKernelIdeal.nD Cert.AddKernelIdeal.τ).loc Cert.AddKernelIdeal.main_arg0)
          ∧ r.2.mem ((c.tc : Thread Cert.AddKernelIdeal.nD Cert.AddKernelIdeal.τ).loc Cert.AddKernelIdeal.main_arg1) = m ((c.tc : Thread Cert.AddKernelIdeal.nD Cert.AddKernelIdeal.τ).loc Cert.AddKernelIdeal.main_arg1)
          ∧ r.2.mem ((c.tc : Thread Cert.AddKernelIdeal.nD Cert.AddKernelIdeal.τ).loc Cert.AddKernelIdeal.main_arg2) = m ((c.tc : Thread Cert.AddKernelIdeal.nD Cert.AddKernelIdeal.τ).loc Cert.AddKernelIdeal.main_arg2))
      ∧ θ_run (Cert.AddReferenceIdeal.defs (F := Ideal)) (onTc (τ := Cert.AddReferenceIdeal.τ) (Cert.AddReferenceIdeal.main (F := Ideal))) ⟨m', fun _ => 0, g'⟩ (fun r => ∀ c : Dev Cert.AddReferenceIdeal.nD,
          r.2.mem ((c.tc : Thread Cert.AddReferenceIdeal.nD Cert.AddReferenceIdeal.τ).loc Cert.AddReferenceIdeal.main_v6) = v0 c
          ∧ r.2.mem ((c.tc : Thread Cert.AddReferenceIdeal.nD Cert.AddReferenceIdeal.τ).loc Cert.AddReferenceIdeal.main_arg0) = m' ((c.tc : Thread Cert.AddReferenceIdeal.nD Cert.AddReferenceIdeal.τ).loc Cert.AddReferenceIdeal.main_arg0)
          ∧ r.2.mem ((c.tc : Thread Cert.AddReferenceIdeal.nD Cert.AddReferenceIdeal.τ).loc Cert.AddReferenceIdeal.main_arg1) = m' ((c.tc : Thread Cert.AddReferenceIdeal.nD Cert.AddReferenceIdeal.τ).loc Cert.AddReferenceIdeal.main_arg1)
          ∧ r.2.mem ((c.tc : Thread Cert.AddReferenceIdeal.nD Cert.AddReferenceIdeal.τ).loc Cert.AddReferenceIdeal.main_arg2) = m' ((c.tc : Thread Cert.AddReferenceIdeal.nD Cert.AddReferenceIdeal.τ).loc Cert.AddReferenceIdeal.main_arg2))

def Claim : Prop :=
  ∃ (hKernel : Cert.Kernel.Facts) (hKernelIdeal : Cert.KernelIdeal.Facts) (hReferenceIdeal : Cert.ReferenceIdeal.Facts) (hDwKernel : Cert.DwKernel.Facts) (hDwKernelIdeal : Cert.DwKernelIdeal.Facts) (hDwReferenceIdeal : Cert.DwReferenceIdeal.Facts) (hCopyKernel : Cert.CopyKernel.Facts) (hCopyKernelIdeal : Cert.CopyKernelIdeal.Facts) (hCopyReferenceIdeal : Cert.CopyReferenceIdeal.Facts) (hAddKernel : Cert.AddKernel.Facts) (hAddKernelIdeal : Cert.AddKernelIdeal.Facts) (hAddReferenceIdeal : Cert.AddReferenceIdeal.Facts) (hPre_tame : Cert.Pre_tame.Facts) (hPre_each_once : Cert.Pre_each_once.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_CopyKernel (hCopyKernel := hCopyKernel)
    ∧ quiescent_CopyKernelIdeal (hCopyKernelIdeal := hCopyKernelIdeal)
    ∧ quiescent_CopyReferenceIdeal (hCopyReferenceIdeal := hCopyReferenceIdeal)
    ∧ quiescent_AddKernel (hAddKernel := hAddKernel) (hPre_each_once := hPre_each_once)
    ∧ quiescent_AddKernelIdeal (hAddKernelIdeal := hAddKernelIdeal) (hPre_each_once := hPre_each_once)
    ∧ quiescent_AddReferenceIdeal (hAddReferenceIdeal := hAddReferenceIdeal)
    ∧ quiescent_AddReferenceIdeal_pre_each_once (hAddReferenceIdeal := hAddReferenceIdeal) (hPre_each_once := hPre_each_once)
    ∧ preserves_Kernel_KernelIdeal
    ∧ algebraic_KernelIdeal_ReferenceIdeal_pre_tame (hKernelIdeal := hKernelIdeal) (hReferenceIdeal := hReferenceIdeal) (hPre_tame := hPre_tame)
    ∧ preserves_DwKernel_DwKernelIdeal
    ∧ algebraic_DwKernelIdeal_DwReferenceIdeal (hDwKernelIdeal := hDwKernelIdeal) (hDwReferenceIdeal := hDwReferenceIdeal)
    ∧ preserves_CopyKernel_CopyKernelIdeal
    ∧ algebraic_CopyKernelIdeal_CopyReferenceIdeal (hCopyKernelIdeal := hCopyKernelIdeal) (hCopyReferenceIdeal := hCopyReferenceIdeal)
    ∧ preserves_AddKernel_AddKernelIdeal
    ∧ algebraic_AddKernelIdeal_AddReferenceIdeal (hAddKernelIdeal := hAddKernelIdeal) (hAddReferenceIdeal := hAddReferenceIdeal) (hPre_each_once := hPre_each_once)
-- ==== Pre_each_once.lean ====
abbrev S4096x1536 : Shape := ⟨2, ![4096, 1536]⟩
abbrev S4096 : Shape := ⟨1, ![4096]⟩
abbrev S65536x1536 : Shape := ⟨2, ![65536, 1536]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩

class Facts : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)

variable [Facts]

def fn {F : FTy → Type} [FloatOps F] (main_arg0 : FVec F S4096x1536 .f32) (main_arg1 : IVec S4096 32) (main_arg2 : FVec F S65536x1536 .f32) : IVec S4096 1 × IVec S4096 1 × IVec S4096x4096 1 :=
  let main_v0 : IVec S4096 32 := iotaInDim S4096 32 0
  let main_c : IVec S_ 32 := constantI S_ 32 0#32
  let main_v1 : IVec S4096 32 := broadcastInDim S4096 ![] bcast_S_S4096 main_c
  let main_v2 : IVec S4096 1 := cmpi .sge main_arg1 main_v1
  let main_c_0 : IVec S_ 32 := constantI S_ 32 65536#32
  let main_v3 : IVec S4096 32 := broadcastInDim S4096 ![] bcast_S_S4096 main_c_0
  let main_v4 : IVec S4096 1 := cmpi .slt main_arg1 main_v3
  let main_v5 : IVec S4096x1 32 := broadcastInDim S4096x1 ![0] bcast_S4096_S4096x1_0 main_arg1
  let main_v6 : IVec S1x4096 32 := broadcastInDim S1x4096 ![1] bcast_S4096_S1x4096_1 main_arg1
  let main_v7 : IVec S4096x4096 32 := broadcastInDim S4096x4096 ![0, 1] bcast_S4096x1_S4096x4096_0_1 main_v5
  let main_v8 : IVec S4096x4096 32 := broadcastInDim S4096x4096 ![0, 1] bcast_S1x4096_S4096x4096_0_1 main_v6
  let main_v9 : IVec S4096x4096 1 := cmpi .ne main_v7 main_v8
  let main_v10 : IVec S4096x1 32 := broadcastInDim S4096x1 ![0] bcast_S4096_S4096x1_0 main_v0
  let main_v11 : IVec S1x4096 32 := broadcastInDim S1x4096 ![1] bcast_S4096_S1x4096_1 main_v0
  let main_v12 : IVec S4096x4096 32 := broadcastInDim S4096x4096 ![0, 1] bcast_S4096x1_S4096x4096_0_1 main_v10
  let main_v13 : IVec S4096x4096 32 := broadcastInDim S4096x4096 ![0, 1] bcast_S1x4096_S4096x4096_0_1 main_v11
  let main_v14 : IVec S4096x4096 1 := cmpi .eq main_v12 main_v13
  let main_v15 : IVec S4096x4096 1 := ori main_v9 main_v14
  (main_v2, main_v4, main_v15)
-- ==== Pre_tame.lean ====
abbrev S32768x1536 : Shape := ⟨2, ![32768, 1536]⟩
abbrev S36864x384 : Shape := ⟨2, ![36864, 384]⟩
abbrev S36864 : Shape := ⟨1, ![36864]⟩
abbrev S4096 : Shape := ⟨1, ![4096]⟩
abbrev S32768 : Shape := ⟨1, ![32768]⟩
abbrev S_ : Shape := ⟨0, ![]⟩

class Facts : Prop where
  bcast_S_S32768x1536 : S_.BroadcastsInDim S32768x1536 (![] : Fin 0 → Fin S32768x1536.rank)
  slices_S36864_S4096_0 : S36864.Slices ![0] S4096
  bcast_S_S4096 : S_.BroadcastsInDim S4096 (![] : Fin 0 → Fin S4096.rank)

variable [Facts]

def fn {F : FTy → Type} [FloatOps F] (main_arg0 : FVec F S32768x1536 .bf16) (main_arg1 : IVec S36864x384 32) (main_arg2 : FVec F S36864 .f32) (main_arg3 : FVec F S36864 .f32) (main_arg4 : IVec S4096 32) (main_arg5 : IVec S32768 32) (main_arg6 : FVec F S32768 .f32) : IVec S32768x1536 1 × IVec S4096 1 × IVec S4096 1 :=
  let main_v0 : FVec F S32768x1536 .bf16 := Host.absf main_arg0
  let main_cst : FVec F S_ .bf16 := constant S_ .bf16 0x7F80#16
  let main_v1 : FVec F S32768x1536 .bf16 := broadcastInDim S32768x1536 ![] bcast_S_S32768x1536 main_cst
  let main_v2 : IVec S32768x1536 1 := cmpf .olt main_v0 main_v1
  let main_v3 : FVec F S4096 .f32 := (extractStridedSlice S4096 ![0] · slices_S36864_S4096_0) main_arg2
  let main_v4 : FVec F S4096 .f32 := Host.absf main_v3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_v7 : FVec F S4096 .f32 := (extractStridedSlice S4096 ![0] · slices_S36864_S4096_0) main_arg3
  let main_cst_1 : FVec F S_ .f32 := constant S_ .f32 0xFF800000#32
  let main_v8 : FVec F S4096 .f32 := broadcastInDim S4096 ![] bcast_S_S4096 main_cst_1
  let main_v9 : IVec S4096 1 := cmpf .ogt main_v7 main_v8
  (main_v2, main_v6, main_v9)
-- ==== Kernel.lean ====
abbrev S32768x1536 : Shape := ⟨2, ![32768, 1536]⟩
abbrev S36864x384 : Shape := ⟨2, ![36864, 384]⟩
abbrev S36864 : Shape := ⟨1, ![36864]⟩
abbrev S4096 : Shape := ⟨1, ![4096]⟩
abbrev S32768 : Shape := ⟨1, ![32768]⟩
abbrev S_ : Shape := ⟨0, ![]⟩
abbrev S1x4096 : Shape := ⟨2, ![1, 4096]⟩
abbrev S8x4096 : Shape := ⟨2, ![8, 4096]⟩
abbrev S1x32768 : Shape := ⟨2, ![1, 32768]⟩
abbrev S8x32768 : Shape := ⟨2, ![8, 32768]⟩
abbrev S8x128x256 : Shape := ⟨3, ![8, 128, 256]⟩
abbrev S128x8x256 : Shape := ⟨3, ![128, 8, 256]⟩
abbrev S32768x4096 : Shape := ⟨2, ![32768, 4096]⟩
abbrev S256x1536 : Shape := ⟨2, ![256, 1536]⟩
abbrev S4096x384 : Shape := ⟨2, ![4096, 384]⟩
abbrev S256x384 : Shape := ⟨2, ![256, 384]⟩
abbrev S1x8x256 : Shape := ⟨3, ![1, 8, 256]⟩
abbrev S256x4096 : Shape := ⟨2, ![256, 4096]⟩
abbrev S4096x1536 : Shape := ⟨2, ![4096, 1536]⟩
abbrev S256x8 : Shape := ⟨2, ![256, 8]⟩
abbrev S8x256 : Shape := ⟨2, ![8, 256]⟩
abbrev S256x1 : Shape := ⟨2, ![256, 1]⟩
abbrev S256 : Shape := ⟨1, ![256]⟩
abbrev S256x128 : Shape := ⟨2, ![256, 128]⟩
abbrev S256x512 : Shape := ⟨2, ![256, 512]⟩
abbrev S1x512 : Shape := ⟨2, ![1, 512]⟩
abbrev S512x1536 : Shape := ⟨2, ![512, 1536]⟩
abbrev S256x6 : Shape := ⟨2, ![256, 6]⟩

abbrev nBuf : Space → Nat
  | .hbm => 40
  | .vmem => 19
  | .smem => 0
  | _ => 0

abbrev bufTy : (tb : Table) → Fin (tcTables nBuf tb) → BufTy
  | .hbm, ⟨0, _⟩ => ⟨S32768x1536, .bf16⟩
  | .hbm, ⟨1, _⟩ => ⟨S36864x384, .i32⟩
  | .hbm, ⟨2, _⟩ => ⟨S36864, .f32⟩
  | .hbm, ⟨3, _⟩ => ⟨S36864, .f32⟩
  | .hbm, ⟨4, _⟩ => ⟨S4096, .i32⟩
  | .hbm, ⟨5, _⟩ => ⟨S32768, .i32⟩
  | .hbm, ⟨6, _⟩ => ⟨S32768, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S8x4096, .f32⟩
  | .hbm, ⟨21, _⟩ => ⟨S_, .f32⟩
  | .hbm, ⟨22, _⟩ => ⟨S32768, .f32⟩
  | .hbm, ⟨23, _⟩ => ⟨S32768, .f32⟩
  | .hbm, ⟨24, _⟩ => ⟨S32768, .f32⟩
  | .hbm, ⟨25, _⟩ => ⟨S32768, .f32⟩
  | .hbm, ⟨26, _⟩ => ⟨S1x32768, .f32⟩
  | .hbm, ⟨27, _⟩ => ⟨S1x32768, .f32⟩
  | .hbm, ⟨28, _⟩ => ⟨S1x32768, .f32⟩
  | .hbm, ⟨29, _⟩ => ⟨S1x32768, .f32⟩
  | .hbm, ⟨30, _⟩ => ⟨S1x32768, .f32⟩
  | .hbm, ⟨31, _⟩ => ⟨S1x32768, .f32⟩
  | .hbm, ⟨32, _⟩ => ⟨S1x32768, .f32⟩
  | .hbm, ⟨33, _⟩ => ⟨S1x32768, .f32⟩
  | .hbm, ⟨34, _⟩ => ⟨S8x32768, .f32⟩
  | .hbm, ⟨35, _⟩ => ⟨S8x128x256, .f32⟩
  | .hbm, ⟨36, _⟩ => ⟨S128x8x256, .f32⟩
  | .hbm, ⟨37, _⟩ => ⟨S32768x1536, .bf16⟩
  | .hbm, ⟨38, _⟩ => ⟨S32768x4096, .bf16⟩
  | .hbm, ⟨39, _⟩ => ⟨S128x8x256, .f32⟩
  | .local _ .vmem, ⟨0, _⟩ => ⟨S256x1536, .bf16⟩
  | .local _ .vmem, ⟨1, _⟩ => ⟨S256x1536, .bf16⟩
  | .local _ .vmem, ⟨2, _⟩ => ⟨S4096x384, .i32⟩
  | .local _ .vmem, ⟨3, _⟩ => ⟨S256x384, .i32⟩
  | .local _ .vmem, ⟨4, _⟩ => ⟨S256x384, .i32⟩
  | .local _ .vmem, ⟨5, _⟩ => ⟨S1x8x256, .f32⟩
  | .local _ .vmem, ⟨6, _⟩ => ⟨S1x8x256, .f32⟩
  | .local _ .vmem, ⟨7, _⟩ => ⟨S8x4096, .f32⟩
  | .local _ .vmem, ⟨8, _⟩ => ⟨S256x1536, .bf16⟩
  | .local _ .vmem, ⟨9, _⟩ => ⟨S256x1536, .bf16⟩
  | .local _ .vmem, ⟨10, _⟩ => ⟨S256x4096, .bf16⟩
  | .local _ .vmem, ⟨11, _⟩ => ⟨S256x4096, .bf16⟩
  | .local _ .vmem, ⟨12, _⟩ => ⟨S1x8x256, .f32⟩
  | .local _ .vmem, ⟨13, _⟩ => ⟨S1x8x256, .f32⟩
  | .local _ .vmem, ⟨14, _⟩ => ⟨S4096x1536, .bf16⟩
  | .local _ .vmem, ⟨15, _⟩ => ⟨S256x4096, .f32⟩
  | .local _ .vmem, ⟨16, _⟩ => ⟨S256x4096, .bf16⟩
  | .local _ .vmem, ⟨17, _⟩ => ⟨S256x8, .f32⟩
  | .local _ .vmem, ⟨18, _⟩ => ⟨S256x1536, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_238 : BitVec 32 := 0#32
  let c16_i32_239 : BitVec 32 := 16#32
  let v559 : BitVec 32 := Scalar.addi c0_i32_238 c16_i32_239
  let c1_i32 : BitVec 32 := 1#32
  ⟨c0_i32_238, v559, c1_i32⟩
def k0_off1 (k0_t1 : Fin k0_t1_loop.trips) : Fin 2 → Nat :=
  let c0_i32_241 : BitVec 32 := 0#32
  let c0_i32_238 : BitVec 32 := 0#32
  let c1_i32 : BitVec 32 := 1#32
  let arg14 : BitVec 32 := Scf.iv c0_i32_238 c1_i32 k0_t1
  let c256_i32 : BitVec 32 := 256#32
  let v560 : BitVec 32 := Scalar.muli arg14 c256_i32
  let v561 : BitVec 32 := Scalar.addi c0_i32_241 v560
  let v562 : Index := Scalar.indexCast v561
  let c0_242 : Index := 0#32
  ![v562.toNat, 0]
def k0_off2 (k0_t1 : Fin k0_t1_loop.trips) : Fin 2 → Nat :=
  let c0_i32_241 : BitVec 32 := 0#32
  let c0_i32_238 : BitVec 32 := 0#32
  let c1_i32 : BitVec 32 := 1#32
  let arg14 : BitVec 32 := Scf.iv c0_i32_238 c1_i32 k0_t1
  let c256_i32 : BitVec 32 := 256#32
  let v560 : BitVec 32 := Scalar.muli arg14 c256_i32
  let v561 : BitVec 32 := Scalar.addi c0_i32_241 v560
  let v570 : Index := Scalar.indexCast v561
  let c0_245 : Index := 0#32
  ![v570.toNat, 0]
def k0_off3 (k0_t1 : Fin k0_t1_loop.trips) : Fin 2 → Nat :=
  let c0_i32_241 : BitVec 32 := 0#32
  let c0_i32_238 : BitVec 32 := 0#32
  let c1_i32 : BitVec 32 := 1#32
  let arg14 : BitVec 32 := Scf.iv c0_i32_238 c1_i32 k0_t1
  let c256_i32 : BitVec 32 := 256#32
  let v560 : BitVec 32 := Scalar.muli arg14 c256_i32
  let v561 : BitVec 32 := Scalar.addi c0_i32_241 v560
  let v582 : Index := Scalar.indexCast v561
  let c384 : Index := 384#32
  ![v582.toNat, 384]
def k0_off4 (k0_t1 : Fin k0_t1_loop.trips) : Fin 2 → Nat :=
  let c0_i32_241 : BitVec 32 := 0#32
  let c0_i32_238 : BitVec 32 := 0#32
  let c1_i32 : BitVec 32 := 1#32
  let arg14 : BitVec 32 := Scf.iv c0_i32_238 c1_i32 k0_t1
  let c256_i32 : BitVec 32 := 256#32
  let v560 : BitVec 32 := Scalar.muli arg14 c256_i32
  let v561 : BitVec 32 := Scalar.addi c0_i32_241 v560
  let v594 : Index := Scalar.indexCast v561
  let c768 : Index := 768#32
  ![v594.toNat, 768]
def k0_off5 (k0_t1 : Fin k0_t1_loop.trips) : Fin 2 → Nat :=
  let c0_i32_241 : BitVec 32 := 0#32
  let c0_i32_238 : BitVec 32 := 0#32
  let c1_i32 : BitVec 32 := 1#32
  let arg14 : BitVec 32 := Scf.iv c0_i32_238 c1_i32 k0_t1
  let c256_i32 : BitVec 32 := 256#32
  let v560 : BitVec 32 := Scalar.muli arg14 c256_i32
  let v561 : BitVec 32 := Scalar.addi c0_i32_241 v560
  let v606 : Index := Scalar.indexCast v561
  let c1152 : Index := 1152#32
  ![v606.toNat, 1152]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.addi c16_i32 v0
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32768x1536 : Shape := ⟨2, ![32768, 1536]⟩
abbrev S36864x384 : Shape := ⟨2, ![36864, 384]⟩
abbrev S36864 : Shape := ⟨1, ![36864]⟩
abbrev S4096 : Shape := ⟨1, ![4096]⟩
abbrev S32768 : Shape := ⟨1, ![32768]⟩
abbrev S36864x1x384 : Shape := ⟨3, ![36864, 1, 384]⟩
abbrev S4 : Shape := ⟨1, ![4]⟩
abbrev S_ : Shape := ⟨0, ![]⟩
abbrev S1x4x1 : Shape := ⟨3, ![1, 4, 1]⟩
abbrev S36864x4x384 : Shape := ⟨3, ![36864, 4, 384]⟩
abbrev S36864x1536 : Shape := ⟨2, ![36864, 1536]⟩
abbrev S4096x1536 : Shape := ⟨2, ![4096, 1536]⟩
abbrev S32768x4096 : Shape := ⟨2, ![32768, 4096]⟩
abbrev S32768x1 : Shape := ⟨2, ![32768, 1]⟩
abbrev S1x4096 : Shape := ⟨2, ![1, 4096]⟩
abbrev S1x32768 : Shape := ⟨2, ![1, 32768]⟩
abbrev S8x32768 : Shape := ⟨2, ![8, 32768]⟩
abbrev S8x128x256 : Shape := ⟨3, ![8, 128, 256]⟩
abbrev S128x8x256 : Shape := ⟨3, ![128, 8, 256]⟩

abbrev nBuf : Space → Nat
  | .hbm => 110
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S36864x384, .i32⟩
  | .hbm, ⟨2, _⟩ => ⟨S36864, .f32⟩
  | .hbm, ⟨3, _⟩ => ⟨S36864, .f32⟩
  | .hbm, ⟨4, _⟩ => ⟨S4096, .i32⟩
  | .hbm, ⟨5, _⟩ => ⟨S32768, .i32⟩
  | .hbm, ⟨6, _⟩ => ⟨S32768, .f32⟩
  | .hbm, ⟨7, _⟩ => ⟨S36864x1x384, .i32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S1x4x1, .i32⟩
  | .hbm, ⟨16, _⟩ => ⟨S36864x4x384, .i32⟩
  | .hbm, ⟨17, _⟩ => ⟨S36864x4x384, .i32⟩
  | .hbm, ⟨18, _⟩ => ⟨S36864x4x384, .i32⟩
  | .hbm, ⟨19, _⟩ => ⟨S_, .i32⟩
  | .hbm, ⟨20, _⟩ => ⟨S36864x4x384, .i32⟩
  | .hbm, ⟨21, _⟩ => ⟨S36864x4x384, .i32⟩
  | .hbm, ⟨22, _⟩ => ⟨S_, .i32⟩
  | .hbm, ⟨23, _⟩ => ⟨S36864x4x384, .i32⟩
  | .hbm, ⟨24, _⟩ => ⟨S36864x4x384, .i1⟩
  | .hbm, ⟨25, _⟩ => ⟨S_, .i32⟩
  | .hbm, ⟨26, _⟩ => ⟨S36864x4x384, .i32⟩
  | .hbm, ⟨27, _⟩ => ⟨S36864x4x384, .i32⟩
  | .hbm, ⟨28, _⟩ => ⟨S36864x4x384, .i32⟩
  | .hbm, ⟨29, _⟩ => ⟨S36864x1536, .i32⟩
  | .hbm, ⟨30, _⟩ => ⟨S36864x1536, .bf16⟩
  | .hbm, ⟨31, _⟩ => ⟨S4096x1536, .bf16⟩
  | .hbm, ⟨32, _⟩ => ⟨S32768x1536, .bf16⟩
  | .hbm, ⟨33, _⟩ => ⟨S4096, .f32⟩
  | .hbm, ⟨34, _⟩ => ⟨S32768, .f32⟩
  | .hbm, ⟨35, _⟩ => ⟨S4096, .f32⟩
  | .hbm, ⟨36, _⟩ => ⟨S32768, .f32⟩
  | .hbm, ⟨37, _⟩ => ⟨S32768x4096, .f32⟩
  | .hbm, ⟨38, _⟩ => ⟨S32768x1, .i32⟩
  | .hbm, ⟨39, _⟩ => ⟨S1x4096, .i32⟩
  | .hbm, ⟨40, _⟩ => ⟨S32768x4096, .i32⟩
  | .hbm, ⟨41, _⟩ => ⟨S32768x4096, .i32⟩
  | .hbm, ⟨42, _⟩ => ⟨S32768x4096, .i1⟩
  | .hbm, ⟨43, _⟩ => ⟨S1x4096, .f32⟩
  | .hbm, ⟨44, _⟩ => ⟨S32768x4096, .f32⟩
  | .hbm, ⟨45, _⟩ => ⟨S32768x4096, .f32⟩
  | .hbm, ⟨46, _⟩ => ⟨S1x4096, .f32⟩
  | .hbm, ⟨47, _⟩ => ⟨S32768x4096, .f32⟩
  | .hbm, ⟨48, _⟩ => ⟨S32768x4096, .f32⟩
  | .hbm, ⟨49, _⟩ => ⟨S_, .f32⟩
  | .hbm, ⟨50, _⟩ => ⟨S_, .f32⟩
  | .hbm, ⟨51, _⟩ => ⟨S32768x4096, .f32⟩
  | .hbm, ⟨52, _⟩ => ⟨S32768x4096, .f32⟩
  | .hbm, ⟨53, _⟩ => ⟨S32768, .f32⟩
  | .hbm, ⟨54, _⟩ => ⟨S32768, .f32⟩
  | .hbm, ⟨55, _⟩ => ⟨S32768, .f32⟩
  | .hbm, ⟨56, _⟩ => ⟨S32768x4096, .f32⟩
  | .hbm, ⟨57, _⟩ => ⟨S_, .f32⟩
  | .hbm, ⟨58, _⟩ => ⟨S32768, .f32⟩
  | .hbm, ⟨59, _⟩ => ⟨S32768, .f32⟩
  | .hbm, ⟨60, _⟩ => ⟨S32768, .f32⟩
  | .hbm, ⟨61, _⟩ => ⟨S32768, .f32⟩
  | .hbm, ⟨62, _⟩ => ⟨S32768, .i1⟩
  | .hbm, ⟨63, _⟩ => ⟨S32768, .f32⟩
  | .hbm, ⟨64, _⟩ => ⟨S32768, .f32⟩
  | .hbm, ⟨65, _⟩ => ⟨S32768, .f32⟩
  | .hbm, ⟨66, _⟩ => ⟨S32768, .f32⟩
  | .hbm, ⟨67, _⟩ => ⟨S32768, .f32⟩
  | .hbm, ⟨68, _⟩ => ⟨S32768, .f32⟩
  | .hbm, ⟨69, _⟩ => ⟨S32768, .f32⟩
  | .hbm, ⟨70, _⟩ => ⟨S32768x1, .f32⟩
  | .hbm, ⟨71, _⟩ => ⟨S32768x4096, .f32⟩
  | .hbm, ⟨72, _⟩ => ⟨S32768x4096, .f32⟩
  | .hbm, ⟨73, _⟩ => ⟨S32768x4096, .f32⟩
  | .hbm, ⟨74, _⟩ => ⟨S32768, .f32⟩
  | .hbm, ⟨75, _⟩ => ⟨S32768, .f32⟩
  | .hbm, ⟨76, _⟩ => ⟨S32768, .f32⟩
  | .hbm, ⟨77, _⟩ => ⟨S32768x1, .f32⟩
  | .hbm, ⟨78, _⟩ => ⟨S32768x4096, .f32⟩
  | .hbm, ⟨79, _⟩ => ⟨S32768x4096, .f32⟩
  | .hbm, ⟨80, _⟩ => ⟨S_, .f32⟩
  | .hbm, ⟨81, _⟩ => ⟨S32768, .f32⟩
  | .hbm, ⟨82, _⟩ => ⟨S32768, .f32⟩
  | .hbm, ⟨83, _⟩ => ⟨S32768, .f32⟩
  | .hbm, ⟨84, _⟩ => ⟨S1x4096, .f32⟩
  | .hbm, ⟨85, _⟩ => ⟨S32768x4096, .f32⟩
  | .hbm, ⟨86, _⟩ => ⟨S32768x4096, .f32⟩
  | .hbm, ⟨87, _⟩ => ⟨S32768x4096, .bf16⟩
  | .hbm, ⟨88, _⟩ => ⟨S32768x1536, .f32⟩
  | .hbm, ⟨89, _⟩ => ⟨S32768, .f32⟩
  | .hbm, ⟨90, _⟩ => ⟨S32768x1, .f32⟩
  | .hbm, ⟨91, _⟩ => ⟨S32768x1536, .f32⟩
  | .hbm, ⟨92, _⟩ => ⟨S32768x1536, .f32⟩
  | .hbm, ⟨93, _⟩ => ⟨S32768x1536, .f32⟩
  | .hbm, ⟨94, _⟩ => ⟨S32768x1536, .f32⟩
  | .hbm, ⟨95, _⟩ => ⟨S32768x1536, .bf16⟩
  | .hbm, ⟨96, _⟩ => ⟨S_, .f32⟩
  | .hbm, ⟨97, _⟩ => ⟨S32768, .f32⟩
  | .hbm, ⟨98, _⟩ => ⟨S1x32768, .f32⟩
  | .hbm, ⟨99, _⟩ => ⟨S1x32768, .f32⟩
  | .hbm, ⟨100, _⟩ => ⟨S1x32768, .f32⟩
  | .hbm, ⟨101, _⟩ => ⟨S1x32768, .f32⟩
  | .hbm, ⟨102, _⟩ => ⟨S1x32768, .f32⟩
  | .hbm, ⟨103, _⟩ => ⟨S1x32768, .f32⟩
  | .hbm, ⟨104, _⟩ => ⟨S1x32768, .f32⟩
  | .hbm, ⟨105, _⟩ => ⟨S1x32768, .f32⟩
  | .hbm, ⟨106, _⟩ => ⟨S8x32768, .f32⟩
  | .hbm, ⟨107, _⟩ => ⟨S32768x4096, .bf16⟩
  | .hbm, ⟨108, _⟩ => ⟨S8x128x256, .f32⟩
  | .hbm, ⟨109, _⟩ => ⟨S128x8x256, .f32⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst : Ref sig .tc := ⟨.hbm, 49, rfl⟩
abbrev main_call1_v0 : Ref sig .tc := ⟨.hbm, 50, rfl⟩
abbrev main_call1_v1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_5 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_6 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩

abbrev nD : Nat := 1
abbrev τ : Topo := Topo.v7x

variable {F : FTy → Type} [FloatOps F]
-- ==== DwKernel.lean ====
abbrev S32768x4096 : Shape := ⟨2, ![32768, 4096]⟩
abbrev S32768x1536 : Shape := ⟨2, ![32768, 1536]⟩
abbrev S4096x1536 : Shape := ⟨2, ![4096, 1536]⟩
abbrev S1024x2048 : Shape := ⟨2, ![1024, 2048]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S32768x1536, .bf16⟩
  | .hbm, ⟨2, _⟩ => ⟨S4096x1536, .f32⟩
  | .local _ .vmem, ⟨0, _⟩ => ⟨S1024x2048, .bf16⟩
  | .local _ .vmem, ⟨1, _⟩ => ⟨S1024x2048, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .f32⟩
  | .local _ .vmem, ⟨5, _⟩ => ⟨S2048x1536, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwReferenceIdeal.lean ====
abbrev S32768x4096 : Shape := ⟨2, ![32768, 4096]⟩
abbrev S32768x1536 : Shape := ⟨2, ![32768, 1536]⟩
abbrev S4096x1536 : Shape := ⟨2, ![4096, 1536]⟩

abbrev nBuf : Space → Nat
  | .hbm => 3
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x1536, .bf16⟩
  | .hbm, ⟨2, _⟩ => ⟨S4096x1536, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CopyKernel.lean ====
abbrev S65536x1536 : Shape := ⟨2, ![65536, 1536]⟩
abbrev S4x16x1536 : Shape := ⟨3, ![4, 16, 1536]⟩
abbrev S4 : Shape := ⟨1, ![4]⟩
abbrev S1x16x1536 : Shape := ⟨3, ![1, 16, 1536]⟩
abbrev S16x1536 : Shape := ⟨2, ![16, 1536]⟩
abbrev S1 : Shape := ⟨1, ![1]⟩
abbrev S_ : Shape := ⟨0, ![]⟩

abbrev nBuf : Table → Nat
  | .hbm => 2
  | .local .scVector .vmem => 1
  | _ => 0

abbrev bufTy : (tb : Table) → Fin (nBuf tb) → BufTy
  | .hbm, ⟨0, _⟩ => ⟨S65536x1536, .f32⟩
  | .hbm, ⟨1, _⟩ => ⟨S65536x1536, .f32⟩
  | .local .scVector .vmem, ⟨0, _⟩ => ⟨S4x16x1536, .f32⟩
  | _, _ => ⟨S65536x1536, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  let c0_i32_4 : BitVec 32 := 0#32
  ![v3.toNat, 0]
def k0_off1_at (r : Fin 4) : BitVec 32 :=
  if r.val < 2 then
    if r.val < 1 then
      0#32
    else
      16#32
  else
    if r.val < 3 then
      2016#32
    else
      2032#32
@[reducible] def k0_t1_loop : Scf.Loop 32 :=
  let c0_i32_15 : BitVec 32 := 0#32
  let c32_i32 : BitVec 32 := 32#32
  let v21 : BitVec 32 := Scalar.addi c0_i32_15 c32_i32
  let c1_i32_16 : BitVec 32 := 1#32
  ⟨c0_i32_15, v21, c1_i32_16⟩
def k0_off2 (i : grid0.Coords) (k0_t1 : Fin k0_t1_loop.trips) (c0_i32_34 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let v42 : BitVec 32 := Scalar.addi v41 c0_i32_34
  let c16_i32_35 : BitVec 32 := 16#32
  let v43 : BitVec 32 := Scalar.muli v42 c16_i32_35
  let v44 : BitVec 32 := Scalar.addi v2 v43
  let c0_i32_40 : BitVec 32 := 0#32
  ![v44.toNat, 0]
def k0_cond1 (k0_t1 : Fin k0_t1_loop.trips) : BitVec 1 :=
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c0_i32_34 : BitVec 32 := 0#32
  let v42 : BitVec 32 := Scalar.addi v41 c0_i32_34
  let c2_i32_53 : BitVec 32 := 2#32
  let v63 : BitVec 1 := Scalar.cmpi .sge v42 c2_i32_53
  let v64 : BitVec 32 := Scalar.extui v63
  let c0_i32_54 : BitVec 32 := 0#32
  let v65 : BitVec 1 := Scalar.cmpi .ne v64 c0_i32_54
  v65

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c0_i32_34 : BitVec 32 := 0#32
  let v42 : BitVec 32 := Scalar.addi v41 c0_i32_34
  let c2_i32_129 : BitVec 32 := 2#32
  let v154 : BitVec 32 := Scalar.subi v42 c2_i32_129
  let c16_i32_130 : BitVec 32 := 16#32
  let v155 : BitVec 32 := Scalar.muli v154 c16_i32_130
  let v156 : BitVec 32 := Scalar.addi v2 v155
  let c0_i32_135 : BitVec 32 := 0#32
  ![v156.toNat, 0]
def k0_cond2 (k0_t1 : Fin k0_t1_loop.trips) : BitVec 1 :=
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c0_i32_34 : BitVec 32 := 0#32
  let v42 : BitVec 32 := Scalar.addi v41 c0_i32_34
  let c2_i32_55 : BitVec 32 := 2#32
  let v66 : BitVec 32 := Scalar.addi v42 c2_i32_55
  let c128_i32 : BitVec 32 := 128#32
  let v67 : BitVec 1 := Scalar.cmpi .slt v66 c128_i32
  let v68 : BitVec 32 := Scalar.extui v67
  let c0_i32_56 : BitVec 32 := 0#32
  let v69 : BitVec 1 := Scalar.cmpi .ne v68 c0_i32_56
  v69

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c0_i32_34 : BitVec 32 := 0#32
  let v42 : BitVec 32 := Scalar.addi v41 c0_i32_34
  let c2_i32_129 : BitVec 32 := 2#32
  let v154 : BitVec 32 := Scalar.addi v42 c2_i32_129
  let c16_i32_130 : BitVec 32 := 16#32
  let v155 : BitVec 32 := Scalar.muli v154 c16_i32_130
  let v156 : BitVec 32 := Scalar.addi v2 v155
  let c0_i32_135 : BitVec 32 := 0#32
  ![v156.toNat, 0]
def k0_cond3 (k0_t1 : Fin k0_t1_loop.trips) : BitVec 1 :=
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c1_i32_57 : BitVec 32 := 1#32
  let v70 : BitVec 32 := Scalar.addi v41 c1_i32_57
  let c2_i32_76 : BitVec 32 := 2#32
  let v91 : BitVec 1 := Scalar.cmpi .sge v70 c2_i32_76
  let v92 : BitVec 32 := Scalar.extui v91
  let c0_i32_77 : BitVec 32 := 0#32
  let v93 : BitVec 1 := Scalar.cmpi .ne v92 c0_i32_77
  v93

def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c1_i32_57 : BitVec 32 := 1#32
  let v70 : BitVec 32 := Scalar.addi v41 c1_i32_57
  let c2_i32_129 : BitVec 32 := 2#32
  let v154 : BitVec 32 := Scalar.subi v70 c2_i32_129
  let c16_i32_130 : BitVec 32 := 16#32
  let v155 : BitVec 32 := Scalar.muli v154 c16_i32_130
  let v156 : BitVec 32 := Scalar.addi v2 v155
  let c0_i32_135 : BitVec 32 := 0#32
  ![v156.toNat, 0]
def k0_cond4 (k0_t1 : Fin k0_t1_loop.trips) : BitVec 1 :=
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c1_i32_57 : BitVec 32 := 1#32
  let v70 : BitVec 32 := Scalar.addi v41 c1_i32_57
  let c2_i32_78 : BitVec 32 := 2#32
  let v94 : BitVec 32 := Scalar.addi v70 c2_i32_78
  let c128_i32_79 : BitVec 32 := 128#32
  let v95 : BitVec 1 := Scalar.cmpi .slt v94 c128_i32_79
  let v96 : BitVec 32 := Scalar.extui v95
  let c0_i32_80 : BitVec 32 := 0#32
  let v97 : BitVec 1 := Scalar.cmpi .ne v96 c0_i32_80
  v97

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c1_i32_57 : BitVec 32 := 1#32
  let v70 : BitVec 32 := Scalar.addi v41 c1_i32_57
  let c2_i32_129 : BitVec 32 := 2#32
  let v154 : BitVec 32 := Scalar.addi v70 c2_i32_129
  let c16_i32_130 : BitVec 32 := 16#32
  let v155 : BitVec 32 := Scalar.muli v154 c16_i32_130
  let v156 : BitVec 32 := Scalar.addi v2 v155
  let c0_i32_135 : BitVec 32 := 0#32
  ![v156.toNat, 0]
def k0_cond5 (k0_t1 : Fin k0_t1_loop.trips) : BitVec 1 :=
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c2_i32_81 : BitVec 32 := 2#32
  let v98 : BitVec 32 := Scalar.addi v41 c2_i32_81
  let c2_i32_100 : BitVec 32 := 2#32
  let v119 : BitVec 1 := Scalar.cmpi .sge v98 c2_i32_100
  let v120 : BitVec 32 := Scalar.extui v119
  let c0_i32_101 : BitVec 32 := 0#32
  let v121 : BitVec 1 := Scalar.cmpi .ne v120 c0_i32_101
  v121

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c2_i32_81 : BitVec 32 := 2#32
  let v98 : BitVec 32 := Scalar.addi v41 c2_i32_81
  let c2_i32_129 : BitVec 32 := 2#32
  let v154 : BitVec 32 := Scalar.subi v98 c2_i32_129
  let c16_i32_130 : BitVec 32 := 16#32
  let v155 : BitVec 32 := Scalar.muli v154 c16_i32_130
  let v156 : BitVec 32 := Scalar.addi v2 v155
  let c0_i32_135 : BitVec 32 := 0#32
  ![v156.toNat, 0]
def k0_cond6 (k0_t1 : Fin k0_t1_loop.trips) : BitVec 1 :=
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c2_i32_81 : BitVec 32 := 2#32
  let v98 : BitVec 32 := Scalar.addi v41 c2_i32_81
  let c2_i32_102 : BitVec 32 := 2#32
  let v122 : BitVec 32 := Scalar.addi v98 c2_i32_102
  let c128_i32_103 : BitVec 32 := 128#32
  let v123 : BitVec 1 := Scalar.cmpi .slt v122 c128_i32_103
  let v124 : BitVec 32 := Scalar.extui v123
  let c0_i32_104 : BitVec 32 := 0#32
  let v125 : BitVec 1 := Scalar.cmpi .ne v124 c0_i32_104
  v125

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c2_i32_81 : BitVec 32 := 2#32
  let v98 : BitVec 32 := Scalar.addi v41 c2_i32_81
  let c2_i32_129 : BitVec 32 := 2#32
  let v154 : BitVec 32 := Scalar.addi v98 c2_i32_129
  let c16_i32_130 : BitVec 32 := 16#32
  let v155 : BitVec 32 := Scalar.muli v154 c16_i32_130
  let v156 : BitVec 32 := Scalar.addi v2 v155
  let c0_i32_135 : BitVec 32 := 0#32
  ![v156.toNat, 0]
def k0_cond7 (k0_t1 : Fin k0_t1_loop.trips) : BitVec 1 :=
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c3_i32_105 : BitVec 32 := 3#32
  let v126 : BitVec 32 := Scalar.addi v41 c3_i32_105
  let c2_i32_124 : BitVec 32 := 2#32
  let v147 : BitVec 1 := Scalar.cmpi .sge v126 c2_i32_124
  let v148 : BitVec 32 := Scalar.extui v147
  let c0_i32_125 : BitVec 32 := 0#32
  let v149 : BitVec 1 := Scalar.cmpi .ne v148 c0_i32_125
  v149

def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c3_i32_105 : BitVec 32 := 3#32
  let v126 : BitVec 32 := Scalar.addi v41 c3_i32_105
  let c2_i32_129 : BitVec 32 := 2#32
  let v154 : BitVec 32 := Scalar.subi v126 c2_i32_129
  let c16_i32_130 : BitVec 32 := 16#32
  let v155 : BitVec 32 := Scalar.muli v154 c16_i32_130
  let v156 : BitVec 32 := Scalar.addi v2 v155
  let c0_i32_135 : BitVec 32 := 0#32
  ![v156.toNat, 0]
def k0_cond8 (k0_t1 : Fin k0_t1_loop.trips) : BitVec 1 :=
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c3_i32_105 : BitVec 32 := 3#32
  let v126 : BitVec 32 := Scalar.addi v41 c3_i32_105
  let c2_i32_126 : BitVec 32 := 2#32
  let v150 : BitVec 32 := Scalar.addi v126 c2_i32_126
  let c128_i32_127 : BitVec 32 := 128#32
  let v151 : BitVec 1 := Scalar.cmpi .slt v150 c128_i32_127
  let v152 : BitVec 32 := Scalar.extui v151
  let c0_i32_128 : BitVec 32 := 0#32
  let v153 : BitVec 1 := Scalar.cmpi .ne v152 c0_i32_128
  v153

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_33 : BitVec 32 := 0#32
  let c0_i32_15 : BitVec 32 := 0#32
  let c1_i32_16 : BitVec 32 := 1#32
  let arg7 : BitVec 32 := Scf.iv c0_i32_15 c1_i32_16 k0_t1
  let c4_i32 : BitVec 32 := 4#32
  let v40 : BitVec 32 := Scalar.muli arg7 c4_i32
  let v41 : BitVec 32 := Scalar.addi c0_i32_33 v40
  let c3_i32_105 : BitVec 32 := 3#32
  let v126 : BitVec 32 := Scalar.addi v41 c3_i32_105
  let c2_i32_129 : BitVec 32 := 2#32
  let v154 : BitVec 32 := Scalar.addi v126 c2_i32_129
  let c16_i32_130 : BitVec 32 := 16#32
  let v155 : BitVec 32 := Scalar.muli v154 c16_i32_130
  let v156 : BitVec 32 := Scalar.addi v2 v155
  let c0_i32_135 : BitVec 32 := 0#32
  ![v156.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CopyReferenceIdeal.lean ====
abbrev S65536x1536 : Shape := ⟨2, ![65536, 1536]⟩

abbrev nBuf : Space → Nat
  | .hbm => 1
  | .vmem => 0
  | .smem => 0
  | _ => 0

abbrev bufTy : (tb : Table) → Fin (tcTables nBuf tb) → BufTy
  | .hbm, ⟨0, _⟩ => ⟨S65536x1536, .f32⟩
  | _, _ => ⟨S65536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== AddKernel.lean ====
abbrev S4096x1536 : Shape := ⟨2, ![4096, 1536]⟩
abbrev S4096 : Shape := ⟨1, ![4096]⟩
abbrev S65536x1536 : Shape := ⟨2, ![65536, 1536]⟩
abbrev S128 : Shape := ⟨1, ![128]⟩
abbrev S2x16x1536 : Shape := ⟨3, ![2, 16, 1536]⟩
abbrev S2 : Shape := ⟨1, ![2]⟩
abbrev S_ : Shape := ⟨0, ![]⟩
abbrev S1x16x1536 : Shape := ⟨3, ![1, 16, 1536]⟩
abbrev S16x1536 : Shape := ⟨2, ![16, 1536]⟩
abbrev S1 : Shape := ⟨1, ![1]⟩
abbrev S16 : Shape := ⟨1, ![16]⟩
abbrev S1x1x1536 : Shape := ⟨3, ![1, 1, 1536]⟩
abbrev S1x1536 : Shape := ⟨2, ![1, 1536]⟩
abbrev S1x1x16 : Shape := ⟨3, ![1, 1, 16]⟩

abbrev nBuf : Table → Nat
  | .hbm => 4
  | .local .scVector .vmem => 3
  | _ => 0

abbrev bufTy : (tb : Table) → Fin (nBuf tb) → BufTy
  | .hbm, ⟨0, _⟩ => ⟨S4096x1536, .f32⟩
  | .hbm, ⟨1, _⟩ => ⟨S4096, .i32⟩
  | .hbm, ⟨2, _⟩ => ⟨S65536x1536, .f32⟩
  | .hbm, ⟨3, _⟩ => ⟨S65536x1536, .f32⟩
  | .local .scVector .vmem, ⟨0, _⟩ => ⟨S128, .i32⟩
  | .local .scVector .vmem, ⟨1, _⟩ => ⟨S2x16x1536, .f32⟩
  | .local .scVector .vmem, ⟨2, _⟩ => ⟨S2x16x1536, .f32⟩
  | _, _ => ⟨S4096x1536, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_4 : BitVec 32 := 0#32
  ![v3.toNat, 0]
@[reducible] def k0_t1_loop : Scf.Loop 32 :=
  let c0_i32_8 : BitVec 32 := 0#32
  let c16_i32 : BitVec 32 := 16#32
  let v12 : BitVec 32 := Scalar.addi c0_i32_8 c16_i32
  let c1_i32 : BitVec 32 := 1#32
  ⟨c0_i32_8, v12, c1_i32⟩

def k0_chk1 (v29 : IVec S16 32) : Prop :=
  (∀ a x, ((![v29] : Fin 1 → IVec S16 32) a x).toNat < S128.size a)
theorem k0_idx1_inb : ∀ (v29 : IVec S16 32) (k0_hw1 : k0_chk1 v29), ∀ a x, ((![v29] : Fin 1 → IVec S16 32) a x).toNat < S128.size a := fun v29 k0_hw1 => k0_hw1
def k0_off3 (k0_t1 : Fin k0_t1_loop.trips) : Fin 3 → Nat :=
  let c0_i32_37 : BitVec 32 := 0#32
  let c0_i32_35 : BitVec 32 := 0#32
  let c0_i32_8 : BitVec 32 := 0#32
  let c1_i32 : BitVec 32 := 1#32
  let arg12 : BitVec 32 := Scf.iv c0_i32_8 c1_i32 k0_t1
  let c1_i32_34 : BitVec 32 := 1#32
  let v26 : BitVec 32 := Scalar.muli arg12 c1_i32_34
  let v27 : BitVec 32 := Scalar.addi c0_i32_35 v26
  let c0_i32_39 : BitVec 32 := 0#32
  ![0, v27.toNat, 0]
def k0_off4 (v36 : BitVec 32) : Fin 2 → Nat :=
  let c0_i32_40 : BitVec 32 := 0#32
  ![v36.toNat, 0]

def k0_chk2 (v36 : BitVec 32) : Prop :=
  (∀ a, (k0_off4 v36) a + S1x1536.size a ≤ S65536x1536.size a)
theorem k0_off4_inb : ∀ (v36 : BitVec 32) (k0_hw2 : k0_chk2 v36), ∀ a, (k0_off4 v36) a + S1x1536.size a ≤ S65536x1536.size a := fun v36 k0_hw2 => k0_hw2

def k0_off5 (k0_t1 : Fin k0_t1_loop.trips) : Fin 3 → Nat :=
  let c0_i32_37 : BitVec 32 := 0#32
  let c0_i32_35 : BitVec 32 := 0#32
  let c0_i32_8 : BitVec 32 := 0#32
  let c1_i32 : BitVec 32 := 1#32
  let arg12 : BitVec 32 := Scf.iv c0_i32_8 c1_i32 k0_t1
  let c1_i32_34 : BitVec 32 := 1#32
  let v26 : BitVec 32 := Scalar.muli arg12 c1_i32_34
  let v27 : BitVec 32 := Scalar.addi c0_i32_35 v26
  let c0_i32_41 : BitVec 32 := 0#32
  ![0, v27.toNat, 0]
@[reducible] def k0_t2_loop : Scf.Loop 32 :=
  let c0_i32_19 : BitVec 32 := 0#32
  let c16_i32_20 : BitVec 32 := 16#32
  let v22 : BitVec 32 := Scalar.addi c0_i32_19 c16_i32_20
  let c1_i32_21 : BitVec 32 := 1#32
  ⟨c0_i32_19, v22, c1_i32_21⟩

def k0_chk3 (v29 : IVec S16 32) : Prop :=
  (∀ a x, ((![v29] : Fin 1 → IVec S16 32) a x).toNat < S128.size a)
theorem k0_idx2_inb : ∀ (v29 : IVec S16 32) (k0_hw3 : k0_chk3 v29), ∀ a x, ((![v29] : Fin 1 → IVec S16 32) a x).toNat < S128.size a := fun v29 k0_hw3 => k0_hw3
def k0_off6 (k0_t2 : Fin k0_t2_loop.trips) : Fin 3 → Nat :=
  let c1_i32_37 : BitVec 32 := 1#32
  let c0_i32_35 : BitVec 32 := 0#32
  let c0_i32_19 : BitVec 32 := 0#32
  let c1_i32_21 : BitVec 32 := 1#32
  let arg12 : BitVec 32 := Scf.iv c0_i32_19 c1_i32_21 k0_t2
  let c1_i32_34 : BitVec 32 := 1#32
  let v26 : BitVec 32 := Scalar.muli arg12 c1_i32_34
  let v27 : BitVec 32 := Scalar.addi c0_i32_35 v26
  let c0_i32_39 : BitVec 32 := 0#32
  ![1, v27.toNat, 0]
def k0_off7 (v36 : BitVec 32) : Fin 2 → Nat :=
  let c0_i32_40 : BitVec 32 := 0#32
  ![v36.toNat, 0]

def k0_chk4 (v36 : BitVec 32) : Prop :=
  (∀ a, (k0_off7 v36) a + S1x1536.size a ≤ S65536x1536.size a)
theorem k0_off7_inb : ∀ (v36 : BitVec 32) (k0_hw4 : k0_chk4 v36), ∀ a, (k0_off7 v36) a + S1x1536.size a ≤ S65536x1536.size a := fun v36 k0_hw4 => k0_hw4

def k0_off8 (k0_t2 : Fin k0_t2_loop.trips) : Fin 3 → Nat :=
  let c1_i32_37 : BitVec 32 := 1#32
  let c0_i32_35 : BitVec 32 := 0#32
  let c0_i32_19 : BitVec 32 := 0#32
  let c1_i32_21 : BitVec 32 := 1#32
  let arg12 : BitVec 32 := Scf.iv c0_i32_19 c1_i32_21 k0_t2
  let c1_i32_34 : BitVec 32 := 1#32
  let v26 : BitVec 32 := Scalar.muli arg12 c1_i32_34
  let v27 : BitVec 32 := Scalar.addi c0_i32_35 v26
  let c0_i32_41 : BitVec 32 := 0#32
  ![1, v27.toNat, 0]
@[reducible] def k0_t3_loop : Scf.Loop 32 :=
  let c0_i32_23 : BitVec 32 := 0#32
  let c4_i32 : BitVec 32 := 4#32
  let v23 : BitVec 32 := Scalar.addi c0_i32_23 c4_i32
  let c1_i32_24 : BitVec 32 := 1#32
  ⟨c0_i32_23, v23, c1_i32_24⟩
def k0_off9 (i : grid0.Coords) (k0_t3 : Fin k0_t3_loop.trips) (c0_i32_36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_35 : BitVec 32 := 0#32
  let c0_i32_23 : BitVec 32 := 0#32
  let c1_i32_24 : BitVec 32 := 1#32
  let arg12 : BitVec 32 := Scf.iv c0_i32_23 c1_i32_24 k0_t3
  let c2_i32_34 : BitVec 32 := 2#32
  let v26 : BitVec 32 := Scalar.muli arg12 c2_i32_34
  let v27 : BitVec 32 := Scalar.addi c0_i32_35 v26
  let v28 : BitVec 32 := Scalar.addi v27 c0_i32_36
  let c16_i32_37 : BitVec 32 := 16#32
  let v29 : BitVec 32 := Scalar.muli v28 c16_i32_37
  let v30 : BitVec 32 := Scalar.addi v2 v29
  let c0_i32_42 : BitVec 32 := 0#32
  ![v30.toNat, 0]
@[reducible] def k0_t4_loop : Scf.Loop 32 :=
  let c0_i32_46 : BitVec 32 := 0#32
  let c16_i32_47 : BitVec 32 := 16#32
  let v39 : BitVec 32 := Scalar.addi c0_i32_46 c16_i32_47
  let c1_i32_48 : BitVec 32 := 1#32
  ⟨c0_i32_46, v39, c1_i32_48⟩
@[reducible] def k0_t5_loop : Scf.Loop 32 :=
  let c0_i32_50 : BitVec 32 := 0#32
  let c16_i32_51 : BitVec 32 := 16#32
  let v40 : BitVec 32 := Scalar.addi c0_i32_50 c16_i32_51
  let c1_i32_52 : BitVec 32 := 1#32
  ⟨c0_i32_50, v40, c1_i32_52⟩
@[reducible] def k0_t6_loop : Scf.Loop 32 :=
  let c0_i32_87 : BitVec 32 := 0#32
  let c96_i32 : BitVec 32 := 96#32
  let v66 : BitVec 32 := Scalar.addi c0_i32_87 c96_i32
  let c1_i32_88 : BitVec 32 := 1#32
  ⟨c0_i32_87, v66, c1_i32_88⟩
def k0_off10 (k0_t5 : Fin k0_t5_loop.trips) (k0_t6 : Fin k0_t6_loop.trips) : Fin 3 → Nat :=
  let c0_i32_92 : BitVec 32 := 0#32
  let v69 : Index := Scalar.indexCast c0_i32_92
  let c0_i32_86 : BitVec 32 := 0#32
  let c0_i32_50 : BitVec 32 := 0#32
  let c1_i32_52 : BitVec 32 := 1#32
  let arg13 : BitVec 32 := Scf.iv c0_i32_50 c1_i32_52 k0_t5
  let c1_i32_85 : BitVec 32 := 1#32
  let v64 : BitVec 32 := Scalar.muli arg13 c1_i32_85
  let v65 : BitVec 32 := Scalar.addi c0_i32_86 v64
  let v70 : Index := Scalar.indexCast v65
  let c0_i32_91 : BitVec 32 := 0#32
  let c0_i32_87 : BitVec 32 := 0#32
  let c1_i32_88 : BitVec 32 := 1#32
  let arg14 : BitVec 32 := Scf.iv c0_i32_87 c1_i32_88 k0_t6
  let c16_i32_90 : BitVec 32 := 16#32
  let v67 : BitVec 32 := Scalar.muli arg14 c16_i32_90
  let v68 : BitVec 32 := Scalar.addi c0_i32_91 v67
  let v71 : Index := Scalar.indexCast v68
  ![0, v70.toNat, v71.toNat]
@[reducible] def k0_t7_loop : Scf.Loop 32 :=
  let c0_i32_54 : BitVec 32 := 0#32
  let c16_i32_55 : BitVec 32 := 16#32
  let v41 : BitVec 32 := Scalar.addi c0_i32_54 c16_i32_55
  let c1_i32_56 : BitVec 32 := 1#32
  ⟨c0_i32_54, v41, c1_i32_56⟩

def k0_chk5 (v68 : IVec S16 32) : Prop :=
  (∀ a x, ((![v68] : Fin 1 → IVec S16 32) a x).toNat < S128.size a)
theorem k0_idx3_inb : ∀ (v68 : IVec S16 32) (k0_hw5 : k0_chk5 v68), ∀ a x, ((![v68] : Fin 1 → IVec S16 32) a x).toNat < S128.size a := fun v68 k0_hw5 => k0_hw5
def k0_off11 (k0_t7 : Fin k0_t7_loop.trips) : Fin 3 → Nat :=
  let c0_i32_88 : BitVec 32 := 0#32
  let c0_i32_86 : BitVec 32 := 0#32
  let c0_i32_54 : BitVec 32 := 0#32
  let c1_i32_56 : BitVec 32 := 1#32
  let arg13 : BitVec 32 := Scf.iv c0_i32_54 c1_i32_56 k0_t7
  let c1_i32_85 : BitVec 32 := 1#32
  let v64 : BitVec 32 := Scalar.muli arg13 c1_i32_85
  let v65 : BitVec 32 := Scalar.addi c0_i32_86 v64
  let c0_i32_90 : BitVec 32 := 0#32
  ![0, v65.toNat, 0]
def k0_off12 (v75 : BitVec 32) : Fin 2 → Nat :=
  let c0_i32_91 : BitVec 32 := 0#32
  ![v75.toNat, 0]

def k0_chk6 (v75 : BitVec 32) : Prop :=
  (∀ a, (k0_off12 v75) a + S1x1536.size a ≤ S65536x1536.size a)
theorem k0_off12_inb : ∀ (v75 : BitVec 32) (k0_hw6 : k0_chk6 v75), ∀ a, (k0_off12 v75) a + S1x1536.size a ≤ S65536x1536.size a := fun v75 k0_hw6 => k0_hw6

def k0_off13 (k0_t7 : Fin k0_t7_loop.trips) : Fin 3 → Nat :=
  let c0_i32_88 : BitVec 32 := 0#32
  let c0_i32_86 : BitVec 32 := 0#32
  let c0_i32_54 : BitVec 32 := 0#32
  let c1_i32_56 : BitVec 32 := 1#32
  let arg13 : BitVec 32 := Scf.iv c0_i32_54 c1_i32_56 k0_t7
  let c1_i32_85 : BitVec 32 := 1#32
  let v64 : BitVec 32 := Scalar.muli arg13 c1_i32_85
  let v65 : BitVec 32 := Scalar.addi c0_i32_86 v64
  let c0_i32_93 : BitVec 32 := 0#32
  ![0, v65.toNat, 0]
def k0_cond1 (k0_t3 : Fin k0_t3_loop.trips) : BitVec 1 :=
  let c0_i32_35 : BitVec 32 := 0#32
  let c0_i32_23 : BitVec 32 := 0#32
  let c1_i32_24 : BitVec 32 := 1#32
  let arg12 : BitVec 32 := Scf.iv c0_i32_23 c1_i32_24 k0_t3
  let c2_i32_34 : BitVec 32 := 2#32
  let v26 : BitVec 32 := Scalar.muli arg12 c2_i32_34
  let v27 : BitVec 32 := Scalar.addi c0_i32_35 v26
  let c0_i32_36 : BitVec 32 := 0#32
  let v28 : BitVec 32 := Scalar.addi v27 c0_i32_36
  let c2_i32_58 : BitVec 32 := 2#32
  let v42 : BitVec 32 := Scalar.addi v28 c2_i32_58
  let c8_i32 : BitVec 32 := 8#32
  let v43 : BitVec 1 := Scalar.cmpi .slt v42 c8_i32
  let v44 : BitVec 32 := Scalar.extui v43
  let c0_i32_59 : BitVec 32 := 0#32
  let v45 : BitVec 1 := Scalar.cmpi .ne v44 c0_i32_59
  v45

@[reducible] def k0_t8_loop : Scf.Loop 32 :=
  let c0_i32_85 : BitVec 32 := 0#32
  let c16_i32_86 : BitVec 32 := 16#32
  let v64 : BitVec 32 := Scalar.addi c0_i32_85 c16_i32_86
  let c1_i32_87 : BitVec 32 := 1#32
  ⟨c0_i32_85, v64, c1_i32_87⟩
def k0_off14 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_35 : BitVec 32 := 0#32
  let c0_i32_23 : BitVec 32 := 0#32
  let c1_i32_24 : BitVec 32 := 1#32
  let arg12 : BitVec 32 := Scf.iv c0_i32_23 c1_i32_24 k0_t3
  let c2_i32_34 : BitVec 32 := 2#32
  let v26 : BitVec 32 := Scalar.muli arg12 c2_i32_34
  let v27 : BitVec 32 := Scalar.addi c0_i32_35 v26
  let c0_i32_36 : BitVec 32 := 0#32
  let v28 : BitVec 32 := Scalar.addi v27 c0_i32_36
  let c2_i32_89 : BitVec 32 := 2#32
  let v65 : BitVec 32 := Scalar.addi v28 c2_i32_89
  let c16_i32_90 : BitVec 32 := 16#32
  let v66 : BitVec 32 := Scalar.muli v65 c16_i32_90
  let v67 : BitVec 32 := Scalar.addi v2 v66
  let c0_i32_95 : BitVec 32 := 0#32
  ![v67.toNat, 0]
@[reducible] def k0_t9_loop : Scf.Loop 32 :=
  let c0_i32_100 : BitVec 32 := 0#32
  let c16_i32_101 : BitVec 32 := 16#32
  let v77 : BitVec 32 := Scalar.addi c0_i32_100 c16_i32_101
  let c1_i32_102 : BitVec 32 := 1#32
  ⟨c0_i32_100, v77, c1_i32_102⟩

def k0_chk7 (k0_t3 : Fin k0_t3_loop.trips) (v82 : IVec S16 32) : Prop :=
  (∀ (k0_h1 : k0_cond1 k0_t3 = 1#1), ∀ a x, ((![v82] : Fin 1 → IVec S16 32) a x).toNat < S128.size a)
theorem k0_idx4_inb : ∀ (k0_t3 : Fin k0_t3_loop.trips) (v82 : IVec S16 32) (k0_hw7 : k0_chk7 k0_t3 v82), ∀ (k0_h1 : k0_cond1 k0_t3 = 1#1), ∀ a x, ((![v82] : Fin 1 → IVec S16 32) a x).toNat < S128.size a := fun k0_t3 v82 k0_hw7 k0_h1 => k0_hw7 k0_h1
def k0_off15 (k0_t9 : Fin k0_t9_loop.trips) : Fin 3 → Nat :=
  let c0_i32_107 : BitVec 32 := 0#32
  let c0_i32_105 : BitVec 32 := 0#32
  let c0_i32_100 : BitVec 32 := 0#32
  let c1_i32_102 : BitVec 32 := 1#32
  let arg13 : BitVec 32 := Scf.iv c0_i32_100 c1_i32_102 k0_t9
  let c1_i32_104 : BitVec 32 := 1#32
  let v78 : BitVec 32 := Scalar.muli arg13 c1_i32_104
  let v79 : BitVec 32 := Scalar.addi c0_i32_105 v78
  let c0_i32_109 : BitVec 32 := 0#32
  ![0, v79.toNat, 0]
def k0_off16 (v89 : BitVec 32) : Fin 2 → Nat :=
  let c0_i32_110 : BitVec 32 := 0#32
  ![v89.toNat, 0]

def k0_chk8 (k0_t3 : Fin k0_t3_loop.trips) (v89 : BitVec 32) : Prop :=
  (∀ (k0_h1 : k0_cond1 k0_t3 = 1#1), ∀ a, (k0_off16 v89) a + S1x1536.size a ≤ S65536x1536.size a)
theorem k0_off16_inb : ∀ (k0_t3 : Fin k0_t3_loop.trips) (v89 : BitVec 32) (k0_hw8 : k0_chk8 k0_t3 v89), ∀ (k0_h1 : k0_cond1 k0_t3 = 1#1), ∀ a, (k0_off16 v89) a + S1x1536.size a ≤ S65536x1536.size a := fun k0_t3 v89 k0_hw8 k0_h1 => k0_hw8 k0_h1

def k0_off17 (k0_t9 : Fin k0_t9_loop.trips) : Fin 3 → Nat :=
  let c0_i32_107 : BitVec 32 := 0#32
  let c0_i32_105 : BitVec 32 := 0#32
  let c0_i32_100 : BitVec 32 := 0#32
  let c1_i32_102 : BitVec 32 := 1#32
  let arg13 : BitVec 32 := Scf.iv c0_i32_100 c1_i32_102 k0_t9
  let c1_i32_104 : BitVec 32 := 1#32
  let v78 : BitVec 32 := Scalar.muli arg13 c1_i32_104
  let v79 : BitVec 32 := Scalar.addi c0_i32_105 v78
  let c0_i32_111 : BitVec 32 := 0#32
  ![0, v79.toNat, 0]
@[reducible] def k0_t10_loop : Scf.Loop 32 :=
  let c0_i32_70 : BitVec 32 := 0#32
  let c16_i32_71 : BitVec 32 := 16#32
  let v57 : BitVec 32 := Scalar.addi c0_i32_70 c16_i32_71
  let c1_i32_72 : BitVec 32 := 1#32
  ⟨c0_i32_70, v57, c1_i32_72⟩
@[reducible] def k0_t11_loop : Scf.Loop 32 :=
  let c0_i32_74 : BitVec 32 := 0#32
  let c16_i32_75 : BitVec 32 := 16#32
  let v58 : BitVec 32 := Scalar.addi c0_i32_74 c16_i32_75
  let c1_i32_76 : BitVec 32 := 1#32
  ⟨c0_i32_74, v58, c1_i32_76⟩
@[reducible] def k0_t12_loop : Scf.Loop 32 :=
  let c0_i32_87 : BitVec 32 := 0#32
  let c96_i32 : BitVec 32 := 96#32
  let v66 : BitVec 32 := Scalar.addi c0_i32_87 c96_i32
  let c1_i32_88 : BitVec 32 := 1#32
  ⟨c0_i32_87, v66, c1_i32_88⟩
def k0_off18 (k0_t11 : Fin k0_t11_loop.trips) (k0_t12 : Fin k0_t12_loop.trips) : Fin 3 → Nat :=
  let c1_i32_92 : BitVec 32 := 1#32
  let v69 : Index := Scalar.indexCast c1_i32_92
  let c0_i32_86 : BitVec 32 := 0#32
  let c0_i32_74 : BitVec 32 := 0#32
  let c1_i32_76 : BitVec 32 := 1#32
  let arg13 : BitVec 32 := Scf.iv c0_i32_74 c1_i32_76 k0_t11
  let c1_i32_85 : BitVec 32 := 1#32
  let v64 : BitVec 32 := Scalar.muli arg13 c1_i32_85
  let v65 : BitVec 32 := Scalar.addi c0_i32_86 v64
  let v70 : Index := Scalar.indexCast v65
  let c0_i32_91 : BitVec 32 := 0#32
  let c0_i32_87 : BitVec 32 := 0#32
  let c1_i32_88 : BitVec 32 := 1#32
  let arg14 : BitVec 32 := Scf.iv c0_i32_87 c1_i32_88 k0_t12
  let c16_i32_90 : BitVec 32 := 16#32
  let v67 : BitVec 32 := Scalar.muli arg14 c16_i32_90
  let v68 : BitVec 32 := Scalar.addi c0_i32_91 v67
  let v71 : Index := Scalar.indexCast v68
  ![1, v70.toNat, v71.toNat]
@[reducible] def k0_t13_loop : Scf.Loop 32 :=
  let c0_i32_78 : BitVec 32 := 0#32
  let c16_i32_79 : BitVec 32 := 16#32
  let v59 : BitVec 32 := Scalar.addi c0_i32_78 c16_i32_79
  let c1_i32_80 : BitVec 32 := 1#32
  ⟨c0_i32_78, v59, c1_i32_80⟩

def k0_chk9 (v68 : IVec S16 32) : Prop :=
  (∀ a x, ((![v68] : Fin 1 → IVec S16 32) a x).toNat < S128.size a)
theorem k0_idx5_inb : ∀ (v68 : IVec S16 32) (k0_hw9 : k0_chk9 v68), ∀ a x, ((![v68] : Fin 1 → IVec S16 32) a x).toNat < S128.size a := fun v68 k0_hw9 => k0_hw9
def k0_off19 (k0_t13 : Fin k0_t13_loop.trips) : Fin 3 → Nat :=
  let c1_i32_88 : BitVec 32 := 1#32
  let c0_i32_86 : BitVec 32 := 0#32
  let c0_i32_78 : BitVec 32 := 0#32
  let c1_i32_80 : BitVec 32 := 1#32
  let arg13 : BitVec 32 := Scf.iv c0_i32_78 c1_i32_80 k0_t13
  let c1_i32_85 : BitVec 32 := 1#32
  let v64 : BitVec 32 := Scalar.muli arg13 c1_i32_85
  let v65 : BitVec 32 := Scalar.addi c0_i32_86 v64
  let c0_i32_90 : BitVec 32 := 0#32
  ![1, v65.toNat, 0]
def k0_off20 (v75 : BitVec 32) : Fin 2 → Nat :=
  let c0_i32_91 : BitVec 32 := 0#32
  ![v75.toNat, 0]

def k0_chk10 (v75 : BitVec 32) : Prop :=
  (∀ a, (k0_off20 v75) a + S1x1536.size a ≤ S65536x1536.size a)
theorem k0_off20_inb : ∀ (v75 : BitVec 32) (k0_hw10 : k0_chk10 v75), ∀ a, (k0_off20 v75) a + S1x1536.size a ≤ S65536x1536.size a := fun v75 k0_hw10 => k0_hw10

def k0_off21 (k0_t13 : Fin k0_t13_loop.trips) : Fin 3 → Nat :=
  let c1_i32_88 : BitVec 32 := 1#32
  let c0_i32_86 : BitVec 32 := 0#32
  let c0_i32_78 : BitVec 32 := 0#32
  let c1_i32_80 : BitVec 32 := 1#32
  let arg13 : BitVec 32 := Scf.iv c0_i32_78 c1_i32_80 k0_t13
  let c1_i32_85 : BitVec 32 := 1#32
  let v64 : BitVec 32 := Scalar.muli arg13 c1_i32_85
  let v65 : BitVec 32 := Scalar.addi c0_i32_86 v64
  let c0_i32_93 : BitVec 32 := 0#32
  ![1, v65.toNat, 0]
def k0_cond2 (k0_t3 : Fin k0_t3_loop.trips) : BitVec 1 :=
  let c0_i32_35 : BitVec 32 := 0#32
  let c0_i32_23 : BitVec 32 := 0#32
  let c1_i32_24 : BitVec 32 := 1#32
  let arg12 : BitVec 32 := Scf.iv c0_i32_23 c1_i32_24 k0_t3
  let c2_i32_34 : BitVec 32 := 2#32
  let v26 : BitVec 32 := Scalar.muli arg12 c2_i32_34
  let v27 : BitVec 32 := Scalar.addi c0_i32_35 v26
  let c1_i32_60 : BitVec 32 := 1#32
  let v46 : BitVec 32 := Scalar.addi v27 c1_i32_60
  let c2_i32_82 : BitVec 32 := 2#32
  let v60 : BitVec 32 := Scalar.addi v46 c2_i32_82
  let c8_i32_83 : BitVec 32 := 8#32
  let v61 : BitVec 1 := Scalar.cmpi .slt v60 c8_i32_83
  let v62 : BitVec 32 := Scalar.extui v61
  let c0_i32_84 : BitVec 32 := 0#32
  let v63 : BitVec 1 := Scalar.cmpi .ne v62 c0_i32_84
  v63

@[reducible] def k0_t14_loop : Scf.Loop 32 :=
  let c0_i32_85 : BitVec 32 := 0#32
  let c16_i32_86 : BitVec 32 := 16#32
  let v64 : BitVec 32 := Scalar.addi c0_i32_85 c16_i32_86
  let c1_i32_87 : BitVec 32 := 1#32
  ⟨c0_i32_85, v64, c1_i32_87⟩
def k0_off22 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_35 : BitVec 32 := 0#32
  let c0_i32_23 : BitVec 32 := 0#32
  let c1_i32_24 : BitVec 32 := 1#32
  let arg12 : BitVec 32 := Scf.iv c0_i32_23 c1_i32_24 k0_t3
  let c2_i32_34 : BitVec 32 := 2#32
  let v26 : BitVec 32 := Scalar.muli arg12 c2_i32_34
  let v27 : BitVec 32 := Scalar.addi c0_i32_35 v26
  let c1_i32_60 : BitVec 32 := 1#32
  let v46 : BitVec 32 := Scalar.addi v27 c1_i32_60
  let c2_i32_89 : BitVec 32 := 2#32
  let v65 : BitVec 32 := Scalar.addi v46 c2_i32_89
  let c16_i32_90 : BitVec 32 := 16#32
  let v66 : BitVec 32 := Scalar.muli v65 c16_i32_90
  let v67 : BitVec 32 := Scalar.addi v2 v66
  let c0_i32_95 : BitVec 32 := 0#32
  ![v67.toNat, 0]
@[reducible] def k0_t15_loop : Scf.Loop 32 :=
  let c0_i32_100 : BitVec 32 := 0#32
  let c16_i32_101 : BitVec 32 := 16#32
  let v77 : BitVec 32 := Scalar.addi c0_i32_100 c16_i32_101
  let c1_i32_102 : BitVec 32 := 1#32
  ⟨c0_i32_100, v77, c1_i32_102⟩

def k0_chk11 (k0_t3 : Fin k0_t3_loop.trips) (v82 : IVec S16 32) : Prop :=
  (∀ (k0_h2 : k0_cond2 k0_t3 = 1#1), ∀ a x, ((![v82] : Fin 1 → IVec S16 32) a x).toNat < S128.size a)
theorem k0_idx6_inb : ∀ (k0_t3 : Fin k0_t3_loop.trips) (v82 : IVec S16 32) (k0_hw11 : k0_chk11 k0_t3 v82), ∀ (k0_h2 : k0_cond2 k0_t3 = 1#1), ∀ a x, ((![v82] : Fin 1 → IVec S16 32) a x).toNat < S128.size a := fun k0_t3 v82 k0_hw11 k0_h2 => k0_hw11 k0_h2
def k0_off23 (k0_t15 : Fin k0_t15_loop.trips) : Fin 3 → Nat :=
  let c1_i32_107 : BitVec 32 := 1#32
  let c0_i32_105 : BitVec 32 := 0#32
  let c0_i32_100 : BitVec 32 := 0#32
  let c1_i32_102 : BitVec 32 := 1#32
  let arg13 : BitVec 32 := Scf.iv c0_i32_100 c1_i32_102 k0_t15
  let c1_i32_104 : BitVec 32 := 1#32
  let v78 : BitVec 32 := Scalar.muli arg13 c1_i32_104
  let v79 : BitVec 32 := Scalar.addi c0_i32_105 v78
  let c0_i32_109 : BitVec 32 := 0#32
  ![1, v79.toNat, 0]
def k0_off24 (v89 : BitVec 32) : Fin 2 → Nat :=
  let c0_i32_110 : BitVec 32 := 0#32
  ![v89.toNat, 0]

def k0_chk12 (k0_t3 : Fin k0_t3_loop.trips) (v89 : BitVec 32) : Prop :=
  (∀ (k0_h2 : k0_cond2 k0_t3 = 1#1), ∀ a, (k0_off24 v89) a + S1x1536.size a ≤ S65536x1536.size a)
theorem k0_off24_inb : ∀ (k0_t3 : Fin k0_t3_loop.trips) (v89 : BitVec 32) (k0_hw12 : k0_chk12 k0_t3 v89), ∀ (k0_h2 : k0_cond2 k0_t3 = 1#1), ∀ a, (k0_off24 v89) a + S1x1536.size a ≤ S65536x1536.size a := fun k0_t3 v89 k0_hw12 k0_h2 => k0_hw12 k0_h2

def k0_off25 (k0_t15 : Fin k0_t15_loop.trips) : Fin 3 → Nat :=
  let c1_i32_107 : BitVec 32 := 1#32
  let c0_i32_105 : BitVec 32 := 0#32
  let c0_i32_100 : BitVec 32 := 0#32
  let c1_i32_102 : BitVec 32 := 1#32
  let arg13 : BitVec 32 := Scf.iv c0_i32_100 c1_i32_102 k0_t15
  let c1_i32_104 : BitVec 32 := 1#32
  let v78 : BitVec 32 := Scalar.muli arg13 c1_i32_104
  let v79 : BitVec 32 := Scalar.addi c0_i32_105 v78
  let c0_i32_111 : BitVec 32 := 0#32
  ![1, v79.toNat, 0]
@[reducible] def k0_t16_loop : Scf.Loop 32 :=
  let c0_i32_26 : BitVec 32 := 0#32
  let c16_i32_27 : BitVec 32 := 16#32
  let v24 : BitVec 32 := Scalar.addi c0_i32_26 c16_i32_27
  let c1_i32_28 : BitVec 32 := 1#32
  ⟨c0_i32_26, v24, c1_i32_28⟩
@[reducible] def k0_t17_loop : Scf.Loop 32 :=
  let c0_i32_30 : BitVec 32 := 0#32
  let c16_i32_31 : BitVec 32 := 16#32
  let v25 : BitVec 32 := Scalar.addi c0_i32_30 c16_i32_31
  let c1_i32_32 : BitVec 32 := 1#32
  ⟨c0_i32_30, v25, c1_i32_32⟩
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== AddReferenceIdeal.lean ====
abbrev S4096x1536 : Shape := ⟨2, ![4096, 1536]⟩
abbrev S4096 : Shape := ⟨1, ![4096]⟩
abbrev S65536x1536 : Shape := ⟨2, ![65536, 1536]⟩
abbrev S_ : Shape := ⟨0, ![]⟩
abbrev S4096x1 : Shape := ⟨2, ![4096, 1]⟩

abbrev nBuf : Space → Nat
  | .hbm => 12
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096, .i32⟩
  | .hbm, ⟨2, _⟩ => ⟨S65536x1536, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S65536x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.DwValue.lean ====
/- What the weight-gradient kernel's result array holds, over the extended reals: the plain product `dzᵀ · x`.
   The kernel adds thirty-two products of [1024, 2048]ᵀ by [1024, 1536] blocks into each half of the result; the sums
   over the tiles and inside a tile together are the one sum over all 32768 rows. -/
module

public import proofs.«01_k».proof.Proof.Gen.DwKernelIdeal.Value
public import proofs.«01_k».proof.Proof.Gen.DwReferenceIdeal.Read
public import Idealize.ShloMosaic.Lib.Pointwise

@[expose] public section

set_option maxRecDepth 16384

noncomputable section

namespace Cert.DwValue

open Cert.DwKernelIdeal Cert.DwKernelIdeal.Gen Cert.DwKernelIdeal.Value Idealize.ShloMosaic Idealize.ShloMosaic.TcCoe Idealize.SL.Sem

variable (m : (ℓ : Loc nD τ sig) → Buf (Elt Ideal) ℓ)

/-- One grid step: the block it leaves is the block it found plus the product of this step's two input blocks. -/
theorem pay2_apply (acc : Vec Ideal S2048x1536 .f32) (x : Vec Ideal S1024x2048 .bf16) (y : Vec Ideal S1024x1536 .bf16)
    (r : Fin 2048) (d : Fin 1536) :
    k0_pay2 (F := Ideal) acc x y (ix2 r d) = acc (ix2 r d) + ∑ k : Fin 1024, x (ix2 k r) * y (ix2 k d) := by
  pointwise [k0_pay2]

/-- The reset block is zero. -/
theorem pay1_apply (r : Fin 2048) (d : Fin 1536) : k0_pay1 (F := Ideal) (ix2 r d) = 0 := by
  pointwise [k0_pay1]

/-- The block of logit gradients a grid point reads: rows `1024·(t mod 32) + k`, columns `2048·(t / 32) + r`. -/
theorem iblk0_apply (c : Dev nD) (t : Fin cfg0.N) (k : Fin 1024) (r : Fin 2048) (i : S32768x4096.Idx)
    (h0 : (i 0).val = 1024 * (t.val % 32) + k.val) (h1 : (i 1).val = 2048 * (t.val / 32) + r.val) :
    (iblk m c 0 t : Vec Ideal S1024x2048 .bf16) (ix2 k r) = m ((c : Thread nD τ).loc main_arg0) i := by
  have hi : ∀ t : Fin cfg0.N, win0_0.index t 0 = t.val % 32 ∧ win0_0.index t 1 = t.val / 32 :=
    (by decide +kernel : ∀ t : Fin grid0.N, _)
  unfold iblk
  rw [View.read_apply]
  show V m c main_arg0 _ = m (c.tc.loc main_arg0) _
  unfold V
  congr 1
  funext a
  apply Fin.ext
  match a with
  | ⟨0, _⟩ => show win0_0.index t 0 * 1024 + 1 * k.val = (i 0).val; rw [(hi t).1]; omega
  | ⟨1, _⟩ => show win0_0.index t 1 * 2048 + 1 * r.val = (i 1).val; rw [(hi t).2]; omega

/-- The block of activations a grid point reads: rows `1024·(t mod 32) + k`, every column. -/
theorem iblk1_apply (c : Dev nD) (t : Fin cfg0.N) (k : Fin 1024) (d : Fin 1536) (i : S32768x1536.Idx)
    (h0 : (i 0).val = 1024 * (t.val % 32) + k.val) (h1 : (i 1).val = d.val) :
    (iblk m c 1 t : Vec Ideal S1024x1536 .bf16) (ix2 k d) = m ((c : Thread nD τ).loc main_arg1) i := by
  have hi : ∀ t : Fin cfg0.N, win0_1.index t 0 = t.val % 32 ∧ win0_1.index t 1 = 0 :=
    (by decide +kernel : ∀ t : Fin grid0.N, _)
  unfold iblk
  rw [View.read_apply]
  show V m c main_arg1 _ = m (c.tc.loc main_arg1) _
  unfold V
  congr 1
  funext a
  apply Fin.ext
  match a with
  | ⟨0, _⟩ => show win0_1.index t 0 * 1024 + 1 * k.val = (i 0).val; rw [(hi t).1]; omega
  | ⟨1, _⟩ => show win0_1.index t 1 * 1536 + 1 * d.val = (i 1).val; rw [(hi t).2]; omega

/-- A term of the reference's sum at result element `i`, as a function of every natural row number. -/
def term (c : Dev nD) (i : S4096x1536.Idx) (n : ℕ) : EReal :=
  if h : n < 32768 then
    HMul.hMul (α := EReal) (β := EReal) (m ((c : Thread nD τ).loc main_arg0) (Cert.DwReferenceIdeal.Read.lidx_main_v0 i ⟨n, h⟩))
      (m ((c : Thread nD τ).loc main_arg1) (Cert.DwReferenceIdeal.Read.ridx_main_v0 i ⟨n, h⟩))
  else 0

/-- What grid step `32·q + s` adds at an element of its half of the result: the 1024 terms of its tile of rows. -/
theorem step_terms (c : Dev nD) (i : S4096x1536.Idx) (q s : ℕ) (hs : s < 32) (hq : q = (i 0).val / 2048)
    (h : 32 * q + s < cfg0.N) (r : Fin 2048) (d : Fin 1536) (hr : r.val = (i 0).val % 2048) (hd : d.val = (i 1).val) :
    ∑ k : Fin 1024, HMul.hMul (α := EReal) (β := EReal) ((iblk m c 0 ⟨32 * q + s, h⟩ : Vec Ideal S1024x2048 .bf16) (ix2 k r))
        ((iblk m c 1 ⟨32 * q + s, h⟩ : Vec Ideal S1024x1536 .bf16) (ix2 k d))
      = ∑ k ∈ Finset.range 1024, term m c i (1024 * s + k) := by
  rw [Finset.sum_range]
  refine Finset.sum_congr rfl fun k _ => ?_
  have hk : 1024 * s + k.val < 32768 := by omega
  have hm : (32 * q + s) % 32 = s := by omega
  have hv : (32 * q + s) / 32 = q := by omega
  unfold term
  rw [dif_pos hk]
  rw [iblk0_apply m c ⟨32 * q + s, h⟩ k r (Cert.DwReferenceIdeal.Read.lidx_main_v0 i ⟨1024 * s + k.val, hk⟩)
      (by show 1024 * s + k.val = _; rw [hm]) (by show (i 0).val = _; rw [hv]; omega),
    iblk1_apply m c ⟨32 * q + s, h⟩ k d (Cert.DwReferenceIdeal.Read.ridx_main_v0 i ⟨1024 * s + k.val, hk⟩)
      (by show 1024 * s + k.val = _; rw [hm]) (by show (i 1).val = _; omega)]

/-- What grid step `n` adds at an element of its half of the result. -/
def addend (c : Dev nD) (n : ℕ) (j : S2048x1536.Idx) : EReal :=
  if h : n < cfg0.N then
    ∑ k : Fin 1024, HMul.hMul (α := EReal) (β := EReal) ((iblk m c 0 ⟨n, h⟩ : Vec Ideal S1024x2048 .bf16) (ix2 k (j 0)))
        ((iblk m c 1 ⟨n, h⟩ : Vec Ideal S1024x1536 .bf16) (ix2 k (j 1)))
  else 0

/-- A sum over tiles of `B` is the sum over all. -/
theorem sum_tiles (f : ℕ → EReal) (B : ℕ) : ∀ n : ℕ, ∑ s ∈ Finset.range n, ∑ k ∈ Finset.range B, f (B * s + k) = ∑ k ∈ Finset.range (B * n), f k
  | 0 => by simp
  | n + 1 => by rw [Finset.sum_range_succ, sum_tiles f B n, Nat.mul_succ, Finset.sum_range_add]

/-- THE EQUATION: the array the kernel leaves is the reference's product. -/
theorem G2_eq (c : Dev nD) : (G2 (F := Ideal) m c : S4096x1536.Idx → EReal)
    = Cert.DwReferenceIdeal.Read.val_main_v0 (F := Ideal) (m ((c : Thread nD τ).loc main_arg0)) (m ((c : Thread nD τ).loc main_arg1)) := by
  funext i
  have hN : cfg0.N = 64 := N_0
  have h0 : (i 0).val < 4096 := (i 0).isLt
  have h1 : (i 1).val < 1536 := (i 1).isLt
  rw [Cert.DwReferenceIdeal.Read.val_main_v0_apply]
  have hq : run2Of i = (i 0).val / 2048 := by unfold run2Of; omega
  have hlt : 32 * run2Of i + 31 < cfg0.N := by rw [hN, hq]; omega
  have hloc : loc2Of i = ix2 (⟨(i 0).val % 2048, Nat.mod_lt _ (by decide)⟩ : Fin 2048) (⟨(i 1).val, h1⟩ : Fin 1536) := by
    funext a
    apply Fin.ext
    match a with
    | ⟨0, _⟩ => rfl
    | ⟨1, _⟩ => show (i 1).val % 1536 = (i 1).val; omega
  unfold G2
  rw [dif_pos hlt, hloc]
  generalize hr : (⟨(i 0).val % 2048, Nat.mod_lt _ (by decide)⟩ : Fin 2048) = r
  generalize hd : (⟨(i 1).val, h1⟩ : Fin 1536) = d
  have hr' : r.val = (i 0).val % 2048 := by rw [← hr]
  have hd' : d.val = (i 1).val := by rw [← hd]
  have key := Pipeline.accAt_add_apply (N := cfg0.N) (ι := S2048x1536.Idx) (β := EReal)
    (reset2 m c) (step2 m c) (fun _ => 0) (addend m c) (32 * run2Of i) 31
    (fun h j => by
      obtain ⟨r, d, rfl⟩ : ∃ (r : Fin 2048) (d : Fin 1536), j = ix2 r d := ⟨j 0, j 1, eq_ix2 j⟩
      refine (pay2_apply (k0_pay1 (F := Ideal)) _ _ r d).trans ?_
      rw [pay1_apply]
      unfold addend
      rw [dif_pos h]
      exact rfl)
    (fun n h acc j _ _ => by
      obtain ⟨r, d, rfl⟩ : ∃ (r : Fin 2048) (d : Fin 1536), j = ix2 r d := ⟨j 0, j 1, eq_ix2 j⟩
      refine (pay2_apply acc _ _ r d).trans ?_
      unfold addend
      rw [dif_pos h]
      exact rfl)
    31 le_rfl hlt (ix2 r d)
  refine key.trans ?_
  rw [zero_add]
  have hs : ∀ s ∈ Finset.range 32, addend m c (32 * run2Of i + s) (ix2 r d) = ∑ k ∈ Finset.range 1024, term m c i (1024 * s + k) := by
    intro s hs
    have hs' := Finset.mem_range.mp hs
    have hb : 32 * run2Of i + s < cfg0.N := by omega
    unfold addend
    rw [dif_pos hb]
    exact step_terms m c i (run2Of i) s hs' hq hb r d hr' hd'
  rw [Finset.sum_congr rfl hs, sum_tiles, Finset.sum_range]
  refine Finset.sum_congr rfl fun k _ => ?_
  unfold term
  rw [dif_pos k.isLt]

end Cert.DwValue

end
-- ==== Proof.CopyTable.lean ====
/-
  `copy_table` on the SparseCores: what its proof speaks of. The table's 65536 rows are 4096 groups of 16; the subcore
  `(c, s)` copies the 128 groups `128 (2 s + c) + j`, each by one transfer into one of the four slots of its scratch
  buffer and one transfer out of it. Stated here: the groups and the slots as sets of elements, the two kinds of
  transfer in flight, and one rule for the start of each and for the wait.
-/
module

public import proofs.«01_k».proof.Defs
public import proofs.«01_k».proof.Proof.Gen.CopyKernel
public import proofs.«01_k».proof.Proof.Gen.CopyKernel.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.CopyTable

open Cert.CopyKernel Cert.CopyKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ)

abbrev sLoc (d : Dev nD) : Loc nD τ sig := (SparseCore.T d).loc main_arg0
abbrev oLoc (d : Dev nD) : Loc nD τ sig := (SparseCore.T d).loc main_v0
/-- What the copy is to hold: the table's own contents. -/
abbrev cp (d : Dev nD) : Buf (Elt F) (oLoc d) := fun i => m (sLoc d) i

abbrev sV : Memref sig .scVector .hbm S65536x1536 .f32 := Memref.whole main_arg0_scv
abbrev oV : Memref sig .scVector .hbm S65536x1536 .f32 := Memref.whole main_v0_scv
abbrev bV : Memref sig .scVector .vmem S4x16x1536 .f32 := Memref.whole cc0_scratch0

/-- The elements of group `n`: the rows `16 n` to `16 n + 15`. -/
def gS (n : ℕ) : Finset S65536x1536.Idx := Finset.univ.filter fun i => (i 0).val / 16 = n
/-- The elements of slot `r` of the scratch buffer. -/
def bS (r : ℕ) : Finset S4x16x1536.Idx := Finset.univ.filter fun i => (i 0).val = r

theorem mem_gS {n : ℕ} {i : S65536x1536.Idx} : i ∈ gS n ↔ (i 0).val / 16 = n := by simp [gS]
theorem mem_bS {r : ℕ} {i : S4x16x1536.Idx} : i ∈ bS r ↔ (i 0).val = r := by simp [bS]
attribute [irreducible] gS bS

/-- The sixteen rows at an offset, of the table and of the copy. -/
abbrev sM (off : Fin 2 → ℕ) (h : ∀ a, off a + S16x1536.size a ≤ S65536x1536.size a) : Memref sig .scVector .hbm S16x1536 .f32 :=
  sV.slice (Rect.unit (s := S65536x1536) off S16x1536.size h) (fun _ => rfl)
abbrev oM (off : Fin 2 → ℕ) (h : ∀ a, off a + S16x1536.size a ≤ S65536x1536.size a) : Memref sig .scVector .hbm S16x1536 .f32 :=
  oV.slice (Rect.unit (s := S65536x1536) off S16x1536.size h) (fun _ => rfl)

theorem inbK (r : Fin 4) : ∀ a, (![r.val, 0, 0] : Fin 3 → Nat) a + S1x16x1536.size a ≤ S4x16x1536.size a := by decide +revert
theorem inbQ (r : Fin 4) : ∀ a, (![r.val] : Fin 1 → Nat) a + S1.size a ≤ S4.size a := by decide +revert
/-- Slot `r`, as the subcore addresses it. -/
abbrev bM (r : Fin 4) : Memref sig .scVector .vmem S16x1536 .f32 :=
  (bV.slice (Rect.unit (s := S4x16x1536) ![r.val, 0, 0] S1x16x1536.size (inbK r)) (fun _ => rfl)).squeeze S16x1536 squeezes_S1x16x1536_S16x1536

theorem set_sM {off : Fin 2 → ℕ} {h} {n : ℕ} (e : off = ![16 * n, 0]) : (sM off h).view.set = gS n := by
  subst e
  show ((View.whole (main_arg0_scv : Ref sig .scVector)).slice _).set = _
  rw [View.set_slice_whole]
  ext i
  rw [Rect.mem_set_unit, mem_gS]
  have h1 : (i 1).val < 1536 := (i 1).isLt
  constructor
  · intro hh
    have := hh 0
    simp at this
    omega
  · intro hh a
    match a with
    | 0 => simp; omega
    | 1 => simp; exact h1
theorem set_oM {off : Fin 2 → ℕ} {h} {n : ℕ} (e : off = ![16 * n, 0]) : (oM off h).view.set = gS n := by
  subst e
  show ((View.whole (main_v0_scv : Ref sig .scVector)).slice _).set = _
  rw [View.set_slice_whole]
  ext i
  rw [Rect.mem_set_unit, mem_gS]
  have h1 : (i 1).val < 1536 := (i 1).isLt
  constructor
  · intro hh
    have := hh 0
    simp at this
    omega
  · intro hh a
    match a with
    | 0 => simp; omega
    | 1 => simp; exact h1
theorem set_bM (r : Fin 4) : (bM r).view.set = bS r.val := by
  show (((View.whole (cc0_scratch0 : Ref sig .scVector)).slice (Rect.unit (s := S4x16x1536) ![r.val, 0, 0] S1x16x1536.size (inbK r))).reshape S16x1536 squeezes_S1x16x1536_S16x1536.numel_eq).set = _
  rw [View.set_reshape, View.set_slice_whole]
  ext i
  rw [Rect.mem_set_unit, mem_bS]
  have h1 : (i 1).val < 16 := (i 1).isLt
  have h2 : (i 2).val < 1536 := (i 2).isLt
  constructor
  · intro hh
    have := hh 0
    simp at this
    omega
  · intro hh a
    match a with
    | 0 => simp; omega
    | 1 => simp; exact h1
    | 2 => simp; exact h2

/-! ## The subcore's cells -/

abbrev inS (r : Fin 4) : DmaSem sig := ((cc0_scratch1.slice (Rect.unit (s := S4) ![r.val] S1.size (inbQ r))).squeeze S_ squeezes_S1_S_).sem
abbrev outS (r : Fin 4) : DmaSem sig := ((cc0_scratch2.slice (Rect.unit (s := S4) ![r.val] S1.size (inbQ r))).squeeze S_ squeezes_S1_S_).sem

abbrev NI : ℕ := (cc0_scratch0 : Ref sig .scVector).dmaCredit S16x1536 .f32
abbrev NO : ℕ := (main_v0_scv : Ref sig .scVector).dmaCredit S16x1536 .f32
theorem NI_pos : 0 < NI := by decide
theorem NO_pos : 0 < NO := by decide

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
abbrev bLoc (d : Dev nD) (L : grid0.Coords) : Loc nD τ sig := (thr d L).loc cc0_scratch0

variable [FloatOps F]

section Ops

variable (d : Dev nD) (L : grid0.Coords)

/-- Group `n` of the table; of the copy, before and after. -/
abbrev gA (n : ℕ) : sProp 𝕄 := sLoc d ↦[gS n]{fullShare} m (sLoc d)
abbrev gB (n : ℕ) : sProp 𝕄 := oLoc d ↦[gS n]{fullShare} m (oLoc d)
abbrev gC (n : ℕ) : sProp 𝕄 := oLoc d ↦[gS n]{fullShare} cp m d

/-- Slot `r` at some contents; holding group `n`. -/
abbrev slotAny (r : Fin 4) : sProp 𝕄 := iprop(∃ f : Buf (Elt F) (bLoc d L), bLoc d L ↦[bS r.val]{fullShare} f)
def Has (r : Fin 4) (n : ℕ) (f : Buf (Elt F) (bLoc d L)) : Prop :=
  ∀ (off : Fin 2 → ℕ) (h : ∀ a, off a + S16x1536.size a ≤ S65536x1536.size a), off = ![16 * n, 0] →
    (bM r).view.read (Elt F) f = (sM off h).view.read (Elt F) (m (sLoc d))
abbrev slotHas (r : Fin 4) (n : ℕ) : sProp 𝕄 := iprop(∃ f : Buf (Elt F) (bLoc d L), ⌜Has m d L r n f⌝ ∗ bLoc d L ↦[bS r.val]{fullShare} f)

/-- The two transfers in flight: group `n` into slot `r`; slot `r` out to group `n`. -/
abbrev Getting (r : Fin 4) (n : ℕ) : sProp 𝕄 :=
  Transfers.Flight countersEmb (thr d L) (.dma (inS r)) (none : HIx 1) NI iprop(slotHas m d L r n ∗ gA m d n)
abbrev Putting (r : Fin 4) (n : ℕ) : sProp 𝕄 :=
  Transfers.Flight countersEmb (thr d L) (.dma (outS r)) (none : HIx 1) NO iprop(gC m d n ∗ slotAny d L r)

theorem wp_get (r : Fin 4) (n : ℕ) {off : Fin 2 → ℕ} {h} (e : off = ![16 * n, 0])
    {hsrc : (sM off h).view.WordExact} {hdst : (bM r).view.WordExact} {hsem}
    {k : PUnit → Prog (TpuEff nD τ sig (Elt F) Λ₀ (thr d L).2) PUnit} {Q : PUnit → sProp 𝕄} :
    iprop(gA m d n ∗ slotAny d L r ∗ semVal (thr d L, .dma (inS r)) 0)
      ⊢ iprop((Getting m d L r n -∗ wp frame (wpE (defs₀ (F := F)) 𝒱₀ (thr d L) none) Set.univ (k ⟨⟩) Q)
          -∗ wp frame (wpE (defs₀ (F := F)) 𝒱₀ (thr d L) none) Set.univ
            (.op (.enqueueDmaAs (sM off h) (.here (bM r)) .same (.dma (inS r)) hsrc hdst hsem) k) Q) := by
  iintro ⟨HA, ⟨%f, Hb⟩, Hz⟩ Hk
  iapply (Transfers.wp_dmaLocal countersEmb 𝒱₀ (thr d L) none (src := sM off h) (dst := bM r) (q := fullShare)
    (fs := m (sLoc d)) (Sd := bS r.val) (fd := f) (none : HIx 1) NI rfl NI_pos (set_bM r).subset) $$ [HA Hb Hz]
  · isplitl [HA]
    · rw [set_sM e]; iexact HA
    isplitl [Hb]; · iexact Hb
    iexact Hz
  iintro Hf
  iapply Hk
  iapply (Transfers.Flight_mono countersEmb (thr d L) ?_) $$ Hf
  rw [set_sM e]
  iintro ⟨Hb, HA⟩
  isplitl [Hb]
  · iexists _
    isplitr; swap; · iexact Hb
    ipureintro
    intro off' h' e'
    subst e'; subst e
    exact View.read_write_univ _ _
  · iexact HA

omit [FloatOps F] in
/-- A group written with the slot's rows holds the table's. -/
theorem copied (r : Fin 4) (n : ℕ) {off : Fin 2 → ℕ} {h} (e : off = ![16 * n, 0]) {f : Buf (Elt F) (bLoc d L)} (hf : Has m d L r n f) :
    (oLoc d ↦[gS n]{fullShare} (oM off h).view.write (Elt F) (m (oLoc d)) ((bM r).view.read (Elt F) f) Finset.univ : sProp 𝕄)
      = gC m d n := by
  refine pointsTo_congr fun i hi => ?_
  rw [hf off h e]
  rw [← set_oM (h := h) e] at hi
  obtain ⟨x, -, rfl⟩ := Finset.mem_map.mp hi
  rw [View.write_emb_of_mem _ _ (Finset.mem_univ x)]
  rfl

theorem wp_put (r : Fin 4) (n : ℕ) {off : Fin 2 → ℕ} {h} (e : off = ![16 * n, 0])
    {hsrc : (bM r).view.WordExact} {hdst : (oM off h).view.WordExact} {hsem}
    {k : PUnit → Prog (TpuEff nD τ sig (Elt F) Λ₀ (thr d L).2) PUnit} {Q : PUnit → sProp 𝕄} :
    iprop(gB m d n ∗ slotHas m d L r n ∗ semVal (thr d L, .dma (outS r)) 0)
      ⊢ iprop((Putting m d L r n -∗ wp frame (wpE (defs₀ (F := F)) 𝒱₀ (thr d L) none) Set.univ (k ⟨⟩) Q)
          -∗ wp frame (wpE (defs₀ (F := F)) 𝒱₀ (thr d L) none) Set.univ
            (.op (.enqueueDmaAs (bM r) (.here (oM off h)) .same (.dma (outS r)) hsrc hdst hsem) k) Q) := by
  iintro ⟨HB, ⟨%f, %hf, Hb⟩, Hz⟩ Hk
  iapply (Transfers.wp_dmaLocal countersEmb 𝒱₀ (thr d L) none (src := bM r) (dst := oM off h) (q := fullShare)
    (fs := f) (Sd := gS n) (fd := m (oLoc d)) (none : HIx 1) NO rfl NO_pos (set_oM e).subset) $$ [HB Hb Hz]
  · isplitl [Hb]
    · rw [set_bM]; iexact Hb
    isplitl [HB]; · iexact HB
    iexact Hz
  iintro Hf
  iapply Hk
  iapply (Transfers.Flight_mono countersEmb (thr d L) ?_) $$ Hf
  rw [set_bM]
  iintro ⟨HC, Hb⟩
  isplitl [HC]
  · iapply (Entails.of_eq (copied m d L r n e hf)); iexact HC
  · iexists f; iexact Hb

/-! ## The waits -/

/-- What the subcore owes, the waits of its own recorded. -/
abbrev owing (O : CellTallies nD τ sig (HIx 1)) (W : Waits sig (HIx 1)) : sProp 𝕄 :=
  iprop(∃ W', ⌜∀ p ∈ W', p ∈ W ∨ p.2 = none⌝ ∗ owes (thr d L) O W')
abbrev MW (O : CellTallies nD τ sig (HIx 1)) : sProp 𝕄 := Transfers.MayWaits (thr d L) (none : HIx 1) O

/-- A wait on a cell with a transfer in flight: what it delivers, and the cell at zero again. -/
theorem wp_land {O : CellTallies nD τ sig (HIx 1)} {W : Waits sig (HIx 1)} {sem : DmaSem sig} {sp sp' : Space} {s' : Shape} {e' : EltTy}
    {srcw : Memref sig (thr d L).2.kind sp' s' e'} {dstw : Memref sig .scVector sp S16x1536 .f32}
    {hsrc : srcw.view.WordExact} {hdst : dstw.view.WordExact} {N : ℕ} (hN : dstw.view.dmaCredit = N) {X : sProp 𝕄}
    {k : PUnit → Prog (TpuEff nD τ sig (Elt F) Λ₀ (thr d L).2) PUnit} {Q : PUnit → sProp 𝕄} :
    iprop(Transfers.Flight countersEmb (thr d L) (.dma sem) (none : HIx 1) N X ∗ owing d L O W ∗ MW d L O)
      ⊢ iprop((iprop(X ∗ semVal (thr d L, .dma sem) 0 ∗ owing d L O W) -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  iintro ⟨Hf, ⟨%W', %hW', HO⟩, Hmw⟩ Hk
  iapply (Transfers.wp_waitLocalO countersEmb 𝒱₀ (thr d L) none (none : HIx 1) hN) $$ [Hf HO Hmw]
  · isplitl [Hf]; · iexact Hf
    isplitl [HO]; · iexact HO
    iapply (Transfers.MayWaits.elim (SemLoc.dma sem)) $$ Hmw
  iintro ⟨HX, Hz, HO⟩
  iapply Hk
  isplitl [HX]; · iexact HX
  isplitl [Hz]; · iexact Hz
  iexists _; isplitr; swap; · iexact HO
  ipureintro; intro p hp
  rcases Finset.mem_insert.mp hp with hp | hp
  · exact .inr (hp ▸ rfl)
  · exact hW' p hp

/-- A guarded step, whichever way the guard goes: the same start, and the same rest from the same end. -/
theorem wp_guard {c : Prop} [Decidable c] {A : c → Prog (TpuEff nD τ sig (Elt F) Λ₀ (thr d L).2) PUnit}
    {K' : Prog (TpuEff nD τ sig (Elt F) Λ₀ (thr d L).2) PUnit} {Q : PUnit → sProp 𝕄} (P R : sProp 𝕄)
    (hA : ∀ h : c, P ⊢ iprop((R -∗ wp frame (wpE (defs₀ (F := F)) 𝒱₀ (thr d L) none) Set.univ K' Q)
      -∗ wp frame (wpE (defs₀ (F := F)) 𝒱₀ (thr d L) none) Set.univ (A h) Q))
    (hB : ¬ c → P ⊢ R) :
    P ⊢ iprop((R -∗ wp frame (wpE (defs₀ (F := F)) 𝒱₀ (thr d L) none) Set.univ K' Q)
      -∗ wp frame (wpE (defs₀ (F := F)) 𝒱₀ (thr d L) none) Set.univ (dite c A fun _ => K') Q) := by
  by_cases h : c
  · rw [dif_pos h]; exact hA h
  · rw [dif_neg h]
    iintro HP HK
    iapply HK
    iapply (hB h); iexact HP

end Ops
end Cert.Proof.CopyTable
-- ==== Proof.CopyTile.lean ====
/-
  `copy_table` on the SparseCores: one subcore's task. Trip `t` of its loop puts out the groups `4 t` to `4 t + 3` of
  its 128, each once its get has landed, waits for the puts of two groups before, and starts the gets of two groups on.
  Stated here: what holds before trip `t`, that a trip leads from one to the next, and the whole task.
-/
module

public import proofs.«01_k».proof.Proof.CopyTable

@[expose] public section

noncomputable section

namespace Cert.Proof.CopyTable

open Cert.CopyKernel Cert.CopyKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The guards and the offsets -/

theorem trips_eq : k0_t1_loop.trips = 32 := by decide +kernel
theorem cond1_iff (t : Fin k0_t1_loop.trips) : k0_cond1 t = 1#1 ↔ 0 < t.val := by revert t; decide +kernel
theorem cond3_iff (t : Fin k0_t1_loop.trips) : k0_cond3 t = 1#1 ↔ 0 < t.val := by revert t; decide +kernel
theorem cond2_true (t : Fin k0_t1_loop.trips) : k0_cond2 t = 1#1 := by revert t; decide +kernel
theorem cond4_true (t : Fin k0_t1_loop.trips) : k0_cond4 t = 1#1 := by revert t; decide +kernel
theorem cond5_true (t : Fin k0_t1_loop.trips) : k0_cond5 t = 1#1 := by revert t; decide +kernel
theorem cond7_true (t : Fin k0_t1_loop.trips) : k0_cond7 t = 1#1 := by revert t; decide +kernel
theorem cond6_iff (t : Fin k0_t1_loop.trips) : k0_cond6 t = 1#1 ↔ t.val < 31 := by revert t; decide +kernel
theorem cond8_iff (t : Fin k0_t1_loop.trips) : k0_cond8 t = 1#1 ↔ t.val < 31 := by revert t; decide +kernel

/-- The first of the subcore's groups. -/
def base (L : grid0.Coords) : ℕ := 256 * (L 1).val + 128 * (L 0).val

theorem off1_eq : ∀ (L : grid0.Coords) (r : Fin 2), k0_off1 L (BitVec.ofNat 32 (16 * r.val)) = ![16 * (base L + r.val), 0] := by decide +kernel
theorem off2_eq (L : grid0.Coords) (t : Fin k0_t1_loop.trips) (r : Fin 4) :
    k0_off2 L t (BitVec.ofNat 32 r.val) = ![16 * (base L + (4 * t.val + r.val)), 0] := by
  rw [k0_off2_eq]; unfold base; congr 1; omega
theorem off4_eq (L : grid0.Coords) (t : Fin k0_t1_loop.trips) : k0_off4 L t = ![16 * (base L + (4 * t.val + 2)), 0] := by
  rw [k0_off4_eq]; unfold base; congr 1; omega
theorem off6_eq (L : grid0.Coords) (t : Fin k0_t1_loop.trips) : k0_off6 L t = ![16 * (base L + (4 * t.val + 3)), 0] := by
  rw [k0_off6_eq]; unfold base; congr 1; omega
theorem off8_eq (L : grid0.Coords) (t : Fin k0_t1_loop.trips) : k0_off8 L t = ![16 * (base L + (4 * t.val + 4)), 0] := by
  rw [k0_off8_eq]; unfold base; congr 1; omega
theorem off10_eq (L : grid0.Coords) (t : Fin k0_t1_loop.trips) : k0_off10 L t = ![16 * (base L + (4 * t.val + 5)), 0] := by
  rw [k0_off10_eq]; unfold base; congr 1; omega
theorem base_eq (L : grid0.Coords) : base L = 256 * (L 1).val + 128 * (L 0).val := rfl
attribute [irreducible] base

/-! ## Families of groups -/

/-- The indices of the groups whose gets are not in flight before trip `t`; and those no step of trip `t` touches. -/
def sA (t : ℕ) : Finset ℕ := (Finset.range 128).filter fun j => j ≠ 4 * t ∧ j ≠ 4 * t + 1
def sR (t : ℕ) : Finset ℕ := (Finset.range 128).filter fun j => j < 4 * t ∨ 4 * t + 6 ≤ j
/-- The indices of the groups not yet being put out before trip `t`; and those put out and landed. -/
def sB (t : ℕ) : Finset ℕ := (Finset.range 128).filter fun j => 4 * t ≤ j
def sC (t : ℕ) : Finset ℕ := Finset.range (4 * t - 2)

/-- A resource held only under a condition. -/
def opt (c : Prop) [Decidable c] (X : sProp 𝕄) : sProp 𝕄 := if c then X else iprop(emp)
theorem opt_pos {c : Prop} [Decidable c] {X : sProp 𝕄} (h : c) : opt c X = X := if_pos h
theorem opt_neg {c : Prop} [Decidable c] {X : sProp 𝕄} (h : ¬ c) : opt c X = iprop(emp) := if_neg h
theorem emp_sep2 (X : sProp 𝕄) : iprop(emp ∗ X) = X := equiv_iff.mp Idealize.SL.BI.emp_sep

theorem sA_open (t : ℕ) (ht : t < 32) (Φ : ℕ → sProp 𝕄) :
    bigSep (sA t) Φ = iprop(Φ (4 * t + 2) ∗ Φ (4 * t + 3) ∗ opt (t < 31) (Φ (4 * t + 4)) ∗ opt (t < 31) (Φ (4 * t + 5)) ∗ bigSep (sR t) Φ) := by
  by_cases h : t < 31
  · rw [show sA t = insert (4 * t + 2) (insert (4 * t + 3) (insert (4 * t + 4) (insert (4 * t + 5) (sR t)))) by
        ext j; simp only [sA, sR, Finset.mem_insert, Finset.mem_filter, Finset.mem_range]; omega,
      SparseCore.bigSep_insert' (by simp [sR]), SparseCore.bigSep_insert' (by simp [sR]), SparseCore.bigSep_insert' (by simp [sR]),
      SparseCore.bigSep_insert' (by simp [sR])]
    simp only [opt_pos h]
  · rw [show sA t = insert (4 * t + 2) (insert (4 * t + 3) (sR t)) by
        ext j; simp only [sA, sR, Finset.mem_insert, Finset.mem_filter, Finset.mem_range]; omega,
      SparseCore.bigSep_insert' (by simp [sR]), SparseCore.bigSep_insert' (by simp [sR])]
    simp only [opt_neg h, emp_sep2]
theorem sA_close (t : ℕ) (ht : t < 32) (Φ : ℕ → sProp 𝕄) :
    bigSep (sA (t + 1)) Φ = iprop(Φ (4 * t) ∗ Φ (4 * t + 1) ∗ Φ (4 * t + 2) ∗ Φ (4 * t + 3) ∗ bigSep (sR t) Φ) := by
  rw [show sA (t + 1) = insert (4 * t) (insert (4 * t + 1) (insert (4 * t + 2) (insert (4 * t + 3) (sR t)))) by
      ext j; simp only [sA, sR, Finset.mem_insert, Finset.mem_filter, Finset.mem_range]; omega,
    SparseCore.bigSep_insert' (by simp [sR]), SparseCore.bigSep_insert' (by simp [sR]), SparseCore.bigSep_insert' (by simp [sR]),
    SparseCore.bigSep_insert' (by simp [sR])]
theorem sB_open (t : ℕ) (ht : t < 32) (Φ : ℕ → sProp 𝕄) :
    bigSep (sB t) Φ = iprop(Φ (4 * t) ∗ Φ (4 * t + 1) ∗ Φ (4 * t + 2) ∗ Φ (4 * t + 3) ∗ bigSep (sB (t + 1)) Φ) := by
  rw [show sB t = insert (4 * t) (insert (4 * t + 1) (insert (4 * t + 2) (insert (4 * t + 3) (sB (t + 1))))) by
      ext j; simp only [sB, Finset.mem_insert, Finset.mem_filter, Finset.mem_range]; omega,
    SparseCore.bigSep_insert' (by simp [sB]; try omega), SparseCore.bigSep_insert' (by simp [sB]; try omega), SparseCore.bigSep_insert' (by simp [sB]; try omega),
    SparseCore.bigSep_insert' (by simp [sB]; try omega)]
theorem sC_close (t : ℕ) (Φ : ℕ → sProp 𝕄) :
    bigSep (sC (t + 1)) Φ = iprop(opt (0 < t) (Φ (4 * t - 2)) ∗ opt (0 < t) (Φ (4 * t - 1)) ∗ Φ (4 * t) ∗ Φ (4 * t + 1) ∗ bigSep (sC t) Φ) := by
  by_cases h : 0 < t
  · rw [show sC (t + 1) = insert (4 * t - 2) (insert (4 * t - 1) (insert (4 * t) (insert (4 * t + 1) (sC t)))) by
        ext j; simp only [sC, Finset.mem_insert, Finset.mem_range]; omega,
      SparseCore.bigSep_insert' (by simp [sC]; omega), SparseCore.bigSep_insert' (by simp [sC]; omega), SparseCore.bigSep_insert' (by simp [sC]; try omega),
      SparseCore.bigSep_insert' (by simp [sC]; try omega)]
    simp only [opt_pos h]
  · rw [show sC (t + 1) = insert (4 * t) (insert (4 * t + 1) (sC t)) by
        ext j; simp only [sC, Finset.mem_insert, Finset.mem_range]; omega,
      SparseCore.bigSep_insert' (by simp [sC]; try omega), SparseCore.bigSep_insert' (by simp [sC]; try omega)]
    simp only [opt_neg h, emp_sep2]

variable [FloatOps F]

section Tile

variable (d : Dev nD) (L : grid0.Coords)

/-- Slot `r`: a transfer in flight, or free with the cell at zero. -/
def inAt (c : Prop) [Decidable c] (r : Fin 4) (n : ℕ) : sProp 𝕄 :=
  if c then Getting m d L r n else iprop(slotAny d L r ∗ semVal (thr d L, .dma (inS r)) 0)
def outAt (c : Prop) [Decidable c] (r : Fin 4) (n : ℕ) : sProp 𝕄 :=
  if c then Putting m d L r n else iprop(slotAny d L r ∗ semVal (thr d L, .dma (outS r)) 0)

theorem inAt_pos {c : Prop} [Decidable c] {r : Fin 4} {n : ℕ} (h : c) : inAt m d L c r n = Getting m d L r n := if_pos h
theorem inAt_neg {c : Prop} [Decidable c] {r : Fin 4} {n : ℕ} (h : ¬ c) :
    inAt m d L c r n = iprop(slotAny d L r ∗ semVal (thr d L, .dma (inS r)) 0) := if_neg h
theorem outAt_pos {c : Prop} [Decidable c] {r : Fin 4} {n : ℕ} (h : c) : outAt m d L c r n = Putting m d L r n := if_pos h
theorem outAt_neg {c : Prop} [Decidable c] {r : Fin 4} {n : ℕ} (h : ¬ c) :
    outAt m d L c r n = iprop(slotAny d L r ∗ semVal (thr d L, .dma (outS r)) 0) := if_neg h
theorem inAt_congr {c c' : Prop} [Decidable c] [Decidable c'] {r : Fin 4} {n n' : ℕ} (h : c ↔ c') (e : n = n') :
    inAt m d L c r n = inAt m d L c' r n' := by
  subst e
  by_cases hc : c
  · rw [inAt_pos m d L hc, inAt_pos m d L (h.mp hc)]
  · rw [inAt_neg m d L hc, inAt_neg m d L fun k => hc (h.mpr k)]

/-- Before trip `t`: the gets of its first two groups in flight, the puts of the two groups before it in flight. -/
def inv (O : CellTallies nD τ sig (HIx 1)) (W : Waits sig (HIx 1)) (t : ℕ) (_ : PUnit) : sProp 𝕄 :=
  iprop(levAts (K (F := F)).L (K (F := F)).lev ∗ owing d L O W
    ∗ inAt m d L (t < 32) 0 (base L + 4 * t) ∗ inAt m d L (t < 32) 1 (base L + (4 * t + 1))
    ∗ outAt m d L (0 < t) 2 (base L + (4 * t - 2)) ∗ outAt m d L (0 < t) 3 (base L + (4 * t - 1))
    ∗ semVal (thr d L, .dma (inS 2)) 0 ∗ semVal (thr d L, .dma (inS 3)) 0
    ∗ semVal (thr d L, .dma (outS 0)) 0 ∗ semVal (thr d L, .dma (outS 1)) 0
    ∗ (bigSep (sA t) fun j => gA m d (base L + j)) ∗ (bigSep (sB t) fun j => gB m d (base L + j))
    ∗ bigSep (sC t) fun j => gC m d (base L + j))

omit [FloatOps F] in
/-- What follows a guarded step follows either way of it. -/
theorem guard_bind {e : Type → Type} {α β : Type} {c : Prop} [Decidable c] (A : c → Prog e α) (B : ¬ c → Prog e α) (k : α → Prog e β) :
    (dite c A B >>= k) = dite c (fun h => A h >>= k) (fun h => B h >>= k) := by
  by_cases h : c
  · rw [dif_pos h, dif_pos h]
  · rw [dif_neg h, dif_neg h]

set_option maxHeartbeats 4000000 in
/-- One trip. -/
theorem trip (O : CellTallies nD τ sig (HIx 1)) (W : Waits sig (HIx 1)) (hO : ∀ g, O g none = 0) (v2 : BitVec 32)
    (t : Fin k0_t1_loop.trips) :
    inv m d L O W t.val ⟨⟩ ⊢ wp frame (wpE (defs₀ (F := F)) 𝒱₀ (thr d L) none) Set.univ
      (k0_t1_body L sV (Memref.isWhole_whole _) oV (Memref.isWhole_whole _) bV (Memref.isWhole_whole _) cc0_scratch1 cc0_scratch2 v2 t ())
      (inv m d L O W (t.val + 1)) := by
  have ht : t.val < 32 := by have := t.isLt; have := trips_eq; omega
  have hmw : levAts (K (F := F)).L (K (F := F)).lev ⊢ MW (F := F) d L O := (K (F := F)).mayWaits_none (thr := thr d L) hO
  unfold k0_t1_body
  simp only [k0_part1_eq_skeleton, k0_part2_eq_skeleton, k0_part3_eq_skeleton]
  unfold k0_part1_skel k0_part2_skel k0_part3_skel
  simp only [cond2_true, cond4_true, cond5_true, cond7_true, ↓reduceDIte, guard_bind, Prog.lift, Prog.bind_op, Prog.bind_ret, Prog.pure_eq_ret, Prog.bind_assoc]
  unfold inv
  rw [sA_open t.val ht, sB_open t.val ht, inAt_pos m d L ht, inAt_pos m d L ht]
  iintro ⟨#Hlv, HO, HI0, HI1, HP2, HP3, Hi2, Hi3, Ho0, Ho1, ⟨HA2, HA3, HA4, HA5, HA⟩, ⟨HB0, HB1, HB2, HB3, HB⟩, HC⟩
  -- slot 0: its group has landed and goes out; slot 2 is free of its put, and its next group starts in
  iapply (wp_land d L (O := O) (W := W) (N := NI) rfl) $$ [HI0 HO]
  · isplitl [HI0]; · iexact HI0
    isplitl [HO]; · iexact HO
    iapply hmw; iexact Hlv
  iintro ⟨⟨Hb0, HA0⟩, Hi0, HO⟩
  iapply (wp_put m d L 0 (base L + (4 * t.val)) (off2_eq L t 0)) $$ [HB0 Hb0 Ho0]
  · isplitl [HB0]; · iexact HB0
    isplitl [Hb0]; · iexact Hb0
    iexact Ho0
  iintro HP0
  iapply (wp_guard d L iprop(outAt m d L (0 < t.val) 2 (base L + (4 * t.val - 2)) ∗ owing d L O W ∗ MW d L O)
      iprop(opt (0 < t.val) (gC m d (base L + (4 * t.val - 2))) ∗ slotAny d L 2 ∗ semVal (thr d L, .dma (outS 2)) 0 ∗ owing d L O W)
      ?_ ?_) $$ [HP2 HO]
  · intro hc
    rw [opt_pos ((cond1_iff t).mp hc), outAt_pos m d L ((cond1_iff t).mp hc)]
    iintro H Hk
    iapply (wp_land d L (O := O) (W := W) (N := NO) rfl) $$ H
    iintro ⟨⟨HC, Hb⟩, Hz, HO⟩
    iapply Hk
    isplitl [HC]; · iexact HC
    isplitl [Hb]; · iexact Hb
    isplitl [Hz]; · iexact Hz
    iexact HO
  · intro hc
    have hc' : ¬ 0 < t.val := fun h => hc ((cond1_iff t).mpr h)
    rw [opt_neg hc', outAt_neg m d L hc']
    iintro ⟨⟨Hb, Hz⟩, HO, -⟩
    isplitr; · iempintro
    isplitl [Hb]; · iexact Hb
    isplitl [Hz]; · iexact Hz
    iexact HO
  · isplitl [HP2]; · iexact HP2
    isplitl [HO]; · iexact HO
    iapply hmw; iexact Hlv
  iintro ⟨HC2, Hb2, Ho2, HO⟩
  iapply (wp_get m d L 2 (base L + (4 * t.val + 2)) (off4_eq L t)) $$ [HA2 Hb2 Hi2]
  · isplitl [HA2]; · iexact HA2
    isplitl [Hb2]; · iexact Hb2
    iexact Hi2
  iintro HI2
  -- slot 1, likewise; slot 3
  iapply (wp_land d L (O := O) (W := W) (N := NI) rfl) $$ [HI1 HO]
  · isplitl [HI1]; · iexact HI1
    isplitl [HO]; · iexact HO
    iapply hmw; iexact Hlv
  iintro ⟨⟨Hb1, HA1⟩, Hi1, HO⟩
  iapply (wp_put m d L 1 (base L + (4 * t.val + 1)) (off2_eq L t 1)) $$ [HB1 Hb1 Ho1]
  · isplitl [HB1]; · iexact HB1
    isplitl [Hb1]; · iexact Hb1
    iexact Ho1
  iintro HP1
  iapply (wp_guard d L iprop(outAt m d L (0 < t.val) 3 (base L + (4 * t.val - 1)) ∗ owing d L O W ∗ MW d L O)
      iprop(opt (0 < t.val) (gC m d (base L + (4 * t.val - 1))) ∗ slotAny d L 3 ∗ semVal (thr d L, .dma (outS 3)) 0 ∗ owing d L O W)
      ?_ ?_) $$ [HP3 HO]
  · intro hc
    rw [opt_pos ((cond3_iff t).mp hc), outAt_pos m d L ((cond3_iff t).mp hc)]
    iintro H Hk
    iapply (wp_land d L (O := O) (W := W) (N := NO) rfl) $$ H
    iintro ⟨⟨HC, Hb⟩, Hz, HO⟩
    iapply Hk
    isplitl [HC]; · iexact HC
    isplitl [Hb]; · iexact Hb
    isplitl [Hz]; · iexact Hz
    iexact HO
  · intro hc
    have hc' : ¬ 0 < t.val := fun h => hc ((cond3_iff t).mpr h)
    rw [opt_neg hc', outAt_neg m d L hc']
    iintro ⟨⟨Hb, Hz⟩, HO, -⟩
    isplitr; · iempintro
    isplitl [Hb]; · iexact Hb
    isplitl [Hz]; · iexact Hz
    iexact HO
  · isplitl [HP3]; · iexact HP3
    isplitl [HO]; · iexact HO
    iapply hmw; iexact Hlv
  iintro ⟨HC3, Hb3, Ho3, HO⟩
  iapply (wp_get m d L 3 (base L + (4 * t.val + 3)) (off6_eq L t)) $$ [HA3 Hb3 Hi3]
  · isplitl [HA3]; · iexact HA3
    isplitl [Hb3]; · iexact Hb3
    iexact Hi3
  iintro HI3
  -- slot 2; slot 0's next group, of the next trip, if there is one
  iapply (wp_land d L (O := O) (W := W) (N := NI) rfl) $$ [HI2 HO]
  · isplitl [HI2]; · iexact HI2
    isplitl [HO]; · iexact HO
    iapply hmw; iexact Hlv
  iintro ⟨⟨Hb2, HA2⟩, Hi2, HO⟩
  iapply (wp_put m d L 2 (base L + (4 * t.val + 2)) (off2_eq L t 2)) $$ [HB2 Hb2 Ho2]
  · isplitl [HB2]; · iexact HB2
    isplitl [Hb2]; · iexact Hb2
    iexact Ho2
  iintro HP2
  iapply (wp_land d L (O := O) (W := W) (N := NO) rfl) $$ [HP0 HO]
  · isplitl [HP0]; · iexact HP0
    isplitl [HO]; · iexact HO
    iapply hmw; iexact Hlv
  iintro ⟨⟨HC0, Hb0⟩, Ho0, HO⟩
  iapply (wp_guard d L iprop(opt (t.val < 31) (gA m d (base L + (4 * t.val + 4))) ∗ slotAny d L 0 ∗ semVal (thr d L, .dma (inS 0)) 0)
      (inAt m d L (t.val < 31) 0 (base L + (4 * t.val + 4))) ?_ ?_) $$ [HA4 Hb0 Hi0]
  · intro hc
    rw [opt_pos ((cond6_iff t).mp hc), inAt_pos m d L ((cond6_iff t).mp hc)]
    iintro H Hk
    iapply (wp_get m d L 0 (base L + (4 * t.val + 4)) (off8_eq L t)) $$ H
    iintro Hf
    iapply Hk
    iexact Hf
  · intro hc
    have hc' : ¬ t.val < 31 := fun h => hc ((cond6_iff t).mpr h)
    rw [opt_neg hc', inAt_neg m d L hc', emp_sep2]
  · isplitl [HA4]; · iexact HA4
    isplitl [Hb0]; · iexact Hb0
    iexact Hi0
  iintro HI0
  -- slot 3; slot 1
  iapply (wp_land d L (O := O) (W := W) (N := NI) rfl) $$ [HI3 HO]
  · isplitl [HI3]; · iexact HI3
    isplitl [HO]; · iexact HO
    iapply hmw; iexact Hlv
  iintro ⟨⟨Hb3, HA3⟩, Hi3, HO⟩
  iapply (wp_put m d L 3 (base L + (4 * t.val + 3)) (off2_eq L t 3)) $$ [HB3 Hb3 Ho3]
  · isplitl [HB3]; · iexact HB3
    isplitl [Hb3]; · iexact Hb3
    iexact Ho3
  iintro HP3
  iapply (wp_land d L (O := O) (W := W) (N := NO) rfl) $$ [HP1 HO]
  · isplitl [HP1]; · iexact HP1
    isplitl [HO]; · iexact HO
    iapply hmw; iexact Hlv
  iintro ⟨⟨HC1, Hb1⟩, Ho1, HO⟩
  iapply (wp_guard d L iprop(opt (t.val < 31) (gA m d (base L + (4 * t.val + 5))) ∗ slotAny d L 1 ∗ semVal (thr d L, .dma (inS 1)) 0)
      (inAt m d L (t.val < 31) 1 (base L + (4 * t.val + 5))) ?_ ?_) $$ [HA5 Hb1 Hi1]
  · intro hc
    rw [opt_pos ((cond8_iff t).mp hc), inAt_pos m d L ((cond8_iff t).mp hc)]
    iintro H Hk
    iapply (wp_get m d L 1 (base L + (4 * t.val + 5)) (off10_eq L t)) $$ H
    iintro Hf
    iapply Hk
    iexact Hf
  · intro hc
    have hc' : ¬ t.val < 31 := fun h => hc ((cond8_iff t).mpr h)
    rw [opt_neg hc', inAt_neg m d L hc', emp_sep2]
  · isplitl [HA5]; · iexact HA5
    isplitl [Hb1]; · iexact Hb1
    iexact Hi1
  iintro HI1
  -- the next trip's start
  rw [wp_ret]; imodintro
  rw [sA_close t.val ht, sC_close t.val]
  isplitr; · iexact Hlv
  isplitl [HO]; · iexact HO
  isplitl [HI0]; · iapply (Entails.of_eq (inAt_congr m d L (c := t.val < 31) (c' := t.val + 1 < 32) (n := base L + (4 * t.val + 4)) (n' := base L + 4 * (t.val + 1)) (by omega) (by omega))); iexact HI0
  isplitl [HI1]; · iapply (Entails.of_eq (inAt_congr m d L (c := t.val < 31) (c' := t.val + 1 < 32) (n := base L + (4 * t.val + 5)) (n' := base L + (4 * (t.val + 1) + 1)) (by omega) (by omega))); iexact HI1
  isplitl [HP2]
  · rw [outAt_pos m d L (by omega), show 4 * (t.val + 1) - 2 = 4 * t.val + 2 by omega]; iexact HP2
  isplitl [HP3]
  · rw [outAt_pos m d L (by omega), show 4 * (t.val + 1) - 1 = 4 * t.val + 3 by omega]; iexact HP3
  isplitl [Hi2]; · iexact Hi2
  isplitl [Hi3]; · iexact Hi3
  isplitl [Ho0]; · iexact Ho0
  isplitl [Ho1]; · iexact Ho1
  isplitl [HA0 HA1 HA2 HA3 HA]
  · isplitl [HA0]; · iexact HA0
    isplitl [HA1]; · iexact HA1
    isplitl [HA2]; · iexact HA2
    isplitl [HA3]; · iexact HA3
    iexact HA
  isplitl [HB]; · iexact HB
  isplitl [HC2]; · iexact HC2
  isplitl [HC3]; · iexact HC3
  isplitl [HC0]; · iexact HC0
  isplitl [HC1]; · iexact HC1
  iexact HC

end Tile
end Cert.Proof.CopyTable
-- ==== Proof.CopyTask.lean ====
/-
  `copy_table` on the SparseCores: the whole task of one subcore. Its storage is the scratch buffer, cut into four
  slots, and eight cells; the first two gets start, the loop runs, the last two puts land.
-/
module

public import proofs.«01_k».proof.Proof.CopyTile

@[expose] public section

noncomputable section

namespace Cert.Proof.CopyTable

open Cert.CopyKernel Cert.CopyKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Store

variable (d : Dev nD) (L : grid0.Coords)

theorem cell_ne {a b : SemLoc sig} (h : a ≠ b) : ((thr d L, a) : GSem nD τ sig) ≠ (thr d L, b) := fun e => h (congrArg Prod.snd e)

/-- The cells of the subcore's own the task does not use. -/
def restC : Finset (GSem nD τ sig) := (((((((((ownCells (thr d L)).erase ((thr d L, .dma (inS 0)) : GSem nD τ sig)).erase ((thr d L, .dma (inS 1)) : GSem nD τ sig)).erase ((thr d L, .dma (inS 2)) : GSem nD τ sig)).erase ((thr d L, .dma (inS 3)) : GSem nD τ sig)).erase ((thr d L, .dma (outS 0)) : GSem nD τ sig)).erase ((thr d L, .dma (outS 1)) : GSem nD τ sig)).erase ((thr d L, .dma (outS 2)) : GSem nD τ sig)).erase ((thr d L, .dma (outS 3)) : GSem nD τ sig))

theorem sems_eq : (ownSems0 (thr d L) : sProp 𝕄)
    = iprop(semVal ((thr d L, .dma (inS 0)) : GSem nD τ sig) 0 ∗ semVal ((thr d L, .dma (inS 1)) : GSem nD τ sig) 0 ∗ semVal ((thr d L, .dma (inS 2)) : GSem nD τ sig) 0 ∗ semVal ((thr d L, .dma (inS 3)) : GSem nD τ sig) 0 ∗ semVal ((thr d L, .dma (outS 0)) : GSem nD τ sig) 0 ∗ semVal ((thr d L, .dma (outS 1)) : GSem nD τ sig) 0 ∗ semVal ((thr d L, .dma (outS 2)) : GSem nD τ sig) 0 ∗ semVal ((thr d L, .dma (outS 3)) : GSem nD τ sig) 0
        ∗ bigSep (restC d L) fun g => semVal g 0) := by
  unfold SparseCore.Cfg.ownSems0 restC
  rw [
    SparseCore.bigSep_erase' (i := ((thr d L, .dma (inS 0)) : GSem nD τ sig)) (mem_ownCells.mpr ⟨rfl, by show (SemLoc.dma (inS 0) : SemLoc sig).isScoped .scVector = true; decide⟩),
    SparseCore.bigSep_erase' (i := ((thr d L, .dma (inS 1)) : GSem nD τ sig)) (Finset.mem_erase.mpr ⟨cell_ne d L (by decide), mem_ownCells.mpr ⟨rfl, by show (SemLoc.dma (inS 1) : SemLoc sig).isScoped .scVector = true; decide⟩⟩),
    SparseCore.bigSep_erase' (i := ((thr d L, .dma (inS 2)) : GSem nD τ sig)) (Finset.mem_erase.mpr ⟨cell_ne d L (by decide), Finset.mem_erase.mpr ⟨cell_ne d L (by decide), mem_ownCells.mpr ⟨rfl, by show (SemLoc.dma (inS 2) : SemLoc sig).isScoped .scVector = true; decide⟩⟩⟩),
    SparseCore.bigSep_erase' (i := ((thr d L, .dma (inS 3)) : GSem nD τ sig)) (Finset.mem_erase.mpr ⟨cell_ne d L (by decide), Finset.mem_erase.mpr ⟨cell_ne d L (by decide), Finset.mem_erase.mpr ⟨cell_ne d L (by decide), mem_ownCells.mpr ⟨rfl, by show (SemLoc.dma (inS 3) : SemLoc sig).isScoped .scVector = true; decide⟩⟩⟩⟩),
    SparseCore.bigSep_erase' (i := ((thr d L, .dma (outS 0)) : GSem nD τ sig)) (Finset.mem_erase.mpr ⟨cell_ne d L (by decide), Finset.mem_erase.mpr ⟨cell_ne d L (by decide), Finset.mem_erase.mpr ⟨cell_ne d L (by decide), Finset.mem_erase.mpr ⟨cell_ne d L (by decide), mem_ownCells.mpr ⟨rfl, by show (SemLoc.dma (outS 0) : SemLoc sig).isScoped .scVector = true; decide⟩⟩⟩⟩⟩),
    SparseCore.bigSep_erase' (i := ((thr d L, .dma (outS 1)) : GSem nD τ sig)) (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_ownCells.mpr ⟨rfl, by show (SemLoc.dma (outS 1) : SemLoc sig).isScoped .scVector = true; decide⟩⟩⟩⟩⟩⟩),
    SparseCore.bigSep_erase' (i := ((thr d L, .dma (outS 2)) : GSem nD τ sig)) (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_ownCells.mpr ⟨rfl, by show (SemLoc.dma (outS 2) : SemLoc sig).isScoped .scVector = true; decide⟩⟩⟩⟩⟩⟩⟩),
    SparseCore.bigSep_erase' (i := ((thr d L, .dma (outS 3)) : GSem nD τ sig)) (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_ownCells.mpr ⟨rfl, by show (SemLoc.dma (outS 3) : SemLoc sig).isScoped .scVector = true; decide⟩⟩⟩⟩⟩⟩⟩⟩)]

/-- The buffers of the subcore's own but the scratch. -/
def restB : Finset (DevRef τ sig) := (ownRefs (τ := τ) (.scVector (cV L) (jV L))).erase ((Proc.scVector (cV L) (jV L)).devRef cc0_scratch0)

theorem bufs_eq : (ownBufs (thr d L) : sProp 𝕄)
    = iprop((∃ f, bLoc d L ↦{fullShare} f) ∗ bigSep (restB L) fun b => iprop(∃ f, ((d, b) : Loc nD τ sig) ↦{fullShare} f)) := by
  unfold SparseCore.Cfg.ownBufs restB
  exact SparseCore.bigSep_erase' (SparseCore.Cfg.mem_ownRefs_of_owner (p := Proc.scVector (cV L) (jV L))
    (b := (Proc.scVector (cV L) (jV L)).devRef cc0_scratch0) rfl)

theorem slots_disjoint : ∀ r ∈ (Finset.univ : Finset (Fin 4)), ∀ r' ∈ (Finset.univ : Finset (Fin 4)), r ≠ r' → Disjoint (bS r.val) (bS r'.val) := by
  intro r _ r' _ h
  rw [Finset.disjoint_left]
  intro i h1 h2
  rw [mem_bS] at h1 h2
  exact h (Fin.ext (h1.symm.trans h2))
theorem slots_cover : (Finset.univ : Finset (Fin 4)).biUnion (fun r => bS r.val) = Finset.univ := by
  ext i
  simp only [Finset.mem_biUnion, Finset.mem_univ, true_and, iff_true, mem_bS]
  exact ⟨⟨(i 0).val, (i 0).isLt⟩, rfl⟩

theorem fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The scratch buffer cut into its slots, and put together again. -/
theorem slots_split : (iprop(∃ f, bLoc d L ↦{fullShare} f) : sProp 𝕄) ⊢ iprop(slotAny d L 0 ∗ slotAny d L 1 ∗ slotAny d L 2 ∗ slotAny d L 3) := by
  iintro ⟨%f, H⟩
  ihave H' := (Entails.of_eq (show (bLoc d L ↦{fullShare} f : sProp 𝕄) = iprop((bLoc d L ↦[bS (0 : Fin 4).val]{fullShare} f) ∗ (bLoc d L ↦[bS (1 : Fin 4).val]{fullShare} f)
      ∗ (bLoc d L ↦[bS (2 : Fin 4).val]{fullShare} f) ∗ (bLoc d L ↦[bS (3 : Fin 4).val]{fullShare} f)) by
    rw [← fin4 (fun r : Fin 4 => (bLoc d L ↦[bS r.val]{fullShare} f : sProp 𝕄)),
      ← pointsTo_biUnion Finset.univ (ℓ := bLoc d L) (fun r : Fin 4 => bS r.val) slots_disjoint, slots_cover])) $$ H
  icases H' with ⟨H0, H1, H2, H3⟩
  isplitl [H0]; · iexists f; iexact H0
  isplitl [H1]; · iexists f; iexact H1
  isplitl [H2]; · iexists f; iexact H2
  iexists f; iexact H3
theorem slots_join [FloatOps F] : iprop(slotAny d L 0 ∗ slotAny d L 1 ∗ slotAny d L 2 ∗ slotAny d L 3) ⊢ (iprop(∃ f, bLoc d L ↦{fullShare} f) : sProp 𝕄) := by
  rw [← fin4 (fun r : Fin 4 => (slotAny d L r : sProp 𝕄))]
  refine (bigSep_exists_pi Finset.univ (fun (r : Fin 4) (f : Buf (Elt F) (bLoc d L)) => (bLoc d L ↦[bS r.val]{fullShare} f : sProp 𝕄))).trans ?_
  iintro ⟨%fs, H⟩
  ihave H' := (pointsTo_biUnion_join (ℓ := bLoc d L) (q := fullShare) (Val := Elt F) Finset.univ (fun r : Fin 4 => bS r.val) fs (fs 0) slots_disjoint) $$ H
  icases H' with ⟨%g, -, Hg⟩
  rw [slots_cover]
  iexists g; iexact Hg

end Store

/-! ## The families at the two ends of the loop -/

theorem sA_zero (Φ : ℕ → sProp 𝕄) : bigSep (Finset.range 128) Φ = iprop(Φ 0 ∗ Φ 1 ∗ bigSep (sA 0) Φ) := by
  rw [show Finset.range 128 = insert 0 (insert 1 (sA 0)) by decide, SparseCore.bigSep_insert' (by decide), SparseCore.bigSep_insert' (by decide)]
theorem sA_last : sA 32 = Finset.range 128 := by decide
theorem sB_zero : sB 0 = Finset.range 128 := by decide
theorem sC_zero (Φ : ℕ → sProp 𝕄) : bigSep (sC 0) Φ = iprop(emp) := by rw [show sC 0 = ∅ from rfl, bigSep_empty]; rfl
theorem sC_last (Φ : ℕ → sProp 𝕄) : bigSep (Finset.range 128) Φ = iprop(Φ 126 ∗ Φ 127 ∗ bigSep (sC 32) Φ) := by
  rw [show Finset.range 128 = insert 126 (insert 127 (sC 32)) by decide, SparseCore.bigSep_insert' (by decide), SparseCore.bigSep_insert' (by decide)]

variable [FloatOps F]

section Task

variable (d : Dev nD) (L : grid0.Coords)

/-- The subcore's groups of the table; of the copy, before and after. -/
abbrev allA (b : ℕ) : sProp 𝕄 := bigSep (Finset.range 128) fun j => gA m d (b + j)
abbrev allB (b : ℕ) : sProp 𝕄 := bigSep (Finset.range 128) fun j => gB m d (b + j)
abbrev allC (b : ℕ) : sProp 𝕄 := bigSep (Finset.range 128) fun j => gC m d (b + j)

set_option maxHeartbeats 4000000 in
/-- The task of the subcore at `L`: its groups of the table kept, its groups of the copy written with them. -/
theorem tile_body (hF : (K (F := F)).Facts) (O : CellTallies nD τ sig (HIx 1)) (W : Waits sig (HIx 1)) (hO : ∀ g, O g none = 0) :
    iprop(levAts (K (F := F)).L (K (F := F)).lev ∗ emp ∗ (allA m d (base L) ∗ allB m d (base L))
        ∗ scopedBufs (thr d L) ∗ scopedSems0 (thr d L) ∗ owes (thr d L) O W)
      ⊢ wp frame (wpE (defs₀ (F := F)) 𝒱₀ (thr d L) none) Set.univ
          (cc0_copy_table L sV (Memref.isWhole_whole _) oV (Memref.isWhole_whole _) bV (Memref.isWhole_whole _) cc0_scratch1 cc0_scratch2)
          fun _ => iprop((allA m d (base L) ∗ allC m d (base L))
            ∗ scopedBufs (thr d L) ∗ scopedSems0 (thr d L)
            ∗ ∃ W', ⌜∀ p ∈ W', p ∈ W ∨ p.2 = none⌝ ∗ owes (thr d L) O W') := by
  have hmw : levAts (K (F := F)).L (K (F := F)).lev ⊢ MW (F := F) d L O := (K (F := F)).mayWaits_none (thr := thr d L) hO
  simp only [cc0_copy_table_eq_skeleton]; unfold cc0_copy_table_skel
  simp only [k0_part4_eq_skeleton]; unfold k0_part4_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), sems_eq, bufs_eq]
  unfold allA allB allC
  rw [sA_zero fun j => gA m d (base L + j)]
  iintro ⟨#Hlv, -, ⟨⟨HA0, HA1, HA⟩, HB⟩, ⟨Hbuf, Hbufs⟩, ⟨Hi0, Hi1, Hi2, Hi3, Ho0, Ho1, Ho2, Ho3, Hsems⟩, HO⟩
  ihave Hbs := (slots_split d L) $$ Hbuf
  icases Hbs with ⟨Hb0, Hb1, Hb2, Hb3⟩
  iapply (wp_get m d L 0 (base L + 0) (off1_eq L 0)) $$ [HA0 Hb0 Hi0]
  · isplitl [HA0]; · iexact HA0
    isplitl [Hb0]; · iexact Hb0
    iexact Hi0
  iintro HI0
  iapply (wp_get m d L 1 (base L + 1) (off1_eq L 1)) $$ [HA1 Hb1 Hi1]
  · isplitl [HA1]; · iexact HA1
    isplitl [Hb1]; · iexact Hb1
    iexact Hi1
  iintro HI1
  sl_for (inv m d L O W) $$ [HO HI0 HI1 Hb2 Hb3 Ho2 Ho3 Hi2 Hi3 Ho0 Ho1 HA HB]
  case region =>
    intro t _
    exact trip m d L O W hO _ t
  · unfold inv
    rw [inAt_pos m d L (by omega), inAt_pos m d L (by omega), outAt_neg m d L (by omega), outAt_neg m d L (by omega), sB_zero, sC_zero]
    isplitr; · iexact Hlv
    isplitl [HO]
    · iexists W; isplitr
      · ipureintro; exact fun p hp => .inl hp
      · iexact HO
    isplitl [HI0]; · iexact HI0
    isplitl [HI1]; · iexact HI1
    isplitl [Hb2 Ho2]; · isplitl [Hb2] <;> iassumption
    isplitl [Hb3 Ho3]; · isplitl [Hb3] <;> iassumption
    isplitl [Hi2]; · iexact Hi2
    isplitl [Hi3]; · iexact Hi3
    isplitl [Ho0]; · iexact Ho0
    isplitl [Ho1]; · iexact Ho1
    isplitl [HA]; · iexact HA
    isplitl [HB]; · iexact HB
    iempintro
  iintro %_ HI
  rw [show Scf.trips k0_t1_loop.lb k0_t1_loop.ub k0_t1_loop.st = 32 from trips_eq]
  unfold tile_body.sl.prog.cont_1
  unfold inv
  rw [inAt_neg m d L (by omega), inAt_neg m d L (by omega), outAt_pos m d L (by omega), outAt_pos m d L (by omega), sA_last]
  icases HI with ⟨-, HO, ⟨Hb0, Hi0⟩, ⟨Hb1, Hi1⟩, HP2, HP3, Hi2, Hi3, Ho0, Ho1, HA, -, HC⟩
  iapply (wp_land d L (O := O) (W := W) (N := NO) rfl) $$ [HP2 HO]
  · isplitl [HP2]; · iexact HP2
    isplitl [HO]; · iexact HO
    iapply hmw; iexact Hlv
  iintro ⟨⟨HC2, Hb2⟩, Ho2, HO⟩
  iapply (wp_land d L (O := O) (W := W) (N := NO) rfl) $$ [HP3 HO]
  · isplitl [HP3]; · iexact HP3
    isplitl [HO]; · iexact HO
    iapply hmw; iexact Hlv
  iintro ⟨⟨HC3, Hb3⟩, Ho3, HO⟩
  rw [wp_ret]; imodintro
  isplitl [HA HC2 HC3 HC]
  · isplitl [HA]
    · iapply (Entails.of_eq (sA_zero fun j => gA m d (base L + j))); iexact HA
    rw [sC_last fun j => gC m d (base L + j)]
    isplitl [HC2]; · iexact HC2
    isplitl [HC3]; · iexact HC3
    iexact HC
  isplitl [Hb0 Hb1 Hb2 Hb3 Hbufs]
  · isplitr [Hbufs]; swap; · iexact Hbufs
    iapply (slots_join d L)
    isplitl [Hb0]; · iexact Hb0
    isplitl [Hb1]; · iexact Hb1
    isplitl [Hb2]; · iexact Hb2
    iexact Hb3
  isplitr [HO]
  · isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    isplitl [Ho3]; · iexact Ho3
    iexact Hsems
  iexact HO

end Task
end Cert.Proof.CopyTable
-- ==== Proof.CopyRun.lean ====
/-
  `copy_table` on the SparseCores: the launch. The table and the copy are cut into the groups of the thirty-two
  subcores and put together again; the handshakes carry them; the run leaves the table as it was, the copy equal to it
  and every cell at zero.
-/
module

public import proofs.«01_k».proof.Proof.CopyTask

@[expose] public section

noncomputable section

namespace Cert.Proof.CopyTable

open Cert.CopyKernel Cert.CopyKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable (ρ : Dev nD → PrngReg)

/-! ## The rows of the cores, of the subcores, of the groups -/

def cS (c : Fin 2) : Finset S65536x1536.Idx := Finset.univ.filter fun i => (i 0).val / 2048 % 2 = c.val
def tS (c : Fin 2) (s : Fin 16) : Finset S65536x1536.Idx := Finset.univ.filter fun i => (i 0).val / 2048 = 2 * s.val + c.val

theorem mem_cS {c : Fin 2} {i : S65536x1536.Idx} : i ∈ cS c ↔ (i 0).val / 2048 % 2 = c.val := by simp [cS]
theorem mem_tS {c : Fin 2} {s : Fin 16} {i : S65536x1536.Idx} : i ∈ tS c s ↔ (i 0).val / 2048 = 2 * s.val + c.val := by simp [tS]

theorem cores_disjoint : ∀ c ∈ (Finset.univ : Finset (Fin 2)), ∀ c' ∈ (Finset.univ : Finset (Fin 2)), c ≠ c' → Disjoint (cS c) (cS c') := by
  intro c _ c' _ h
  rw [Finset.disjoint_left]
  intro i h1 h2
  rw [mem_cS] at h1 h2
  exact h (Fin.ext (h1.symm.trans h2))
theorem cores_cover : (Finset.univ : Finset (Fin 2)).biUnion cS = Finset.univ := by
  ext i
  simp only [Finset.mem_biUnion, Finset.mem_univ, true_and, iff_true, mem_cS]
  exact ⟨⟨(i 0).val / 2048 % 2, by omega⟩, rfl⟩
theorem tiles_disjoint (c : Fin 2) : ∀ s ∈ (Finset.univ : Finset (Fin 16)), ∀ s' ∈ (Finset.univ : Finset (Fin 16)), s ≠ s' → Disjoint (tS c s) (tS c s') := by
  intro s _ s' _ h
  rw [Finset.disjoint_left]
  intro i h1 h2
  rw [mem_tS] at h1 h2
  exact h (Fin.ext (by omega))
theorem tiles_cover (c : Fin 2) : (Finset.univ : Finset (Fin 16)).biUnion (tS c) = cS c := by
  ext i
  have h0 : (i 0).val < 65536 := (i 0).isLt
  have hc := c.isLt
  simp only [Finset.mem_biUnion, Finset.mem_univ, true_and, mem_cS, mem_tS]
  constructor
  · rintro ⟨s, hs⟩; omega
  · intro h; exact ⟨⟨(i 0).val / 4096, by omega⟩, by show _ = 2 * ((i 0).val / 4096) + _; omega⟩
theorem groups_disjoint (c : Fin 2) (s : Fin 16) : ∀ j ∈ Finset.range 128, ∀ j' ∈ Finset.range 128, j ≠ j' →
    Disjoint (gS (256 * s.val + 128 * c.val + j)) (gS (256 * s.val + 128 * c.val + j')) := by
  intro j _ j' _ h
  rw [Finset.disjoint_left]
  intro i h1 h2
  rw [mem_gS] at h1 h2
  omega
theorem groups_cover (c : Fin 2) (s : Fin 16) : (Finset.range 128).biUnion (fun j => gS (256 * s.val + 128 * c.val + j)) = tS c s := by
  ext i
  have h0 : (i 0).val < 65536 := (i 0).isLt
  simp only [Finset.mem_biUnion, Finset.mem_range, mem_gS, mem_tS]
  constructor
  · rintro ⟨j, hj, h⟩; omega
  · intro h; exact ⟨(i 0).val / 16 - (256 * s.val + 128 * c.val), by omega, by omega⟩

theorem whole_s (d : Dev nD) (f : Buf (Elt F) (sLoc d)) :
    (sLoc d ↦{fullShare} f : sProp 𝕄)
      = bigSep Finset.univ fun c : Fin 2 => bigSep Finset.univ fun s : Fin 16 => bigSep (Finset.range 128) fun j =>
          sLoc d ↦[gS (256 * s.val + 128 * c.val + j)]{fullShare} f := by
  rw [← cores_cover, pointsTo_biUnion Finset.univ (ℓ := sLoc d) cS cores_disjoint]
  refine bigSep_congr fun c _ => ?_
  rw [← tiles_cover c, pointsTo_biUnion Finset.univ (ℓ := sLoc d) (tS c) (tiles_disjoint c)]
  refine bigSep_congr fun s _ => ?_
  rw [← groups_cover c s, pointsTo_biUnion (Finset.range 128) (ℓ := sLoc d) (fun j => gS (256 * s.val + 128 * c.val + j)) (groups_disjoint c s)]

theorem whole_o (d : Dev nD) (f : Buf (Elt F) (oLoc d)) :
    (oLoc d ↦{fullShare} f : sProp 𝕄)
      = bigSep Finset.univ fun c : Fin 2 => bigSep Finset.univ fun s : Fin 16 => bigSep (Finset.range 128) fun j =>
          oLoc d ↦[gS (256 * s.val + 128 * c.val + j)]{fullShare} f := by
  rw [← cores_cover, pointsTo_biUnion Finset.univ (ℓ := oLoc d) cS cores_disjoint]
  refine bigSep_congr fun c _ => ?_
  rw [← tiles_cover c, pointsTo_biUnion Finset.univ (ℓ := oLoc d) (tS c) (tiles_disjoint c)]
  refine bigSep_congr fun s _ => ?_
  rw [← groups_cover c s, pointsTo_biUnion (Finset.range 128) (ℓ := oLoc d) (fun j => gS (256 * s.val + 128 * c.val + j)) (groups_disjoint c s)]

variable [FloatOps F]

/-! ## What the handshakes carry -/

/-- The core's groups, of all its subcores; of the table, and of the copy before and after. -/
abbrev coreA (d : Dev nD) (c : ℕ) : sProp 𝕄 := bigSep Finset.univ fun s : Fin 16 => allA m d (256 * s.val + 128 * c)
abbrev coreB (d : Dev nD) (c : ℕ) : sProp 𝕄 := bigSep Finset.univ fun s : Fin 16 => allB m d (256 * s.val + 128 * c)
abbrev coreC (d : Dev nD) (c : ℕ) : sProp 𝕄 := bigSep Finset.univ fun s : Fin 16 => allC m d (256 * s.val + 128 * c)

def P : (K (F := F)).Pay (nD := nD) (Val := Elt F) (Name := ℕ) (U := UU) where
  st := fun q d c => match q with | 0 => iprop(coreA m d c.val ∗ coreB m d c.val)
  dn := fun q d c => match q with | 0 => iprop(coreA m d c.val ∗ coreC m d c.val)
  go := fun q d c i => match q with | 0 => iprop(allA m d (256 * i.val + 128 * c.val) ∗ allB m d (256 * i.val + 128 * c.val))
  td := fun q d c i => match q with | 0 => iprop(allA m d (256 * i.val + 128 * c.val) ∗ allC m d (256 * i.val + 128 * c.val))
  x := fun _ _ => iprop(emp)

instance P_storable : (P (F := F) m).IsStorable where
  st q d c := match q with
    | 0 => (inferInstance : BI.Storable (upEmb : UEmb _ 𝕄) iprop(coreA m d c.val ∗ coreB m d c.val))
  dn q d c := match q with
    | 0 => (inferInstance : BI.Storable (upEmb : UEmb _ 𝕄) iprop(coreA m d c.val ∗ coreC m d c.val))
  go q d c i := match q with
    | 0 => (inferInstance : BI.Storable (upEmb : UEmb _ 𝕄) iprop(allA m d (256 * i.val + 128 * c.val) ∗ allB m d (256 * i.val + 128 * c.val)))
  td q d c i := match q with
    | 0 => (inferInstance : BI.Storable (upEmb : UEmb _ 𝕄) iprop(allA m d (256 * i.val + 128 * c.val) ∗ allC m d (256 * i.val + 128 * c.val)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_copy_table (coordsV c s)
          sV (Memref.isWhole_whole _) oV (Memref.isWhole_whole _) bV (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb : base (coordsV ⟨_, hci.1⟩ ⟨_, hci.2⟩) = 256 * i.val + 128 * c.val := (base_eq _).trans rfl
  have tb := tile_body m d (coordsV ⟨_, hci.1⟩ ⟨_, hci.2⟩) hF O W hO
  rw [hb] at tb
  exact tb.trans (wp_mono frame _ _ fun _ => obl_post)

theorem vecSplit : (K (F := F)).VecSplit' (P m) 0 := by
  intro d c
  show iprop(coreA m d c.val ∗ coreB m d c.val) ⊢ |={Set.univ}=> iprop(
      (bigSep Finset.univ fun i : Fin 16 => iprop(allA m d (256 * i.val + 128 * c.val) ∗ allB m d (256 * i.val + 128 * c.val)))
      ∗ ((bigSep Finset.univ fun i : Fin 16 => iprop(allA m d (256 * i.val + 128 * c.val) ∗ allC m d (256 * i.val + 128 * c.val)))
          -∗ iprop(coreA m d c.val ∗ coreC m d c.val)))
  rw [bigSep_sep', bigSep_sep']
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

omit [FloatOps F] in
theorem unscopedBufs_eq (d : Dev nD) (W : (b : Ref sig .tc) → Buf (Elt F) ((d.tc : Thread nD τ).loc b)) :
    (unscopedBufs d W : sProp 𝕄) = iprop((sLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

abbrev FIN (d : Dev nD) : sProp 𝕄 := iprop((sLoc d ↦{fullShare} m (sLoc d)) ∗ oLoc d ↦{fullShare} cp m d)

theorem st0_eq (d : Dev nD) : (bigSep Finset.univ fun c : Fin ((K (F := F)).nCore 0) => (P m).st 0 d c)
    = iprop((sLoc d ↦{fullShare} m (sLoc d)) ∗ oLoc d ↦{fullShare} m (oLoc d)) := by
  rw [whole_s, whole_o]
  exact bigSep_sep' (Finset.univ : Finset (Fin 2)) (fun c => coreA m d c.val) (fun c => coreB m d c.val)
theorem dn0_eq (d : Dev nD) : (bigSep Finset.univ fun c : Fin ((K (F := F)).nCore 0) => (P m).dn 0 d c) = FIN m d := by
  unfold FIN
  rw [whole_s, whole_o]
  exact bigSep_sep' (Finset.univ : Finset (Fin 2)) (fun c => coreA m d c.val) (fun c => coreC m d c.val)

/-- The one call, from the table and the copy; both handed back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hs, Ho⟩, Hts, -⟩, -⟩
  iapply ((K (F := F)).wp_run (D (F := F)) 𝒱 (EH := EH) (P := P m) κ d 0) $$ [Hst Hs Ho Hb Hts]
  isplitr; · iexact Hctx
  isplitl [Hst]; · iexact Hst
  isplitl [Hs Ho]
  · rw [st0_eq]
    isplitl [Hs]; · iexact Hs
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop := s'.mem.mem (sLoc d) = m (sLoc d) ∧ s'.mem.mem (oLoc d) = cp m d

set_option maxRecDepth 16384 in
theorem hfin (d : Dev nD) (s' : Phys nD τ sig (Elt F)) : iprop(FIN m d ∗ SI s') ⊢ (⌜fq m d s'⌝ : sProp 𝕄) := by
  iintro ⟨⟨Hs, Ho⟩, HSI⟩
  ihave H := (persistent_entails_right (SI_pointsTo_agree (st := s') (ℓ := sLoc d) (I := Finset.univ) (q := fullShare) (f := m (sLoc d)))) $$ [HSI Hs]
  · isplitl [HSI] <;> iassumption
  icases H with ⟨%h1, HSI, -⟩
  ihave H := (SI_pointsTo_agree (st := s') (ℓ := oLoc d) (I := Finset.univ) (q := fullShare) (f := cp m d)) $$ [HSI Ho]
  · isplitl [HSI] <;> iassumption
  icases H with %h2
  ipureintro; exact ⟨funext fun i => h1 i (Finset.mem_univ i), funext fun i => h2 i (Finset.mem_univ i)⟩

/-! ## The program's run -/

/-- What the run leaves: the table as it was, the copy equal to it, every cell at zero. -/
def QC : PUnit × MemSt nD τ sig (Elt F) → Prop :=
  fun r => (∀ c : Dev nD, r.2.mem (sLoc c) = m (sLoc c) ∧ r.2.mem (oLoc c) = cp m c) ∧ r.2.sem = fun _ => 0

theorem run_main [∀ e, Nonempty (Elt F e)] :
    θ_run (Cert.CopyKernel.defs (F := F)) (Cert.CopyKernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.CopyTable
-- ==== Proof.CopyValue.lean ====
/-
  The claims about `copy_table`: its runs end with the table as it was, the copy equal to it and every cell at zero;
  the reference, which has no operation, returns its argument.
-/
module

public import proofs.«01_k».proof.Proof.CopyRun
public import proofs.«01_k».proof.Proof.Gen.CopyReferenceIdeal
public import proofs.«01_k».proof.Proof.Gen.CopyKernelIdeal
public import Idealize.ShloMosaic.Lib.StableHlo.Run
public import Idealize.ShloMosaic.Lib.Quiescent

@[expose] public section

noncomputable section

namespace Cert.Proof.CopyValue

open Idealize.ShloMosaic Idealize.ShloMosaic.TcCoe Idealize.SL.Sem Idealize.ShloMosaic.StableHlo

/-- The kernel runs, leaves the table unchanged and every cell at zero. -/
theorem kernel_frame : Cert.quiescent_CopyKernel := fun m ρ _ =>
  (θ_run Cert.CopyKernel.defs _ _).mono (fun _ h => ⟨fun c => (h.1 c).1, h.2⟩) (Cert.Proof.CopyTable.run_main (F := Bits) m ρ)

/-- So does the idealized kernel: it is the same program, and the run is proved over any float. -/
theorem ideal_frame : Cert.quiescent_CopyKernelIdeal := fun m ρ _ =>
  (θ_run Cert.CopyKernelIdeal.defs _ _).mono (fun _ h => ⟨fun c => (h.1 c).1, h.2⟩) (Cert.Proof.CopyTable.run_main (F := Ideal) m ρ)

namespace Reference

open Cert.CopyReferenceIdeal

/-- The reference's operations: none. -/
abbrev ops : List (HloOp τ sig (Elt Ideal)) := []

theorem main_eq (c : Dev nD) : main (F := Ideal) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig := trivial

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (by after_results))
    (run_seq scopedRefs_eq scopedSems_eq defs main (fun _ => ops) main_eq (fun _ => ops_sub) m ρ)

end Reference

/-- The reference runs, leaves its argument unchanged and has no semaphore. -/
theorem reference_frame : Cert.quiescent_CopyReferenceIdeal := fun m ρ _ =>
  (θ_run Cert.CopyReferenceIdeal.defs _ _).mono (fun r h => ⟨h, sem_eq_zero_of_no_sems (by decide) r.2⟩) (Reference.run m ρ)

/-- The kernel's copy and the reference's result are equal: both are the table. -/
theorem algebraic : Cert.algebraic_CopyKernelIdeal_CopyReferenceIdeal := fun m ρ m' ρ' _ hag =>
  ⟨fun c => Cert.Proof.CopyTable.cp (F := Ideal) m c,
    (θ_run Cert.CopyKernelIdeal.defs _ _).mono (fun _ h c => ⟨(h.1 c).2, (h.1 c).1⟩) (Cert.Proof.CopyTable.run_main (F := Ideal) m ρ),
    (θ_run Cert.CopyReferenceIdeal.defs _ _).mono (fun _ h c => ⟨(h c).trans (hag c), h c⟩) (Reference.run m' ρ')⟩

end Cert.Proof.CopyValue

end
-- ==== Proof.AddTable.lean ====
/-
  `add_sampled` on the SparseCores: what its proof speaks of. The 4096 sampled rows are 256 groups of 16; the subcore
  `(c, s)` takes the 8 groups `8 (2 s + c) + j`. For each it fetches the gradient's 16 rows by one transfer and the
  table's 16 rows at the ids by sixteen, all on one cell, adds, and puts the sixteen rows back. Stated here: the rows,
  the slots, what they hold, the batches of sixteen transfers, and one rule for each kind of transfer.
-/
module

public import proofs.«01_k».proof.Defs
public import proofs.«01_k».proof.Proof.Gen.AddKernel
public import proofs.«01_k».proof.Proof.Gen.AddKernel.Skeleton
public import Idealize.ShloMosaic.Lib.Batch
public import Idealize.ShloMosaic.Lib.ValueIdxCore
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.AddTable

open Cert.AddKernel Cert.AddKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ)

abbrev wLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0

/-- The id of sampled row `p`, and as a number. -/
def idw (d : Dev nD) (p : ℕ) : BitVec 32 := m (iLoc d) (ix1 (n := 4096) ⟨p % 4096, by omega⟩)
def idAt (d : Dev nD) (p : ℕ) : ℕ := (idw m d p).toNat
/-- The table, as the accumulator's contents before the call. -/
abbrev tb (d : Dev nD) : Buf (Elt F) (oLoc d) := fun i => m (tLoc d) i

abbrev wV : Memref sig .scVector .hbm S4096x1536 .f32 := Memref.whole main_arg0_scv
abbrev iV : Memref sig .scVector .hbm S4096 .i32 := Memref.whole main_arg1_scv
abbrev oV : Memref sig .scVector .hbm S65536x1536 .f32 := Memref.whole main_v0_scv
abbrev vV : Memref sig .scVector .vmem S128 .i32 := Memref.whole cc0_scratch0
abbrev dV : Memref sig .scVector .vmem S2x16x1536 .f32 := Memref.whole cc0_scratch1
abbrev gV : Memref sig .scVector .vmem S2x16x1536 .f32 := Memref.whole cc0_scratch2

/-- A row of the table; a group of the gradient; a chunk of the ids; a slot of a scratch buffer; a row of a slot. -/
def tS (r : ℕ) : Finset S65536x1536.Idx := Finset.univ.filter fun i => (i 0).val = r
def wS (n : ℕ) : Finset S4096x1536.Idx := Finset.univ.filter fun i => (i 0).val / 16 = n
def iS (n : ℕ) : Finset S4096.Idx := Finset.univ.filter fun i => (i 0).val / 128 = n
def bS (r : ℕ) : Finset S2x16x1536.Idx := Finset.univ.filter fun i => (i 0).val = r
def gS (r k : ℕ) : Finset S2x16x1536.Idx := Finset.univ.filter fun i => (i 0).val = r ∧ (i 1).val = k

theorem mem_tS {n : ℕ} {i : S65536x1536.Idx} : i ∈ tS n ↔ (i 0).val = n := by simp [tS]
theorem mem_wS {n : ℕ} {i : S4096x1536.Idx} : i ∈ wS n ↔ (i 0).val / 16 = n := by simp [wS]
theorem mem_iS {n : ℕ} {i : S4096.Idx} : i ∈ iS n ↔ (i 0).val / 128 = n := by simp [iS]
theorem mem_bS {n : ℕ} {i : S2x16x1536.Idx} : i ∈ bS n ↔ (i 0).val = n := by simp [bS]
theorem mem_gS {n k : ℕ} {i : S2x16x1536.Idx} : i ∈ gS n k ↔ (i 0).val = n ∧ (i 1).val = k := by simp [gS]
attribute [irreducible] tS wS iS bS gS

abbrev tM (off : Fin 2 → ℕ) (h : ∀ a, off a + S1x1536.size a ≤ S65536x1536.size a) : Memref sig .scVector .hbm S1x1536 .f32 :=
  oV.slice (Rect.unit (s := S65536x1536) off S1x1536.size h) (fun _ => rfl)
abbrev gM (off : Fin 3 → ℕ) (h : ∀ a, off a + S1x1x1536.size a ≤ S2x16x1536.size a) : Memref sig .scVector .vmem S1x1536 .f32 :=
  (gV.slice (Rect.unit (s := S2x16x1536) off S1x1x1536.size h) (fun _ => rfl)).squeeze S1x1536 squeezes_S1x1x1536_S1x1536
abbrev wM (off : Fin 2 → ℕ) (h : ∀ a, off a + S16x1536.size a ≤ S4096x1536.size a) : Memref sig .scVector .hbm S16x1536 .f32 :=
  wV.slice (Rect.unit (s := S4096x1536) off S16x1536.size h) (fun _ => rfl)
theorem inbK (r : Fin 2) : ∀ a, (![r.val, 0, 0] : Fin 3 → Nat) a + S1x16x1536.size a ≤ S2x16x1536.size a := by decide +revert
theorem inbQ (r : Fin 2) : ∀ a, (![r.val] : Fin 1 → Nat) a + S1.size a ≤ S2.size a := by decide +revert
abbrev dM (r : Fin 2) : Memref sig .scVector .vmem S16x1536 .f32 :=
  (dV.slice (Rect.unit (s := S2x16x1536) ![r.val, 0, 0] S1x16x1536.size (inbK r)) (fun _ => rfl)).squeeze S16x1536 squeezes_S1x16x1536_S16x1536
abbrev iM (off : Fin 1 → ℕ) (h : ∀ a, off a + S128.size a ≤ S4096.size a) : Memref sig .scVector .hbm S128 .i32 :=
  iV.slice (Rect.unit (s := S4096) off S128.size h) (fun _ => rfl)

theorem set_tM {off : Fin 2 → ℕ} {h} {n : ℕ} (e : off = ![n, 0]) : (tM off h).view.set = tS n := by
  subst e
  show ((View.whole (main_v0_scv : Ref sig .scVector)).slice _).set = _
  rw [View.set_slice_whole]
  ext i
  rw [Rect.mem_set_unit, mem_tS]
  have h1 : (i 1).val < 1536 := (i 1).isLt
  constructor
  · intro hh
    have := hh 0
    simp at this
    omega
  · intro hh a
    match a with
    | 0 => simp; omega
    | 1 => simp; exact h1
theorem set_wM {off : Fin 2 → ℕ} {h} {n : ℕ} (e : off = ![16 * n, 0]) : (wM off h).view.set = wS n := by
  subst e
  show ((View.whole (main_arg0_scv : Ref sig .scVector)).slice _).set = _
  rw [View.set_slice_whole]
  ext i
  rw [Rect.mem_set_unit, mem_wS]
  have h1 : (i 1).val < 1536 := (i 1).isLt
  constructor
  · intro hh
    have := hh 0
    simp at this
    omega
  · intro hh a
    match a with
    | 0 => simp; omega
    | 1 => simp; exact h1
theorem set_iM {off : Fin 1 → ℕ} {h} {n : ℕ} (e : off = ![128 * n]) : (iM off h).view.set = iS n := by
  subst e
  show ((View.whole (main_arg1_scv : Ref sig .scVector)).slice _).set = _
  rw [View.set_slice_whole]
  ext i
  rw [Rect.mem_set_unit, mem_iS]
  constructor
  · intro hh
    have := hh 0
    simp at this
    omega
  · intro hh a
    match a with
    | 0 => simp; omega
theorem set_dM (r : Fin 2) : (dM r).view.set = bS r.val := by
  show (((View.whole (cc0_scratch1 : Ref sig .scVector)).slice (Rect.unit (s := S2x16x1536) ![r.val, 0, 0] S1x16x1536.size (inbK r))).reshape S16x1536 squeezes_S1x16x1536_S16x1536.numel_eq).set = _
  rw [View.set_reshape, View.set_slice_whole]
  ext i
  rw [Rect.mem_set_unit, mem_bS]
  have h1 : (i 1).val < 16 := (i 1).isLt
  have h2 : (i 2).val < 1536 := (i 2).isLt
  constructor
  · intro hh
    have := hh 0
    simp at this
    omega
  · intro hh a
    match a with
    | 0 => simp; omega
    | 1 => simp; exact h1
    | 2 => simp; exact h2
theorem set_gM {off : Fin 3 → ℕ} {h} {r k : ℕ} (e : off = ![r, k, 0]) : (gM off h).view.set = gS r k := by
  subst e
  show (((View.whole (cc0_scratch2 : Ref sig .scVector)).slice (Rect.unit (s := S2x16x1536) ![r, k, 0] S1x1x1536.size h)).reshape S1x1536 squeezes_S1x1x1536_S1x1536.numel_eq).set = _
  rw [View.set_reshape, View.set_slice_whole]
  ext i
  rw [Rect.mem_set_unit, mem_gS]
  have h2 : (i 2).val < 1536 := (i 2).isLt
  constructor
  · intro hh
    have h0 := hh 0
    have h1 := hh 1
    simp at h0 h1
    omega
  · intro hh a
    match a with
    | 0 => simp; omega
    | 1 => simp; omega
    | 2 => simp; exact h2

/-! ## The coordinates of the views' elements -/

theorem emb_tM {off : Fin 2 → ℕ} {h} (x : S1x1536.Idx) :
    (((tM off h).view.emb x) 0).val = off 0 + (x 0).val ∧ (((tM off h).view.emb x) 1).val = off 1 + (x 1).val := by
  constructor
  · show off 0 + 1 * (x 0).val = _; omega
  · show off 1 + 1 * (x 1).val = _; omega
theorem emb_wM {off : Fin 2 → ℕ} {h} (x : S16x1536.Idx) :
    (((wM off h).view.emb x) 0).val = off 0 + (x 0).val ∧ (((wM off h).view.emb x) 1).val = off 1 + (x 1).val := by
  constructor
  · show off 0 + 1 * (x 0).val = _; omega
  · show off 1 + 1 * (x 1).val = _; omega
theorem emb_gM {off : Fin 3 → ℕ} {h} (x : S1x1536.Idx) :
    (((gM off h).view.emb x) 0).val = off 0 ∧ (((gM off h).view.emb x) 1).val = off 1 + (x 0).val ∧ (((gM off h).view.emb x) 2).val = off 2 + (x 1).val := by
  have e := Shape.reshapeEquiv_cons_one (d := ![1, 1536]) squeezes_S1x1x1536_S1x1536.numel_eq x
  refine ⟨?_, ?_, ?_⟩
  · show off 0 + 1 * ((Shape.reshapeEquiv squeezes_S1x1x1536_S1x1536.numel_eq x) 0).val = _
    rw [e]; rfl
  · show off 1 + 1 * ((Shape.reshapeEquiv squeezes_S1x1x1536_S1x1536.numel_eq x) 1).val = _
    rw [e]; show off 1 + 1 * (x 0).val = _; omega
  · show off 2 + 1 * ((Shape.reshapeEquiv squeezes_S1x1x1536_S1x1536.numel_eq x) 2).val = _
    rw [e]; show off 2 + 1 * (x 1).val = _; omega
theorem emb_dM {r : Fin 2} (x : S16x1536.Idx) :
    (((dM r).view.emb x) 0).val = r.val ∧ (((dM r).view.emb x) 1).val = (x 0).val ∧ (((dM r).view.emb x) 2).val = (x 1).val := by
  have e := Shape.reshapeEquiv_cons_one (d := ![16, 1536]) squeezes_S1x16x1536_S16x1536.numel_eq x
  refine ⟨?_, ?_, ?_⟩
  · show r.val + 1 * ((Shape.reshapeEquiv squeezes_S1x16x1536_S16x1536.numel_eq x) 0).val = _
    rw [e]; rfl
  · show 0 + 1 * ((Shape.reshapeEquiv squeezes_S1x16x1536_S16x1536.numel_eq x) 1).val = _
    rw [e]; show 0 + 1 * (x 0).val = _; omega
  · show 0 + 1 * ((Shape.reshapeEquiv squeezes_S1x16x1536_S16x1536.numel_eq x) 2).val = _
    rw [e]; show 0 + 1 * (x 1).val = _; omega

theorem ext2 {a b : ℕ} {x y : (⟨2, ![a, b]⟩ : Shape).Idx} (h0 : (x 0).val = (y 0).val) (h1 : (x 1).val = (y 1).val) : x = y := by
  funext c
  match c with
  | 0 => exact Fin.ext h0
  | 1 => exact Fin.ext h1

/-! ## The subcore's cells -/

abbrev dS (r : Fin 2) : DmaSem sig := ((cc0_scratch3.slice (Rect.unit (s := S2) ![r.val] S1.size (inbQ r))).squeeze S_ squeezes_S1_S_).sem
abbrev getS (r : Fin 2) : DmaSem sig := ((cc0_scratch4.slice (Rect.unit (s := S2) ![r.val] S1.size (inbQ r))).squeeze S_ squeezes_S1_S_).sem
abbrev putS (r : Fin 2) : DmaSem sig := ((cc0_scratch5.slice (Rect.unit (s := S2) ![r.val] S1.size (inbQ r))).squeeze S_ squeezes_S1_S_).sem
abbrev idS : DmaSem sig := (cc0_scoped0).sem

abbrev ND : ℕ := (cc0_scratch1 : Ref sig .scVector).dmaCredit S16x1536 .f32
abbrev NG : ℕ := (cc0_scratch2 : Ref sig .scVector).dmaCredit S1x1536 .f32
abbrev NP : ℕ := (main_v0_scv : Ref sig .scVector).dmaCredit S1x1536 .f32
abbrev NV : ℕ := (cc0_scratch0 : Ref sig .scVector).dmaCredit S128 .i32
theorem ND_pos : 0 < ND := by decide
theorem NG_pos : 0 < NG := by decide
theorem NP_pos : 0 < NP := by decide
theorem NV_pos : 0 < NV := by decide

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
abbrev vLoc (d : Dev nD) (L : grid0.Coords) : Loc nD τ sig := (thr d L).loc cc0_scratch0
abbrev dLoc (d : Dev nD) (L : grid0.Coords) : Loc nD τ sig := (thr d L).loc cc0_scratch1
abbrev gLoc (d : Dev nD) (L : grid0.Coords) : Loc nD τ sig := (thr d L).loc cc0_scratch2

variable [FloatOps F]

/-- The table with sampled row `p` of the gradient added to every row (read only on the row of its id). -/
def ar (d : Dev nD) (p : ℕ) : Buf (Elt F) (oLoc d) :=
  fun x => (FloatOps.addf (φ := .f32) (m (tLoc d) x : F .f32) (m (wLoc d) (ix2 (n0 := 4096) (n1 := 1536) ⟨p % 4096, by omega⟩ (x 1)) : F .f32) : F .f32)

section Ops

variable (d : Dev nD) (L : grid0.Coords)

/-- Row `idAt p` before the addition, and after. -/
abbrev tR (p : ℕ) : sProp 𝕄 := oLoc d ↦[tS (idAt m d p)]{fullShare} tb m d
abbrev tA (p : ℕ) : sProp 𝕄 := oLoc d ↦[tS (idAt m d p)]{fullShare} ar m d p
/-- Group `n` of the gradient. -/
abbrev wG (n : ℕ) : sProp 𝕄 := wLoc d ↦[wS n]{fullShare} m (wLoc d)

/-- Row `k` of slot `r` holding row `idAt p` of the table, the gradient added in its first `16 t` columns. -/
def RowIs (r k p t : ℕ) (f : Buf (Elt F) (gLoc d L)) : Prop :=
  ∀ (i : S2x16x1536.Idx) (x : S65536x1536.Idx), (i 0).val = r → (i 1).val = k → (x 0).val = idAt m d p → (x 1).val = (i 2).val →
    f i = if (i 2).val < 16 * t then ar m d p x else tb m d x
abbrev rowAny (r k : ℕ) : sProp 𝕄 := iprop(∃ f : Buf (Elt F) (gLoc d L), gLoc d L ↦[gS r k]{fullShare} f)
abbrev rowAt (r k p t : ℕ) : sProp 𝕄 := iprop(∃ f : Buf (Elt F) (gLoc d L), ⌜RowIs m d L r k p t f⌝ ∗ gLoc d L ↦[gS r k]{fullShare} f)
/-- Slot `r` of the gradient's buffer; holding group `n`. -/
def DIs (r n : ℕ) (f : Buf (Elt F) (dLoc d L)) : Prop :=
  ∀ (i : S2x16x1536.Idx) (y : S4096x1536.Idx), (i 0).val = r → (y 0).val = 16 * n + (i 1).val → (y 1).val = (i 2).val → f i = m (wLoc d) y
abbrev dAny (r : ℕ) : sProp 𝕄 := iprop(∃ f : Buf (Elt F) (dLoc d L), dLoc d L ↦[bS r]{fullShare} f)
abbrev dHas (r n : ℕ) : sProp 𝕄 := iprop(∃ f : Buf (Elt F) (dLoc d L), ⌜DIs m d L r n f⌝ ∗ dLoc d L ↦[bS r]{fullShare} f)
/-- The ids' buffer holding the ids of the rows from `16 b` on. -/
def VIs (b : ℕ) (f : Buf (Elt F) (vLoc d L)) : Prop := ∀ x : S128.Idx, f x = idw m d (16 * b + (x 0).val)
abbrev vHas (b : ℕ) : sProp 𝕄 := iprop(∃ f : Buf (Elt F) (vLoc d L), ⌜VIs m d L b f⌝ ∗ vLoc d L ↦{fullShare} f)

/-! ## The transfers in flight -/

/-- What the sixteen gets of group `n` into slot `r` deliver, what the sixteen puts. -/
def DG (r n : ℕ) (k : Fin 16) : sProp 𝕄 := iprop(rowAt m d L r k.val (16 * n + k.val) 0 ∗ tR m d (16 * n + k.val))
def DP (r n : ℕ) (k : Fin 16) : sProp 𝕄 := iprop(tA m d (16 * n + k.val) ∗ rowAny d L r k.val)
instance DG_storable (r n : ℕ) (k : Fin 16) : BI.Storable (upEmb : UEmb _ 𝕄) (DG m d L r n k) := by unfold DG; infer_instance
instance DP_storable (r n : ℕ) (k : Fin 16) : BI.Storable (upEmb : UEmb _ 𝕄) (DP m d L r n k) := by unfold DP; infer_instance

abbrev BG (r : Fin 2) (n j u : ℕ) : sProp 𝕄 := Transfers.Batch countersEmb (thr d L) (.dma (getS r)) (none : HIx 1) NG (DG m d L r.val n) j u
abbrev BP (r : Fin 2) (n j u : ℕ) : sProp 𝕄 := Transfers.Batch countersEmb (thr d L) (.dma (putS r)) (none : HIx 1) NP (DP m d L r.val n) j u
abbrev Grad (r : Fin 2) (n : ℕ) : sProp 𝕄 :=
  Transfers.Flight countersEmb (thr d L) (.dma (dS r)) (none : HIx 1) ND iprop(dHas m d L r.val n ∗ wG m d n)
abbrev Ids (b : ℕ) (e : ℕ) : sProp 𝕄 :=
  Transfers.Flight countersEmb (thr d L) (.dma idS) (none : HIx 1) NV iprop(vHas m d L b ∗ iLoc d ↦[iS e]{fullShare} m (iLoc d))

theorem wp_getD (r : Fin 2) (n : ℕ) {off : Fin 2 → ℕ} {h} (e : off = ![16 * n, 0])
    {hsrc : (wM off h).view.WordExact} {hdst : (dM r).view.WordExact} {hsem}
    {k : PUnit → Prog (TpuEff nD τ sig (Elt F) Λ₀ (thr d L).2) PUnit} {Q : PUnit → sProp 𝕄} :
    iprop(wG m d n ∗ dAny d L r.val ∗ semVal (thr d L, .dma (dS r)) 0)
      ⊢ iprop((Grad m d L r n -∗ wp frame (wpE (defs₀ (F := F)) 𝒱₀ (thr d L) none) Set.univ (k ⟨⟩) Q)
          -∗ wp frame (wpE (defs₀ (F := F)) 𝒱₀ (thr d L) none) Set.univ
            (.op (.enqueueDmaAs (wM off h) (.here (dM r)) .same (.dma (dS r)) hsrc hdst hsem) k) Q) := by
  iintro ⟨HA, ⟨%f, Hb⟩, Hz⟩ Hk
  iapply (Transfers.wp_dmaLocal countersEmb 𝒱₀ (thr d L) none (src := wM off h) (dst := dM r) (q := fullShare)
    (fs := m (wLoc d)) (Sd := bS r.val) (fd := f) (none : HIx 1) ND rfl ND_pos (set_dM r).subset) $$ [HA Hb Hz]
  · isplitl [HA]
    · rw [set_wM e]; iexact HA
    isplitl [Hb]; · iexact Hb
    iexact Hz
  iintro Hf
  iapply Hk
  iapply (Transfers.Flight_mono countersEmb (thr d L) ?_) $$ Hf
  rw [set_wM e]
  iintro ⟨Hb, HA⟩
  isplitl [Hb]
  · iexists _
    isplitr; swap; · iexact Hb
    ipureintro
    intro i y h0 hy0 hy1
    have hi : i = (dM r).view.emb (ix2 (n0 := 16) (n1 := 1536) (i 1) (i 2)) := by
      obtain ⟨e0, e1, e2⟩ := emb_dM (r := r) (ix2 (n0 := 16) (n1 := 1536) (i 1) (i 2))
      funext a
      match a with
      | 0 => exact Fin.ext (h0.trans e0.symm)
      | 1 => exact Fin.ext e1.symm
      | 2 => exact Fin.ext e2.symm
    rw [hi, View.write_emb_of_mem _ _ (Finset.mem_univ _)]
    show m (wLoc d) ((wM off h).view.emb _) = _
    obtain ⟨e0, e1⟩ := emb_wM (off := off) (h := h) (ix2 (n0 := 16) (n1 := 1536) (i 1) (i 2))
    refine congrArg _ (ext2 (e0.trans ?_) (e1.trans ?_))
    · rw [hy0, e]; rfl
    · rw [hy1, e]; show 0 + (i 2).val = _; omega
  · iexact HA

theorem wp_getIds (b e' : ℕ) {off : Fin 1 → ℕ} {h} (e : off = ![128 * e']) (hb : 16 * b = 128 * e')
    {hsrc : (iM off h).view.WordExact} {hdst : vV.view.WordExact} {hsem}
    {k : PUnit → Prog (TpuEff nD τ sig (Elt F) Λ₀ (thr d L).2) PUnit} {Q : PUnit → sProp 𝕄} :
    iprop((iLoc d ↦[iS e']{fullShare} m (iLoc d)) ∗ (∃ f, vLoc d L ↦{fullShare} f) ∗ semVal (thr d L, .dma idS) 0)
      ⊢ iprop((Ids m d L b e' -∗ wp frame (wpE (defs₀ (F := F)) 𝒱₀ (thr d L) none) Set.univ (k ⟨⟩) Q)
          -∗ wp frame (wpE (defs₀ (F := F)) 𝒱₀ (thr d L) none) Set.univ
            (.op (.enqueueDmaAs (iM off h) (.here vV) .same (.dma idS) hsrc hdst hsem) k) Q) := by
  iintro ⟨HA, ⟨%f, Hb⟩, Hz⟩ Hk
  iapply (Transfers.wp_dmaLocal countersEmb 𝒱₀ (thr d L) none (src := iM off h) (dst := vV) (q := fullShare)
    (fs := m (iLoc d)) (Sd := Finset.univ) (fd := f) (none : HIx 1) NV rfl NV_pos (Finset.subset_univ _)) $$ [HA Hb Hz]
  · isplitl [HA]
    · rw [set_iM e]; iexact HA
    isplitl [Hb]; · iexact Hb
    iexact Hz
  iintro Hf
  iapply Hk
  iapply (Transfers.Flight_mono countersEmb (thr d L) ?_) $$ Hf
  rw [set_iM e]
  iintro ⟨Hb, HA⟩
  isplitl [Hb]
  · iexists _
    isplitr; swap; · iexact Hb
    ipureintro
    intro x
    have hw : ∀ w : S128.Idx → BitVec 32, (vV.view.write (Elt F) f w Finset.univ) x = w x := fun w => by
      have := View.write_emb_of_mem (Val := Elt F) (v := vV.view) f w (Finset.mem_univ x)
      exact this
    refine (hw _).trans ?_
    show m (iLoc d) ((iM off h).view.emb x) = _
    unfold idw
    refine congrArg _ (funext fun a => ?_)
    match a with
    | 0 =>
      refine Fin.ext ?_
      have hx : (x 0).val < 128 := (x 0).isLt
      have h0 := h 0
      subst e
      simp at h0
      show 128 * e' + 1 * (x 0).val = (16 * b + (x 0).val) % 4096
      omega
  · iexact HA

/-! ## One of sixteen -/

theorem wp_getRow (r : Fin 2) (n j : ℕ) (hj : j < 16) {off : Fin 2 → ℕ} {h} {offG : Fin 3 → ℕ} {hG}
    (e : off = ![idAt m d (16 * n + j), 0]) (eG : offG = ![r.val, j, 0])
    {hsrc : (tM off h).view.WordExact} {hdst : (gM offG hG).view.WordExact} {hsem}
    {k : PUnit → Prog (TpuEff nD τ sig (Elt F) Λ₀ (thr d L).2) PUnit} {Q : PUnit → sProp 𝕄} :
    iprop(rowAny d L r.val j ∗ tR m d (16 * n + j) ∗ BG m d L r n j 0)
      ⊢ iprop((BG m d L r n (j + 1) 0 -∗ wp frame (wpE (defs₀ (F := F)) 𝒱₀ (thr d L) none) Set.univ (k ⟨⟩) Q)
          -∗ wp frame (wpE (defs₀ (F := F)) 𝒱₀ (thr d L) none) Set.univ
            (.op (.enqueueDmaAs (tM off h) (.here (gM offG hG)) .same (.dma (getS r)) hsrc hdst hsem) k) Q) := by
  iintro ⟨⟨%f, Hg⟩, HA, HB⟩ Hk
  iapply (Transfers.wp_dmaBatch countersEmb 𝒱₀ (thr d L) none (src := tM off h) (dst := gM offG hG) (q := fullShare)
    (fs := tb m d) (Sd := gS r.val j) (fd := f) (D := DG m d L r.val n) (j := j) (u := 0) (none : HIx 1) NG rfl (set_gM eG).subset hj (Nat.zero_le _) ?_) $$ [HA Hg HB]
  · unfold DG
    rw [set_tM e]
    iintro ⟨Hb, HA⟩
    isplitl [Hb]
    · iexists _
      isplitr; swap; · iexact Hb
      ipureintro
      intro i x h0 h1 hx0 hx1
      have hi : i = (gM offG hG).view.emb (ix2 (n0 := 1) (n1 := 1536) 0 (i 2)) := by
        obtain ⟨e0, e1, e2⟩ := emb_gM (off := offG) (h := hG) (ix2 (n0 := 1) (n1 := 1536) 0 (i 2))
        subst eG
        funext a
        match a with
        | 0 => exact Fin.ext (h0.trans e0.symm)
        | 1 => exact Fin.ext (h1.trans e1.symm)
        | 2 => exact Fin.ext ((Nat.zero_add _).symm.trans e2.symm)
      rw [if_neg (by omega)]
      rw [hi, View.write_emb_of_mem _ _ (Finset.mem_univ _)]
      show tb m d ((tM off h).view.emb _) = _
      obtain ⟨e0, e1⟩ := emb_tM (off := off) (h := h) (ix2 (n0 := 1) (n1 := 1536) 0 (i 2))
      refine congrArg _ (ext2 (e0.trans ?_) (e1.trans ?_))
      · rw [hx0, e]; rfl
      · rw [hx1, e]; show 0 + (i 2).val = _; omega
    · iexact HA
  · isplitl [HA]
    · rw [set_tM e]; iexact HA
    isplitl [Hg]; · iexact Hg
    iexact HB
  iintro HB
  iapply Hk
  iexact HB

theorem wp_putRow (r : Fin 2) (n j : ℕ) (hj : j < 16) {off : Fin 2 → ℕ} {h} {offG : Fin 3 → ℕ} {hG}
    (e : off = ![idAt m d (16 * n + j), 0]) (eG : offG = ![r.val, j, 0])
    {hsrc : (gM offG hG).view.WordExact} {hdst : (tM off h).view.WordExact} {hsem}
    {k : PUnit → Prog (TpuEff nD τ sig (Elt F) Λ₀ (thr d L).2) PUnit} {Q : PUnit → sProp 𝕄} :
    iprop(rowAt m d L r.val j (16 * n + j) 96 ∗ tR m d (16 * n + j) ∗ BP m d L r n j 0)
      ⊢ iprop((BP m d L r n (j + 1) 0 -∗ wp frame (wpE (defs₀ (F := F)) 𝒱₀ (thr d L) none) Set.univ (k ⟨⟩) Q)
          -∗ wp frame (wpE (defs₀ (F := F)) 𝒱₀ (thr d L) none) Set.univ
            (.op (.enqueueDmaAs (gM offG hG) (.here (tM off h)) .same (.dma (putS r)) hsrc hdst hsem) k) Q) := by
  iintro ⟨⟨%f, %hf, Hg⟩, HA, HB⟩ Hk
  iapply (Transfers.wp_dmaBatch countersEmb 𝒱₀ (thr d L) none (src := gM offG hG) (dst := tM off h) (q := fullShare)
    (fs := f) (Sd := tS (idAt m d (16 * n + j))) (fd := tb m d) (D := DP m d L r.val n) (j := j) (u := 0) (none : HIx 1) NP rfl (set_tM e).subset hj (Nat.zero_le _) ?_) $$ [HA Hg HB]
  · unfold DP
    rw [set_gM eG]
    iintro ⟨HA, Hg⟩
    isplitl [HA]
    · iapply (Entails.of_eq (pointsTo_congr (ℓ := oLoc d) (q := fullShare) (g := ar m d (16 * n + j)) fun i hi => ?_)) $$ HA
      have hi' := mem_tS.mp hi
      rw [← set_tM (h := h) e] at hi
      obtain ⟨x, -, rfl⟩ := Finset.mem_map.mp hi
      rw [View.write_emb_of_mem _ _ (Finset.mem_univ x)]
      obtain ⟨g0, g1, g2⟩ := emb_gM (off := offG) (h := hG) x
      obtain ⟨e0, e1⟩ := emb_tM (off := off) (h := h) x
      have hx0 : (x 0).val < 1 := (x 0).isLt
      have hx1 : (x 1).val < 1536 := (x 1).isLt
      subst eG
      have g0' : (((gM ![r.val, j, 0] hG).view.emb x) 0).val = r.val := g0
      have g1' : (((gM ![r.val, j, 0] hG).view.emb x) 1).val = j := by rw [g1]; show j + _ = j; omega
      have g2' : (((gM ![r.val, j, 0] hG).view.emb x) 2).val = (x 1).val := by rw [g2]; show 0 + _ = _; omega
      have e1' : (((tM off h).view.emb x) 1).val = (x 1).val := by rw [e1, e]; show 0 + _ = _; omega
      have := hf ((gM ![r.val, j, 0] hG).view.emb x) ((tM off h).view.emb x) g0' g1' hi' (e1'.trans g2'.symm)
      rw [if_pos (by omega)] at this
      exact this
    · iexists f; iexact Hg
  · isplitl [Hg]
    · rw [set_gM eG]; iexact Hg
    isplitl [HA]; · iexact HA
    iexact HB
  iintro HB
  iapply Hk
  iexact HB

/-! ## The waits -/

/-- What the subcore owes, the waits of its own recorded. -/
abbrev owing (O : CellTallies nD τ sig (HIx 1)) (W : Waits sig (HIx 1)) : sProp 𝕄 :=
  iprop(∃ W', ⌜∀ p ∈ W', p ∈ W ∨ p.2 = none⌝ ∗ owes (thr d L) O W')
abbrev MW (O : CellTallies nD τ sig (HIx 1)) : sProp 𝕄 := Transfers.MayWaits (thr d L) (none : HIx 1) O

/-- A wait on a cell with a transfer in flight: what it delivers, and the cell at zero again. -/
theorem wp_land {O : CellTallies nD τ sig (HIx 1)} {W : Waits sig (HIx 1)} {sem : DmaSem sig} {sp sp' : Space} {s' : Shape} {e' : EltTy}
    {srcw : Memref sig (thr d L).2.kind sp' s' e'} {s2 : Shape} {e2 : EltTy} {dstw : Memref sig .scVector sp s2 e2}
    {hsrc : srcw.view.WordExact} {hdst : dstw.view.WordExact} {N : ℕ} (hN : dstw.view.dmaCredit = N) {X : sProp 𝕄}
    {k : PUnit → Prog (TpuEff nD τ sig (Elt F) Λ₀ (thr d L).2) PUnit} {Q : PUnit → sProp 𝕄} :
    iprop(Transfers.Flight countersEmb (thr d L) (.dma sem) (none : HIx 1) N X ∗ owing d L O W ∗ MW d L O)
      ⊢ iprop((iprop(X ∗ semVal (thr d L, .dma sem) 0 ∗ owing d L O W) -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  iintro ⟨Hf, ⟨%W', %hW', HO⟩, Hmw⟩ Hk
  iapply (Transfers.wp_waitLocalO countersEmb 𝒱₀ (thr d L) none (none : HIx 1) hN) $$ [Hf HO Hmw]
  · isplitl [Hf]; · iexact Hf
    isplitl [HO]; · iexact HO
    iapply (Transfers.MayWaits.elim (SemLoc.dma sem)) $$ Hmw
  iintro ⟨HX, Hz, HO⟩
  iapply Hk
  isplitl [HX]; · iexact HX
  isplitl [Hz]; · iexact Hz
  iexists _; isplitr; swap; · iexact HO
  ipureintro; intro p hp
  rcases Finset.mem_insert.mp hp with hp | hp
  · exact .inr (hp ▸ rfl)
  · exact hW' p hp

/-- A wait of sixteen on a cell with sixteen transfers in flight: nothing before the last, everything at the last. -/
def got (D : Fin 16 → sProp 𝕄) (sem : DmaSem sig) (N t : ℕ) : sProp 𝕄 :=
  if t < 16 then Transfers.Batch countersEmb (thr d L) (.dma sem) (none : HIx 1) N D 16 (t * N)
  else iprop(bigSep Finset.univ D ∗ semVal (thr d L, .dma sem) 0)
theorem wp_landOf {O : CellTallies nD τ sig (HIx 1)} {W : Waits sig (HIx 1)} {sem : DmaSem sig} {sp sp' : Space} {s' : Shape} {e' : EltTy}
    {srcw : Memref sig (thr d L).2.kind sp' s' e'} {s2 : Shape} {e2 : EltTy} {dstw : Memref sig .scVector sp s2 e2}
    {hsrc : srcw.view.WordExact} {hdst : dstw.view.WordExact} {N : ℕ} (hN : dstw.view.dmaCredit = N) (hN0 : 0 < N) {D : Fin 16 → sProp 𝕄} (t : ℕ) (ht : t < 16)
    {k : PUnit → Prog (TpuEff nD τ sig (Elt F) Λ₀ (thr d L).2) PUnit} {Q : PUnit → sProp 𝕄} :
    iprop(got d L D sem N t ∗ owing d L O W ∗ MW d L O)
      ⊢ iprop((iprop(got d L D sem N (t + 1) ∗ owing d L O W) -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold got
  rw [if_pos ht]
  by_cases h : t + 1 < 16
  · rw [if_pos h]
    iintro ⟨Hf, ⟨%W', %hW', HO⟩, Hmw⟩ Hk
    iapply (Transfers.wp_waitBatchO countersEmb 𝒱₀ (thr d L) none (n := 16) (D := D) (none : HIx 1) hN (u := t * N) (by nlinarith)) $$ [Hf HO Hmw]
    · isplitl [Hf]; · iexact Hf
      isplitl [HO]; · iexact HO
      iapply (Transfers.MayWaits.elim (SemLoc.dma sem)) $$ Hmw
    rw [show t * N + N = (t + 1) * N by ring]
    iintro ⟨HX, HO⟩
    iapply Hk
    isplitl [HX]; · iexact HX
    iexists _; isplitr; swap; · iexact HO
    ipureintro; intro p hp
    rcases Finset.mem_insert.mp hp with hp | hp
    · exact .inr (hp ▸ rfl)
    · exact hW' p hp
  · rw [if_neg h]
    iintro ⟨Hf, ⟨%W', %hW', HO⟩, Hmw⟩ Hk
    iapply (Transfers.wp_waitBatchLastO countersEmb 𝒱₀ (thr d L) none (n := 16) (D := D) (none : HIx 1) hN hN0 (u := t * N) (by rw [show t = 15 by omega]; ring)) $$ [Hf HO Hmw]
    · isplitl [Hf]; · iexact Hf
      isplitl [HO]; · iexact HO
      iapply (Transfers.MayWaits.elim (SemLoc.dma sem)) $$ Hmw
    iintro ⟨HX, Hz, HO⟩
    iapply Hk
    isplitl [HX Hz]; · isplitl [HX] <;> iassumption
    iexists _; isplitr; swap; · iexact HO
    ipureintro; intro p hp
    rcases Finset.mem_insert.mp hp with hp | hp
    · exact .inr (hp ▸ rfl)
    · exact hW' p hp

/-- A guarded step, whichever way the guard goes: the same start, and the same rest from the same end. -/
theorem wp_guard {c : Prop} [Decidable c] {A : c → Prog (TpuEff nD τ sig (Elt F) Λ₀ (thr d L).2) PUnit}
    {K' : Prog (TpuEff nD τ sig (Elt F) Λ₀ (thr d L).2) PUnit} {Q : PUnit → sProp 𝕄} (P R : sProp 𝕄)
    (hA : ∀ h : c, P ⊢ iprop((R -∗ wp frame (wpE (defs₀ (F := F)) 𝒱₀ (thr d L) none) Set.univ K' Q)
      -∗ wp frame (wpE (defs₀ (F := F)) 𝒱₀ (thr d L) none) Set.univ (A h) Q))
    (hB : ¬ c → P ⊢ R) :
    P ⊢ iprop((R -∗ wp frame (wpE (defs₀ (F := F)) 𝒱₀ (thr d L) none) Set.univ K' Q)
      -∗ wp frame (wpE (defs₀ (F := F)) 𝒱₀ (thr d L) none) Set.univ (dite c A fun _ => K') Q) := by
  by_cases h : c
  · rw [dif_pos h]; exact hA h
  · rw [dif_neg h]
    iintro HP HK
    iapply HK
    iapply (hB h); iexact HP

end Ops
end Cert.Proof.AddTable
-- ==== Proof.AddLoops.lean ====
/-
  `add_sampled` on the SparseCores: its loops of sixteen. The starts of sixteen gets of table rows, or of sixteen puts,
  each at the id read out of the ids' buffer; the waits for sixteen; the addition of a group's rows, sixteen columns
  at a time.
-/
module

public import proofs.«01_k».proof.Proof.AddTable

@[expose] public section

noncomputable section

namespace Cert.Proof.AddTable

open Cert.AddKernel Cert.AddKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ)

/-! ## A word read out of the ids' buffer -/

theorem scan_const (c : BitVec 32) (i : S16.Idx) : scan .max (fun _ : S16.Idx => c) i = c := by
  have h : ∀ l : List (Fin 16), l.foldl (fun (r : BitVec 32) (_ : Fin 16) => ScanKind.step .max r c) c = c := by
    intro l
    induction l with
    | nil => rfl
    | cons a l ih =>
      rw [List.foldl_cons, show ScanKind.step .max c c = c by show IntOp.maxui c c = c; unfold IntOp.maxui; split <;> rfl]
      exact ih
  exact h _
theorem xor_back (w c : BitVec 32) : IntOp.xori (IntOp.xori w c) c = w := by
  unfold IntOp.xori
  rw [BitVec.xor_assoc, BitVec.xor_self, BitVec.xor_zero]

section Words
variable (d : Dev nD) (L : grid0.Coords)

theorem all_word {b : ℕ} {f : Buf (Elt F) (vLoc d L)} (hf : VIs m d L b f) (v : BitVec 32)
    (h : ∀ a x, ((![broadcast S16 v] : Fin 1 → IVec S16 32) a x).toNat < S128.size a) :
    loadIdx (F := F) (e := .i32) ((vV.access (Rect.whole S128)).read (Elt F) f) ![broadcast S16 v] h = fun _ => idw m d (16 * b + v.toNat) := by
  funext x
  rw [show (vV.access (Rect.whole S128)).read (Elt F) f = f from Memref.read_access_whole (Elt F) (cc0_scratch0 : Ref sig .scVector) f]
  exact hf (idxAt (s := S128) ![broadcast S16 v] h x)

theorem word1 {b : ℕ} {f : Buf (Elt F) (vLoc d L)} (hf : VIs m d L b f) (v : BitVec 32) (p : ℕ) (hp : 16 * b + v.toNat = p)
    (h : ∀ a x, ((![broadcast S16 v] : Fin 1 → IVec S16 32) a x).toNat < S128.size a) :
    extractAt ![15] (k0_pay1 (F := F) (loadIdx ((vV.access (Rect.whole S128)).read (Elt F) f) ![broadcast S16 v] h)) inpos_S16_p15 = idw m d p := by
  rw [all_word m d L hf v h, hp]
  show IntOp.xori (scan .max (fun _ : S16.Idx => IntOp.xori (idw m d p) 2147483648#32) _) 2147483648#32 = _
  rw [scan_const, xor_back]
theorem word3 {b : ℕ} {f : Buf (Elt F) (vLoc d L)} (hf : VIs m d L b f) (v : BitVec 32) (p : ℕ) (hp : 16 * b + v.toNat = p)
    (h : ∀ a x, ((![broadcast S16 v] : Fin 1 → IVec S16 32) a x).toNat < S128.size a) :
    extractAt ![15] (k0_pay3 (F := F) (loadIdx ((vV.access (Rect.whole S128)).read (Elt F) f) ![broadcast S16 v] h)) inpos_S16_p15 = idw m d p := by
  rw [all_word m d L hf v h, hp]
  show IntOp.xori (scan .max (fun _ : S16.Idx => IntOp.xori (idw m d p) 2147483648#32) _) 2147483648#32 = _
  rw [scan_const, xor_back]
theorem word4 {b : ℕ} {f : Buf (Elt F) (vLoc d L)} (hf : VIs m d L b f) (v : BitVec 32) (p : ℕ) (hp : 16 * b + v.toNat = p)
    (h : ∀ a x, ((![broadcast S16 v] : Fin 1 → IVec S16 32) a x).toNat < S128.size a) :
    extractAt ![15] (k0_pay4 (F := F) (loadIdx ((vV.access (Rect.whole S128)).read (Elt F) f) ![broadcast S16 v] h)) inpos_S16_p15 = idw m d p := by
  rw [all_word m d L hf v h, hp]
  show IntOp.xori (scan .max (fun _ : S16.Idx => IntOp.xori (idw m d p) 2147483648#32) _) 2147483648#32 = _
  rw [scan_const, xor_back]
theorem word6 {b : ℕ} {f : Buf (Elt F) (vLoc d L)} (hf : VIs m d L b f) (v : BitVec 32) (p : ℕ) (hp : 16 * b + v.toNat = p)
    (h : ∀ a x, ((![broadcast S16 v] : Fin 1 → IVec S16 32) a x).toNat < S128.size a) :
    extractAt ![15] (k0_pay6 (F := F) (loadIdx ((vV.access (Rect.whole S128)).read (Elt F) f) ![broadcast S16 v] h)) inpos_S16_p15 = idw m d p := by
  rw [all_word m d L hf v h, hp]
  show IntOp.xori (scan .max (fun _ : S16.Idx => IntOp.xori (idw m d p) 2147483648#32) _) 2147483648#32 = _
  rw [scan_const, xor_back]
theorem word7 {b : ℕ} {f : Buf (Elt F) (vLoc d L)} (hf : VIs m d L b f) (v : BitVec 32) (p : ℕ) (hp : 16 * b + v.toNat = p)
    (h : ∀ a x, ((![broadcast S16 v] : Fin 1 → IVec S16 32) a x).toNat < S128.size a) :
    extractAt ![15] (k0_pay7 (F := F) (loadIdx ((vV.access (Rect.whole S128)).read (Elt F) f) ![broadcast S16 v] h)) inpos_S16_p15 = idw m d p := by
  rw [all_word m d L hf v h, hp]
  show IntOp.xori (scan .max (fun _ : S16.Idx => IntOp.xori (idw m d p) 2147483648#32) _) 2147483648#32 = _
  rw [scan_const, xor_back]
theorem word8 {b : ℕ} {f : Buf (Elt F) (vLoc d L)} (hf : VIs m d L b f) (v : BitVec 32) (p : ℕ) (hp : 16 * b + v.toNat = p)
    (h : ∀ a x, ((![broadcast S16 v] : Fin 1 → IVec S16 32) a x).toNat < S128.size a) :
    extractAt ![15] (k0_pay8 (F := F) (loadIdx ((vV.access (Rect.whole S128)).read (Elt F) f) ![broadcast S16 v] h)) inpos_S16_p15 = idw m d p := by
  rw [all_word m d L hf v h, hp]
  show IntOp.xori (scan .max (fun _ : S16.Idx => IntOp.xori (idw m d p) 2147483648#32) _) 2147483648#32 = _
  rw [scan_const, xor_back]

theorem row_inb {w : BitVec 32} (h : w.toNat < 65536) : ∀ a, (![w.toNat, 0] : Fin 2 → ℕ) a + S1x1536.size a ≤ S65536x1536.size a := by
  intro a
  match a with
  | 0 => show w.toNat + 1 ≤ 65536; omega
  | 1 => show 0 + 1536 ≤ 1536; omega
theorem lane_inb {v : BitVec 32} (h : v.toNat < 128) : ∀ a x, ((![broadcast S16 v] : Fin 1 → IVec S16 32) a x).toNat < S128.size a := by
  intro a x
  match a with
  | 0 => exact h
end Words

variable [FloatOps F]

section Loops

variable (d : Dev nD) (L : grid0.Coords)

/-- A word of the ids' buffer for every lane. -/
theorem wp_lanes (f : Buf (Elt F) (vLoc d L)) {idxs : Fin S128.rank → IVec S16 32} {h : ∀ a x, (idxs a x).toNat < S128.size a} {hl : vV.view.Loads}
    {k : Vec F S16 .i32 → Prog (TpuEff nD τ sig (Elt F) Λ₀ (thr d L).2) PUnit} {Q : PUnit → sProp 𝕄} :
    (vLoc d L ↦{fullShare} f)
      ⊢ iprop(((vLoc d L ↦{fullShare} f) -∗ wp frame (wpE (defs₀ (F := F)) 𝒱₀ (thr d L) none) Set.univ (k (loadIdx ((vV.access (Rect.whole S128)).read (Elt F) f) idxs h)) Q)
      -∗ wp frame (wpE (defs₀ (F := F)) 𝒱₀ (thr d L) none) Set.univ (SparseCore.vectorLoadIdx vV idxs h hl >>= k) Q) :=
  SparseCore.wp_vectorLoadIdx 𝒱₀ (thr d L) none Set.univ (base := vV) (S := Finset.univ) (Finset.subset_univ _)

/-- Sixteen gets of group `n` into slot `r`, sixteen puts of group `n` out of it: before the `t`-th. -/
def getI (r : Fin 2) (b n t : ℕ) (_ : Unit) : sProp 𝕄 :=
  iprop(vHas m d L b ∗ BG m d L r n t 0 ∗ bigSep (Transfers.pending t) fun k : Fin 16 => iprop(rowAny d L r.val k.val ∗ tR m d (16 * n + k.val)))
def putI (r : Fin 2) (b n t : ℕ) (_ : Unit) : sProp 𝕄 :=
  iprop(vHas m d L b ∗ BP m d L r n t 0
    ∗ bigSep (Transfers.pending t) fun k : Fin 16 => iprop(rowAt m d L r.val k.val (16 * n + k.val) 96 ∗ tR m d (16 * n + k.val)))
/-- The `t`-th wait of sixteen. -/
def waitI (O : CellTallies nD τ sig (HIx 1)) (W : Waits sig (HIx 1)) (D : Fin 16 → sProp 𝕄) (sem : DmaSem sig) (N t : ℕ) (_ : Unit) : sProp 𝕄 :=
  iprop(levAts (K (F := F)).L (K (F := F)).lev ∗ got d L D sem N t ∗ owing d L O W)
/-- The rows of slot `r` added before row `t`; the columns of row `k` before column group `t`. -/
def addI (r : Fin 2) (n t : ℕ) (_ : Unit) : sProp 𝕄 :=
  iprop(dHas m d L r.val n ∗ (bigSep (Transfers.issued t) fun k : Fin 16 => rowAt m d L r.val k.val (16 * n + k.val) 96)
    ∗ bigSep (Transfers.pending t) fun k : Fin 16 => rowAt m d L r.val k.val (16 * n + k.val) 0)
def colI (r : Fin 2) (n k t : ℕ) (_ : Unit) : sProp 𝕄 :=
  iprop(dHas m d L r.val n ∗ rowAt m d L r.val k (16 * n + k) t)

theorem trips1 : k0_t1_loop.trips = 16 := by decide +kernel
theorem trips2 : k0_t2_loop.trips = 16 := by decide +kernel
theorem trips3 : k0_t3_loop.trips = 4 := by decide +kernel
theorem trips4 : k0_t4_loop.trips = 16 := by decide +kernel
theorem trips5 : k0_t5_loop.trips = 16 := by decide +kernel
theorem trips6 : k0_t6_loop.trips = 96 := by decide +kernel
theorem trips7 : k0_t7_loop.trips = 16 := by decide +kernel
theorem trips8 : k0_t8_loop.trips = 16 := by decide +kernel
theorem trips9 : k0_t9_loop.trips = 16 := by decide +kernel
theorem trips10 : k0_t10_loop.trips = 16 := by decide +kernel
theorem trips11 : k0_t11_loop.trips = 16 := by decide +kernel
theorem trips12 : k0_t12_loop.trips = 96 := by decide +kernel
theorem trips13 : k0_t13_loop.trips = 16 := by decide +kernel
theorem trips14 : k0_t14_loop.trips = 16 := by decide +kernel
theorem trips15 : k0_t15_loop.trips = 16 := by decide +kernel
theorem trips16 : k0_t16_loop.trips = 16 := by decide +kernel
theorem trips17 : k0_t17_loop.trips = 16 := by decide +kernel

set_option maxHeartbeats 2000000 in
theorem trip1  (b n j : ℕ) (hn : n = b + j) (hj : j < 8) (hin : ∀ p, idAt m d p < 65536)
    (hv : ∀ k : Fin k0_t1_loop.trips, (Scalar.addi 0#32 (Scalar.addi 0#32 (Scalar.muli (Scf.iv 0#32 1#32 k.val) 1#32))).toNat = 16 * j + k.val) (k : Fin k0_t1_loop.trips) :
    getI m d L 0 b n k.val () ⊢ wp frame (wpE (defs₀ (F := F)) 𝒱₀ (thr d L) none) Set.univ (k0_t1_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0  k ()) (getI m d L 0 b n (k.val + 1)) := by
  have hk : k.val < 16 := by have := k.isLt; have := trips1; omega
  have hw := hv k
  unfold k0_t1_body
  simp only [Prog.lift, Prog.bind_op, Prog.bind_ret, Prog.pure_eq_ret, Prog.bind_assoc, SparseCore.vectorLoadIdx_bind]
  unfold getI
  rw [Transfers.bigSep_pending_step _ k.val hk]
  iintro ⟨⟨%f, %hf, Hv⟩, HB, ⟨⟨Hg, HT⟩, Hp⟩⟩
  iapply (wp_assume 𝒱₀ (thr d L) none Set.univ ?_)
  swap
  · exact lane_inb (by rw [hw]; omega)
  iapply (wp_lanes d L f) $$ Hv
  iintro Hv
  iapply (wp_assume 𝒱₀ (thr d L) none Set.univ ?_)
  swap
  · rw [word8 m d L hf _ (16 * n + k.val) (by rw [hw]; omega)]
    exact row_inb (hin _)
  iapply (wp_getRow m d L 0 n k.val hk (by show ![_, 0] = _; rw [word8 m d L hf _ (16 * n + k.val) (by rw [hw]; omega)]; rfl) (k0_off5_eq k)) $$ [Hg HT HB]
  · isplitl [Hg]; · iexact Hg
    isplitl [HT]; · iexact HT
    iexact HB
  iintro HB
  rw [wp_ret]; imodintro
  isplitl [Hv]; · iexists f; isplitr; · ipureintro; exact hf
                  iexact Hv
  isplitl [HB]; · iexact HB
  iexact Hp
theorem loop1  (b n j : ℕ) (hn : n = b + j) (hj : j < 8) (hin : ∀ p, idAt m d p < 65536)
    (hv : ∀ k : Fin k0_t1_loop.trips, (Scalar.addi 0#32 (Scalar.addi 0#32 (Scalar.muli (Scf.iv 0#32 1#32 k.val) 1#32))).toNat = 16 * j + k.val)
    {kk : Unit → Prog (TpuEff nD τ sig (Elt F) Λ₀ (thr d L).2) PUnit} {Q : PUnit → sProp 𝕄} :
    getI m d L 0 b n 0 () ⊢ iprop((getI m d L 0 b n 16 () -∗ wp frame (wpE (defs₀ (F := F)) 𝒱₀ (thr d L) none) Set.univ (kk ()) Q)
      -∗ wp frame (wpE (defs₀ (F := F)) 𝒱₀ (thr d L) none) Set.univ (Scf.Loop.for k0_t1_loop k0_t1_ok ⟨⟩ (k0_t1_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 ) >>= kk) Q) := by
  iintro H Hk
  iapply (Scf.wp_for_bind frame (wpE (defs₀ (F := F)) 𝒱₀ (thr d L) none) Set.univ k0_t1_loop.lb k0_t1_loop.ub k0_t1_loop.st k0_t1_ok ⟨⟩ _
    (getI m d L 0 b n) (fun k _ => trip1 m d L  b n j hn hj hin hv k)) $$ H
  iintro %_ H
  rw [show Scf.trips k0_t1_loop.lb k0_t1_loop.ub k0_t1_loop.st = 16 from trips1]
  iapply Hk; iexact H

set_option maxHeartbeats 2000000 in
theorem trip2 (c : BitVec 32) (b n j : ℕ) (hn : n = b + j) (hj : j < 8) (hin : ∀ p, idAt m d p < 65536)
    (hv : ∀ k : Fin k0_t2_loop.trips, (Scalar.addi 16#32 (Scalar.addi 0#32 (Scalar.muli (Scf.iv c 1#32 k.val) 1#32))).toNat = 16 * j + k.val) (k : Fin k0_t2_loop.trips) :
    getI m d L 1 b n k.val () ⊢ wp frame (wpE (defs₀ (F := F)) 𝒱₀ (thr d L) none) Set.univ (k0_t2_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 c k ()) (getI m d L 1 b n (k.val + 1)) := by
  have hk : k.val < 16 := by have := k.isLt; have := trips2; omega
  have hw := hv k
  unfold k0_t2_body
  simp only [Prog.lift, Prog.bind_op, Prog.bind_ret, Prog.pure_eq_ret, Prog.bind_assoc, SparseCore.vectorLoadIdx_bind]
  unfold getI
  rw [Transfers.bigSep_pending_step _ k.val hk]
  iintro ⟨⟨%f, %hf, Hv⟩, HB, ⟨⟨Hg, HT⟩, Hp⟩⟩
  iapply (wp_assume 𝒱₀ (thr d L) none Set.univ ?_)
  swap
  · exact lane_inb (by rw [hw]; omega)
  iapply (wp_lanes d L f) $$ Hv
  iintro Hv
  iapply (wp_assume 𝒱₀ (thr d L) none Set.univ ?_)
  swap
  · rw [word1 m d L hf _ (16 * n + k.val) (by rw [hw]; omega)]
    exact row_inb (hin _)
  iapply (wp_getRow m d L 1 n k.val hk (by show ![_, 0] = _; rw [word1 m d L hf _ (16 * n + k.val) (by rw [hw]; omega)]; rfl) (k0_off8_eq k)) $$ [Hg HT HB]
  · isplitl [Hg]; · iexact Hg
    isplitl [HT]; · iexact HT
    iexact HB
  iintro HB
  rw [wp_ret]; imodintro
  isplitl [Hv]; · iexists f; isplitr; · ipureintro; exact hf
                  iexact Hv
  isplitl [HB]; · iexact HB
  iexact Hp
theorem loop2 (c : BitVec 32) (b n j : ℕ) (hn : n = b + j) (hj : j < 8) (hin : ∀ p, idAt m d p < 65536)
    (hv : ∀ k : Fin k0_t2_loop.trips, (Scalar.addi 16#32 (Scalar.addi 0#32 (Scalar.muli (Scf.iv c 1#32 k.val) 1#32))).toNat = 16 * j + k.val)
    {kk : Unit → Prog (TpuEff nD τ sig (Elt F) Λ₀ (thr d L).2) PUnit} {Q : PUnit → sProp 𝕄} :
    getI m d L 1 b n 0 () ⊢ iprop((getI m d L 1 b n 16 () -∗ wp frame (wpE (defs₀ (F := F)) 𝒱₀ (thr d L) none) Set.univ (kk ()) Q)
      -∗ wp frame (wpE (defs₀ (F := F)) 𝒱₀ (thr d L) none) Set.univ (Scf.Loop.for k0_t2_loop k0_t2_ok ⟨⟩ (k0_t2_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 c) >>= kk) Q) := by
  iintro H Hk
  iapply (Scf.wp_for_bind frame (wpE (defs₀ (F := F)) 𝒱₀ (thr d L) none) Set.univ k0_t2_loop.lb k0_t2_loop.ub k0_t2_loop.st k0_t2_ok ⟨⟩ _
    (getI m d L 1 b n) (fun k _ => trip2 m d L c b n j hn hj hin hv k)) $$ H
  iintro %_ H
  rw [show Scf.trips k0_t2_loop.lb k0_t2_loop.ub k0_t2_loop.st = 16 from trips2]
  iapply Hk; iexact H

set_option maxHeartbeats 2000000 in
theorem trip7 (v2 : BitVec 32) (t : Fin k0_t3_loop.trips) (v : BitVec 32) (b n j : ℕ) (hn : n = b + j) (hj : j < 8) (hin : ∀ p, idAt m d p < 65536)
    (hv : ∀ k : Fin k0_t7_loop.trips, (Scalar.addi (Scalar.muli v 16#32) (Scalar.addi 0#32 (Scalar.muli (Scf.iv 0#32 1#32 k.val) 1#32))).toNat = 16 * j + k.val) (k : Fin k0_t7_loop.trips) :
    putI m d L 0 b n k.val () ⊢ wp frame (wpE (defs₀ (F := F)) 𝒱₀ (thr d L) none) Set.univ (k0_t7_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t v k ()) (putI m d L 0 b n (k.val + 1)) := by
  have hk : k.val < 16 := by have := k.isLt; have := trips7; omega
  have hw := hv k
  unfold k0_t7_body
  simp only [Prog.lift, Prog.bind_op, Prog.bind_ret, Prog.pure_eq_ret, Prog.bind_assoc, SparseCore.vectorLoadIdx_bind]
  unfold putI
  rw [Transfers.bigSep_pending_step _ k.val hk]
  iintro ⟨⟨%f, %hf, Hv⟩, HB, ⟨⟨Hg, HT⟩, Hp⟩⟩
  iapply (wp_assume 𝒱₀ (thr d L) none Set.univ ?_)
  swap
  · exact lane_inb (by rw [hw]; omega)
  iapply (wp_lanes d L f) $$ Hv
  iintro Hv
  iapply (wp_assume 𝒱₀ (thr d L) none Set.univ ?_)
  swap
  · rw [word6 m d L hf _ (16 * n + k.val) (by rw [hw]; omega)]
    exact row_inb (hin _)
  iapply (wp_putRow m d L 0 n k.val hk (by show ![_, 0] = _; rw [word6 m d L hf _ (16 * n + k.val) (by rw [hw]; omega)]; rfl) (k0_off13_eq k)) $$ [Hg HT HB]
  · isplitl [Hg]; · iexact Hg
    isplitl [HT]; · iexact HT
    iexact HB
  iintro HB
  rw [wp_ret]; imodintro
  isplitl [Hv]; · iexists f; isplitr; · ipureintro; exact hf
                  iexact Hv
  isplitl [HB]; · iexact HB
  iexact Hp
theorem loop7 (v2 : BitVec 32) (t : Fin k0_t3_loop.trips) (v : BitVec 32) (b n j : ℕ) (hn : n = b + j) (hj : j < 8) (hin : ∀ p, idAt m d p < 65536)
    (hv : ∀ k : Fin k0_t7_loop.trips, (Scalar.addi (Scalar.muli v 16#32) (Scalar.addi 0#32 (Scalar.muli (Scf.iv 0#32 1#32 k.val) 1#32))).toNat = 16 * j + k.val)
    {kk : Unit → Prog (TpuEff nD τ sig (Elt F) Λ₀ (thr d L).2) PUnit} {Q : PUnit → sProp 𝕄} :
    putI m d L 0 b n 0 () ⊢ iprop((putI m d L 0 b n 16 () -∗ wp frame (wpE (defs₀ (F := F)) 𝒱₀ (thr d L) none) Set.univ (kk ()) Q)
      -∗ wp frame (wpE (defs₀ (F := F)) 𝒱₀ (thr d L) none) Set.univ (Scf.Loop.for k0_t7_loop k0_t7_ok ⟨⟩ (k0_t7_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t v) >>= kk) Q) := by
  iintro H Hk
  iapply (Scf.wp_for_bind frame (wpE (defs₀ (F := F)) 𝒱₀ (thr d L) none) Set.univ k0_t7_loop.lb k0_t7_loop.ub k0_t7_loop.st k0_t7_ok ⟨⟩ _
    (putI m d L 0 b n) (fun k _ => trip7 m d L v2 t v b n j hn hj hin hv k)) $$ H
  iintro %_ H
  rw [show Scf.trips k0_t7_loop.lb k0_t7_loop.ub k0_t7_loop.st = 16 from trips7]
  iapply Hk; iexact H

set_option maxHeartbeats 2000000 in
theorem trip13 (v : BitVec 32) (b n j : ℕ) (hn : n = b + j) (hj : j < 8) (hin : ∀ p, idAt m d p < 65536)
    (hv : ∀ k : Fin k0_t13_loop.trips, (Scalar.addi (Scalar.muli v 16#32) (Scalar.addi 0#32 (Scalar.muli (Scf.iv 0#32 1#32 k.val) 1#32))).toNat = 16 * j + k.val) (k : Fin k0_t13_loop.trips) :
    putI m d L 1 b n k.val () ⊢ wp frame (wpE (defs₀ (F := F)) 𝒱₀ (thr d L) none) Set.univ (k0_t13_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v k ()) (putI m d L 1 b n (k.val + 1)) := by
  have hk : k.val < 16 := by have := k.isLt; have := trips13; omega
  have hw := hv k
  unfold k0_t13_body
  simp only [Prog.lift, Prog.bind_op, Prog.bind_ret, Prog.pure_eq_ret, Prog.bind_assoc, SparseCore.vectorLoadIdx_bind]
  unfold putI
  rw [Transfers.bigSep_pending_step _ k.val hk]
  iintro ⟨⟨%f, %hf, Hv⟩, HB, ⟨⟨Hg, HT⟩, Hp⟩⟩
  iapply (wp_assume 𝒱₀ (thr d L) none Set.univ ?_)
  swap
  · exact lane_inb (by rw [hw]; omega)
  iapply (wp_lanes d L f) $$ Hv
  iintro Hv
  iapply (wp_assume 𝒱₀ (thr d L) none Set.univ ?_)
  swap
  · rw [word3 m d L hf _ (16 * n + k.val) (by rw [hw]; omega)]
    exact row_inb (hin _)
  iapply (wp_putRow m d L 1 n k.val hk (by show ![_, 0] = _; rw [word3 m d L hf _ (16 * n + k.val) (by rw [hw]; omega)]; rfl) (k0_off21_eq k)) $$ [Hg HT HB]
  · isplitl [Hg]; · iexact Hg
    isplitl [HT]; · iexact HT
    iexact HB
  iintro HB
  rw [wp_ret]; imodintro
  isplitl [Hv]; · iexists f; isplitr; · ipureintro; exact hf
                  iexact Hv
  isplitl [HB]; · iexact HB
  iexact Hp
theorem loop13 (v : BitVec 32) (b n j : ℕ) (hn : n = b + j) (hj : j < 8) (hin : ∀ p, idAt m d p < 65536)
    (hv : ∀ k : Fin k0_t13_loop.trips, (Scalar.addi (Scalar.muli v 16#32) (Scalar.addi 0#32 (Scalar.muli (Scf.iv 0#32 1#32 k.val) 1#32))).toNat = 16 * j + k.val)
    {kk : Unit → Prog (TpuEff nD τ sig (Elt F) Λ₀ (thr d L).2) PUnit} {Q : PUnit → sProp 𝕄} :
    putI m d L 1 b n 0 () ⊢ iprop((putI m d L 1 b n 16 () -∗ wp frame (wpE (defs₀ (F := F)) 𝒱₀ (thr d L) none) Set.univ (kk ()) Q)
      -∗ wp frame (wpE (defs₀ (F := F)) 𝒱₀ (thr d L) none) Set.univ (Scf.Loop.for k0_t13_loop k0_t13_ok ⟨⟩ (k0_t13_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v) >>= kk) Q) := by
  iintro H Hk
  iapply (Scf.wp_for_bind frame (wpE (defs₀ (F := F)) 𝒱₀ (thr d L) none) Set.univ k0_t13_loop.lb k0_t13_loop.ub k0_t13_loop.st k0_t13_ok ⟨⟩ _
    (putI m d L 1 b n) (fun k _ => trip13 m d L v b n j hn hj hin hv k)) $$ H
  iintro %_ H
  rw [show Scf.trips k0_t13_loop.lb k0_t13_loop.ub k0_t13_loop.st = 16 from trips13]
  iapply Hk; iexact H

set_option maxHeartbeats 2000000 in
theorem trip9 (v2 : BitVec 32) (t : Fin k0_t3_loop.trips) (h1 : k0_cond1 t = 1#1) (v : BitVec 32) (b n j : ℕ) (hn : n = b + j) (hj : j < 8) (hin : ∀ p, idAt m d p < 65536)
    (hv : ∀ k : Fin k0_t9_loop.trips, (Scalar.addi (Scalar.muli v 16#32) (Scalar.addi 0#32 (Scalar.muli (Scf.iv 0#32 1#32 k.val) 1#32))).toNat = 16 * j + k.val) (k : Fin k0_t9_loop.trips) :
    getI m d L 0 b n k.val () ⊢ wp frame (wpE (defs₀ (F := F)) 𝒱₀ (thr d L) none) Set.univ (k0_t9_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t h1 v k ()) (getI m d L 0 b n (k.val + 1)) := by
  have hk : k.val < 16 := by have := k.isLt; have := trips9; omega
  have hw := hv k
  unfold k0_t9_body
  simp only [Prog.lift, Prog.bind_op, Prog.bind_ret, Prog.pure_eq_ret, Prog.bind_assoc, SparseCore.vectorLoadIdx_bind]
  unfold getI
  rw [Transfers.bigSep_pending_step _ k.val hk]
  iintro ⟨⟨%f, %hf, Hv⟩, HB, ⟨⟨Hg, HT⟩, Hp⟩⟩
  iapply (wp_assume 𝒱₀ (thr d L) none Set.univ ?_)
  swap
  · exact fun _ => lane_inb (by rw [hw]; omega)
  iapply (wp_lanes d L f) $$ Hv
  iintro Hv
  iapply (wp_assume 𝒱₀ (thr d L) none Set.univ ?_)
  swap
  · rw [word7 m d L hf _ (16 * n + k.val) (by rw [hw]; omega)]
    exact fun _ => row_inb (hin _)
  iapply (wp_getRow m d L 0 n k.val hk (by show ![_, 0] = _; rw [word7 m d L hf _ (16 * n + k.val) (by rw [hw]; omega)]; rfl) (k0_off17_eq k)) $$ [Hg HT HB]
  · isplitl [Hg]; · iexact Hg
    isplitl [HT]; · iexact HT
    iexact HB
  iintro HB
  rw [wp_ret]; imodintro
  isplitl [Hv]; · iexists f; isplitr; · ipureintro; exact hf
                  iexact Hv
  isplitl [HB]; · iexact HB
  iexact Hp
theorem loop9 (v2 : BitVec 32) (t : Fin k0_t3_loop.trips) (h1 : k0_cond1 t = 1#1) (v : BitVec 32) (b n j : ℕ) (hn : n = b + j) (hj : j < 8) (hin : ∀ p, idAt m d p < 65536)
    (hv : ∀ k : Fin k0_t9_loop.trips, (Scalar.addi (Scalar.muli v 16#32) (Scalar.addi 0#32 (Scalar.muli (Scf.iv 0#32 1#32 k.val) 1#32))).toNat = 16 * j + k.val)
    {kk : Unit → Prog (TpuEff nD τ sig (Elt F) Λ₀ (thr d L).2) PUnit} {Q : PUnit → sProp 𝕄} :
    getI m d L 0 b n 0 () ⊢ iprop((getI m d L 0 b n 16 () -∗ wp frame (wpE (defs₀ (F := F)) 𝒱₀ (thr d L) none) Set.univ (kk ()) Q)
      -∗ wp frame (wpE (defs₀ (F := F)) 𝒱₀ (thr d L) none) Set.univ (Scf.Loop.for k0_t9_loop (k0_t9_ok t h1) ⟨⟩ (k0_t9_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t h1 v) >>= kk) Q) := by
  iintro H Hk
  iapply (Scf.wp_for_bind frame (wpE (defs₀ (F := F)) 𝒱₀ (thr d L) none) Set.univ k0_t9_loop.lb k0_t9_loop.ub k0_t9_loop.st (k0_t9_ok t h1) ⟨⟩ _
    (getI m d L 0 b n) (fun k _ => trip9 m d L v2 t h1 v b n j hn hj hin hv k)) $$ H
  iintro %_ H
  rw [show Scf.trips k0_t9_loop.lb k0_t9_loop.ub k0_t9_loop.st = 16 from trips9]
  iapply Hk; iexact H

set_option maxHeartbeats 2000000 in
theorem trip15 (t : Fin k0_t3_loop.trips) (h2 : k0_cond2 t = 1#1) (v : BitVec 32) (b n j : ℕ) (hn : n = b + j) (hj : j < 8) (hin : ∀ p, idAt m d p < 65536)
    (hv : ∀ k : Fin k0_t15_loop.trips, (Scalar.addi (Scalar.muli v 16#32) (Scalar.addi 0#32 (Scalar.muli (Scf.iv 0#32 1#32 k.val) 1#32))).toNat = 16 * j + k.val) (k : Fin k0_t15_loop.trips) :
    getI m d L 1 b n k.val () ⊢ wp frame (wpE (defs₀ (F := F)) 𝒱₀ (thr d L) none) Set.univ (k0_t15_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 t h2 v k ()) (getI m d L 1 b n (k.val + 1)) := by
  have hk : k.val < 16 := by have := k.isLt; have := trips15; omega
  have hw := hv k
  unfold k0_t15_body
  simp only [Prog.lift, Prog.bind_op, Prog.bind_ret, Prog.pure_eq_ret, Prog.bind_assoc, SparseCore.vectorLoadIdx_bind]
  unfold getI
  rw [Transfers.bigSep_pending_step _ k.val hk]
  iintro ⟨⟨%f, %hf, Hv⟩, HB, ⟨⟨Hg, HT⟩, Hp⟩⟩
  iapply (wp_assume 𝒱₀ (thr d L) none Set.univ ?_)
  swap
  · exact fun _ => lane_inb (by rw [hw]; omega)
  iapply (wp_lanes d L f) $$ Hv
  iintro Hv
  iapply (wp_assume 𝒱₀ (thr d L) none Set.univ ?_)
  swap
  · rw [word4 m d L hf _ (16 * n + k.val) (by rw [hw]; omega)]
    exact fun _ => row_inb (hin _)
  iapply (wp_getRow m d L 1 n k.val hk (by show ![_, 0] = _; rw [word4 m d L hf _ (16 * n + k.val) (by rw [hw]; omega)]; rfl) (k0_off25_eq k)) $$ [Hg HT HB]
  · isplitl [Hg]; · iexact Hg
    isplitl [HT]; · iexact HT
    iexact HB
  iintro HB
  rw [wp_ret]; imodintro
  isplitl [Hv]; · iexists f; isplitr; · ipureintro; exact hf
                  iexact Hv
  isplitl [HB]; · iexact HB
  iexact Hp
theorem loop15 (t : Fin k0_t3_loop.trips) (h2 : k0_cond2 t = 1#1) (v : BitVec 32) (b n j : ℕ) (hn : n = b + j) (hj : j < 8) (hin : ∀ p, idAt m d p < 65536)
    (hv : ∀ k : Fin k0_t15_loop.trips, (Scalar.addi (Scalar.muli v 16#32) (Scalar.addi 0#32 (Scalar.muli (Scf.iv 0#32 1#32 k.val) 1#32))).toNat = 16 * j + k.val)
    {kk : Unit → Prog (TpuEff nD τ sig (Elt F) Λ₀ (thr d L).2) PUnit} {Q : PUnit → sProp 𝕄} :
    getI m d L 1 b n 0 () ⊢ iprop((getI m d L 1 b n 16 () -∗ wp frame (wpE (defs₀ (F := F)) 𝒱₀ (thr d L) none) Set.univ (kk ()) Q)
      -∗ wp frame (wpE (defs₀ (F := F)) 𝒱₀ (thr d L) none) Set.univ (Scf.Loop.for k0_t15_loop (k0_t15_ok t h2) ⟨⟩ (k0_t15_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 t h2 v) >>= kk) Q) := by
  iintro H Hk
  iapply (Scf.wp_for_bind frame (wpE (defs₀ (F := F)) 𝒱₀ (thr d L) none) Set.univ k0_t15_loop.lb k0_t15_loop.ub k0_t15_loop.st (k0_t15_ok t h2) ⟨⟩ _
    (getI m d L 1 b n) (fun k _ => trip15 m d L t h2 v b n j hn hj hin hv k)) $$ H
  iintro %_ H
  rw [show Scf.trips k0_t15_loop.lb k0_t15_loop.ub k0_t15_loop.st = 16 from trips15]
  iapply Hk; iexact H

theorem trip4 (v2 : BitVec 32) (t : Fin k0_t3_loop.trips) (n : ℕ) (O : CellTallies nD τ sig (HIx 1)) (W : Waits sig (HIx 1)) (hO : ∀ g, O g none = 0) (k : Fin k0_t4_loop.trips) :
    waitI d L O W (DG m d L 0 n) (getS 0) NG k.val () ⊢ wp frame (wpE (defs₀ (F := F)) 𝒱₀ (thr d L) none) Set.univ (k0_t4_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t k ()) (waitI d L O W (DG m d L 0 n) (getS 0) NG (k.val + 1)) := by
  have hk : k.val < 16 := by have := k.isLt; have := trips4; omega
  have hmw : levAts (K (F := F)).L (K (F := F)).lev ⊢ MW (F := F) d L O := (K (F := F)).mayWaits_none (thr := thr d L) hO
  unfold k0_t4_body
  simp only [Prog.lift, Prog.bind_op, Prog.bind_ret, Prog.pure_eq_ret, Prog.bind_assoc]
  unfold waitI
  iintro ⟨#Hlv, HG, HO⟩
  iapply (wp_landOf d L (O := O) (W := W) (N := NG) rfl NG_pos k.val hk) $$ [HG HO]
  · isplitl [HG]; · iexact HG
    isplitl [HO]; · iexact HO
    iapply hmw; iexact Hlv
  iintro ⟨HG, HO⟩
  rw [wp_ret]; imodintro
  isplitr; · iexact Hlv
  isplitl [HG]; · iexact HG
  iexact HO
theorem loop4 (v2 : BitVec 32) (t : Fin k0_t3_loop.trips) (n : ℕ) (O : CellTallies nD τ sig (HIx 1)) (W : Waits sig (HIx 1)) (hO : ∀ g, O g none = 0)
    {kk : Unit → Prog (TpuEff nD τ sig (Elt F) Λ₀ (thr d L).2) PUnit} {Q : PUnit → sProp 𝕄} :
    iprop(levAts (K (F := F)).L (K (F := F)).lev ∗ BG m d L 0 n 16 0 ∗ owing d L O W)
      ⊢ iprop((iprop((bigSep Finset.univ (DG m d L 0 n)) ∗ semVal (thr d L, .dma (getS 0)) 0 ∗ owing d L O W) -∗ wp frame (wpE (defs₀ (F := F)) 𝒱₀ (thr d L) none) Set.univ (kk ()) Q)
      -∗ wp frame (wpE (defs₀ (F := F)) 𝒱₀ (thr d L) none) Set.univ (Scf.Loop.for k0_t4_loop k0_t4_ok ⟨⟩ (k0_t4_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t) >>= kk) Q) := by
  iintro ⟨#Hlv, HB, HO⟩ Hk
  iapply (Scf.wp_for_bind frame (wpE (defs₀ (F := F)) 𝒱₀ (thr d L) none) Set.univ k0_t4_loop.lb k0_t4_loop.ub k0_t4_loop.st k0_t4_ok ⟨⟩ _
    (waitI d L O W (DG m d L 0 n) (getS 0) NG) (fun k _ => trip4 m d L v2 t n O W hO k)) $$ [HB HO]
  · unfold waitI got
    rw [if_pos (by omega), Nat.zero_mul]
    isplitr; · iexact Hlv
    isplitl [HB]; · iexact HB
    iexact HO
  iintro %_ H
  rw [show Scf.trips k0_t4_loop.lb k0_t4_loop.ub k0_t4_loop.st = 16 from trips4]
  unfold waitI got
  rw [if_neg (by omega)]
  icases H with ⟨-, ⟨HX, Hz⟩, HO⟩
  iapply Hk
  isplitl [HX]; · iexact HX
  isplitl [Hz]; · iexact Hz
  iexact HO

theorem trip10  (n : ℕ) (O : CellTallies nD τ sig (HIx 1)) (W : Waits sig (HIx 1)) (hO : ∀ g, O g none = 0) (k : Fin k0_t10_loop.trips) :
    waitI d L O W (DG m d L 1 n) (getS 1) NG k.val () ⊢ wp frame (wpE (defs₀ (F := F)) 𝒱₀ (thr d L) none) Set.univ (k0_t10_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0  k ()) (waitI d L O W (DG m d L 1 n) (getS 1) NG (k.val + 1)) := by
  have hk : k.val < 16 := by have := k.isLt; have := trips10; omega
  have hmw : levAts (K (F := F)).L (K (F := F)).lev ⊢ MW (F := F) d L O := (K (F := F)).mayWaits_none (thr := thr d L) hO
  unfold k0_t10_body
  simp only [Prog.lift, Prog.bind_op, Prog.bind_ret, Prog.pure_eq_ret, Prog.bind_assoc]
  unfold waitI
  iintro ⟨#Hlv, HG, HO⟩
  iapply (wp_landOf d L (O := O) (W := W) (N := NG) rfl NG_pos k.val hk) $$ [HG HO]
  · isplitl [HG]; · iexact HG
    isplitl [HO]; · iexact HO
    iapply hmw; iexact Hlv
  iintro ⟨HG, HO⟩
  rw [wp_ret]; imodintro
  isplitr; · iexact Hlv
  isplitl [HG]; · iexact HG
  iexact HO
theorem loop10  (n : ℕ) (O : CellTallies nD τ sig (HIx 1)) (W : Waits sig (HIx 1)) (hO : ∀ g, O g none = 0)
    {kk : Unit → Prog (TpuEff nD τ sig (Elt F) Λ₀ (thr d L).2) PUnit} {Q : PUnit → sProp 𝕄} :
    iprop(levAts (K (F := F)).L (K (F := F)).lev ∗ BG m d L 1 n 16 0 ∗ owing d L O W)
      ⊢ iprop((iprop((bigSep Finset.univ (DG m d L 1 n)) ∗ semVal (thr d L, .dma (getS 1)) 0 ∗ owing d L O W) -∗ wp frame (wpE (defs₀ (F := F)) 𝒱₀ (thr d L) none) Set.univ (kk ()) Q)
      -∗ wp frame (wpE (defs₀ (F := F)) 𝒱₀ (thr d L) none) Set.univ (Scf.Loop.for k0_t10_loop k0_t10_ok ⟨⟩ (k0_t10_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 ) >>= kk) Q) := by
  iintro ⟨#Hlv, HB, HO⟩ Hk
  iapply (Scf.wp_for_bind frame (wpE (defs₀ (F := F)) 𝒱₀ (thr d L) none) Set.univ k0_t10_loop.lb k0_t10_loop.ub k0_t10_loop.st k0_t10_ok ⟨⟩ _
    (waitI d L O W (DG m d L 1 n) (getS 1) NG) (fun k _ => trip10 m d L  n O W hO k)) $$ [HB HO]
  · unfold waitI got
    rw [if_pos (by omega), Nat.zero_mul]
    isplitr; · iexact Hlv
    isplitl [HB]; · iexact HB
    iexact HO
  iintro %_ H
  rw [show Scf.trips k0_t10_loop.lb k0_t10_loop.ub k0_t10_loop.st = 16 from trips10]
  unfold waitI got
  rw [if_neg (by omega)]
  icases H with ⟨-, ⟨HX, Hz⟩, HO⟩
  iapply Hk
  isplitl [HX]; · iexact HX
  isplitl [Hz]; · iexact Hz
  iexact HO

theorem trip8 (v2 : BitVec 32) (t : Fin k0_t3_loop.trips) (h1 : k0_cond1 t = 1#1) (n : ℕ) (O : CellTallies nD τ sig (HIx 1)) (W : Waits sig (HIx 1)) (hO : ∀ g, O g none = 0) (k : Fin k0_t8_loop.trips) :
    waitI d L O W (DP m d L 0 n) (putS 0) NP k.val () ⊢ wp frame (wpE (defs₀ (F := F)) 𝒱₀ (thr d L) none) Set.univ (k0_t8_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t h1 k ()) (waitI d L O W (DP m d L 0 n) (putS 0) NP (k.val + 1)) := by
  have hk : k.val < 16 := by have := k.isLt; have := trips8; omega
  have hmw : levAts (K (F := F)).L (K (F := F)).lev ⊢ MW (F := F) d L O := (K (F := F)).mayWaits_none (thr := thr d L) hO
  unfold k0_t8_body
  simp only [Prog.lift, Prog.bind_op, Prog.bind_ret, Prog.pure_eq_ret, Prog.bind_assoc]
  unfold waitI
  iintro ⟨#Hlv, HG, HO⟩
  iapply (wp_landOf d L (O := O) (W := W) (N := NP) rfl NP_pos k.val hk) $$ [HG HO]
  · isplitl [HG]; · iexact HG
    isplitl [HO]; · iexact HO
    iapply hmw; iexact Hlv
  iintro ⟨HG, HO⟩
  rw [wp_ret]; imodintro
  isplitr; · iexact Hlv
  isplitl [HG]; · iexact HG
  iexact HO
theorem loop8 (v2 : BitVec 32) (t : Fin k0_t3_loop.trips) (h1 : k0_cond1 t = 1#1) (n : ℕ) (O : CellTallies nD τ sig (HIx 1)) (W : Waits sig (HIx 1)) (hO : ∀ g, O g none = 0)
    {kk : Unit → Prog (TpuEff nD τ sig (Elt F) Λ₀ (thr d L).2) PUnit} {Q : PUnit → sProp 𝕄} :
    iprop(levAts (K (F := F)).L (K (F := F)).lev ∗ BP m d L 0 n 16 0 ∗ owing d L O W)
      ⊢ iprop((iprop((bigSep Finset.univ (DP m d L 0 n)) ∗ semVal (thr d L, .dma (putS 0)) 0 ∗ owing d L O W) -∗ wp frame (wpE (defs₀ (F := F)) 𝒱₀ (thr d L) none) Set.univ (kk ()) Q)
      -∗ wp frame (wpE (defs₀ (F := F)) 𝒱₀ (thr d L) none) Set.univ (Scf.Loop.for k0_t8_loop (k0_t8_ok t h1) ⟨⟩ (k0_t8_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t h1) >>= kk) Q) := by
  iintro ⟨#Hlv, HB, HO⟩ Hk
  iapply (Scf.wp_for_bind frame (wpE (defs₀ (F := F)) 𝒱₀ (thr d L) none) Set.univ k0_t8_loop.lb k0_t8_loop.ub k0_t8_loop.st (k0_t8_ok t h1) ⟨⟩ _
    (waitI d L O W (DP m d L 0 n) (putS 0) NP) (fun k _ => trip8 m d L v2 t h1 n O W hO k)) $$ [HB HO]
  · unfold waitI got
    rw [if_pos (by omega), Nat.zero_mul]
    isplitr; · iexact Hlv
    isplitl [HB]; · iexact HB
    iexact HO
  iintro %_ H
  rw [show Scf.trips k0_t8_loop.lb k0_t8_loop.ub k0_t8_loop.st = 16 from trips8]
  unfold waitI got
  rw [if_neg (by omega)]
  icases H with ⟨-, ⟨HX, Hz⟩, HO⟩
  iapply Hk
  isplitl [HX]; · iexact HX
  isplitl [Hz]; · iexact Hz
  iexact HO

theorem trip14 (t : Fin k0_t3_loop.trips) (h2 : k0_cond2 t = 1#1) (n : ℕ) (O : CellTallies nD τ sig (HIx 1)) (W : Waits sig (HIx 1)) (hO : ∀ g, O g none = 0) (k : Fin k0_t14_loop.trips) :
    waitI d L O W (DP m d L 1 n) (putS 1) NP k.val () ⊢ wp frame (wpE (defs₀ (F := F)) 𝒱₀ (thr d L) none) Set.univ (k0_t14_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 t h2 k ()) (waitI d L O W (DP m d L 1 n) (putS 1) NP (k.val + 1)) := by
  have hk : k.val < 16 := by have := k.isLt; have := trips14; omega
  have hmw : levAts (K (F := F)).L (K (F := F)).lev ⊢ MW (F := F) d L O := (K (F := F)).mayWaits_none (thr := thr d L) hO
  unfold k0_t14_body
  simp only [Prog.lift, Prog.bind_op, Prog.bind_ret, Prog.pure_eq_ret, Prog.bind_assoc]
  unfold waitI
  iintro ⟨#Hlv, HG, HO⟩
  iapply (wp_landOf d L (O := O) (W := W) (N := NP) rfl NP_pos k.val hk) $$ [HG HO]
  · isplitl [HG]; · iexact HG
    isplitl [HO]; · iexact HO
    iapply hmw; iexact Hlv
  iintro ⟨HG, HO⟩
  rw [wp_ret]; imodintro
  isplitr; · iexact Hlv
  isplitl [HG]; · iexact HG
  iexact HO
theorem loop14 (t : Fin k0_t3_loop.trips) (h2 : k0_cond2 t = 1#1) (n : ℕ) (O : CellTallies nD τ sig (HIx 1)) (W : Waits sig (HIx 1)) (hO : ∀ g, O g none = 0)
    {kk : Unit → Prog (TpuEff nD τ sig (Elt F) Λ₀ (thr d L).2) PUnit} {Q : PUnit → sProp 𝕄} :
    iprop(levAts (K (F := F)).L (K (F := F)).lev ∗ BP m d L 1 n 16 0 ∗ owing d L O W)
      ⊢ iprop((iprop((bigSep Finset.univ (DP m d L 1 n)) ∗ semVal (thr d L, .dma (putS 1)) 0 ∗ owing d L O W) -∗ wp frame (wpE (defs₀ (F := F)) 𝒱₀ (thr d L) none) Set.univ (kk ()) Q)
      -∗ wp frame (wpE (defs₀ (F := F)) 𝒱₀ (thr d L) none) Set.univ (Scf.Loop.for k0_t14_loop (k0_t14_ok t h2) ⟨⟩ (k0_t14_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 t h2) >>= kk) Q) := by
  iintro ⟨#Hlv, HB, HO⟩ Hk
  iapply (Scf.wp_for_bind frame (wpE (defs₀ (F := F)) 𝒱₀ (thr d L) none) Set.univ k0_t14_loop.lb k0_t14_loop.ub k0_t14_loop.st (k0_t14_ok t h2) ⟨⟩ _
    (waitI d L O W (DP m d L 1 n) (putS 1) NP) (fun k _ => trip14 m d L t h2 n O W hO k)) $$ [HB HO]
  · unfold waitI got
    rw [if_pos (by omega), Nat.zero_mul]
    isplitr; · iexact Hlv
    isplitl [HB]; · iexact HB
    iexact HO
  iintro %_ H
  rw [show Scf.trips k0_t14_loop.lb k0_t14_loop.ub k0_t14_loop.st = 16 from trips14]
  unfold waitI got
  rw [if_neg (by omega)]
  icases H with ⟨-, ⟨HX, Hz⟩, HO⟩
  iapply Hk
  isplitl [HX]; · iexact HX
  isplitl [Hz]; · iexact Hz
  iexact HO

theorem trip16  (n : ℕ) (O : CellTallies nD τ sig (HIx 1)) (W : Waits sig (HIx 1)) (hO : ∀ g, O g none = 0) (k : Fin k0_t16_loop.trips) :
    waitI d L O W (DP m d L 0 n) (putS 0) NP k.val () ⊢ wp frame (wpE (defs₀ (F := F)) 𝒱₀ (thr d L) none) Set.univ (k0_t16_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0  k ()) (waitI d L O W (DP m d L 0 n) (putS 0) NP (k.val + 1)) := by
  have hk : k.val < 16 := by have := k.isLt; have := trips16; omega
  have hmw : levAts (K (F := F)).L (K (F := F)).lev ⊢ MW (F := F) d L O := (K (F := F)).mayWaits_none (thr := thr d L) hO
  unfold k0_t16_body
  simp only [Prog.lift, Prog.bind_op, Prog.bind_ret, Prog.pure_eq_ret, Prog.bind_assoc]
  unfold waitI
  iintro ⟨#Hlv, HG, HO⟩
  iapply (wp_landOf d L (O := O) (W := W) (N := NP) rfl NP_pos k.val hk) $$ [HG HO]
  · isplitl [HG]; · iexact HG
    isplitl [HO]; · iexact HO
    iapply hmw; iexact Hlv
  iintro ⟨HG, HO⟩
  rw [wp_ret]; imodintro
  isplitr; · iexact Hlv
  isplitl [HG]; · iexact HG
  iexact HO
theorem loop16  (n : ℕ) (O : CellTallies nD τ sig (HIx 1)) (W : Waits sig (HIx 1)) (hO : ∀ g, O g none = 0)
    {kk : Unit → Prog (TpuEff nD τ sig (Elt F) Λ₀ (thr d L).2) PUnit} {Q : PUnit → sProp 𝕄} :
    iprop(levAts (K (F := F)).L (K (F := F)).lev ∗ BP m d L 0 n 16 0 ∗ owing d L O W)
      ⊢ iprop((iprop((bigSep Finset.univ (DP m d L 0 n)) ∗ semVal (thr d L, .dma (putS 0)) 0 ∗ owing d L O W) -∗ wp frame (wpE (defs₀ (F := F)) 𝒱₀ (thr d L) none) Set.univ (kk ()) Q)
      -∗ wp frame (wpE (defs₀ (F := F)) 𝒱₀ (thr d L) none) Set.univ (Scf.Loop.for k0_t16_loop k0_t16_ok ⟨⟩ (k0_t16_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 ) >>= kk) Q) := by
  iintro ⟨#Hlv, HB, HO⟩ Hk
  iapply (Scf.wp_for_bind frame (wpE (defs₀ (F := F)) 𝒱₀ (thr d L) none) Set.univ k0_t16_loop.lb k0_t16_loop.ub k0_t16_loop.st k0_t16_ok ⟨⟩ _
    (waitI d L O W (DP m d L 0 n) (putS 0) NP) (fun k _ => trip16 m d L  n O W hO k)) $$ [HB HO]
  · unfold waitI got
    rw [if_pos (by omega), Nat.zero_mul]
    isplitr; · iexact Hlv
    isplitl [HB]; · iexact HB
    iexact HO
  iintro %_ H
  rw [show Scf.trips k0_t16_loop.lb k0_t16_loop.ub k0_t16_loop.st = 16 from trips16]
  unfold waitI got
  rw [if_neg (by omega)]
  icases H with ⟨-, ⟨HX, Hz⟩, HO⟩
  iapply Hk
  isplitl [HX]; · iexact HX
  isplitl [Hz]; · iexact Hz
  iexact HO

theorem trip17  (n : ℕ) (O : CellTallies nD τ sig (HIx 1)) (W : Waits sig (HIx 1)) (hO : ∀ g, O g none = 0) (k : Fin k0_t17_loop.trips) :
    waitI d L O W (DP m d L 1 n) (putS 1) NP k.val () ⊢ wp frame (wpE (defs₀ (F := F)) 𝒱₀ (thr d L) none) Set.univ (k0_t17_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0  k ()) (waitI d L O W (DP m d L 1 n) (putS 1) NP (k.val + 1)) := by
  have hk : k.val < 16 := by have := k.isLt; have := trips17; omega
  have hmw : levAts (K (F := F)).L (K (F := F)).lev ⊢ MW (F := F) d L O := (K (F := F)).mayWaits_none (thr := thr d L) hO
  unfold k0_t17_body
  simp only [Prog.lift, Prog.bind_op, Prog.bind_ret, Prog.pure_eq_ret, Prog.bind_assoc]
  unfold waitI
  iintro ⟨#Hlv, HG, HO⟩
  iapply (wp_landOf d L (O := O) (W := W) (N := NP) rfl NP_pos k.val hk) $$ [HG HO]
  · isplitl [HG]; · iexact HG
    isplitl [HO]; · iexact HO
    iapply hmw; iexact Hlv
  iintro ⟨HG, HO⟩
  rw [wp_ret]; imodintro
  isplitr; · iexact Hlv
  isplitl [HG]; · iexact HG
  iexact HO
theorem loop17  (n : ℕ) (O : CellTallies nD τ sig (HIx 1)) (W : Waits sig (HIx 1)) (hO : ∀ g, O g none = 0)
    {kk : Unit → Prog (TpuEff nD τ sig (Elt F) Λ₀ (thr d L).2) PUnit} {Q : PUnit → sProp 𝕄} :
    iprop(levAts (K (F := F)).L (K (F := F)).lev ∗ BP m d L 1 n 16 0 ∗ owing d L O W)
      ⊢ iprop((iprop((bigSep Finset.univ (DP m d L 1 n)) ∗ semVal (thr d L, .dma (putS 1)) 0 ∗ owing d L O W) -∗ wp frame (wpE (defs₀ (F := F)) 𝒱₀ (thr d L) none) Set.univ (kk ()) Q)
      -∗ wp frame (wpE (defs₀ (F := F)) 𝒱₀ (thr d L) none) Set.univ (Scf.Loop.for k0_t17_loop k0_t17_ok ⟨⟩ (k0_t17_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 ) >>= kk) Q) := by
  iintro ⟨#Hlv, HB, HO⟩ Hk
  iapply (Scf.wp_for_bind frame (wpE (defs₀ (F := F)) 𝒱₀ (thr d L) none) Set.univ k0_t17_loop.lb k0_t17_loop.ub k0_t17_loop.st k0_t17_ok ⟨⟩ _
    (waitI d L O W (DP m d L 1 n) (putS 1) NP) (fun k _ => trip17 m d L  n O W hO k)) $$ [HB HO]
  · unfold waitI got
    rw [if_pos (by omega), Nat.zero_mul]
    isplitr; · iexact Hlv
    isplitl [HB]; · iexact HB
    iexact HO
  iintro %_ H
  rw [show Scf.trips k0_t17_loop.lb k0_t17_loop.ub k0_t17_loop.st = 16 from trips17]
  unfold waitI got
  rw [if_neg (by omega)]
  icases H with ⟨-, ⟨HX, Hz⟩, HO⟩
  iapply Hk
  isplitl [HX]; · iexact HX
  isplitl [Hz]; · iexact Hz
  iexact HO

end Loops
end Cert.Proof.AddTable
-- ==== Proof.AddSum.lean ====
/-
  `add_sampled` on the SparseCores: the addition. A row of the slot, sixteen columns at a time, the gradient's row
  added to the table's; then the sixteen rows of the group.
-/
module

public import proofs.«01_k».proof.Proof.AddLoops

@[expose] public section

noncomputable section

namespace Cert.Proof.AddTable

open Cert.AddKernel Cert.AddKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ)

variable [FloatOps F]

section Adds

variable (d : Dev nD) (L : grid0.Coords)

theorem inner_set {off : Fin 3 → ℕ} {h : ∀ a, off a + S1x1x16.size a ≤ S2x16x1536.size a} {r k u : ℕ} (e : off = ![r, k, 16 * u]) :
    ∀ i : S2x16x1536.Idx, i ∈ (Rect.unit (s := S2x16x1536) off S1x1x16.size h).set ↔ (i 0).val = r ∧ (i 1).val = k ∧ 16 * u ≤ (i 2).val ∧ (i 2).val < 16 * u + 16 := by
  subst e
  intro i
  rw [Rect.mem_set_unit]
  constructor
  · intro hh
    have h0 := hh 0
    have h1 := hh 1
    have h2 := hh 2
    simp at h0 h1 h2
    omega
  · intro hh a
    match a with
    | 0 => simp; omega
    | 1 => simp; omega
    | 2 => simp; omega

theorem set_g (R : Rect S2x16x1536) : (gV.access R).set = (R.set : Finset S2x16x1536.Idx) := View.set_slice_whole (cc0_scratch2 : Ref sig .scVector) R
theorem set_d (R : Rect S2x16x1536) : (dV.access R).set = (R.set : Finset S2x16x1536.Idx) := View.set_slice_whole (cc0_scratch1 : Ref sig .scVector) R

/-- A load from the rows' slots, from the gradient's slots; a store to the rows' slots. -/
theorem wp_ldG {R : Rect S2x16x1536} {hl : gV.view.LoadsAt R} {k : (R.shape.Idx → Elt F .f32) → Prog (TpuEff nD τ sig (Elt F) Λ₀ (thr d L).2) PUnit}
    {S : Finset (Idx (gLoc d L))} {f : Buf (Elt F) (gLoc d L)} {Q : PUnit → sProp 𝕄} (hS : (gV.access R).set ⊆ S) :
    (gLoc d L ↦[S]{fullShare} f)
      ⊢ iprop(((gLoc d L ↦[S]{fullShare} f) -∗ wp frame (wpE (defs₀ (F := F)) 𝒱₀ (thr d L) none) Set.univ (k ((gV.access R).read (Elt F) f)) Q)
      -∗ wp frame (wpE (defs₀ (F := F)) 𝒱₀ (thr d L) none) Set.univ (.op (.load gV R hl) k) Q) :=
  wp_load_rect 𝒱₀ (thr d L) none Set.univ (m := gV) (r := R) (S := S) (f := f) hS
theorem wp_ldD {R : Rect S2x16x1536} {hl : dV.view.LoadsAt R} {k : (R.shape.Idx → Elt F .f32) → Prog (TpuEff nD τ sig (Elt F) Λ₀ (thr d L).2) PUnit}
    {S : Finset (Idx (dLoc d L))} {f : Buf (Elt F) (dLoc d L)} {Q : PUnit → sProp 𝕄} (hS : (dV.access R).set ⊆ S) :
    (dLoc d L ↦[S]{fullShare} f)
      ⊢ iprop(((dLoc d L ↦[S]{fullShare} f) -∗ wp frame (wpE (defs₀ (F := F)) 𝒱₀ (thr d L) none) Set.univ (k ((dV.access R).read (Elt F) f)) Q)
      -∗ wp frame (wpE (defs₀ (F := F)) 𝒱₀ (thr d L) none) Set.univ (.op (.load dV R hl) k) Q) :=
  wp_load_rect 𝒱₀ (thr d L) none Set.univ (m := dV) (r := R) (S := S) (f := f) hS
theorem wp_stG {R : Rect S2x16x1536} {w : R.shape.Idx → Elt F .f32} {hx : (gV.access R).Stores Finset.univ} {hm}
    {k : PUnit → Prog (TpuEff nD τ sig (Elt F) Λ₀ (thr d L).2) PUnit}
    {S : Finset (Idx (gLoc d L))} {f : Buf (Elt F) (gLoc d L)} {Q : PUnit → sProp 𝕄} (hS : (gV.access R).set ⊆ S) :
    (gLoc d L ↦[S]{fullShare} f)
      ⊢ iprop(((gLoc d L ↦[S]{fullShare} ((gV.access R).write (Elt F) f w Finset.univ)) -∗ wp frame (wpE (defs₀ (F := F)) 𝒱₀ (thr d L) none) Set.univ (k ⟨⟩) Q)
      -∗ wp frame (wpE (defs₀ (F := F)) 𝒱₀ (thr d L) none) Set.univ (.op (.store gV R w Finset.univ hx hm) k) Q) :=
  wp_store 𝒱₀ (thr d L) none Set.univ (m := gV) (r := R) (Mk := Finset.univ) (S := S) (f := f) hS

/-- Sixteen columns more of a row. -/
theorem col_step {off : Fin 3 → ℕ} {h : ∀ a, off a + S1x1x16.size a ≤ S2x16x1536.size a} (r : Fin 2) (n k u : ℕ) (hk : k < 16) (hn : n < 256) (e : off = ![r.val, k, 16 * u])
    {f : Buf (Elt F) (gLoc d L)} {g : Buf (Elt F) (dLoc d L)} (hf : RowIs m d L r.val k (16 * n + k) u f) (hg : DIs m d L r.val n g)
    (w : S1x1x16.Idx → Elt F .f32)
    (hw : ∀ x, w x = (FloatOps.addf (φ := .f32) ((gV.access (Rect.unit (s := S2x16x1536) off S1x1x16.size h)).read (Elt F) f x : F .f32)
      ((dV.access (Rect.unit (s := S2x16x1536) off S1x1x16.size h)).read (Elt F) g x : F .f32) : F .f32)) :
    RowIs m d L r.val k (16 * n + k) (u + 1) ((gV.access (Rect.unit (s := S2x16x1536) off S1x1x16.size h)).write (Elt F) f w Finset.univ) := by
  intro i x h0 h1 hx0 hx1
  have hfi := hf i x h0 h1 hx0 hx1
  by_cases hc : 16 * u ≤ (i 2).val ∧ (i 2).val < 16 * u + 16
  · have hi : i ∈ (gV.access (Rect.unit (s := S2x16x1536) off S1x1x16.size h)).set := by
      rw [set_g]
      exact (inner_set e i).mpr ⟨h0, h1, hc⟩
    obtain ⟨y, -, hy⟩ := Finset.mem_map.mp hi
    have h1536 : (i 2).val < 1536 := (i 2).isLt
    rw [← hy, View.write_emb_of_mem _ _ (Finset.mem_univ y)]
    have e1 : (gV.access (Rect.unit (s := S2x16x1536) off S1x1x16.size h)).read (Elt F) f y = tb m d x := by
      show f ((gV.access (Rect.unit (s := S2x16x1536) off S1x1x16.size h)).emb y) = _
      rw [hy, hfi, if_neg (by omega)]
    have e2 : (dV.access (Rect.unit (s := S2x16x1536) off S1x1x16.size h)).read (Elt F) g y
        = m (wLoc d) (ix2 (n0 := 4096) (n1 := 1536) ⟨(16 * n + k) % 4096, by omega⟩ (x 1)) := by
      show g ((gV.access (Rect.unit (s := S2x16x1536) off S1x1x16.size h)).emb y) = _
      rw [hy]
      exact hg i _ h0 (by show (16 * n + k) % 4096 = _; rw [h1]; omega) hx1
    rw [hy, if_pos (by omega)]
    refine (hw y).trans ?_
    rw [e1, e2]
    rfl
  · rw [View.write_of_not_mem]
    · rw [hfi]
      by_cases hlt : (i 2).val < 16 * u
      · rw [if_pos hlt, if_pos (by omega)]
      · rw [if_neg hlt, if_neg (by omega)]
    · rw [View.setOn_univ, set_g]
      exact fun hh => hc ((inner_set e i).mp hh).2.2

set_option maxHeartbeats 2000000 in
theorem trip6 (v2 : BitVec 32) (t : Fin k0_t3_loop.trips) (n : ℕ) (hn : n < 256) (k : Fin k0_t5_loop.trips) (u : Fin k0_t6_loop.trips) :
    colI m d L 0 n k.val u.val () ⊢ wp frame (wpE (defs₀ (F := F)) 𝒱₀ (thr d L) none) Set.univ (k0_t6_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t k u ()) (colI m d L 0 n k.val (u.val + 1)) := by
  have hk : k.val < 16 := by have := k.isLt; have := trips5; omega
  unfold k0_t6_body
  simp only [Prog.lift, Prog.bind_op, Prog.bind_ret, Prog.pure_eq_ret, Prog.bind_assoc]
  unfold colI
  have hg : (gV.access (Rect.unit (s := S2x16x1536) (k0_off10 k u) S1x1x16.size (k0_off10_inb k u))).set ⊆ gS (0 : Fin 2).val k.val := by
    rw [set_g]
    exact fun i hi => mem_gS.mpr ⟨((inner_set (k0_off10_eq k u) i).mp hi).1, ((inner_set (k0_off10_eq k u) i).mp hi).2.1⟩
  have hd : (dV.access (Rect.unit (s := S2x16x1536) (k0_off10 k u) S1x1x16.size (k0_off10_inb k u))).set ⊆ bS (0 : Fin 2).val := by
    rw [set_d]
    exact fun i hi => mem_bS.mpr ((inner_set (k0_off10_eq k u) i).mp hi).1
  iintro ⟨⟨%g, %hgr, Hd⟩, ⟨%f, %hf, Hg⟩⟩
  iapply (wp_ldG d L hg) $$ Hg
  iintro Hg
  iapply (wp_ldD d L hd) $$ Hd
  iintro Hd
  iapply (wp_ldG d L hg) $$ Hg
  iintro Hg
  iapply (wp_stG d L hg) $$ Hg
  iintro Hg
  rw [wp_ret]; imodintro
  isplitl [Hd]
  · iexists g; isplitr; · ipureintro; exact hgr
    iexact Hd
  · iexists _; isplitr; swap; · iexact Hg
    ipureintro
    refine col_step m d L 0 n k.val u.val hk hn (k0_off10_eq k u) hf hgr _ fun x => ?_
    unfold k0_pay5
    show FloatOps.addf _ _ = _
    unfold shapeCast
    rw [Shape.reshapeEquiv_reshapeEquiv, Shape.reshapeEquiv_self]
theorem trip5 (v2 : BitVec 32) (t : Fin k0_t3_loop.trips) (n : ℕ) (hn : n < 256) (k : Fin k0_t5_loop.trips) :
    addI m d L 0 n k.val () ⊢ wp frame (wpE (defs₀ (F := F)) 𝒱₀ (thr d L) none) Set.univ (k0_t5_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t k ()) (addI m d L 0 n (k.val + 1)) := by
  have hk : k.val < 16 := by have := k.isLt; have := trips5; omega
  unfold k0_t5_body addI
  rw [Transfers.bigSep_pending_step _ k.val hk, Transfers.issued_succ hk, SparseCore.bigSep_insert' (Transfers.not_mem_issued hk)]
  iintro ⟨Hd, Hi, Hr, Hp⟩
  iapply (Scf.wp_for_bind frame (wpE (defs₀ (F := F)) 𝒱₀ (thr d L) none) Set.univ k0_t6_loop.lb k0_t6_loop.ub k0_t6_loop.st k0_t6_ok ⟨⟩ _
    (colI m d L 0 n k.val) (fun u _ => trip6 m d L v2 t n hn k u)) $$ [Hd Hr]
  · unfold colI
    isplitl [Hd]; · iexact Hd
    iexact Hr
  iintro %_ H
  rw [show Scf.trips k0_t6_loop.lb k0_t6_loop.ub k0_t6_loop.st = 96 from trips6]
  unfold colI
  icases H with ⟨Hd, Hr⟩
  rw [Prog.pure_eq_ret, wp_ret]; imodintro
  isplitl [Hd]; · iexact Hd
  isplitr [Hp]; swap; · iexact Hp
  isplitl [Hr]; · iexact Hr
  iexact Hi
theorem loop5 (v2 : BitVec 32) (t : Fin k0_t3_loop.trips) (n : ℕ) (hn : n < 256)
    {kk : Unit → Prog (TpuEff nD τ sig (Elt F) Λ₀ (thr d L).2) PUnit} {Q : PUnit → sProp 𝕄} :
    iprop(dHas m d L 0 n ∗ bigSep Finset.univ fun k : Fin 16 => rowAt m d L 0 k.val (16 * n + k.val) 0)
      ⊢ iprop((iprop(dHas m d L 0 n ∗ bigSep Finset.univ fun k : Fin 16 => rowAt m d L 0 k.val (16 * n + k.val) 96) -∗ wp frame (wpE (defs₀ (F := F)) 𝒱₀ (thr d L) none) Set.univ (kk ()) Q)
      -∗ wp frame (wpE (defs₀ (F := F)) 𝒱₀ (thr d L) none) Set.univ (Scf.Loop.for k0_t5_loop k0_t5_ok ⟨⟩ (k0_t5_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 0#32 1#32 t) >>= kk) Q) := by
  iintro ⟨Hd, Hr⟩ Hk
  iapply (Scf.wp_for_bind frame (wpE (defs₀ (F := F)) 𝒱₀ (thr d L) none) Set.univ k0_t5_loop.lb k0_t5_loop.ub k0_t5_loop.st k0_t5_ok ⟨⟩ _
    (addI m d L 0 n) (fun k _ => trip5 m d L v2 t n hn k)) $$ [Hd Hr]
  · unfold addI
    rw [Transfers.issued_zero, bigSep_empty, Transfers.pending_zero]
    isplitl [Hd]; · iexact Hd
    isplitr; · iempintro
    iexact Hr
  iintro %_ H
  rw [show Scf.trips k0_t5_loop.lb k0_t5_loop.ub k0_t5_loop.st = 16 from trips5]
  unfold addI
  rw [Transfers.issued_all rfl]
  icases H with ⟨Hd, Hi, -⟩
  iapply Hk
  isplitl [Hd]; · iexact Hd
  iexact Hi

set_option maxHeartbeats 2000000 in
theorem trip12  (n : ℕ) (hn : n < 256) (k : Fin k0_t11_loop.trips) (u : Fin k0_t12_loop.trips) :
    colI m d L 1 n k.val u.val () ⊢ wp frame (wpE (defs₀ (F := F)) 𝒱₀ (thr d L) none) Set.univ (k0_t12_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0  k u ()) (colI m d L 1 n k.val (u.val + 1)) := by
  have hk : k.val < 16 := by have := k.isLt; have := trips11; omega
  unfold k0_t12_body
  simp only [Prog.lift, Prog.bind_op, Prog.bind_ret, Prog.pure_eq_ret, Prog.bind_assoc]
  unfold colI
  have hg : (gV.access (Rect.unit (s := S2x16x1536) (k0_off18 k u) S1x1x16.size (k0_off18_inb k u))).set ⊆ gS (1 : Fin 2).val k.val := by
    rw [set_g]
    exact fun i hi => mem_gS.mpr ⟨((inner_set (k0_off18_eq k u) i).mp hi).1, ((inner_set (k0_off18_eq k u) i).mp hi).2.1⟩
  have hd : (dV.access (Rect.unit (s := S2x16x1536) (k0_off18 k u) S1x1x16.size (k0_off18_inb k u))).set ⊆ bS (1 : Fin 2).val := by
    rw [set_d]
    exact fun i hi => mem_bS.mpr ((inner_set (k0_off18_eq k u) i).mp hi).1
  iintro ⟨⟨%g, %hgr, Hd⟩, ⟨%f, %hf, Hg⟩⟩
  iapply (wp_ldG d L hg) $$ Hg
  iintro Hg
  iapply (wp_ldD d L hd) $$ Hd
  iintro Hd
  iapply (wp_ldG d L hg) $$ Hg
  iintro Hg
  iapply (wp_stG d L hg) $$ Hg
  iintro Hg
  rw [wp_ret]; imodintro
  isplitl [Hd]
  · iexists g; isplitr; · ipureintro; exact hgr
    iexact Hd
  · iexists _; isplitr; swap; · iexact Hg
    ipureintro
    refine col_step m d L 1 n k.val u.val hk hn (k0_off18_eq k u) hf hgr _ fun x => ?_
    unfold k0_pay2
    show FloatOps.addf _ _ = _
    unfold shapeCast
    rw [Shape.reshapeEquiv_reshapeEquiv, Shape.reshapeEquiv_self]
theorem trip11  (n : ℕ) (hn : n < 256) (k : Fin k0_t11_loop.trips) :
    addI m d L 1 n k.val () ⊢ wp frame (wpE (defs₀ (F := F)) 𝒱₀ (thr d L) none) Set.univ (k0_t11_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0  k ()) (addI m d L 1 n (k.val + 1)) := by
  have hk : k.val < 16 := by have := k.isLt; have := trips11; omega
  unfold k0_t11_body addI
  rw [Transfers.bigSep_pending_step _ k.val hk, Transfers.issued_succ hk, SparseCore.bigSep_insert' (Transfers.not_mem_issued hk)]
  iintro ⟨Hd, Hi, Hr, Hp⟩
  iapply (Scf.wp_for_bind frame (wpE (defs₀ (F := F)) 𝒱₀ (thr d L) none) Set.univ k0_t12_loop.lb k0_t12_loop.ub k0_t12_loop.st k0_t12_ok ⟨⟩ _
    (colI m d L 1 n k.val) (fun u _ => trip12 m d L  n hn k u)) $$ [Hd Hr]
  · unfold colI
    isplitl [Hd]; · iexact Hd
    iexact Hr
  iintro %_ H
  rw [show Scf.trips k0_t12_loop.lb k0_t12_loop.ub k0_t12_loop.st = 96 from trips12]
  unfold colI
  icases H with ⟨Hd, Hr⟩
  rw [Prog.pure_eq_ret, wp_ret]; imodintro
  isplitl [Hd]; · iexact Hd
  isplitr [Hp]; swap; · iexact Hp
  isplitl [Hr]; · iexact Hr
  iexact Hi
theorem loop11  (n : ℕ) (hn : n < 256)
    {kk : Unit → Prog (TpuEff nD τ sig (Elt F) Λ₀ (thr d L).2) PUnit} {Q : PUnit → sProp 𝕄} :
    iprop(dHas m d L 1 n ∗ bigSep Finset.univ fun k : Fin 16 => rowAt m d L 1 k.val (16 * n + k.val) 0)
      ⊢ iprop((iprop(dHas m d L 1 n ∗ bigSep Finset.univ fun k : Fin 16 => rowAt m d L 1 k.val (16 * n + k.val) 96) -∗ wp frame (wpE (defs₀ (F := F)) 𝒱₀ (thr d L) none) Set.univ (kk ()) Q)
      -∗ wp frame (wpE (defs₀ (F := F)) 𝒱₀ (thr d L) none) Set.univ (Scf.Loop.for k0_t11_loop k0_t11_ok ⟨⟩ (k0_t11_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 ) >>= kk) Q) := by
  iintro ⟨Hd, Hr⟩ Hk
  iapply (Scf.wp_for_bind frame (wpE (defs₀ (F := F)) 𝒱₀ (thr d L) none) Set.univ k0_t11_loop.lb k0_t11_loop.ub k0_t11_loop.st k0_t11_ok ⟨⟩ _
    (addI m d L 1 n) (fun k _ => trip11 m d L  n hn k)) $$ [Hd Hr]
  · unfold addI
    rw [Transfers.issued_zero, bigSep_empty, Transfers.pending_zero]
    isplitl [Hd]; · iexact Hd
    isplitr; · iempintro
    iexact Hr
  iintro %_ H
  rw [show Scf.trips k0_t11_loop.lb k0_t11_loop.ub k0_t11_loop.st = 16 from trips11]
  unfold addI
  rw [Transfers.issued_all rfl]
  icases H with ⟨Hd, Hi, -⟩
  iapply Hk
  isplitl [Hd]; · iexact Hd
  iexact Hi

end Adds
end Cert.Proof.AddTable
-- ==== Proof.AddTile.lean ====
/-
  `add_sampled` on the SparseCores: one trip of the task's loop. Trip `t` takes the groups `2 t` and `2 t + 1` of the
  tile's eight, one a slot: the gradient's rows and the table's have landed, their sum goes out, and the gets of the
  slot's next group start once the puts have landed. Stated here: what holds before trip `t`, and that a trip leads
  from one to the next.
-/
module

public import proofs.«01_k».proof.Proof.AddSum

@[expose] public section

noncomputable section

namespace Cert.Proof.AddTable

open Cert.AddKernel Cert.AddKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ)

/-! ## The guards, the offsets and the lanes -/

theorem cond1_iff (t : Fin k0_t3_loop.trips) : k0_cond1 t = 1#1 ↔ t.val < 3 := by revert t; decide +kernel
theorem cond2_iff (t : Fin k0_t3_loop.trips) : k0_cond2 t = 1#1 ↔ t.val < 3 := by revert t; decide +kernel

/-- The first of the subcore's groups. -/
def base (L : grid0.Coords) : ℕ := 16 * (L 1).val + 8 * (L 0).val
theorem base_eq (L : grid0.Coords) : base L = 16 * (L 1).val + 8 * (L 0).val := rfl
theorem base_le : ∀ L : grid0.Coords, base L + 8 ≤ 256 := by decide +kernel

theorem off2_eq : ∀ (L : grid0.Coords) (r : Fin 2), k0_off2 L (BitVec.ofNat 32 (16 * r.val)) = ![16 * (base L + r.val), 0] := by decide +kernel
theorem off14_eq (L : grid0.Coords) (t : Fin k0_t3_loop.trips) : k0_off14 L t = ![16 * (base L + (2 * t.val + 2)), 0] := by
  rw [k0_off14_eq]; unfold base; congr 1; omega
theorem off22_eq (L : grid0.Coords) (t : Fin k0_t3_loop.trips) : k0_off22 L t = ![16 * (base L + (2 * t.val + 3)), 0] := by
  rw [k0_off22_eq]; unfold base; congr 1; omega
theorem off1_eq (L : grid0.Coords) : k0_off1 L = ![128 * (2 * (L 1).val + (L 0).val)] := by
  rw [k0_off1_eq]; congr 1; omega
attribute [irreducible] base

theorem lane7 (t : Fin k0_t3_loop.trips) : ∀ k : Fin k0_t7_loop.trips,
    (Scalar.addi (Scalar.muli (Scalar.addi (Scalar.addi 0#32 (Scalar.muli (Scf.iv 0#32 1#32 t.val) 2#32)) 0#32) 16#32) (Scalar.addi 0#32 (Scalar.muli (Scf.iv 0#32 1#32 k.val) 1#32))).toNat = 16 * (2 * t.val) + k.val := by revert t; decide +kernel
theorem lane9 (t : Fin k0_t3_loop.trips) : ∀ k : Fin k0_t9_loop.trips,
    (Scalar.addi (Scalar.muli (Scalar.addi (Scalar.addi (Scalar.addi 0#32 (Scalar.muli (Scf.iv 0#32 1#32 t.val) 2#32)) 0#32) 2#32) 16#32) (Scalar.addi 0#32 (Scalar.muli (Scf.iv 0#32 1#32 k.val) 1#32))).toNat = 16 * ((2 * t.val + 2)) + k.val := by revert t; decide +kernel
theorem lane13 (t : Fin k0_t3_loop.trips) : ∀ k : Fin k0_t13_loop.trips,
    (Scalar.addi (Scalar.muli (Scalar.addi (Scalar.addi 0#32 (Scalar.muli (Scf.iv 0#32 1#32 t.val) 2#32)) 1#32) 16#32) (Scalar.addi 0#32 (Scalar.muli (Scf.iv 0#32 1#32 k.val) 1#32))).toNat = 16 * ((2 * t.val + 1)) + k.val := by revert t; decide +kernel
theorem lane15 (t : Fin k0_t3_loop.trips) : ∀ k : Fin k0_t15_loop.trips,
    (Scalar.addi (Scalar.muli (Scalar.addi (Scalar.addi (Scalar.addi 0#32 (Scalar.muli (Scf.iv 0#32 1#32 t.val) 2#32)) 1#32) 2#32) 16#32) (Scalar.addi 0#32 (Scalar.muli (Scf.iv 0#32 1#32 k.val) 1#32))).toNat = 16 * ((2 * t.val + 3)) + k.val := by revert t; decide +kernel

/-! ## Families of groups -/

/-- The groups of the gradient not in flight before trip `t`; those of the table no step has touched; those done. -/
def sW (t : ℕ) : Finset ℕ := (Finset.range 8).filter fun j => j ≠ 2 * t ∧ j ≠ 2 * t + 1
def sX (t : ℕ) : Finset ℕ := (Finset.range 8).filter fun j => j < 2 * t ∨ 2 * t + 4 ≤ j
def sT (t : ℕ) : Finset ℕ := (Finset.range 8).filter fun j => 2 * t + 2 ≤ j
def sD (t : ℕ) : Finset ℕ := (Finset.range 8).filter fun j => j < 2 * t ∧ j < 6

/-- A resource held only under a condition. -/
def opt (c : Prop) [Decidable c] (X : sProp 𝕄) : sProp 𝕄 := if c then X else iprop(emp)
theorem opt_pos {c : Prop} [Decidable c] {X : sProp 𝕄} (h : c) : opt c X = X := if_pos h
theorem opt_neg {c : Prop} [Decidable c] {X : sProp 𝕄} (h : ¬ c) : opt c X = iprop(emp) := if_neg h
theorem emp_sep2 (X : sProp 𝕄) : iprop(emp ∗ X) = X := equiv_iff.mp Idealize.SL.BI.emp_sep

theorem sW_open (t : ℕ) (ht : t < 4) (Φ : ℕ → sProp 𝕄) :
    bigSep (sW t) Φ = iprop(opt (t < 3) (Φ (2 * t + 2)) ∗ opt (t < 3) (Φ (2 * t + 3)) ∗ bigSep (sX t) Φ) := by
  by_cases h : t < 3
  · rw [show sW t = insert (2 * t + 2) (insert (2 * t + 3) (sX t)) by
        ext j; simp only [sW, sX, Finset.mem_insert, Finset.mem_filter, Finset.mem_range]; omega,
      SparseCore.bigSep_insert' (by simp [sX]), SparseCore.bigSep_insert' (by simp [sX])]
    simp only [opt_pos h]
  · rw [show sW t = sX t by ext j; simp only [sW, sX, Finset.mem_filter, Finset.mem_range]; omega]
    simp only [opt_neg h, emp_sep2]
theorem sW_close (t : ℕ) (ht : t < 4) (Φ : ℕ → sProp 𝕄) :
    bigSep (sW (t + 1)) Φ = iprop(Φ (2 * t) ∗ Φ (2 * t + 1) ∗ bigSep (sX t) Φ) := by
  rw [show sW (t + 1) = insert (2 * t) (insert (2 * t + 1) (sX t)) by
      ext j; simp only [sW, sX, Finset.mem_insert, Finset.mem_filter, Finset.mem_range]; omega,
    SparseCore.bigSep_insert' (by simp [sX]), SparseCore.bigSep_insert' (by simp [sX])]
theorem sT_open (t : ℕ) (ht : t < 4) (Φ : ℕ → sProp 𝕄) :
    bigSep (sT t) Φ = iprop(opt (t < 3) (Φ (2 * t + 2)) ∗ opt (t < 3) (Φ (2 * t + 3)) ∗ bigSep (sT (t + 1)) Φ) := by
  by_cases h : t < 3
  · rw [show sT t = insert (2 * t + 2) (insert (2 * t + 3) (sT (t + 1))) by
        ext j; simp only [sT, Finset.mem_insert, Finset.mem_filter, Finset.mem_range]; omega,
      SparseCore.bigSep_insert' (by simp [sT]; try omega), SparseCore.bigSep_insert' (by simp [sT]; try omega)]
    simp only [opt_pos h]
  · rw [show sT t = sT (t + 1) by ext j; simp only [sT, Finset.mem_filter, Finset.mem_range]; omega]
    simp only [opt_neg h, emp_sep2]
theorem sD_close (t : ℕ) (ht : t < 4) (Φ : ℕ → sProp 𝕄) :
    bigSep (sD (t + 1)) Φ = iprop(opt (t < 3) (Φ (2 * t)) ∗ opt (t < 3) (Φ (2 * t + 1)) ∗ bigSep (sD t) Φ) := by
  by_cases h : t < 3
  · rw [show sD (t + 1) = insert (2 * t) (insert (2 * t + 1) (sD t)) by
        ext j; simp only [sD, Finset.mem_insert, Finset.mem_filter, Finset.mem_range]; omega,
      SparseCore.bigSep_insert' (by simp [sD]), SparseCore.bigSep_insert' (by simp [sD])]
    simp only [opt_pos h]
  · rw [show sD (t + 1) = sD t by ext j; simp only [sD, Finset.mem_filter, Finset.mem_range]; omega]
    simp only [opt_neg h, emp_sep2]

variable [FloatOps F]

section Tile

variable (d : Dev nD) (L : grid0.Coords)

/-- A group's rows of the table; and with the gradient added. -/
def GT (n : ℕ) : sProp 𝕄 := bigSep Finset.univ fun k : Fin 16 => tR m d (16 * n + k.val)
def GA (n : ℕ) : sProp 𝕄 := bigSep Finset.univ fun k : Fin 16 => tA m d (16 * n + k.val)

theorem DG_all (r n : ℕ) : bigSep Finset.univ (DG m d L r n)
    = iprop((bigSep Finset.univ fun k : Fin 16 => rowAt m d L r k.val (16 * n + k.val) 0) ∗ GT m d n) := by
  exact bigSep_sep Finset.univ (fun k : Fin 16 => rowAt m d L r k.val (16 * n + k.val) 0) fun k : Fin 16 => tR m d (16 * n + k.val)
theorem DP_all (r n : ℕ) : bigSep Finset.univ (DP m d L r n)
    = iprop(GA m d n ∗ bigSep Finset.univ fun k : Fin 16 => rowAny d L r k.val) := by
  exact bigSep_sep Finset.univ (fun k : Fin 16 => tA m d (16 * n + k.val)) fun k : Fin 16 => rowAny d L r k.val
theorem get_start (r : Fin 2) (b n : ℕ) : iprop(vHas m d L b ∗ BG m d L r n 0 0 ∗ (bigSep Finset.univ fun k : Fin 16 => rowAny d L r.val k.val) ∗ GT m d n)
    ⊢ getI m d L r b n 0 () := by
  unfold getI GT
  rw [Transfers.pending_zero]
  exact Entails.of_eq (congrArg (fun X => iprop(vHas m d L b ∗ BG m d L r n 0 0 ∗ X))
    (bigSep_sep Finset.univ (fun k : Fin 16 => rowAny d L r.val k.val) fun k : Fin 16 => tR m d (16 * n + k.val)).symm)
theorem put_start (r : Fin 2) (b n : ℕ) : iprop(vHas m d L b ∗ BP m d L r n 0 0
      ∗ (bigSep Finset.univ fun k : Fin 16 => rowAt m d L r.val k.val (16 * n + k.val) 96) ∗ GT m d n)
    ⊢ putI m d L r b n 0 () := by
  unfold putI GT
  rw [Transfers.pending_zero]
  exact Entails.of_eq (congrArg (fun X => iprop(vHas m d L b ∗ BP m d L r n 0 0 ∗ X))
    (bigSep_sep Finset.univ (fun k : Fin 16 => rowAt m d L r.val k.val (16 * n + k.val) 96) fun k : Fin 16 => tR m d (16 * n + k.val)).symm)
theorem get_alloc (r : Fin 2) (n : ℕ) : (semVal (thr d L, .dma (getS r)) 0 : sProp 𝕄) ⊢ |={Set.univ}=> BG m d L r n 0 0 :=
  Transfers.batch_alloc' countersEmb (thr d L) (none : HIx 1) NG (DG m d L r.val n)
theorem put_alloc (r : Fin 2) (n : ℕ) : (semVal (thr d L, .dma (putS r)) 0 : sProp 𝕄) ⊢ |={Set.univ}=> BP m d L r n 0 0 :=
  Transfers.batch_alloc' countersEmb (thr d L) (none : HIx 1) NP (DP m d L r.val n)

/-- Slot `r`: its group `n` coming in; or done, its sums on their way out. -/
def slotIn (r : Fin 2) (n : ℕ) : sProp 𝕄 := iprop(Grad m d L r n ∗ BG m d L r n 16 0 ∗ semVal (thr d L, .dma (putS r)) 0)
def slotOut (r : Fin 2) (n : ℕ) : sProp 𝕄 :=
  iprop(dAny d L r.val ∗ semVal (thr d L, .dma (dS r)) 0 ∗ semVal (thr d L, .dma (getS r)) 0 ∗ BP m d L r n 16 0)
def slotAt (c : Prop) [Decidable c] (r : Fin 2) (n n' : ℕ) : sProp 𝕄 := if c then slotIn m d L r n else slotOut m d L r n'
theorem slotAt_pos {c : Prop} [Decidable c] {r : Fin 2} {n n' : ℕ} (h : c) : slotAt m d L c r n n' = slotIn m d L r n := if_pos h
theorem slotAt_neg {c : Prop} [Decidable c] {r : Fin 2} {n n' : ℕ} (h : ¬ c) : slotAt m d L c r n n' = slotOut m d L r n' := if_neg h
theorem slotAt_next (r : Fin 2) (b t : ℕ) (ht : t < 4) :
    slotAt m d L (t < 3) r (b + (2 * t + 2 + r.val)) (b + (2 * t + r.val)) = slotAt m d L (t + 1 < 4) r (b + (2 * (t + 1) + r.val)) (b + (6 + r.val)) := by
  by_cases h : t < 3
  · rw [slotAt_pos m d L h, slotAt_pos m d L (by omega), show 2 * (t + 1) + r.val = 2 * t + 2 + r.val by omega]
  · rw [slotAt_neg m d L h, slotAt_neg m d L (by omega), show 2 * t + r.val = 6 + r.val by omega]

/-- Before trip `t`. -/
def inv (O : CellTallies nD τ sig (HIx 1)) (W : Waits sig (HIx 1)) (t : ℕ) (_ : PUnit) : sProp 𝕄 :=
  iprop(levAts (K (F := F)).L (K (F := F)).lev ∗ owing d L O W ∗ vHas m d L (base L)
    ∗ slotAt m d L (t < 4) 0 (base L + (2 * t + (0 : Fin 2).val)) (base L + (6 + (0 : Fin 2).val))
    ∗ slotAt m d L (t < 4) 1 (base L + (2 * t + (1 : Fin 2).val)) (base L + (6 + (1 : Fin 2).val))
    ∗ (bigSep (sW t) fun j => wG m d (base L + j)) ∗ (bigSep (sT t) fun j => GT m d (base L + j))
    ∗ bigSep (sD t) fun j => GA m d (base L + j))

omit [FloatOps F] in
/-- What follows a guarded step follows either way of it. -/
theorem guard_bind {e : Type → Type} {α β : Type} {c : Prop} [Decidable c] (A : c → Prog e α) (B : ¬ c → Prog e α) (k : α → Prog e β) :
    (dite c A B >>= k) = dite c (fun h => A h >>= k) (fun h => B h >>= k) := by
  by_cases h : c
  · rw [dif_pos h, dif_pos h]
  · rw [dif_neg h, dif_neg h]

set_option maxHeartbeats 8000000 in
/-- One trip. -/
theorem trip (hin : ∀ p, idAt m d p < 65536) (O : CellTallies nD τ sig (HIx 1)) (W : Waits sig (HIx 1)) (hO : ∀ g, O g none = 0) (v2 : BitVec 32)
    (t : Fin k0_t3_loop.trips) :
    inv m d L O W t.val ⟨⟩ ⊢ wp frame (wpE (defs₀ (F := F)) 𝒱₀ (thr d L) none) Set.univ (k0_t3_body (F := F) L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0 v2 t ())
      (inv m d L O W (t.val + 1)) := by
  have ht : t.val < 4 := by have := t.isLt; have := trips3; omega
  have hb := base_le L
  have hmw : levAts (K (F := F)).L (K (F := F)).lev ⊢ MW (F := F) d L O := (K (F := F)).mayWaits_none (thr := thr d L) hO
  unfold k0_t3_body
  simp only [k0_part1_eq_skeleton]
  unfold k0_part1_skel
  simp only [guard_bind, Prog.lift, Prog.bind_op, Prog.bind_ret, Prog.pure_eq_ret, Prog.bind_assoc]
  unfold inv
  rw [sW_open t.val ht, sT_open t.val ht, slotAt_pos m d L ht, slotAt_pos m d L ht]
  unfold slotIn
  iintro ⟨#Hlv, HO, Hv, HS0, HS1, ⟨HW2, HW3, HW⟩, ⟨HT2, HT3, HT⟩, HD⟩
  -- slot 0: its group is in
  icases HS0 with ⟨HG, HB, Hp⟩
  iapply (wp_land d L (O := O) (W := W) (N := ND) rfl) $$ [HG HO]
  · isplitl [HG]; · iexact HG
    isplitl [HO]; · iexact HO
    iapply hmw; iexact Hlv
  iintro ⟨⟨Hd, HW0⟩, Hds, HO⟩
  iapply (loop4 m d L v2 t (base L + (2 * t.val)) O W hO) $$ [HB HO]
  · isplitr; · iexact Hlv
    isplitl [HB]; · iexact HB
    iexact HO
  iintro ⟨HX, Hg, HO⟩
  ihave HX' := (Entails.of_eq (DG_all m d L 0 (base L + (2 * t.val)))) $$ HX
  icases HX' with ⟨Hr, HGT⟩
  -- the sum
  iapply (loop5 m d L v2 t (base L + (2 * t.val)) (by omega)) $$ [Hd Hr]
  · isplitl [Hd]; · iexact Hd
    iexact Hr
  iintro ⟨Hd, Hr⟩
  -- out
  imod (put_alloc m d L 0 (base L + (2 * t.val))) $$ Hp with HP
  iapply (loop7 m d L v2 t _ (base L) (base L + (2 * t.val)) (2 * t.val) rfl (by omega) hin (lane7 t)) $$ [Hv HP Hr HGT]
  · iapply (put_start m d L 0 (base L) (base L + (2 * t.val)))
    isplitl [Hv]; · iexact Hv
    isplitl [HP]; · iexact HP
    isplitl [Hr]; · iexact Hr
    iexact HGT
  unfold putI
  iintro ⟨Hv, HP, -⟩
  -- the next group, if there is one
  iapply (wp_guard d L iprop(levAts (K (F := F)).L (K (F := F)).lev ∗ vHas m d L (base L) ∗ BP m d L 0 (base L + (2 * t.val)) 16 0 ∗ dHas m d L (0 : Fin 2).val (base L + (2 * t.val))
        ∗ semVal (thr d L, .dma (dS 0)) 0 ∗ semVal (thr d L, .dma (getS 0)) 0 ∗ opt (t.val < 3) (wG m d (base L + (2 * t.val + 2))) ∗ opt (t.val < 3) (GT m d (base L + (2 * t.val + 2))) ∗ owing d L O W)
      iprop(vHas m d L (base L) ∗ owing d L O W ∗ opt (t.val < 3) (GA m d (base L + (2 * t.val))) ∗ slotAt m d L (t.val < 3) 0 (base L + (2 * t.val + 2)) (base L + (2 * t.val)))
      ?_ ?_) $$ [Hv HP Hd Hds Hg HW2 HT2 HO]
  · intro hc
    have hc' := (cond1_iff t).mp hc
    rw [opt_pos hc', opt_pos hc', opt_pos hc', slotAt_pos m d L hc']
    iintro ⟨#Hlv, Hv, HP, Hd, Hds, Hg, HWn, HTn, HO⟩ Hk
    iapply (loop8 m d L v2 t hc (base L + (2 * t.val)) O W hO) $$ [HP HO]
    · isplitr; · iexact Hlv
      isplitl [HP]; · iexact HP
      iexact HO
    iintro ⟨HX, Hp, HO⟩
    ihave HX' := (Entails.of_eq (DP_all m d L 0 (base L + (2 * t.val)))) $$ HX
    icases HX' with ⟨HGA, Hr⟩
    iapply (wp_getD m d L 0 (base L + (2 * t.val + 2)) (off14_eq L t)) $$ [HWn Hd Hds]
    · isplitl [HWn]; · iexact HWn
      isplitl [Hd]
      · icases Hd with ⟨%f, -, Hd⟩
        iexists f; iexact Hd
      iexact Hds
    iintro HG
    imod (get_alloc m d L 0 (base L + (2 * t.val + 2))) $$ Hg with HB
    iapply (loop9 m d L v2 t hc _ (base L) (base L + (2 * t.val + 2)) (2 * t.val + 2) rfl (by omega) hin (lane9 t)) $$ [Hv HB Hr HTn]
    · iapply (get_start m d L 0 (base L) (base L + (2 * t.val + 2)))
      isplitl [Hv]; · iexact Hv
      isplitl [HB]; · iexact HB
      isplitl [Hr]; · iexact Hr
      iexact HTn
    unfold getI
    iintro ⟨Hv, HB, -⟩
    iapply Hk
    isplitl [Hv]; · iexact Hv
    isplitl [HO]; · iexact HO
    isplitl [HGA]; · iexact HGA
    unfold slotIn
    isplitl [HG]; · iexact HG
    isplitl [HB]; · iexact HB
    iexact Hp
  · intro hc
    have hc' : ¬ t.val < 3 := fun h => hc ((cond1_iff t).mpr h)
    rw [opt_neg hc', opt_neg hc', opt_neg hc', slotAt_neg m d L hc']
    unfold slotOut
    iintro ⟨-, Hv, HP, Hd, Hds, Hg, -, -, HO⟩
    isplitl [Hv]; · iexact Hv
    isplitl [HO]; · iexact HO
    isplitr; · iempintro
    isplitl [Hd]
    · icases Hd with ⟨%f, -, Hd⟩
      iexists f; iexact Hd
    isplitl [Hds]; · iexact Hds
    isplitl [Hg]; · iexact Hg
    iexact HP
  · isplitr; · iexact Hlv
    isplitl [Hv]; · iexact Hv
    isplitl [HP]; · iexact HP
    isplitl [Hd]; · iexact Hd
    isplitl [Hds]; · iexact Hds
    isplitl [Hg]; · iexact Hg
    isplitl [HW2]; · iexact HW2
    isplitl [HT2]; · iexact HT2
    iexact HO
  iintro ⟨Hv, HO, HA0, HN0⟩
  -- slot 1: its group is in
  icases HS1 with ⟨HG, HB, Hp⟩
  iapply (wp_land d L (O := O) (W := W) (N := ND) rfl) $$ [HG HO]
  · isplitl [HG]; · iexact HG
    isplitl [HO]; · iexact HO
    iapply hmw; iexact Hlv
  iintro ⟨⟨Hd, HW1⟩, Hds, HO⟩
  iapply (loop10 m d L  (base L + (2 * t.val + 1)) O W hO) $$ [HB HO]
  · isplitr; · iexact Hlv
    isplitl [HB]; · iexact HB
    iexact HO
  iintro ⟨HX, Hg, HO⟩
  ihave HX' := (Entails.of_eq (DG_all m d L 1 (base L + (2 * t.val + 1)))) $$ HX
  icases HX' with ⟨Hr, HGT⟩
  -- the sum
  iapply (loop11 m d L  (base L + (2 * t.val + 1)) (by omega)) $$ [Hd Hr]
  · isplitl [Hd]; · iexact Hd
    iexact Hr
  iintro ⟨Hd, Hr⟩
  -- out
  imod (put_alloc m d L 1 (base L + (2 * t.val + 1))) $$ Hp with HP
  iapply (loop13 m d L _ (base L) (base L + (2 * t.val + 1)) (2 * t.val + 1) rfl (by omega) hin (lane13 t)) $$ [Hv HP Hr HGT]
  · iapply (put_start m d L 1 (base L) (base L + (2 * t.val + 1)))
    isplitl [Hv]; · iexact Hv
    isplitl [HP]; · iexact HP
    isplitl [Hr]; · iexact Hr
    iexact HGT
  unfold putI
  iintro ⟨Hv, HP, -⟩
  -- the next group, if there is one
  iapply (wp_guard d L iprop(levAts (K (F := F)).L (K (F := F)).lev ∗ vHas m d L (base L) ∗ BP m d L 1 (base L + (2 * t.val + 1)) 16 0 ∗ dHas m d L (1 : Fin 2).val (base L + (2 * t.val + 1))
        ∗ semVal (thr d L, .dma (dS 1)) 0 ∗ semVal (thr d L, .dma (getS 1)) 0 ∗ opt (t.val < 3) (wG m d (base L + (2 * t.val + 3))) ∗ opt (t.val < 3) (GT m d (base L + (2 * t.val + 3))) ∗ owing d L O W)
      iprop(vHas m d L (base L) ∗ owing d L O W ∗ opt (t.val < 3) (GA m d (base L + (2 * t.val + 1))) ∗ slotAt m d L (t.val < 3) 1 (base L + (2 * t.val + 3)) (base L + (2 * t.val + 1)))
      ?_ ?_) $$ [Hv HP Hd Hds Hg HW3 HT3 HO]
  · intro hc
    have hc' := (cond2_iff t).mp hc
    rw [opt_pos hc', opt_pos hc', opt_pos hc', slotAt_pos m d L hc']
    iintro ⟨#Hlv, Hv, HP, Hd, Hds, Hg, HWn, HTn, HO⟩ Hk
    iapply (loop14 m d L t hc (base L + (2 * t.val + 1)) O W hO) $$ [HP HO]
    · isplitr; · iexact Hlv
      isplitl [HP]; · iexact HP
      iexact HO
    iintro ⟨HX, Hp, HO⟩
    ihave HX' := (Entails.of_eq (DP_all m d L 1 (base L + (2 * t.val + 1)))) $$ HX
    icases HX' with ⟨HGA, Hr⟩
    iapply (wp_getD m d L 1 (base L + (2 * t.val + 3)) (off22_eq L t)) $$ [HWn Hd Hds]
    · isplitl [HWn]; · iexact HWn
      isplitl [Hd]
      · icases Hd with ⟨%f, -, Hd⟩
        iexists f; iexact Hd
      iexact Hds
    iintro HG
    imod (get_alloc m d L 1 (base L + (2 * t.val + 3))) $$ Hg with HB
    iapply (loop15 m d L t hc _ (base L) (base L + (2 * t.val + 3)) (2 * t.val + 3) rfl (by omega) hin (lane15 t)) $$ [Hv HB Hr HTn]
    · iapply (get_start m d L 1 (base L) (base L + (2 * t.val + 3)))
      isplitl [Hv]; · iexact Hv
      isplitl [HB]; · iexact HB
      isplitl [Hr]; · iexact Hr
      iexact HTn
    unfold getI
    iintro ⟨Hv, HB, -⟩
    iapply Hk
    isplitl [Hv]; · iexact Hv
    isplitl [HO]; · iexact HO
    isplitl [HGA]; · iexact HGA
    unfold slotIn
    isplitl [HG]; · iexact HG
    isplitl [HB]; · iexact HB
    iexact Hp
  · intro hc
    have hc' : ¬ t.val < 3 := fun h => hc ((cond2_iff t).mpr h)
    rw [opt_neg hc', opt_neg hc', opt_neg hc', slotAt_neg m d L hc']
    unfold slotOut
    iintro ⟨-, Hv, HP, Hd, Hds, Hg, -, -, HO⟩
    isplitl [Hv]; · iexact Hv
    isplitl [HO]; · iexact HO
    isplitr; · iempintro
    isplitl [Hd]
    · icases Hd with ⟨%f, -, Hd⟩
      iexists f; iexact Hd
    isplitl [Hds]; · iexact Hds
    isplitl [Hg]; · iexact Hg
    iexact HP
  · isplitr; · iexact Hlv
    isplitl [Hv]; · iexact Hv
    isplitl [HP]; · iexact HP
    isplitl [Hd]; · iexact Hd
    isplitl [Hds]; · iexact Hds
    isplitl [Hg]; · iexact Hg
    isplitl [HW3]; · iexact HW3
    isplitl [HT3]; · iexact HT3
    iexact HO
  iintro ⟨Hv, HO, HA1, HN1⟩
  rw [wp_ret]; imodintro
  rw [sW_close t.val ht, sD_close t.val ht]
  isplitr; · iexact Hlv
  isplitl [HO]; · iexact HO
  isplitl [Hv]; · iexact Hv
  isplitl [HN0]; · iapply (Entails.of_eq (slotAt_next m d L 0 (base L) t.val ht)); iexact HN0
  isplitl [HN1]; · iapply (Entails.of_eq (slotAt_next m d L 1 (base L) t.val ht)); iexact HN1
  isplitl [HW0 HW1 HW]
  · isplitl [HW0]; · iexact HW0
    isplitl [HW1]; · iexact HW1
    iexact HW
  isplitl [HT]; · iexact HT
  isplitl [HA0]; · iexact HA0
  isplitl [HA1]; · iexact HA1
  iexact HD

end Tile
end Cert.Proof.AddTable
-- ==== Proof.AddTask.lean ====
/-
  `add_sampled` on the SparseCores: one subcore's whole task, from its own cells at zero and its own buffers to the
  same again, its eight groups of the table added to.
-/
module

public import proofs.«01_k».proof.Proof.AddTile

@[expose] public section

noncomputable section

namespace Cert.Proof.AddTable

open Cert.AddKernel Cert.AddKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

section Store

variable (d : Dev nD) (L : grid0.Coords)

theorem cell_ne {a b : SemLoc sig} (h : a ≠ b) : ((thr d L, a) : GSem nD τ sig) ≠ (thr d L, b) := fun e => h (congrArg Prod.snd e)

/-- The cells of the subcore's own the task does not use. -/
def restC : Finset (GSem nD τ sig) := ((((((((ownCells (thr d L)).erase ((thr d L, .dma (dS 0)) : GSem nD τ sig)).erase ((thr d L, .dma (dS 1)) : GSem nD τ sig)).erase ((thr d L, .dma (getS 0)) : GSem nD τ sig)).erase ((thr d L, .dma (getS 1)) : GSem nD τ sig)).erase ((thr d L, .dma (putS 0)) : GSem nD τ sig)).erase ((thr d L, .dma (putS 1)) : GSem nD τ sig)).erase ((thr d L, .dma (idS)) : GSem nD τ sig))

theorem sems_eq : (ownSems0 (thr d L) : sProp 𝕄)
    = iprop(semVal ((thr d L, .dma (dS 0)) : GSem nD τ sig) 0 ∗ semVal ((thr d L, .dma (dS 1)) : GSem nD τ sig) 0 ∗ semVal ((thr d L, .dma (getS 0)) : GSem nD τ sig) 0 ∗ semVal ((thr d L, .dma (getS 1)) : GSem nD τ sig) 0 ∗ semVal ((thr d L, .dma (putS 0)) : GSem nD τ sig) 0 ∗ semVal ((thr d L, .dma (putS 1)) : GSem nD τ sig) 0 ∗ semVal ((thr d L, .dma (idS)) : GSem nD τ sig) 0
        ∗ bigSep (restC d L) fun g => semVal g 0) := by
  unfold SparseCore.Cfg.ownSems0 restC
  rw [
    SparseCore.bigSep_erase' (i := ((thr d L, .dma (dS 0)) : GSem nD τ sig)) (mem_ownCells.mpr ⟨rfl, by show (SemLoc.dma (dS 0) : SemLoc sig).isScoped .scVector = true; decide⟩),
    SparseCore.bigSep_erase' (i := ((thr d L, .dma (dS 1)) : GSem nD τ sig)) (Finset.mem_erase.mpr ⟨cell_ne d L (by decide), mem_ownCells.mpr ⟨rfl, by show (SemLoc.dma (dS 1) : SemLoc sig).isScoped .scVector = true; decide⟩⟩),
    SparseCore.bigSep_erase' (i := ((thr d L, .dma (getS 0)) : GSem nD τ sig)) (Finset.mem_erase.mpr ⟨cell_ne d L (by decide), Finset.mem_erase.mpr ⟨cell_ne d L (by decide), mem_ownCells.mpr ⟨rfl, by show (SemLoc.dma (getS 0) : SemLoc sig).isScoped .scVector = true; decide⟩⟩⟩),
    SparseCore.bigSep_erase' (i := ((thr d L, .dma (getS 1)) : GSem nD τ sig)) (Finset.mem_erase.mpr ⟨cell_ne d L (by decide), Finset.mem_erase.mpr ⟨cell_ne d L (by decide), Finset.mem_erase.mpr ⟨cell_ne d L (by decide), mem_ownCells.mpr ⟨rfl, by show (SemLoc.dma (getS 1) : SemLoc sig).isScoped .scVector = true; decide⟩⟩⟩⟩),
    SparseCore.bigSep_erase' (i := ((thr d L, .dma (putS 0)) : GSem nD τ sig)) (Finset.mem_erase.mpr ⟨cell_ne d L (by decide), Finset.mem_erase.mpr ⟨cell_ne d L (by decide), Finset.mem_erase.mpr ⟨cell_ne d L (by decide), Finset.mem_erase.mpr ⟨cell_ne d L (by decide), mem_ownCells.mpr ⟨rfl, by show (SemLoc.dma (putS 0) : SemLoc sig).isScoped .scVector = true; decide⟩⟩⟩⟩⟩),
    SparseCore.bigSep_erase' (i := ((thr d L, .dma (putS 1)) : GSem nD τ sig)) (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_ownCells.mpr ⟨rfl, by show (SemLoc.dma (putS 1) : SemLoc sig).isScoped .scVector = true; decide⟩⟩⟩⟩⟩⟩),
    SparseCore.bigSep_erase' (i := ((thr d L, .dma (idS)) : GSem nD τ sig)) (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), mem_ownCells.mpr ⟨rfl, by show (SemLoc.dma (idS) : SemLoc sig).isScoped .scVector = true; decide⟩⟩⟩⟩⟩⟩⟩)]

/-- The buffers of the subcore's own but the three. -/
def restB : Finset (DevRef τ sig) := (((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)

theorem bufs_eq : (ownBufs (thr d L) : sProp 𝕄)
    = iprop((∃ f, vLoc d L ↦{fullShare} f) ∗ (∃ f, dLoc d L ↦{fullShare} f) ∗ (∃ f, gLoc d L ↦{fullShare} f)
      ∗ bigSep (restB L) fun b => iprop(∃ f, ((d, b) : Loc nD τ sig) ↦{fullShare} f)) := by
  unfold SparseCore.Cfg.ownBufs restB
  have h0 : ((Proc.scVector (cV L) (jV L)).devRef cc0_scratch0) ∈ ownRefs (τ := τ) (sig := sig) (.scVector (cV L) (jV L)) := SparseCore.Cfg.mem_ownRefs_of_owner rfl
  have h1 : ((Proc.scVector (cV L) (jV L)).devRef cc0_scratch1) ∈ ownRefs (τ := τ) (sig := sig) (.scVector (cV L) (jV L)) := SparseCore.Cfg.mem_ownRefs_of_owner rfl
  have h2 : ((Proc.scVector (cV L) (jV L)).devRef cc0_scratch2) ∈ ownRefs (τ := τ) (sig := sig) (.scVector (cV L) (jV L)) := SparseCore.Cfg.mem_ownRefs_of_owner rfl
  have n10 : ((Proc.scVector (cV L) (jV L)).devRef cc0_scratch1) ≠ ((Proc.scVector (cV L) (jV L)).devRef cc0_scratch0) := fun h => absurd (Proc.devRef_injective _ h) (show ¬ (cc0_scratch1 : Ref sig .scVector) = cc0_scratch0 by decide)
  have n20 : ((Proc.scVector (cV L) (jV L)).devRef cc0_scratch2) ≠ ((Proc.scVector (cV L) (jV L)).devRef cc0_scratch0) := fun h => absurd (Proc.devRef_injective _ h) (show ¬ (cc0_scratch2 : Ref sig .scVector) = cc0_scratch0 by decide)
  have n21 : ((Proc.scVector (cV L) (jV L)).devRef cc0_scratch2) ≠ ((Proc.scVector (cV L) (jV L)).devRef cc0_scratch1) := fun h => absurd (Proc.devRef_injective _ h) (show ¬ (cc0_scratch2 : Ref sig .scVector) = cc0_scratch1 by decide)
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩)]

theorem fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The gradient's buffer cut into its slots, the rows' buffer into its rows; and put together again. -/
theorem dS_disjoint : ∀ r ∈ (Finset.univ : Finset (Fin 2)), ∀ r' ∈ (Finset.univ : Finset (Fin 2)), r ≠ r' → Disjoint (bS r.val) (bS r'.val) := by
  intro r _ r' _ h
  rw [Finset.disjoint_left]
  intro i h1 h2
  rw [mem_bS] at h1 h2
  exact h (Fin.ext (h1.symm.trans h2))
theorem dS_cover : (Finset.univ : Finset (Fin 2)).biUnion (fun r => bS r.val) = Finset.univ := by
  ext i
  simp only [Finset.mem_biUnion, Finset.mem_univ, true_and, iff_true, mem_bS]
  exact ⟨⟨(i 0).val, (i 0).isLt⟩, rfl⟩
theorem gS_disjoint : ∀ r ∈ (Finset.univ : Finset (Fin 2 × Fin 16)), ∀ r' ∈ (Finset.univ : Finset (Fin 2 × Fin 16)), r ≠ r' → Disjoint (gS r.1.val r.2.val) (gS r'.1.val r'.2.val) := by
  intro r _ r' _ h
  rw [Finset.disjoint_left]
  intro i h1 h2
  rw [mem_gS] at h1 h2
  exact h (Prod.ext (Fin.ext (h1.1.symm.trans h2.1)) (Fin.ext (h1.2.symm.trans h2.2)))
theorem gS_cover : (Finset.univ : Finset (Fin 2 × Fin 16)).biUnion (fun r => gS r.1.val r.2.val) = Finset.univ := by
  ext i
  simp only [Finset.mem_biUnion, Finset.mem_univ, true_and, iff_true, mem_gS]
  exact ⟨(⟨(i 0).val, (i 0).isLt⟩, ⟨(i 1).val, (i 1).isLt⟩), rfl, rfl⟩

theorem d_split : (iprop(∃ f, dLoc d L ↦{fullShare} f) : sProp 𝕄) ⊢ iprop(dAny d L (0 : Fin 2).val ∗ dAny d L (1 : Fin 2).val) := by
  iintro ⟨%f, H⟩
  ihave H' := (Entails.of_eq (show (dLoc d L ↦{fullShare} f : sProp 𝕄) = iprop((dLoc d L ↦[bS (0 : Fin 2).val]{fullShare} f) ∗ (dLoc d L ↦[bS (1 : Fin 2).val]{fullShare} f)) by
    rw [← fin2 (fun r : Fin 2 => (dLoc d L ↦[bS r.val]{fullShare} f : sProp 𝕄)),
      ← pointsTo_biUnion Finset.univ (ℓ := dLoc d L) (fun r : Fin 2 => bS r.val) dS_disjoint, dS_cover])) $$ H
  icases H' with ⟨H0, H1⟩
  isplitl [H0]; · iexists f; iexact H0
  iexists f; iexact H1
theorem d_join [FloatOps F] : iprop(dAny d L (0 : Fin 2).val ∗ dAny d L (1 : Fin 2).val) ⊢ (iprop(∃ f, dLoc d L ↦{fullShare} f) : sProp 𝕄) := by
  rw [← fin2 (fun r : Fin 2 => (dAny d L r.val : sProp 𝕄))]
  refine (bigSep_exists_pi Finset.univ (fun (r : Fin 2) (f : Buf (Elt F) (dLoc d L)) => (dLoc d L ↦[bS r.val]{fullShare} f : sProp 𝕄))).trans ?_
  iintro ⟨%fs, H⟩
  ihave H' := (pointsTo_biUnion_join (ℓ := dLoc d L) (q := fullShare) (Val := Elt F) Finset.univ (fun r : Fin 2 => bS r.val) fs (fs 0) dS_disjoint) $$ H
  icases H' with ⟨%g, -, Hg⟩
  rw [dS_cover]
  iexists g; iexact Hg
/-- A slot's sixteen rows. -/
abbrev rows (r : Fin 2) : sProp 𝕄 := bigSep Finset.univ fun k : Fin 16 => rowAny d L r.val k.val
theorem rows_eq : (bigSep Finset.univ fun p : Fin 2 × Fin 16 => rowAny d L p.1.val p.2.val : sProp 𝕄) = iprop(rows d L 0 ∗ rows d L 1) := by
  rw [bigSep_univ_prod, fin2]
theorem g_split : (iprop(∃ f, gLoc d L ↦{fullShare} f) : sProp 𝕄) ⊢ iprop(rows d L 0 ∗ rows d L 1) := by
  rw [← rows_eq]
  iintro ⟨%f, H⟩
  ihave H' := (Entails.of_eq (show (gLoc d L ↦{fullShare} f : sProp 𝕄) = iprop(bigSep Finset.univ fun p : Fin 2 × Fin 16 => (gLoc d L ↦[gS p.1.val p.2.val]{fullShare} f : sProp 𝕄)) by
    rw [← pointsTo_biUnion Finset.univ (ℓ := gLoc d L) (fun p : Fin 2 × Fin 16 => gS p.1.val p.2.val) gS_disjoint, gS_cover])) $$ H
  have h1 : ∀ r k : ℕ, (gLoc d L ↦[gS r k]{fullShare} f : sProp 𝕄) ⊢ rowAny d L r k := by
    intro r k; iintro H; iexists f; iexact H
  have h : (bigSep Finset.univ fun p : Fin 2 × Fin 16 => (gLoc d L ↦[gS p.1.val p.2.val]{fullShare} f : sProp 𝕄))
      ⊢ bigSep Finset.univ fun p : Fin 2 × Fin 16 => rowAny d L p.1.val p.2.val := bigSep_mono fun p _ => h1 _ _
  iapply h; iexact H'
theorem g_join [FloatOps F] : iprop(rows d L 0 ∗ rows d L 1) ⊢ (iprop(∃ f, gLoc d L ↦{fullShare} f) : sProp 𝕄) := by
  rw [← rows_eq]
  refine (bigSep_exists_pi Finset.univ (fun (p : Fin 2 × Fin 16) (f : Buf (Elt F) (gLoc d L)) => (gLoc d L ↦[gS p.1.val p.2.val]{fullShare} f : sProp 𝕄))).trans ?_
  iintro ⟨%fs, H⟩
  ihave H' := (pointsTo_biUnion_join (ℓ := gLoc d L) (q := fullShare) (Val := Elt F) Finset.univ (fun p : Fin 2 × Fin 16 => gS p.1.val p.2.val) fs (fs (0, 0)) gS_disjoint) $$ H
  icases H' with ⟨%g, -, Hg⟩
  rw [gS_cover]
  iexists g; iexact Hg

end Store

variable (m : (ℓ : Loc nD τ sig) → Buf (Elt F) ℓ)

/-! ## The families at the two ends of the loop -/

theorem sW_zero (Φ : ℕ → sProp 𝕄) : bigSep (Finset.range 8) Φ = iprop(Φ 0 ∗ Φ 1 ∗ bigSep (sW 0) Φ) := by
  rw [show Finset.range 8 = insert 0 (insert 1 (sW 0)) by decide, SparseCore.bigSep_insert' (by decide), SparseCore.bigSep_insert' (by decide)]
theorem sT_zero (Φ : ℕ → sProp 𝕄) : bigSep (Finset.range 8) Φ = iprop(Φ 0 ∗ Φ 1 ∗ bigSep (sT 0) Φ) := by
  rw [show Finset.range 8 = insert 0 (insert 1 (sT 0)) by decide, SparseCore.bigSep_insert' (by decide), SparseCore.bigSep_insert' (by decide)]
theorem sD_zero (Φ : ℕ → sProp 𝕄) : bigSep (sD 0) Φ = iprop(emp) := by rw [show sD 0 = ∅ by decide, bigSep_empty]; rfl
theorem sW_last : sW 4 = Finset.range 8 := by decide
theorem sD_last (Φ : ℕ → sProp 𝕄) : bigSep (Finset.range 8) Φ = iprop(Φ 6 ∗ Φ 7 ∗ bigSep (sD 4) Φ) := by
  rw [show Finset.range 8 = insert 6 (insert 7 (sD 4)) by decide, SparseCore.bigSep_insert' (by decide), SparseCore.bigSep_insert' (by decide)]
theorem lane1 : ∀ k : Fin k0_t1_loop.trips,
    (Scalar.addi 0#32 (Scalar.addi 0#32 (Scalar.muli (Scf.iv 0#32 1#32 k.val) 1#32))).toNat = 16 * 0 + k.val := by decide +kernel
theorem lane2 : ∀ k : Fin k0_t2_loop.trips,
    (Scalar.addi 16#32 (Scalar.addi 0#32 (Scalar.muli (Scf.iv 0#32 1#32 k.val) 1#32))).toNat = 16 * 1 + k.val := by decide +kernel

/-- The subcore's chunk of the ids. -/
def chunk (L : grid0.Coords) : ℕ := 2 * (L 1).val + (L 0).val
theorem chunk_eq (L : grid0.Coords) : 16 * base L = 128 * chunk L := by rw [base_eq]; unfold chunk; omega

variable [FloatOps F]

section Task

variable (d : Dev nD) (L : grid0.Coords)

/-- The subcore's chunk of the ids, its groups of the gradient; its groups of the table, before and after. -/
abbrev allI (e : ℕ) : sProp 𝕄 := iprop(iLoc d ↦[iS e]{fullShare} m (iLoc d))
abbrev allW (b : ℕ) : sProp 𝕄 := bigSep (Finset.range 8) fun j => wG m d (b + j)
abbrev allT (b : ℕ) : sProp 𝕄 := bigSep (Finset.range 8) fun j => GT m d (b + j)
abbrev allA (b : ℕ) : sProp 𝕄 := bigSep (Finset.range 8) fun j => GA m d (b + j)

set_option maxHeartbeats 8000000 in
/-- The task of the subcore at `L`. -/
theorem tile_body (hF : (K (F := F)).Facts) (hin : ∀ p, idAt m d p < 65536) (O : CellTallies nD τ sig (HIx 1)) (W : Waits sig (HIx 1)) (hO : ∀ g, O g none = 0) :
    iprop(levAts (K (F := F)).L (K (F := F)).lev ∗ emp ∗ (allI m d (chunk L) ∗ allW m d (base L) ∗ allT m d (base L))
        ∗ scopedBufs (thr d L) ∗ scopedSems0 (thr d L) ∗ owes (thr d L) O W)
      ⊢ wp frame (wpE (defs₀ (F := F)) 𝒱₀ (thr d L) none) Set.univ
          (cc0_add_sampled L wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0)
          fun _ => iprop((allI m d (chunk L) ∗ allW m d (base L) ∗ allA m d (base L))
            ∗ scopedBufs (thr d L) ∗ scopedSems0 (thr d L)
            ∗ ∃ W', ⌜∀ p ∈ W', p ∈ W ∨ p.2 = none⌝ ∗ owes (thr d L) O W') := by
  have hmw : levAts (K (F := F)).L (K (F := F)).lev ⊢ MW (F := F) d L O := (K (F := F)).mayWaits_none (thr := thr d L) hO
  have hb := base_le L
  simp only [cc0_add_sampled_eq_skeleton]; unfold cc0_add_sampled_skel
  simp only [k0_part2_eq_skeleton]; unfold k0_part2_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), sems_eq, bufs_eq]
  unfold allI allW allT allA
  rw [sW_zero fun j => wG m d (base L + j), sT_zero fun j => GT m d (base L + j)]
  iintro ⟨#Hlv, -, ⟨HI, ⟨HW0, HW1, HW⟩, HT0, HT1, HT⟩, ⟨Hvb, Hdb, Hgb, Hbufs⟩, ⟨Hd0, Hd1, Hg0, Hg1, Hp0, Hp1, Hi, Hsems⟩, HO⟩
  ihave Hdd := (d_split d L) $$ Hdb
  icases Hdd with ⟨Hb0, Hb1⟩
  ihave Hgg := (g_split d L) $$ Hgb
  icases Hgg with ⟨Hr0, Hr1⟩
  -- the ids
  iapply (wp_getIds m d L (base L) (chunk L) (off1_eq L) (chunk_eq L)) $$ [HI Hvb Hi]
  · isplitl [HI]; · iexact HI
    isplitl [Hvb]; · iexact Hvb
    iexact Hi
  iintro HId
  iapply (wp_land d L (O := O) (W := W) (N := NV) rfl) $$ [HId HO]
  · isplitl [HId]; · iexact HId
    isplitl [HO]
    · iexists W; isplitr
      · ipureintro; exact fun p hp => .inl hp
      · iexact HO
    iapply hmw; iexact Hlv
  iintro ⟨⟨Hv, HI⟩, Hi, HO⟩
  -- the first two groups
  iapply (wp_getD m d L 0 (base L + (2 * 0 + (0 : Fin 2).val)) (off2_eq L 0)) $$ [HW0 Hb0 Hd0]
  · isplitl [HW0]; · iexact HW0
    isplitl [Hb0]; · iexact Hb0
    iexact Hd0
  iintro HG0
  imod (get_alloc m d L 0 (base L + (2 * 0 + (0 : Fin 2).val))) $$ Hg0 with HB0
  iapply (loop1 m d L (base L) (base L + (2 * 0 + (0 : Fin 2).val)) 0 rfl (by omega) hin lane1) $$ [Hv HB0 Hr0 HT0]
  · iapply (get_start m d L 0 (base L) (base L + (2 * 0 + (0 : Fin 2).val)))
    isplitl [Hv]; · iexact Hv
    isplitl [HB0]; · iexact HB0
    isplitl [Hr0]; · iexact Hr0
    iexact HT0
  unfold getI
  iintro ⟨Hv, HB0, -⟩
  iapply (wp_getD m d L 1 (base L + (2 * 0 + (1 : Fin 2).val)) (off2_eq L 1)) $$ [HW1 Hb1 Hd1]
  · isplitl [HW1]; · iexact HW1
    isplitl [Hb1]; · iexact Hb1
    iexact Hd1
  iintro HG1
  imod (get_alloc m d L 1 (base L + (2 * 0 + (1 : Fin 2).val))) $$ Hg1 with HB1
  iapply (loop2 m d L _ (base L) (base L + (2 * 0 + (1 : Fin 2).val)) 1 rfl (by omega) hin lane2) $$ [Hv HB1 Hr1 HT1]
  · iapply (get_start m d L 1 (base L) (base L + (2 * 0 + (1 : Fin 2).val)))
    isplitl [Hv]; · iexact Hv
    isplitl [HB1]; · iexact HB1
    isplitl [Hr1]; · iexact Hr1
    iexact HT1
  unfold getI
  iintro ⟨Hv, HB1, -⟩
  iapply (Scf.wp_for_bind frame (wpE (defs₀ (F := F)) 𝒱₀ (thr d L) none) Set.univ k0_t3_loop.lb k0_t3_loop.ub k0_t3_loop.st k0_t3_ok ⟨⟩ _
    (inv m d L O W) (fun t _ => trip m d L hin O W hO _ t)) $$ [HO Hv HG0 HB0 Hp0 HG1 HB1 Hp1 HW HT]
  · unfold inv
    rw [slotAt_pos m d L (by omega), slotAt_pos m d L (by omega), sD_zero]
    unfold slotIn
    isplitr; · iexact Hlv
    isplitl [HO]; · iexact HO
    isplitl [Hv]; · iexact Hv
    isplitl [HG0 HB0 Hp0]
    · isplitl [HG0]; · iexact HG0
      isplitl [HB0]; · iexact HB0
      iexact Hp0
    isplitl [HG1 HB1 Hp1]
    · isplitl [HG1]; · iexact HG1
      isplitl [HB1]; · iexact HB1
      iexact Hp1
    isplitl [HW]; · iexact HW
    isplitl [HT]; · iexact HT
    iempintro
  iintro %_ HV
  rw [show Scf.trips k0_t3_loop.lb k0_t3_loop.ub k0_t3_loop.st = 4 from trips3]
  unfold inv
  rw [slotAt_neg m d L (by omega), slotAt_neg m d L (by omega), sW_last]
  unfold slotOut
  icases HV with ⟨-, HO, Hv, ⟨Hb0, Hd0, Hg0, HP0⟩, ⟨Hb1, Hd1, Hg1, HP1⟩, HW, -, HD⟩
  -- the last two groups' puts
  iapply (loop16 m d L (base L + (6 + (0 : Fin 2).val)) O W hO) $$ [HP0 HO]
  · isplitr; · iexact Hlv
    isplitl [HP0]; · iexact HP0
    iexact HO
  iintro ⟨HX, Hp0, HO⟩
  ihave HX' := (Entails.of_eq (DP_all m d L 0 (base L + (6 + (0 : Fin 2).val)))) $$ HX
  icases HX' with ⟨HA0, Hr0⟩
  iapply (loop17 m d L (base L + (6 + (1 : Fin 2).val)) O W hO) $$ [HP1 HO]
  · isplitr; · iexact Hlv
    isplitl [HP1]; · iexact HP1
    iexact HO
  iintro ⟨HX, Hp1, HO⟩
  ihave HX' := (Entails.of_eq (DP_all m d L 1 (base L + (6 + (1 : Fin 2).val)))) $$ HX
  icases HX' with ⟨HA1, Hr1⟩
  rw [wp_ret]; imodintro
  isplitl [HI HW HA0 HA1 HD]
  · isplitl [HI]; · iexact HI
    isplitl [HW]
    · iapply (Entails.of_eq (sW_zero fun j => wG m d (base L + j))); iexact HW
    rw [sD_last fun j => GA m d (base L + j)]
    isplitl [HA0]; · iexact HA0
    isplitl [HA1]; · iexact HA1
    iexact HD
  isplitl [Hv Hb0 Hb1 Hr0 Hr1 Hbufs]
  · isplitl [Hv]
    · icases Hv with ⟨%f, -, Hv⟩
      iexists f; iexact Hv
    isplitl [Hb0 Hb1]
    · iapply (d_join d L)
      isplitl [Hb0]; · iexact Hb0
      iexact Hb1
    isplitl [Hr0 Hr1]
    · iapply (g_join d L)
      isplitl [Hr0]; · iexact Hr0
      iexact Hr1
    iexact Hbufs
  isplitr [HO]
  · isplitl [Hd0]; · iexact Hd0
    isplitl [Hd1]; · iexact Hd1
    isplitl [Hg0]; · iexact Hg0
    isplitl [Hg1]; · iexact Hg1
    isplitl [Hp0]; · iexact Hp0
    isplitl [Hp1]; · iexact Hp1
    isplitl [Hi]; · iexact Hi
    iexact Hsems
  iexact HO

end Task
end Cert.Proof.AddTable
-- ==== Proof.AddRun.lean ====
/-
  `add_sampled` on the SparseCores: the launch. The ids, the gradient and the rows the ids name are cut among the
  thirty-two subcores and put together again; the rows no id names stay with the TensorCore. The run leaves the
  arguments as they were, the accumulator at the table with each gradient row added to the row its id names, and every
  cell at zero.
-/
module

public import proofs.«01_k».proof.Proof.AddTask

@[expose] public section

noncomputable section

namespace Cert.Proof.AddTable

open Cert.AddKernel Cert.AddKernel.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.StableHlo (held wp_hlo_within)

variable {F : FTy → Type}

local notation "𝕄" => MT nD τ sig (HIx 1) (Elt F) ℕ UU ℕ

variable (m : (ℓ : Loc nD τ sig) → Buf (Elt F) ℓ)

variable (ρ : Dev nD → PrngReg)

/-! ## The gradient, cut by core, subcore and group; the ids, by core and subcore -/

def cW (c : Fin 2) : Finset S4096x1536.Idx := Finset.univ.filter fun i => (i 0).val / 128 % 2 = c.val
def sWW (c : Fin 2) (s : Fin 16) : Finset S4096x1536.Idx := Finset.univ.filter fun i => (i 0).val / 128 = 2 * s.val + c.val
def cI (c : Fin 2) : Finset S4096.Idx := Finset.univ.filter fun i => (i 0).val / 128 % 2 = c.val

theorem mem_cW {c : Fin 2} {i : S4096x1536.Idx} : i ∈ cW c ↔ (i 0).val / 128 % 2 = c.val := by simp [cW]
theorem mem_sWW {c : Fin 2} {s : Fin 16} {i : S4096x1536.Idx} : i ∈ sWW c s ↔ (i 0).val / 128 = 2 * s.val + c.val := by simp [sWW]
theorem mem_cI {c : Fin 2} {i : S4096.Idx} : i ∈ cI c ↔ (i 0).val / 128 % 2 = c.val := by simp [cI]

theorem cW_disjoint : ∀ c ∈ (Finset.univ : Finset (Fin 2)), ∀ c' ∈ (Finset.univ : Finset (Fin 2)), c ≠ c' → Disjoint (cW c) (cW c') := by
  intro c _ c' _ h
  rw [Finset.disjoint_left]
  intro i h1 h2
  rw [mem_cW] at h1 h2
  exact h (Fin.ext (h1.symm.trans h2))
theorem cW_cover : (Finset.univ : Finset (Fin 2)).biUnion cW = Finset.univ := by
  ext i
  simp only [Finset.mem_biUnion, Finset.mem_univ, true_and, iff_true, mem_cW]
  exact ⟨⟨(i 0).val / 128 % 2, by omega⟩, rfl⟩
theorem sWW_disjoint (c : Fin 2) : ∀ s ∈ (Finset.univ : Finset (Fin 16)), ∀ s' ∈ (Finset.univ : Finset (Fin 16)), s ≠ s' → Disjoint (sWW c s) (sWW c s') := by
  intro s _ s' _ h
  rw [Finset.disjoint_left]
  intro i h1 h2
  rw [mem_sWW] at h1 h2
  exact h (Fin.ext (by omega))
theorem sWW_cover (c : Fin 2) : (Finset.univ : Finset (Fin 16)).biUnion (sWW c) = cW c := by
  ext i
  have h0 : (i 0).val < 4096 := (i 0).isLt
  have hc := c.isLt
  simp only [Finset.mem_biUnion, Finset.mem_univ, true_and, mem_cW, mem_sWW]
  constructor
  · rintro ⟨s, hs⟩; omega
  · intro h; exact ⟨⟨(i 0).val / 256, by omega⟩, by show _ = 2 * ((i 0).val / 256) + _; omega⟩
theorem gW_disjoint (c : Fin 2) (s : Fin 16) : ∀ j ∈ Finset.range 8, ∀ j' ∈ Finset.range 8, j ≠ j' →
    Disjoint (wS (16 * s.val + 8 * c.val + j)) (wS (16 * s.val + 8 * c.val + j')) := by
  intro j _ j' _ h
  rw [Finset.disjoint_left]
  intro i h1 h2
  rw [mem_wS] at h1 h2
  omega
theorem gW_cover (c : Fin 2) (s : Fin 16) : (Finset.range 8).biUnion (fun j => wS (16 * s.val + 8 * c.val + j)) = sWW c s := by
  ext i
  have h0 : (i 0).val < 4096 := (i 0).isLt
  simp only [Finset.mem_biUnion, Finset.mem_range, mem_wS, mem_sWW]
  constructor
  · rintro ⟨j, hj, h⟩; omega
  · intro h; exact ⟨(i 0).val / 16 - (16 * s.val + 8 * c.val), by omega, by omega⟩
theorem cI_disjoint : ∀ c ∈ (Finset.univ : Finset (Fin 2)), ∀ c' ∈ (Finset.univ : Finset (Fin 2)), c ≠ c' → Disjoint (cI c) (cI c') := by
  intro c _ c' _ h
  rw [Finset.disjoint_left]
  intro i h1 h2
  rw [mem_cI] at h1 h2
  exact h (Fin.ext (h1.symm.trans h2))
theorem cI_cover : (Finset.univ : Finset (Fin 2)).biUnion cI = Finset.univ := by
  ext i
  simp only [Finset.mem_biUnion, Finset.mem_univ, true_and, iff_true, mem_cI]
  exact ⟨⟨(i 0).val / 128 % 2, by omega⟩, rfl⟩
theorem tI_disjoint (c : Fin 2) : ∀ s ∈ (Finset.univ : Finset (Fin 16)), ∀ s' ∈ (Finset.univ : Finset (Fin 16)), s ≠ s' →
    Disjoint (iS (2 * s.val + c.val)) (iS (2 * s'.val + c.val)) := by
  intro s _ s' _ h
  rw [Finset.disjoint_left]
  intro i h1 h2
  rw [mem_iS] at h1 h2
  exact h (Fin.ext (by omega))
theorem tI_cover (c : Fin 2) : (Finset.univ : Finset (Fin 16)).biUnion (fun s => iS (2 * s.val + c.val)) = cI c := by
  ext i
  have h0 : (i 0).val < 4096 := (i 0).isLt
  have hc := c.isLt
  simp only [Finset.mem_biUnion, Finset.mem_univ, true_and, mem_cI, mem_iS]
  constructor
  · rintro ⟨s, hs⟩; omega
  · intro h; exact ⟨⟨(i 0).val / 256, by omega⟩, by show _ = 2 * ((i 0).val / 256) + _; omega⟩

theorem whole_w (d : Dev nD) (f : Buf (Elt F) (wLoc d)) :
    (wLoc d ↦{fullShare} f : sProp 𝕄)
      = bigSep Finset.univ fun c : Fin 2 => bigSep Finset.univ fun s : Fin 16 => bigSep (Finset.range 8) fun j =>
          wLoc d ↦[wS (16 * s.val + 8 * c.val + j)]{fullShare} f := by
  rw [← cW_cover, pointsTo_biUnion Finset.univ (ℓ := wLoc d) cW cW_disjoint]
  refine bigSep_congr fun c _ => ?_
  rw [← sWW_cover c, pointsTo_biUnion Finset.univ (ℓ := wLoc d) (sWW c) (sWW_disjoint c)]
  refine bigSep_congr fun s _ => ?_
  rw [← gW_cover c s, pointsTo_biUnion (Finset.range 8) (ℓ := wLoc d) (fun j => wS (16 * s.val + 8 * c.val + j)) (gW_disjoint c s)]

theorem whole_i (d : Dev nD) (f : Buf (Elt F) (iLoc d)) :
    (iLoc d ↦{fullShare} f : sProp 𝕄)
      = bigSep Finset.univ fun c : Fin 2 => bigSep Finset.univ fun s : Fin 16 => iLoc d ↦[iS (2 * s.val + c.val)]{fullShare} f := by
  rw [← cI_cover, pointsTo_biUnion Finset.univ (ℓ := iLoc d) cI cI_disjoint]
  refine bigSep_congr fun c _ => ?_
  rw [← tI_cover c, pointsTo_biUnion Finset.univ (ℓ := iLoc d) (fun s : Fin 16 => iS (2 * s.val + c.val)) (tI_disjoint c)]

/-! ## The rows of the accumulator that some id names, cut the same way -/

/-- Each id is a row of the table, and no two are the same. -/
def Ok : Prop := (∀ d p, idAt m d p < 65536) ∧ ∀ d p p', p < 4096 → p' < 4096 → idAt m d p = idAt m d p' → p = p'

def gT (d : Dev nD) (n : ℕ) : Finset S65536x1536.Idx := (Finset.univ : Finset (Fin 16)).biUnion fun k => tS (idAt m d (16 * n + k.val))
def sTT (d : Dev nD) (c : Fin 2) (s : Fin 16) : Finset S65536x1536.Idx := (Finset.range 8).biUnion fun j => gT m d (16 * s.val + 8 * c.val + j)
def cT (d : Dev nD) (c : Fin 2) : Finset S65536x1536.Idx := (Finset.univ : Finset (Fin 16)).biUnion fun s => sTT m d c s
def aT (d : Dev nD) : Finset S65536x1536.Idx := (Finset.univ : Finset (Fin 2)).biUnion fun c => cT m d c

theorem mem_gT {d : Dev nD} {n : ℕ} {i : S65536x1536.Idx} : i ∈ gT m d n ↔ ∃ p, p / 16 = n ∧ (i 0).val = idAt m d p := by
  simp only [gT, Finset.mem_biUnion, Finset.mem_univ, true_and, mem_tS]
  constructor
  · rintro ⟨k, h⟩; exact ⟨_, by have := k.isLt; omega, h⟩
  · rintro ⟨p, hp, h⟩
    refine ⟨⟨p % 16, by omega⟩, ?_⟩
    rw [show 16 * n + p % 16 = p by omega]; exact h
theorem mem_sTT {d : Dev nD} {c : Fin 2} {s : Fin 16} {i : S65536x1536.Idx} : i ∈ sTT m d c s ↔ ∃ p, p / 128 = 2 * s.val + c.val ∧ (i 0).val = idAt m d p := by
  simp only [sTT, Finset.mem_biUnion, Finset.mem_range, mem_gT]
  constructor
  · rintro ⟨j, hj, p, hp, h⟩; exact ⟨p, by omega, h⟩
  · rintro ⟨p, hp, h⟩; exact ⟨p / 16 - (16 * s.val + 8 * c.val), by omega, p, by omega, h⟩
theorem mem_cT {d : Dev nD} {c : Fin 2} {i : S65536x1536.Idx} : i ∈ cT m d c ↔ ∃ p, p < 4096 ∧ p / 128 % 2 = c.val ∧ (i 0).val = idAt m d p := by
  have hc := c.isLt
  simp only [cT, Finset.mem_biUnion, Finset.mem_univ, true_and, mem_sTT]
  constructor
  · rintro ⟨s, p, hp, h⟩; have := s.isLt; exact ⟨p, by omega, by omega, h⟩
  · rintro ⟨p, hp, hc', h⟩; exact ⟨⟨p / 256, by omega⟩, p, by show _ = 2 * (p / 256) + _; omega, h⟩
theorem mem_aT {d : Dev nD} {i : S65536x1536.Idx} : i ∈ aT m d ↔ ∃ p, p < 4096 ∧ (i 0).val = idAt m d p := by
  simp only [aT, Finset.mem_biUnion, Finset.mem_univ, true_and, mem_cT]
  constructor
  · rintro ⟨c, p, hp, _, h⟩; exact ⟨p, hp, h⟩
  · rintro ⟨p, hp, h⟩; exact ⟨⟨p / 128 % 2, by omega⟩, p, hp, rfl, h⟩

variable {m} in
theorem cT_disjoint (ok : Ok m) (d : Dev nD) : ∀ c ∈ (Finset.univ : Finset (Fin 2)), ∀ c' ∈ (Finset.univ : Finset (Fin 2)), c ≠ c' → Disjoint (cT m d c) (cT m d c') := by
  intro c _ c' _ hne
  rw [Finset.disjoint_left]
  intro i h1 h2
  obtain ⟨p, hp, hc, h⟩ := (mem_cT m).1 h1
  obtain ⟨p', hp', hc', h'⟩ := (mem_cT m).1 h2
  have e := ok.2 d p p' hp hp' (h.symm.trans h')
  subst e
  exact hne (Fin.ext (hc.symm.trans hc'))
variable {m} in
theorem sTT_disjoint (ok : Ok m) (d : Dev nD) (c : Fin 2) : ∀ s ∈ (Finset.univ : Finset (Fin 16)), ∀ s' ∈ (Finset.univ : Finset (Fin 16)), s ≠ s' →
    Disjoint (sTT m d c s) (sTT m d c s') := by
  intro s _ s' _ hne
  rw [Finset.disjoint_left]
  intro i h1 h2
  obtain ⟨p, hs, h⟩ := (mem_sTT m).1 h1
  obtain ⟨p', hs', h'⟩ := (mem_sTT m).1 h2
  have := c.isLt; have := s.isLt; have := s'.isLt
  have e := ok.2 d p p' (by omega) (by omega) (h.symm.trans h')
  subst e
  exact hne (Fin.ext (by omega))
variable {m} in
theorem gT_disjoint (ok : Ok m) (d : Dev nD) (c : Fin 2) (s : Fin 16) : ∀ j ∈ Finset.range 8, ∀ j' ∈ Finset.range 8, j ≠ j' →
    Disjoint (gT m d (16 * s.val + 8 * c.val + j)) (gT m d (16 * s.val + 8 * c.val + j')) := by
  intro j hj j' hj' hne
  rw [Finset.mem_range] at hj hj'
  rw [Finset.disjoint_left]
  intro i h1 h2
  obtain ⟨p, hs, h⟩ := (mem_gT m).1 h1
  obtain ⟨p', hs', h'⟩ := (mem_gT m).1 h2
  have := c.isLt; have := s.isLt
  have e := ok.2 d p p' (by omega) (by omega) (h.symm.trans h')
  omega
variable {m} in
theorem rT_disjoint (ok : Ok m) (d : Dev nD) (n : ℕ) (hn : n < 256) : ∀ k ∈ (Finset.univ : Finset (Fin 16)), ∀ k' ∈ (Finset.univ : Finset (Fin 16)), k ≠ k' →
    Disjoint (tS (idAt m d (16 * n + k.val))) (tS (idAt m d (16 * n + k'.val))) := by
  intro k _ k' _ hne
  rw [Finset.disjoint_left]
  intro i h1 h2
  rw [mem_tS] at h1 h2
  have := k.isLt; have := k'.isLt
  have e := ok.2 d _ _ (show 16 * n + k.val < 4096 by omega) (show 16 * n + k'.val < 4096 by omega) (h1.symm.trans h2)
  exact hne (Fin.ext (by omega))

variable {m} in
theorem rows_o (ok : Ok m) (d : Dev nD) (f : Buf (Elt F) (oLoc d)) :
    (oLoc d ↦[aT m d]{fullShare} f : sProp 𝕄)
      = bigSep Finset.univ fun c : Fin 2 => bigSep Finset.univ fun s : Fin 16 => bigSep (Finset.range 8) fun j =>
          bigSep Finset.univ fun k : Fin 16 => oLoc d ↦[tS (idAt m d (16 * (16 * s.val + 8 * c.val + j) + k.val))]{fullShare} f := by
  unfold aT
  rw [pointsTo_biUnion Finset.univ (ℓ := oLoc d) (fun c => cT m d c) (cT_disjoint ok d)]
  refine bigSep_congr fun c _ => ?_
  unfold cT
  rw [pointsTo_biUnion Finset.univ (ℓ := oLoc d) (fun s => sTT m d c s) (sTT_disjoint ok d c)]
  refine bigSep_congr fun s _ => ?_
  unfold sTT
  rw [pointsTo_biUnion (Finset.range 8) (ℓ := oLoc d) (fun j => gT m d (16 * s.val + 8 * c.val + j)) (gT_disjoint ok d c s)]
  refine bigSep_congr fun j hj => ?_
  rw [Finset.mem_range] at hj
  unfold gT
  rw [pointsTo_biUnion Finset.univ (ℓ := oLoc d) (fun k : Fin 16 => tS (idAt m d (16 * (16 * s.val + 8 * c.val + j) + k.val)))
    (rT_disjoint ok d _ (by have := c.isLt; have := s.isLt; omega))]

variable [FloatOps F]

open Classical in
/-- The accumulator at the end: a row some id names has its gradient row added, any other row is the table's. -/
def res (d : Dev nD) : Buf (Elt F) (oLoc d) := fun x =>
  if h : ∃ p, p < 4096 ∧ (x 0).val = idAt m d p then ar m d h.choose x else tb m d x

variable {m} in
theorem res_at (ok : Ok m) (d : Dev nD) (p : ℕ) (hp : p < 4096) (x : S65536x1536.Idx) (hx : (x 0).val = idAt m d p) : res m d x = ar m d p x := by
  have h : ∃ p, p < 4096 ∧ (x 0).val = idAt m d p := ⟨p, hp, hx⟩
  unfold res
  rw [dif_pos h, ok.2 d _ p h.choose_spec.1 hp (h.choose_spec.2.symm.trans hx)]
theorem res_off (d : Dev nD) (x : S65536x1536.Idx) (hx : ¬ ∃ p, p < 4096 ∧ (x 0).val = idAt m d p) : res m d x = tb m d x := by
  unfold res
  rw [dif_neg hx]

variable {m} in
theorem tA_eq (ok : Ok m) (d : Dev nD) (p : ℕ) (hp : p < 4096) : (tA m d p : sProp 𝕄) = (oLoc d ↦[tS (idAt m d p)]{fullShare} res m d) :=
  pointsTo_congr fun i hi => (res_at ok d p hp i (mem_tS.1 hi)).symm

variable {m} in
theorem rows_end (ok : Ok m) (d : Dev nD) :
    (oLoc d ↦[aT m d]{fullShare} res m d : sProp 𝕄)
      = bigSep Finset.univ fun c : Fin 2 => bigSep Finset.univ fun s : Fin 16 => bigSep (Finset.range 8) fun j =>
          bigSep Finset.univ fun k : Fin 16 => tA m d (16 * (16 * s.val + 8 * c.val + j) + k.val) := by
  rw [rows_o ok]
  refine bigSep_congr fun c _ => bigSep_congr fun s _ => bigSep_congr fun j hj => bigSep_congr fun k _ => ?_
  rw [Finset.mem_range] at hj
  exact (tA_eq ok d _ (by have := c.isLt; have := s.isLt; have := k.isLt; omega)).symm

variable {m} in
theorem whole_end (ok : Ok m) (d : Dev nD) :
    iprop((oLoc d ↦[aT m d]{fullShare} res m d) ∗ oLoc d ↦[Finset.univ \ aT m d]{fullShare} tb m d) ⊢ (oLoc d ↦{fullShare} res m d : sProp 𝕄) := by
  rw [show (oLoc d ↦[Finset.univ \ aT m d]{fullShare} tb m d : sProp 𝕄) = (oLoc d ↦[Finset.univ \ aT m d]{fullShare} res m d) from
    pointsTo_congr fun i hi => (res_off m d i fun h => (Finset.mem_sdiff.1 hi).2 ((mem_aT m).2 h)).symm]
  exact (pointsTo_split_subset (Finset.subset_univ (aT m d))).2

/-! ## What the handshakes carry -/

/-- The core's ids and gradient groups, of all its subcores; the rows named by them, before and after. -/
abbrev coreI (d : Dev nD) (c : ℕ) : sProp 𝕄 := bigSep Finset.univ fun s : Fin 16 => allI m d (2 * s.val + c)
abbrev coreW (d : Dev nD) (c : ℕ) : sProp 𝕄 := bigSep Finset.univ fun s : Fin 16 => allW m d (16 * s.val + 8 * c)
abbrev coreT (d : Dev nD) (c : ℕ) : sProp 𝕄 := bigSep Finset.univ fun s : Fin 16 => allT m d (16 * s.val + 8 * c)
abbrev coreA (d : Dev nD) (c : ℕ) : sProp 𝕄 := bigSep Finset.univ fun s : Fin 16 => allA m d (16 * s.val + 8 * c)

instance GT_storable (d : Dev nD) (n : ℕ) : BI.Storable (upEmb : UEmb _ 𝕄) (GT m d n) := by unfold GT; infer_instance
instance GA_storable (d : Dev nD) (n : ℕ) : BI.Storable (upEmb : UEmb _ 𝕄) (GA m d n) := by unfold GA; infer_instance

abbrev goV (d : Dev nD) (c i : ℕ) : sProp 𝕄 := iprop(allI m d (2 * i + c) ∗ allW m d (16 * i + 8 * c) ∗ allT m d (16 * i + 8 * c))
abbrev tdV (d : Dev nD) (c i : ℕ) : sProp 𝕄 := iprop(allI m d (2 * i + c) ∗ allW m d (16 * i + 8 * c) ∗ allA m d (16 * i + 8 * c))

def P : (K (F := F)).Pay (nD := nD) (Val := Elt F) (Name := ℕ) (U := UU) where
  st := fun q d c => match q with | 0 => iprop(coreI m d c.val ∗ coreW m d c.val ∗ coreT m d c.val)
  dn := fun q d c => match q with | 0 => iprop(coreI m d c.val ∗ coreW m d c.val ∗ coreA m d c.val)
  go := fun q d c i => match q with | 0 => goV m d c.val i.val
  td := fun q d c i => match q with | 0 => tdV m d c.val i.val
  x := fun _ _ => iprop(emp)

instance P_storable : (P (F := F) m).IsStorable where
  st q d c := match q with
    | 0 => (inferInstance : BI.Storable (upEmb : UEmb _ 𝕄) iprop(coreI m d c.val ∗ coreW m d c.val ∗ coreT m d c.val))
  dn q d c := match q with
    | 0 => (inferInstance : BI.Storable (upEmb : UEmb _ 𝕄) iprop(coreI m d c.val ∗ coreW m d c.val ∗ coreA m d c.val))
  go q d c i := match q with
    | 0 => (inferInstance : BI.Storable (upEmb : UEmb _ 𝕄) (goV m d c.val i.val))
  td q d c i := match q with
    | 0 => (inferInstance : BI.Storable (upEmb : UEmb _ 𝕄) (tdV m d c.val i.val))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_add_sampled (coordsV c s)
          wV (Memref.isWhole_whole _) iV (Memref.isWhole_whole _) oV (Memref.isWhole_whole _) oV (Memref.isWhole_whole _) vV (Memref.isWhole_whole _) dV (Memref.isWhole_whole _) gV (Memref.isWhole_whole _) cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (ok : Ok m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb : base (coordsV ⟨_, hci.1⟩ ⟨_, hci.2⟩) = 16 * i.val + 8 * c.val := (base_eq _).trans rfl
  have hc : chunk (coordsV ⟨_, hci.1⟩ ⟨_, hci.2⟩) = 2 * i.val + c.val := by unfold chunk; rfl
  have tb := tile_body m d (coordsV ⟨_, hci.1⟩ ⟨_, hci.2⟩) hF (ok.1 d) O W hO
  rw [hb, hc] at tb
  exact tb.trans (wp_mono frame _ _ fun _ => obl_post)

theorem vecSplit : (K (F := F)).VecSplit' (P m) 0 := by
  intro d c
  show iprop(coreI m d c.val ∗ coreW m d c.val ∗ coreT m d c.val) ⊢ |={Set.univ}=> iprop(
      (bigSep Finset.univ fun i : Fin 16 => goV m d c.val i.val)
      ∗ ((bigSep Finset.univ fun i : Fin 16 => tdV m d c.val i.val)
          -∗ iprop(coreI m d c.val ∗ coreW m d c.val ∗ coreA m d c.val)))
  simp only [bigSep_sep']
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

abbrev w' : DevRef τ sig := Proc.devRef .tc (main_arg0 : Ref sig .tc)
abbrev i' : DevRef τ sig := Proc.devRef .tc (main_arg1 : Ref sig .tc)
abbrev t' : DevRef τ sig := Proc.devRef .tc (main_arg2 : Ref sig .tc)
abbrev o' : DevRef τ sig := Proc.devRef .tc (main_v0 : Ref sig .tc)
abbrev opId : HloOp τ sig (Elt F) := StableHlo.unary main_arg2 main_v0 id

/-- The TensorCore's arrays. -/
abbrev S4 : Finset (DevRef τ sig) := {w', i', t', o'}

omit [FloatOps F] in
theorem held_S4 (d : Dev nD) (W : Valuation τ sig (Elt F)) :
    (held (SparseCore.T d) S4 W : sProp 𝕄)
      = iprop((wLoc d ↦{fullShare} W w') ∗ (iLoc d ↦{fullShare} W i') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((wLoc d ↦{fullShare} W main_arg0) ∗ (iLoc d ↦{fullShare} W main_arg1) ∗ (tLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (SparseCore.T d) S4 (V0 m d) := by
  rw [unscopedBufs_eq, held_S4]; rfl

omit [FloatOps F] in
theorem held_V1 (d : Dev nD) :
    (held (SparseCore.T d) S4 ((opId (F := F)).result (V0 m d)) : sProp 𝕄)
      = iprop((wLoc d ↦{fullShare} m (wLoc d)) ∗ (iLoc d ↦{fullShare} m (iLoc d)) ∗ (tLoc d ↦{fullShare} m (tLoc d)) ∗ oLoc d ↦{fullShare} tb m d) := by
  rw [held_S4, (opId (F := F)).result_of_not_mem (V0 m d) (b := w') (show w' ∉ ({o'} : Finset (DevRef τ sig)) by decide),
    (opId (F := F)).result_of_not_mem (V0 m d) (b := i') (show i' ∉ ({o'} : Finset (DevRef τ sig)) by decide),
    (opId (F := F)).result_of_not_mem (V0 m d) (b := t') (show t' ∉ ({o'} : Finset (DevRef τ sig)) by decide),
    show (opId (F := F)).result (V0 m d) o' = tb m d from StableHlo.unary_result _ _ _ _ _ _]
  rfl

omit [FloatOps F] in
theorem hId : (opId (F := F)).bufs ⊆ S4 := show ({t', o'} : Finset (DevRef τ sig)) ⊆ S4 by decide

abbrev FIN (d : Dev nD) : sProp 𝕄 :=
  iprop((wLoc d ↦{fullShare} m (wLoc d)) ∗ (iLoc d ↦{fullShare} m (iLoc d)) ∗ (tLoc d ↦{fullShare} m (tLoc d)) ∗ oLoc d ↦{fullShare} res m d)

theorem coreT_eq (ok : Ok m) (d : Dev nD) : (bigSep Finset.univ fun c : Fin 2 => coreT m d c.val) = (oLoc d ↦[aT m d]{fullShare} tb m d : sProp 𝕄) := by
  rw [rows_o ok]; rfl
theorem coreA_eq (ok : Ok m) (d : Dev nD) : (bigSep Finset.univ fun c : Fin 2 => coreA m d c.val) = (oLoc d ↦[aT m d]{fullShare} res m d : sProp 𝕄) := by
  rw [rows_end ok]; rfl

theorem st0_eq (ok : Ok m) (d : Dev nD) : (bigSep Finset.univ fun c : Fin ((K (F := F)).nCore 0) => (P m).st 0 d c)
    = iprop((iLoc d ↦{fullShare} m (iLoc d)) ∗ (wLoc d ↦{fullShare} m (wLoc d)) ∗ oLoc d ↦[aT m d]{fullShare} tb m d) := by
  rw [whole_i, whole_w, ← coreT_eq m ok]
  refine (bigSep_sep' (Finset.univ : Finset (Fin 2)) (fun c => coreI m d c.val) (fun c => iprop(coreW m d c.val ∗ coreT m d c.val))).trans ?_
  rw [bigSep_sep' (Finset.univ : Finset (Fin 2)) (fun c => coreW m d c.val) (fun c => coreT m d c.val)]
theorem dn0_eq (ok : Ok m) (d : Dev nD) : (bigSep Finset.univ fun c : Fin ((K (F := F)).nCore 0) => (P m).dn 0 d c)
    = iprop((iLoc d ↦{fullShare} m (iLoc d)) ∗ (wLoc d ↦{fullShare} m (wLoc d)) ∗ oLoc d ↦[aT m d]{fullShare} res m d) := by
  rw [whole_i, whole_w, ← coreA_eq m ok]
  refine (bigSep_sep' (Finset.univ : Finset (Fin 2)) (fun c => coreI m d c.val) (fun c => iprop(coreW m d c.val ∗ coreA m d c.val))).trans ?_
  rw [bigSep_sep' (Finset.univ : Finset (Fin 2)) (fun c => coreW m d c.val) (fun c => coreA m d c.val)]

/-- The copy of the table into the accumulator, then the one call, from the ids, the gradient and the rows the ids name. -/
theorem hmain (ok : Ok m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opId) (S := S4) hId (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hw, Hi, Ht, Ho⟩
  ihave Ho' := (pointsTo_split_subset (Finset.subset_univ (aT m d))).1 $$ Ho
  icases Ho' with ⟨Ho, Hrest⟩
  iapply ((K (F := F)).wp_run (D (F := F)) 𝒱 (EH := EH) (P := P m) κ d 0) $$ [Hst Hw Hi Ht Ho Hrest Hb Hts]
  isplitr; · iexact Hctx
  isplitl [Hst]; · iexact Hst
  isplitl [Hw Hi Ho]
  · rw [st0_eq m ok]
    isplitl [Hi]; · iexact Hi
    isplitl [Hw]; · iexact Hw
    iexact Ho
  iintro ⟨Hst, Hdn⟩
  ihave Hdn' := (Entails.of_eq (dn0_eq m ok d)) $$ Hdn
  icases Hdn' with ⟨Hi, Hw, Ho⟩
  ihave Ho' := (whole_end ok d) $$ [Ho Hrest]
  · isplitl [Ho]; · iexact Ho
    iexact Hrest
  imodintro
  isplitl [Hst]; · iexact Hst
  isplitr [Hb Hts]
  · isplitl [Hw]; · iexact Hw
    isplitl [Hi]; · iexact Hi
    isplitl [Ht]; · iexact Ht
    iexact Ho'
  isplitl [Hb] <;> iassumption

def fq (d : Dev nD) (s' : Phys nD τ sig (Elt F)) : Prop :=
  s'.mem.mem (oLoc d) = res m d ∧ s'.mem.mem (wLoc d) = m (wLoc d) ∧ s'.mem.mem (iLoc d) = m (iLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Hw, Hi, Ht, Ho⟩, HSI⟩
  ihave H := (persistent_entails_right (SI_pointsTo_agree (st := s') (ℓ := wLoc d) (I := Finset.univ) (q := fullShare) (f := m (wLoc d)))) $$ [HSI Hw]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := oLoc d) (I := Finset.univ) (q := fullShare) (f := res m d)) $$ [HSI Ho]
  · isplitl [HSI] <;> iassumption
  icases H with %h4
  ipureintro; exact ⟨funext fun i => h4 i (Finset.mem_univ i), funext fun i => h1 i (Finset.mem_univ i), funext fun i => h2 i (Finset.mem_univ i),
    funext fun i => h3 i (Finset.mem_univ i)⟩

/-! ## The program's run -/

/-- What the run leaves: the accumulator at the sum, the arguments as they were, every cell at zero. -/
def QC : PUnit × MemSt nD τ sig (Elt F) → Prop :=
  fun r => (∀ c : Dev nD, r.2.mem (oLoc c) = res m c ∧ r.2.mem (wLoc c) = m (wLoc c) ∧ r.2.mem (iLoc c) = m (iLoc c) ∧ r.2.mem (tLoc c) = m (tLoc c)) ∧ r.2.sem = fun _ => 0

theorem run_main [∀ e, Nonempty (Elt F e)] (ok : Ok m) :
    θ_run (Cert.AddKernel.defs (F := F)) (Cert.AddKernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m ok facts)
    (fun q _ => match q with | 0 => SparseCore.Cfg.VecSplit.of_plain (vecSplit m))
    m ρ main (fun _ => iprop(emp)) (FIN m) (u₀ (F := F)) (sep_elim_left.trans (hu₀ m)) (hmain m ρ ok) (fq m) (hfin m) (QC m) (fun _ h hz => ⟨h, hz⟩)

end Cert.Proof.AddTable
-- ==== Proof.AddEach.lean ====
/-
  What the precondition `each_once` says of the ids: each is a row of the table, and no two are the same.
-/
module

public import proofs.«01_k».proof.Pre_each_once
public import Idealize.ShloMosaic.Lib.Pipeline.Value
public import Idealize.ShloMosaic.Lib.ValueIdx
public import Idealize.ShloMosaic.Lib.WordCmp

@[expose] public section

set_option maxRecDepth 16384

noncomputable section

namespace Cert.Proof.AddEach

open Idealize.ShloMosaic Cert.Pre_each_once
open Idealize.ShloMosaic.ValueIdx (ix1 ix2)

/-- The shape facts the precondition takes. -/
theorem eachFacts : Cert.Pre_each_once.Facts where
  bcast_S_S4096 := by decide
  bcast_S4096_S4096x1_0 := by decide
  bcast_S4096_S1x4096_1 := by decide
  bcast_S4096x1_S4096x4096_0_1 := by decide
  bcast_S1x4096_S4096x4096_0_1 := by decide

theorem ofBool_eq_one {b : Bool} (h : BitVec.ofBool b = 1#1) : b = true := by
  cases b
  · exact absurd h (by decide)
  · rfl

/-- A vector down the columns, and along the rows, of a square. -/
theorem down (x : IVec S4096 32) (p q : Fin 4096) :
    broadcastInDim S4096x4096 ![0, 1] eachFacts.bcast_S4096x1_S4096x4096_0_1 (broadcastInDim S4096x1 ![0] eachFacts.bcast_S4096_S4096x1_0 x) (ix2 p q) = x (ix1 p) := by
  rw [broadcastInDim_apply _ eachFacts.bcast_S4096x1_S4096x4096_0_1 _ (ix2 p q) (ix2 (n0 := 4096) (n1 := 1) p 0) (fun a => match a with
    | ⟨0, _⟩ => by show p.val = if (4096 : Nat) = 1 then 0 else p.val; rw [if_neg (by decide)]
    | ⟨1, _⟩ => by show 0 = if (1 : Nat) = 1 then 0 else q.val; rw [if_pos rfl])]
  exact broadcastInDim_apply _ eachFacts.bcast_S4096_S4096x1_0 x _ (ix1 p) (fun a => match a with
    | ⟨0, _⟩ => by show p.val = if (4096 : Nat) = 1 then 0 else p.val; rw [if_neg (by decide)])
theorem along (x : IVec S4096 32) (p q : Fin 4096) :
    broadcastInDim S4096x4096 ![0, 1] eachFacts.bcast_S1x4096_S4096x4096_0_1 (broadcastInDim S1x4096 ![1] eachFacts.bcast_S4096_S1x4096_1 x) (ix2 p q) = x (ix1 q) := by
  rw [broadcastInDim_apply _ eachFacts.bcast_S1x4096_S4096x4096_0_1 _ (ix2 p q) (ix2 (n0 := 1) (n1 := 4096) 0 q) (fun a => match a with
    | ⟨0, _⟩ => by show 0 = if (1 : Nat) = 1 then 0 else p.val; rw [if_pos rfl]
    | ⟨1, _⟩ => by show q.val = if (4096 : Nat) = 1 then 0 else q.val; rw [if_neg (by decide)])]
  exact broadcastInDim_apply _ eachFacts.bcast_S4096_S1x4096_1 x _ (ix1 q) (fun a => match a with
    | ⟨0, _⟩ => by show q.val = if (4096 : Nat) = 1 then 0 else q.val; rw [if_neg (by decide)])

variable {F : FTy → Type} [FloatOps F] (W : FVec F S4096x1536 .f32) (I : IVec S4096 32) (T : FVec F S65536x1536 .f32)

theorem each_lt (h0 : (@Cert.Pre_each_once.fn eachFacts F _ W I T).1 = fun _ => 1#1) (h1 : (@Cert.Pre_each_once.fn eachFacts F _ W I T).2.1 = fun _ => 1#1)
    (p : Fin 4096) : (I (ix1 p)).toNat < 65536 := by
  have e0 : IntOp.cmpi .sge (I (ix1 p)) 0#32 = 1#1 := congrFun h0 (ix1 p)
  have e1 : IntOp.cmpi .slt (I (ix1 p)) 65536#32 = 1#1 := congrFun h1 (ix1 p)
  rw [WordCmp.cmpi_sge_zero] at e0
  have n0 := of_decide_eq_true (ofBool_eq_one e0)
  rw [WordCmp.cmpi_slt_of_lt n0 (by decide)] at e1
  exact of_decide_eq_true (ofBool_eq_one e1)

theorem each_ne (h2 : (@Cert.Pre_each_once.fn eachFacts F _ W I T).2.2 = fun _ => 1#1) (p q : Fin 4096) (h : I (ix1 p) = I (ix1 q)) : p = q := by
  have e : IntOp.ori (IntOp.cmpi .ne
        (broadcastInDim S4096x4096 ![0, 1] eachFacts.bcast_S4096x1_S4096x4096_0_1 (broadcastInDim S4096x1 ![0] eachFacts.bcast_S4096_S4096x1_0 I) (ix2 p q))
        (broadcastInDim S4096x4096 ![0, 1] eachFacts.bcast_S1x4096_S4096x4096_0_1 (broadcastInDim S1x4096 ![1] eachFacts.bcast_S4096_S1x4096_1 I) (ix2 p q)))
      (IntOp.cmpi .eq
        (broadcastInDim S4096x4096 ![0, 1] eachFacts.bcast_S4096x1_S4096x4096_0_1 (broadcastInDim S4096x1 ![0] eachFacts.bcast_S4096_S4096x1_0 (iotaInDim S4096 32 0)) (ix2 p q))
        (broadcastInDim S4096x4096 ![0, 1] eachFacts.bcast_S1x4096_S4096x4096_0_1 (broadcastInDim S1x4096 ![1] eachFacts.bcast_S4096_S1x4096_1 (iotaInDim S4096 32 0)) (ix2 p q))) = 1#1 :=
    congrFun h2 (ix2 p q)
  rw [down, along, down, along, h, WordCmp.cmpi_ne_eq, WordCmp.cmpi_eq_eq, WordCmp.ori_ofBool] at e
  have e' := ofBool_eq_one e
  simp only [ne_eq, not_true_eq_false, decide_false, Bool.false_or, decide_eq_true_eq] at e'
  have e2 : BitVec.ofNat 32 p.val = BitVec.ofNat 32 q.val := e'
  have e3 := congrArg BitVec.toNat e2
  simp only [BitVec.toNat_ofNat] at e3
  have := p.isLt; have := q.isLt
  exact Fin.ext (by omega)

end Cert.Proof.AddEach

end
-- ==== Proof.AddValue.lean ====
/-
  The claims about `add_sampled`: under the precondition its runs end with the arguments as they were, the accumulator
  at the table with each gradient row added to the row its id names, and every cell at zero; the reference's
  scatter-add ends at the same array, since an id names a row of the table and no other id names it too.
-/
module

public import proofs.«01_k».proof.Defs
public import proofs.«01_k».proof.Proof.AddRun
public import proofs.«01_k».proof.Proof.AddEach
public import proofs.«01_k».proof.Proof.Gen.AddReferenceIdeal
public import proofs.«01_k».proof.Proof.Gen.AddKernelIdeal
public import proofs.«01_k».proof.Proof.Gen.AddReferenceIdeal.Run
public import proofs.«01_k».proof.Proof.Gen.AddReferenceIdeal.Read
public import Idealize.ShloMosaic.Lib.Routing.OpsPair
public import Idealize.ShloMosaic.Lib.Quiescent

@[expose] public section

noncomputable section

namespace Cert.Proof.AddValue

open Idealize.ShloMosaic Idealize.ShloMosaic.TcCoe Idealize.SL.Sem Idealize.ShloMosaic.StableHlo
open Idealize.ShloMosaic.ValueIdx (ix1 ix2)
open Cert.Proof.AddEach (eachFacts each_lt each_ne)

/-! ## The precondition, as the runs take it -/

theorem ok_kernel (m : (ℓ : Loc Cert.AddKernel.nD Cert.AddKernel.τ Cert.AddKernel.sig) → Buf (Elt Bits) ℓ)
    (h : Cert.Pre_AddKernel (hPre_each_once := eachFacts) m) : Cert.Proof.AddTable.Ok m :=
  ⟨fun d p => each_lt _ _ _ (h d).1 (h d).2.1 _, fun d p p' hp hp' e => by
    have := congrArg Fin.val (each_ne _ _ _ (h d).2.2 ⟨p % 4096, by omega⟩ ⟨p' % 4096, by omega⟩ (BitVec.eq_of_toNat_eq e))
    simp only at this
    omega⟩

theorem ok_ideal (m : (ℓ : Loc Cert.AddKernelIdeal.nD Cert.AddKernelIdeal.τ Cert.AddKernelIdeal.sig) → Buf (Elt Ideal) ℓ)
    (h : Cert.Pre_AddKernelIdeal (hPre_each_once := eachFacts) m) : Cert.Proof.AddTable.Ok m :=
  ⟨fun d p => each_lt _ _ _ (h d).1 (h d).2.1 _, fun d p p' hp hp' e => by
    have := congrArg Fin.val (each_ne _ _ _ (h d).2.2 ⟨p % 4096, by omega⟩ ⟨p' % 4096, by omega⟩ (BitVec.eq_of_toNat_eq e))
    simp only at this
    omega⟩

/-! ## The frames -/

/-- The kernel runs, leaves its arguments unchanged and every cell at zero. -/
theorem kernel_frame : Cert.quiescent_AddKernel (hPre_each_once := eachFacts) := fun m ρ h =>
  (θ_run Cert.AddKernel.defs _ _).mono (fun _ h => ⟨fun c => (h.1 c).2, h.2⟩) (Cert.Proof.AddTable.run_main (F := Bits) m ρ (ok_kernel m h))

/-- So does the idealized kernel: it is the same program, and the run is proved over any float. -/
theorem ideal_frame : Cert.quiescent_AddKernelIdeal (hPre_each_once := eachFacts) := fun m ρ h =>
  (θ_run Cert.AddKernelIdeal.defs _ _).mono (fun _ h => ⟨fun c => (h.1 c).2, h.2⟩) (Cert.Proof.AddTable.run_main (F := Ideal) m ρ (ok_ideal m h))

/-- The reference runs, leaves its arguments unchanged and has no semaphore. -/
theorem reference_frame : Cert.quiescent_AddReferenceIdeal := fun m ρ _ =>
  (θ_run Cert.AddReferenceIdeal.defs _ _).mono (fun r h => ⟨fun c => (h c).2, sem_eq_zero_of_no_sems (by decide) r.2⟩)
    (Cert.AddReferenceIdeal.Value.run (F := Ideal) m ρ)

/-! ## The reference's scatter-add, at an index -/

section Scatter

open Cert.AddReferenceIdeal Cert.AddReferenceIdeal.Gen Cert.AddReferenceIdeal.Read

/-- Update `(p, c)` lands at row `idx p`, column `c`. -/
theorem lands (idx : IVec S4096x1 32) (j : S4096x1536.Idx) (i : S65536x1536.Idx) :
    scatter_S65536x1536_S4096x1_S4096x1536_1_0_0_1.resultIdx? j idx = some i
      ↔ (idx (ix2 (n0 := 4096) (n1 := 1) (j 0) 0)).toInt = ((i 0).val : Int) ∧ (j 1).val = (i 1).val := by
  have w0 : scatter_S65536x1536_S4096x1_S4096x1536_1_0_0_1.window j 0 = 0 := by
    unfold ScatterDims.window
    rw [dif_neg (by decide)]
  have w1 : scatter_S65536x1536_S4096x1_S4096x1536_1_0_0_1.window j 1 = (j 1).val := by
    unfold ScatterDims.window
    rw [dif_pos (by decide)]
    rfl
  have s1 : scatter_S65536x1536_S4096x1_S4096x1536_1_0_0_1.start j idx 1 = 0 := by
    unfold ScatterDims.start
    rw [dif_neg (by decide)]
  have s0 : scatter_S65536x1536_S4096x1_S4096x1536_1_0_0_1.start j idx 0 = (idx (ix2 (n0 := 4096) (n1 := 1) (j 0) 0)).toInt := by
    unfold ScatterDims.start
    rw [dif_pos (by decide)]
    refine congrArg (fun k => (idx k).toInt) (funext fun b => Fin.ext ?_)
    match b with
    | ⟨0, _⟩ => rfl
    | ⟨1, _⟩ => rfl
  rw [Routing.resultIdx?_eq_some]
  constructor
  · intro h
    have h0 := h 0
    have h1 := h 1
    rw [s0, w0] at h0
    rw [s1, w1] at h1
    exact ⟨by omega, by omega⟩
  · rintro ⟨h0, h1⟩ a
    match a with
    | ⟨0, _⟩ => exact (congrArg₂ (fun (x : Int) (y : ℕ) => x + (y : Int)) s0 w0).trans (by simpa using h0)
    | ⟨1, _⟩ => exact (congrArg₂ (fun (x : Int) (y : ℕ) => x + (y : Int)) s1 w1).trans (by simpa using h1)

variable (W : FVec Ideal S4096x1536 .f32) (I : IVec S4096 32) (T : FVec Ideal S65536x1536 .f32)

/-- An id in range is not wrapped. -/
theorem ids_at (hin : ∀ p : Fin 4096, (I (ix1 p)).toNat < 65536) (p : Fin 4096) :
    (val_main_v5 (F := Ideal) I (ix2 (n0 := 4096) (n1 := 1) p 0)).toInt = ((I (ix1 p)).toNat : Int) := by
  have h := hin p
  have e : idx_main_v5 (ix2 (n0 := 4096) (n1 := 1) p 0) = ix1 p := funext fun a => match a with | ⟨0, _⟩ => rfl
  rw [val_main_v5_apply, e, val_main_v4_apply, val_main_v1_apply, val_main_v0_apply, val_main_c_apply]
  rw [Routing.wrap_of_lt _ _ (show (I (ix1 p)).toNat < 2 ^ 31 by omega), BitVec.toInt_eq_toNat_of_lt (by omega)]

theorem lands_at (hin : ∀ p : Fin 4096, (I (ix1 p)).toNat < 65536) (j : S4096x1536.Idx) (i : S65536x1536.Idx) :
    scatter_S65536x1536_S4096x1_S4096x1536_1_0_0_1.resultIdx? j (val_main_v5 (F := Ideal) I) = some i
      ↔ (I (ix1 (n := 4096) (j 0))).toNat = (i 0).val ∧ (j 1).val = (i 1).val := by
  refine (lands _ j i).trans (and_congr ?_ Iff.rfl)
  have h := ids_at I hin (j 0)
  constructor
  · intro e; exact Int.ofNat.inj (h.symm.trans e)
  · intro e; exact h.trans (congrArg Int.ofNat e)

theorem sum_at (hin : ∀ p : Fin 4096, (I (ix1 p)).toNat < 65536) (hne : ∀ p q : Fin 4096, I (ix1 p) = I (ix1 q) → p = q)
    (i : S65536x1536.Idx) (p : Fin 4096) (hp : (i 0).val = (I (ix1 p)).toNat) :
    val_main_v6 (F := Ideal) W I T i = (T i + W (ix2 p (i 1)) : EReal) := by
  show (T i + ∑ j ∈ Finset.univ.filter (fun j => scatter_S65536x1536_S4096x1_S4096x1536_1_0_0_1.resultIdx? j (val_main_v5 (F := Ideal) I) = some i), W j : EReal) = _
  have e : Finset.univ.filter (fun j => scatter_S65536x1536_S4096x1_S4096x1536_1_0_0_1.resultIdx? j (val_main_v5 (F := Ideal) I) = some i)
      = {ix2 (n0 := 4096) (n1 := 1536) p (i 1)} := by
    ext j
    rw [Finset.mem_filter, Finset.mem_singleton, lands_at I hin]
    simp only [Finset.mem_univ, true_and]
    constructor
    · rintro ⟨h0, h1⟩
      have e0 : (j 0 : Fin 4096) = p := hne _ _ (BitVec.eq_of_toNat_eq (by omega))
      funext a
      match a with
      | ⟨0, _⟩ => exact e0
      | ⟨1, _⟩ => exact Fin.ext h1
    · rintro rfl
      exact ⟨hp.symm, rfl⟩
  rw [e, Finset.sum_singleton]

theorem sum_off (hin : ∀ p : Fin 4096, (I (ix1 p)).toNat < 65536) (i : S65536x1536.Idx) (hp : ∀ p : Fin 4096, (i 0).val ≠ (I (ix1 p)).toNat) :
    val_main_v6 (F := Ideal) W I T i = T i := by
  show (T i + ∑ j ∈ Finset.univ.filter (fun j => scatter_S65536x1536_S4096x1_S4096x1536_1_0_0_1.resultIdx? j (val_main_v5 (F := Ideal) I) = some i), W j : EReal) = _
  have e : Finset.univ.filter (fun j => scatter_S65536x1536_S4096x1_S4096x1536_1_0_0_1.resultIdx? j (val_main_v5 (F := Ideal) I) = some i) = ∅ := by
    ext j
    rw [Finset.mem_filter, lands_at I hin]
    simp only [Finset.mem_univ, true_and, Finset.notMem_empty, iff_false]
    rintro ⟨h0, _⟩
    exact hp (j 0) (by omega)
  rw [e, Finset.sum_empty, add_zero]

end Scatter

/-! ## The kernel's accumulator is the reference's result -/

theorem res_eq (m : (ℓ : Loc Cert.AddKernelIdeal.nD Cert.AddKernelIdeal.τ Cert.AddKernelIdeal.sig) → Buf (Elt Ideal) ℓ)
    (h : Cert.Pre_AddKernelIdeal (hPre_each_once := eachFacts) m) (c : Dev Cert.AddKernelIdeal.nD) :
    Cert.AddReferenceIdeal.Read.val_main_v6 (F := Ideal) (m (Cert.Proof.AddTable.wLoc c)) (m (Cert.Proof.AddTable.iLoc c)) (m (Cert.Proof.AddTable.tLoc c))
      = Cert.Proof.AddTable.res m c := by
  have ok := ok_ideal m h
  have hin : ∀ p : Fin 4096, (m (Cert.Proof.AddTable.iLoc c) (ix1 p)).toNat < 65536 := each_lt _ _ _ (h c).1 (h c).2.1
  have hne : ∀ p q : Fin 4096, m (Cert.Proof.AddTable.iLoc c) (ix1 p) = m (Cert.Proof.AddTable.iLoc c) (ix1 q) → p = q := each_ne _ _ _ (h c).2.2
  funext i
  by_cases hx : ∃ p, p < 4096 ∧ (i 0).val = Cert.Proof.AddTable.idAt m c p
  · obtain ⟨p, hp, e⟩ := hx
    rw [Cert.Proof.AddTable.res_at ok c p hp i e]
    have ep : (⟨p % 4096, by omega⟩ : Fin 4096) = ⟨p, hp⟩ := Fin.ext (Nat.mod_eq_of_lt hp)
    have e' : (i 0).val = (m (Cert.Proof.AddTable.iLoc c) (ix1 (n := 4096) ⟨p % 4096, by omega⟩)).toNat := e
    exact sum_at _ _ _ hin hne i _ e'
  · rw [Cert.Proof.AddTable.res_off m c i hx]
    refine sum_off _ _ _ hin i fun p e => hx ⟨p.val, p.isLt, e.trans ?_⟩
    have ep : (⟨p.val % 4096, by omega⟩ : Fin 4096) = p := Fin.ext (Nat.mod_eq_of_lt p.isLt)
    show _ = (m (Cert.Proof.AddTable.iLoc c) (ix1 (n := 4096) ⟨p.val % 4096, by omega⟩)).toNat
    rw [ep]

/-- The kernel and the reference end with equal result arrays. -/
theorem algebraic : Cert.algebraic_AddKernelIdeal_AddReferenceIdeal (hPre_each_once := eachFacts) := fun m ρ m' ρ' hpre hag =>
  ⟨fun c => Cert.Proof.AddTable.res (F := Ideal) m c,
    (θ_run Cert.AddKernelIdeal.defs _ _).mono (fun _ h => h.1) (Cert.Proof.AddTable.run_main (F := Ideal) m ρ (ok_ideal m hpre)),
    (θ_run Cert.AddReferenceIdeal.defs _ _).mono (fun _ h c => ⟨(h c).1.trans (by
      rw [(hag c).1, (hag c).2.1, (hag c).2.2]
      exact (Cert.AddReferenceIdeal.Read.val_main_v6_eq _ _ _).trans (res_eq m hpre c)), (h c).2⟩)
      (Cert.AddReferenceIdeal.Value.run (F := Ideal) m' ρ')⟩

end Cert.Proof.AddValue

end
-- ==== Proof.SoftmaxPay.lean ====
module

public import proofs.«01_k».proof.Proof.Gen.KernelIdeal.Value
public import Idealize.ShloMosaic.Lib.Pointwise
public import Idealize.ShloMosaic.Lib.Pipeline.ValueKit

/-! # What the payloads of `softmax_dh` compute, over the reals

The body walks the 4096 sampled columns in eight chunks of 512. Here each printed payload is read as a scalar formula,
and the chunks are put together into functions of the whole row. -/

@[expose] public section

set_option maxRecDepth 16384

noncomputable section

namespace Cert.Softmax

open Cert.KernelIdeal Cert.KernelIdeal.Gen Idealize.ShloMosaic Idealize.ShloMosaic.TcCoe Idealize.SL.Sem

/-- The masked logit of token row `r` of a block at sampled column `s`: −∞ where the sampled id is the token's target,
    else the scaled dot product less the log-probability. `t` holds the block's target ids, `smp` the rows
    scale / log-probability / id of the sampled columns, `cs` the sampled codes. -/
def Z (x : Vec Ideal S256x1536 .bf16) (t : Vec Ideal S1x8x256 .f32) (cs : Vec Ideal S4096x1536 .bf16)
    (smp : Vec Ideal S8x4096 .f32) (r : Fin 256) (s : Fin 4096) : EReal :=
  if smp (ix2 2 s) = t (ix3 0 0 r) then Ideal.ofBits .f32 4286578688#32
  else HMul.hMul (α := EReal) (β := EReal) (∑ d : Fin 1536, HMul.hMul (α := EReal) (β := EReal) (x (ix2 r d)) (cs (ix2 s d))) (smp (ix2 0 s)) - smp (ix2 1 s)

/-- The block of masked logits. -/
def Zv (x : Vec Ideal S256x1536 .bf16) (t : Vec Ideal S1x8x256 .f32) (cs : Vec Ideal S4096x1536 .bf16)
    (smp : Vec Ideal S8x4096 .f32) : Vec Ideal S256x4096 .f32 :=
  fun j => Z x t cs smp (j 0) (j 1)

/-- 512 rows of the sampled codes, from row `o`. -/
abbrev csAt (cs : Vec Ideal S4096x1536 .bf16) (o : ℕ) (h : ∀ a, (![o, 0] : Fin 2 → ℕ) a + S512x1536.size a ≤ S4096x1536.size a) : Vec Ideal S512x1536 .bf16 :=
  View.ld (S := S4096x1536) cs (Rect.unit ![o, 0] S512x1536.size h)

/-- 512 entries of row `a` of the sampled columns' numbers, from column `o`. -/
abbrev smAt (smp : Vec Ideal S8x4096 .f32) (a o : ℕ) (h : ∀ b, (![a, o] : Fin 2 → ℕ) b + S1x512.size b ≤ S8x4096.size b) : Vec Ideal S1x512 .f32 :=
  View.ld (S := S8x4096) smp (Rect.unit ![a, o] S1x512.size h)

/-- 512 columns of a block of rows, from column `o`. -/
abbrev zAt (z : Vec Ideal S256x4096 .f32) (o : ℕ) (h : ∀ b, (![0, o] : Fin 2 → ℕ) b + S256x512.size b ≤ S256x4096.size b) : Vec Ideal S256x512 .f32 :=
  View.ld (S := S256x4096) z (Rect.unit ![0, o] S256x512.size h)

/-- Chunk 0's logits, at an index. -/
theorem z0_apply (x : Vec Ideal S256x1536 .bf16) (t : Vec Ideal S1x8x256 .f32) (cs : Vec Ideal S4096x1536 .bf16) (smp : Vec Ideal S8x4096 .f32) (r : Fin 256) (j : Fin 512) :
    k0_pay24 (F := Ideal) (k0_pay10 t) (k0_pay23 x (csAt cs 0 inb_S4096x1536_S512x1536_0_0) (smAt smp 0 0 inb_S8x4096_S1x512_0_0)) (smAt smp 1 0 inb_S8x4096_S1x512_1_0) (smAt smp 2 0 inb_S8x4096_S1x512_2_0) (ix2 r j) = Z x t cs smp r ⟨j.val, by omega⟩ := by
  pointwise [csAt, smAt, k0_pay24, k0_pay10, k0_pay9, k0_pay23]
  rfl

/-- Chunk 0 of the stored logits is that chunk of the block of logits. -/
theorem z0_eq (x : Vec Ideal S256x1536 .bf16) (t : Vec Ideal S1x8x256 .f32) (cs : Vec Ideal S4096x1536 .bf16) (smp : Vec Ideal S8x4096 .f32) :
    k0_pay25 (F := Ideal) (k0_pay10 t) (k0_pay23 x (csAt cs 0 inb_S4096x1536_S512x1536_0_0) (smAt smp 0 0 inb_S8x4096_S1x512_0_0)) (smAt smp 1 0 inb_S8x4096_S1x512_1_0) (smAt smp 2 0 inb_S8x4096_S1x512_2_0) = zAt (Zv x t cs smp) 0 inb_S256x4096_S256x512_0_0 := by
  funext j
  obtain ⟨r, d, rfl⟩ : ∃ (r : Fin 256) (d : Fin 512), j = ix2 r d := ⟨j 0, j 1, eq_ix2 j⟩
  refine Eq.trans (b := k0_pay24 (F := Ideal) (k0_pay10 t) (k0_pay23 x (csAt cs 0 inb_S4096x1536_S512x1536_0_0) (smAt smp 0 0 inb_S8x4096_S1x512_0_0)) (smAt smp 1 0 inb_S8x4096_S1x512_1_0) (smAt smp 2 0 inb_S8x4096_S1x512_2_0) (ix2 r d)) (by pointwise [k0_pay25]) ((z0_apply x t cs smp r d).trans ?_)
  pointwise [zAt]
  rfl

/-- Chunk 1's logits, at an index. -/
theorem z1_apply (x : Vec Ideal S256x1536 .bf16) (t : Vec Ideal S1x8x256 .f32) (cs : Vec Ideal S4096x1536 .bf16) (smp : Vec Ideal S8x4096 .f32) (r : Fin 256) (j : Fin 512) :
    k0_pay32 (F := Ideal) (k0_pay10 t) (k0_pay30 x (csAt cs 512 inb_S4096x1536_S512x1536_512_0)) (k0_pay31 (smAt smp 0 512 inb_S8x4096_S1x512_0_512)) (smAt smp 1 512 inb_S8x4096_S1x512_1_512) (smAt smp 2 512 inb_S8x4096_S1x512_2_512) (ix2 r j) = Z x t cs smp r ⟨512 + j.val, by omega⟩ := by
  pointwise [csAt, smAt, k0_pay32, k0_pay10, k0_pay9, k0_pay30, k0_pay31]
  rfl

/-- Chunk 1 of the stored logits is that chunk of the block of logits. -/
theorem z1_eq (x : Vec Ideal S256x1536 .bf16) (t : Vec Ideal S1x8x256 .f32) (cs : Vec Ideal S4096x1536 .bf16) (smp : Vec Ideal S8x4096 .f32) :
    k0_pay33 (F := Ideal) (k0_pay10 t) (k0_pay30 x (csAt cs 512 inb_S4096x1536_S512x1536_512_0)) (k0_pay31 (smAt smp 0 512 inb_S8x4096_S1x512_0_512)) (smAt smp 1 512 inb_S8x4096_S1x512_1_512) (smAt smp 2 512 inb_S8x4096_S1x512_2_512) = zAt (Zv x t cs smp) 512 inb_S256x4096_S256x512_0_512 := by
  funext j
  obtain ⟨r, d, rfl⟩ : ∃ (r : Fin 256) (d : Fin 512), j = ix2 r d := ⟨j 0, j 1, eq_ix2 j⟩
  refine Eq.trans (b := k0_pay32 (F := Ideal) (k0_pay10 t) (k0_pay30 x (csAt cs 512 inb_S4096x1536_S512x1536_512_0)) (k0_pay31 (smAt smp 0 512 inb_S8x4096_S1x512_0_512)) (smAt smp 1 512 inb_S8x4096_S1x512_1_512) (smAt smp 2 512 inb_S8x4096_S1x512_2_512) (ix2 r d)) (by pointwise [k0_pay33]) ((z1_apply x t cs smp r d).trans ?_)
  pointwise [zAt]
  rfl

/-- Chunk 2's logits, at an index. -/
theorem z2_apply (x : Vec Ideal S256x1536 .bf16) (t : Vec Ideal S1x8x256 .f32) (cs : Vec Ideal S4096x1536 .bf16) (smp : Vec Ideal S8x4096 .f32) (r : Fin 256) (j : Fin 512) :
    k0_pay39 (F := Ideal) (k0_pay10 t) (k0_pay38 x (csAt cs 1024 inb_S4096x1536_S512x1536_1024_0)) (smAt smp 0 1024 inb_S8x4096_S1x512_0_1024) (smAt smp 1 1024 inb_S8x4096_S1x512_1_1024) (smAt smp 2 1024 inb_S8x4096_S1x512_2_1024) (ix2 r j) = Z x t cs smp r ⟨1024 + j.val, by omega⟩ := by
  pointwise [csAt, smAt, k0_pay39, k0_pay10, k0_pay9, k0_pay38]
  rfl

/-- Chunk 2 of the stored logits is that chunk of the block of logits. -/
theorem z2_eq (x : Vec Ideal S256x1536 .bf16) (t : Vec Ideal S1x8x256 .f32) (cs : Vec Ideal S4096x1536 .bf16) (smp : Vec Ideal S8x4096 .f32) :
    k0_pay40 (F := Ideal) (k0_pay10 t) (k0_pay38 x (csAt cs 1024 inb_S4096x1536_S512x1536_1024_0)) (smAt smp 0 1024 inb_S8x4096_S1x512_0_1024) (smAt smp 1 1024 inb_S8x4096_S1x512_1_1024) (smAt smp 2 1024 inb_S8x4096_S1x512_2_1024) = zAt (Zv x t cs smp) 1024 inb_S256x4096_S256x512_0_1024 := by
  funext j
  obtain ⟨r, d, rfl⟩ : ∃ (r : Fin 256) (d : Fin 512), j = ix2 r d := ⟨j 0, j 1, eq_ix2 j⟩
  refine Eq.trans (b := k0_pay39 (F := Ideal) (k0_pay10 t) (k0_pay38 x (csAt cs 1024 inb_S4096x1536_S512x1536_1024_0)) (smAt smp 0 1024 inb_S8x4096_S1x512_0_1024) (smAt smp 1 1024 inb_S8x4096_S1x512_1_1024) (smAt smp 2 1024 inb_S8x4096_S1x512_2_1024) (ix2 r d)) (by pointwise [k0_pay40]) ((z2_apply x t cs smp r d).trans ?_)
  pointwise [zAt]
  rfl

/-- Chunk 3's logits, at an index. -/
theorem z3_apply (x : Vec Ideal S256x1536 .bf16) (t : Vec Ideal S1x8x256 .f32) (cs : Vec Ideal S4096x1536 .bf16) (smp : Vec Ideal S8x4096 .f32) (r : Fin 256) (j : Fin 512) :
    k0_pay45 (F := Ideal) x (k0_pay10 t) (csAt cs 1536 inb_S4096x1536_S512x1536_1536_0) (smAt smp 0 1536 inb_S8x4096_S1x512_0_1536) (smAt smp 1 1536 inb_S8x4096_S1x512_1_1536) (smAt smp 2 1536 inb_S8x4096_S1x512_2_1536) (ix2 r j) = Z x t cs smp r ⟨1536 + j.val, by omega⟩ := by
  pointwise [csAt, smAt, k0_pay45, k0_pay10, k0_pay9]
  rfl

/-- Chunk 3 of the stored logits is that chunk of the block of logits. -/
theorem z3_eq (x : Vec Ideal S256x1536 .bf16) (t : Vec Ideal S1x8x256 .f32) (cs : Vec Ideal S4096x1536 .bf16) (smp : Vec Ideal S8x4096 .f32) :
    k0_pay46 (F := Ideal) x (k0_pay10 t) (csAt cs 1536 inb_S4096x1536_S512x1536_1536_0) (smAt smp 0 1536 inb_S8x4096_S1x512_0_1536) (smAt smp 1 1536 inb_S8x4096_S1x512_1_1536) (smAt smp 2 1536 inb_S8x4096_S1x512_2_1536) = zAt (Zv x t cs smp) 1536 inb_S256x4096_S256x512_0_1536 := by
  funext j
  obtain ⟨r, d, rfl⟩ : ∃ (r : Fin 256) (d : Fin 512), j = ix2 r d := ⟨j 0, j 1, eq_ix2 j⟩
  refine Eq.trans (b := k0_pay45 (F := Ideal) x (k0_pay10 t) (csAt cs 1536 inb_S4096x1536_S512x1536_1536_0) (smAt smp 0 1536 inb_S8x4096_S1x512_0_1536) (smAt smp 1 1536 inb_S8x4096_S1x512_1_1536) (smAt smp 2 1536 inb_S8x4096_S1x512_2_1536) (ix2 r d)) (by pointwise [k0_pay46]) ((z3_apply x t cs smp r d).trans ?_)
  pointwise [zAt]
  rfl

/-- Chunk 4's logits, at an index. -/
theorem z4_apply (x : Vec Ideal S256x1536 .bf16) (t : Vec Ideal S1x8x256 .f32) (cs : Vec Ideal S4096x1536 .bf16) (smp : Vec Ideal S8x4096 .f32) (r : Fin 256) (j : Fin 512) :
    k0_pay52 (F := Ideal) x (k0_pay10 t) (csAt cs 2048 inb_S4096x1536_S512x1536_2048_0) (smAt smp 0 2048 inb_S8x4096_S1x512_0_2048) (smAt smp 1 2048 inb_S8x4096_S1x512_1_2048) (smAt smp 2 2048 inb_S8x4096_S1x512_2_2048) (ix2 r j) = Z x t cs smp r ⟨2048 + j.val, by omega⟩ := by
  pointwise [csAt, smAt, k0_pay52, k0_pay10, k0_pay9]
  rfl

/-- Chunk 4 of the stored logits is that chunk of the block of logits. -/
theorem z4_eq (x : Vec Ideal S256x1536 .bf16) (t : Vec Ideal S1x8x256 .f32) (cs : Vec Ideal S4096x1536 .bf16) (smp : Vec Ideal S8x4096 .f32) :
    k0_pay53 (F := Ideal) x (k0_pay10 t) (csAt cs 2048 inb_S4096x1536_S512x1536_2048_0) (smAt smp 0 2048 inb_S8x4096_S1x512_0_2048) (smAt smp 1 2048 inb_S8x4096_S1x512_1_2048) (smAt smp 2 2048 inb_S8x4096_S1x512_2_2048) = zAt (Zv x t cs smp) 2048 inb_S256x4096_S256x512_0_2048 := by
  funext j
  obtain ⟨r, d, rfl⟩ : ∃ (r : Fin 256) (d : Fin 512), j = ix2 r d := ⟨j 0, j 1, eq_ix2 j⟩
  refine Eq.trans (b := k0_pay52 (F := Ideal) x (k0_pay10 t) (csAt cs 2048 inb_S4096x1536_S512x1536_2048_0) (smAt smp 0 2048 inb_S8x4096_S1x512_0_2048) (smAt smp 1 2048 inb_S8x4096_S1x512_1_2048) (smAt smp 2 2048 inb_S8x4096_S1x512_2_2048) (ix2 r d)) (by pointwise [k0_pay53]) ((z4_apply x t cs smp r d).trans ?_)
  pointwise [zAt]
  rfl

/-- Chunk 5's logits, at an index. -/
theorem z5_apply (x : Vec Ideal S256x1536 .bf16) (t : Vec Ideal S1x8x256 .f32) (cs : Vec Ideal S4096x1536 .bf16) (smp : Vec Ideal S8x4096 .f32) (r : Fin 256) (j : Fin 512) :
    k0_pay59 (F := Ideal) x (k0_pay10 t) (csAt cs 2560 inb_S4096x1536_S512x1536_2560_0) (smAt smp 0 2560 inb_S8x4096_S1x512_0_2560) (smAt smp 1 2560 inb_S8x4096_S1x512_1_2560) (smAt smp 2 2560 inb_S8x4096_S1x512_2_2560) (ix2 r j) = Z x t cs smp r ⟨2560 + j.val, by omega⟩ := by
  pointwise [csAt, smAt, k0_pay59, k0_pay10, k0_pay9]
  rfl

/-- Chunk 5 of the stored logits is that chunk of the block of logits. -/
theorem z5_eq (x : Vec Ideal S256x1536 .bf16) (t : Vec Ideal S1x8x256 .f32) (cs : Vec Ideal S4096x1536 .bf16) (smp : Vec Ideal S8x4096 .f32) :
    k0_pay60 (F := Ideal) x (k0_pay10 t) (csAt cs 2560 inb_S4096x1536_S512x1536_2560_0) (smAt smp 0 2560 inb_S8x4096_S1x512_0_2560) (smAt smp 1 2560 inb_S8x4096_S1x512_1_2560) (smAt smp 2 2560 inb_S8x4096_S1x512_2_2560) = zAt (Zv x t cs smp) 2560 inb_S256x4096_S256x512_0_2560 := by
  funext j
  obtain ⟨r, d, rfl⟩ : ∃ (r : Fin 256) (d : Fin 512), j = ix2 r d := ⟨j 0, j 1, eq_ix2 j⟩
  refine Eq.trans (b := k0_pay59 (F := Ideal) x (k0_pay10 t) (csAt cs 2560 inb_S4096x1536_S512x1536_2560_0) (smAt smp 0 2560 inb_S8x4096_S1x512_0_2560) (smAt smp 1 2560 inb_S8x4096_S1x512_1_2560) (smAt smp 2 2560 inb_S8x4096_S1x512_2_2560) (ix2 r d)) (by pointwise [k0_pay60]) ((z5_apply x t cs smp r d).trans ?_)
  pointwise [zAt]
  rfl

/-- Chunk 6's logits, at an index. -/
theorem z6_apply (x : Vec Ideal S256x1536 .bf16) (t : Vec Ideal S1x8x256 .f32) (cs : Vec Ideal S4096x1536 .bf16) (smp : Vec Ideal S8x4096 .f32) (r : Fin 256) (j : Fin 512) :
    k0_pay65 (F := Ideal) x (k0_pay10 t) (csAt cs 3072 inb_S4096x1536_S512x1536_3072_0) (smAt smp 0 3072 inb_S8x4096_S1x512_0_3072) (smAt smp 1 3072 inb_S8x4096_S1x512_1_3072) (smAt smp 2 3072 inb_S8x4096_S1x512_2_3072) (ix2 r j) = Z x t cs smp r ⟨3072 + j.val, by omega⟩ := by
  pointwise [csAt, smAt, k0_pay65, k0_pay10, k0_pay9]
  rfl

/-- Chunk 6 of the stored logits is that chunk of the block of logits. -/
theorem z6_eq (x : Vec Ideal S256x1536 .bf16) (t : Vec Ideal S1x8x256 .f32) (cs : Vec Ideal S4096x1536 .bf16) (smp : Vec Ideal S8x4096 .f32) :
    k0_pay66 (F := Ideal) x (k0_pay10 t) (csAt cs 3072 inb_S4096x1536_S512x1536_3072_0) (smAt smp 0 3072 inb_S8x4096_S1x512_0_3072) (smAt smp 1 3072 inb_S8x4096_S1x512_1_3072) (smAt smp 2 3072 inb_S8x4096_S1x512_2_3072) = zAt (Zv x t cs smp) 3072 inb_S256x4096_S256x512_0_3072 := by
  funext j
  obtain ⟨r, d, rfl⟩ : ∃ (r : Fin 256) (d : Fin 512), j = ix2 r d := ⟨j 0, j 1, eq_ix2 j⟩
  refine Eq.trans (b := k0_pay65 (F := Ideal) x (k0_pay10 t) (csAt cs 3072 inb_S4096x1536_S512x1536_3072_0) (smAt smp 0 3072 inb_S8x4096_S1x512_0_3072) (smAt smp 1 3072 inb_S8x4096_S1x512_1_3072) (smAt smp 2 3072 inb_S8x4096_S1x512_2_3072) (ix2 r d)) (by pointwise [k0_pay66]) ((z6_apply x t cs smp r d).trans ?_)
  pointwise [zAt]
  rfl

/-- Chunk 7's logits, at an index. -/
theorem z7_apply (x : Vec Ideal S256x1536 .bf16) (t : Vec Ideal S1x8x256 .f32) (cs : Vec Ideal S4096x1536 .bf16) (smp : Vec Ideal S8x4096 .f32) (r : Fin 256) (j : Fin 512) :
    k0_pay71 (F := Ideal) x (k0_pay10 t) (csAt cs 3584 inb_S4096x1536_S512x1536_3584_0) (smAt smp 0 3584 inb_S8x4096_S1x512_0_3584) (smAt smp 1 3584 inb_S8x4096_S1x512_1_3584) (smAt smp 2 3584 inb_S8x4096_S1x512_2_3584) (ix2 r j) = Z x t cs smp r ⟨3584 + j.val, by omega⟩ := by
  pointwise [csAt, smAt, k0_pay71, k0_pay10, k0_pay9]
  rfl

/-- Chunk 7 of the stored logits is that chunk of the block of logits. -/
theorem z7_eq (x : Vec Ideal S256x1536 .bf16) (t : Vec Ideal S1x8x256 .f32) (cs : Vec Ideal S4096x1536 .bf16) (smp : Vec Ideal S8x4096 .f32) :
    k0_pay72 (F := Ideal) x (k0_pay10 t) (csAt cs 3584 inb_S4096x1536_S512x1536_3584_0) (smAt smp 0 3584 inb_S8x4096_S1x512_0_3584) (smAt smp 1 3584 inb_S8x4096_S1x512_1_3584) (smAt smp 2 3584 inb_S8x4096_S1x512_2_3584) = zAt (Zv x t cs smp) 3584 inb_S256x4096_S256x512_0_3584 := by
  funext j
  obtain ⟨r, d, rfl⟩ : ∃ (r : Fin 256) (d : Fin 512), j = ix2 r d := ⟨j 0, j 1, eq_ix2 j⟩
  refine Eq.trans (b := k0_pay71 (F := Ideal) x (k0_pay10 t) (csAt cs 3584 inb_S4096x1536_S512x1536_3584_0) (smAt smp 0 3584 inb_S8x4096_S1x512_0_3584) (smAt smp 1 3584 inb_S8x4096_S1x512_1_3584) (smAt smp 2 3584 inb_S8x4096_S1x512_2_3584) (ix2 r d)) (by pointwise [k0_pay72]) ((z7_apply x t cs smp r d).trans ?_)
  pointwise [zAt]
  rfl

/-- The running maximum of each of the 128 lanes over the 32 slices of the row, as the body builds it. -/
def lanes (x : Vec Ideal S256x1536 .bf16) (t : Vec Ideal S1x8x256 .f32) (cs : Vec Ideal S4096x1536 .bf16) (smp : Vec Ideal S8x4096 .f32) : Vec Ideal S256x128 .f32 :=
  k0_pay73 x (k0_pay10 t) (k0_pay67 x (k0_pay10 t) (k0_pay61 x (k0_pay10 t) (k0_pay54 x (k0_pay10 t) (k0_pay47 x (k0_pay10 t) (k0_pay41 (k0_pay10 t) (k0_pay34 (k0_pay10 t) (k0_pay26 (k0_pay10 t) k0_pay19 (k0_pay23 x (csAt cs 0 inb_S4096x1536_S512x1536_0_0) (smAt smp 0 0 inb_S8x4096_S1x512_0_0)) (smAt smp 1 0 inb_S8x4096_S1x512_1_0) (smAt smp 2 0 inb_S8x4096_S1x512_2_0)) (k0_pay30 x (csAt cs 512 inb_S4096x1536_S512x1536_512_0)) (k0_pay31 (smAt smp 0 512 inb_S8x4096_S1x512_0_512)) (smAt smp 1 512 inb_S8x4096_S1x512_1_512) (smAt smp 2 512 inb_S8x4096_S1x512_2_512)) (k0_pay38 x (csAt cs 1024 inb_S4096x1536_S512x1536_1024_0)) (smAt smp 0 1024 inb_S8x4096_S1x512_0_1024) (smAt smp 1 1024 inb_S8x4096_S1x512_1_1024) (smAt smp 2 1024 inb_S8x4096_S1x512_2_1024)) (csAt cs 1536 inb_S4096x1536_S512x1536_1536_0) (smAt smp 0 1536 inb_S8x4096_S1x512_0_1536) (smAt smp 1 1536 inb_S8x4096_S1x512_1_1536) (smAt smp 2 1536 inb_S8x4096_S1x512_2_1536)) (csAt cs 2048 inb_S4096x1536_S512x1536_2048_0) (smAt smp 0 2048 inb_S8x4096_S1x512_0_2048) (smAt smp 1 2048 inb_S8x4096_S1x512_1_2048) (smAt smp 2 2048 inb_S8x4096_S1x512_2_2048)) (csAt cs 2560 inb_S4096x1536_S512x1536_2560_0) (smAt smp 0 2560 inb_S8x4096_S1x512_0_2560) (smAt smp 1 2560 inb_S8x4096_S1x512_1_2560) (smAt smp 2 2560 inb_S8x4096_S1x512_2_2560)) (csAt cs 3072 inb_S4096x1536_S512x1536_3072_0) (smAt smp 0 3072 inb_S8x4096_S1x512_0_3072) (smAt smp 1 3072 inb_S8x4096_S1x512_1_3072) (smAt smp 2 3072 inb_S8x4096_S1x512_2_3072)) (csAt cs 3584 inb_S4096x1536_S512x1536_3584_0) (smAt smp 0 3584 inb_S8x4096_S1x512_0_3584) (smAt smp 1 3584 inb_S8x4096_S1x512_1_3584) (smAt smp 2 3584 inb_S8x4096_S1x512_2_3584)

/-- The bits of −∞. -/
theorem ofBits_neg_inf : Ideal.ofBits .f32 4286578688#32 = (⊥ : EReal) := by
  simp [Ideal.ofBits, Ideal.ieee]

/-- A bound of a lane's running maximum is a bound of every logit of that lane. -/
theorem lanes_le_iff (x : Vec Ideal S256x1536 .bf16) (t : Vec Ideal S1x8x256 .f32) (cs : Vec Ideal S4096x1536 .bf16) (smp : Vec Ideal S8x4096 .f32) (r : Fin 256) (l : Fin 128) (b : EReal) :
    LE.le (α := EReal) (lanes x t cs smp (ix2 r l)) b ↔ ∀ s : Fin 4096, s.val % 128 = l.val → Z x t cs smp r s ≤ b := by
  rw [show lanes x t cs smp (ix2 r l) = max (max (max (max (max (max (max (max (max (max (max (max (max (max (max (max (max (max (max (max (max (max (max (max (max (max (max (max (max (max (max (max (Ideal.ofBits .f32 4286578688#32) (Z x t cs smp r ⟨l.val, by omega⟩)) (Z x t cs smp r ⟨128 + l.val, by omega⟩)) (Z x t cs smp r ⟨256 + l.val, by omega⟩)) (Z x t cs smp r ⟨384 + l.val, by omega⟩)) (Z x t cs smp r ⟨512 + l.val, by omega⟩)) (Z x t cs smp r ⟨512 + (128 + l.val), by omega⟩)) (Z x t cs smp r ⟨512 + (256 + l.val), by omega⟩)) (Z x t cs smp r ⟨512 + (384 + l.val), by omega⟩)) (Z x t cs smp r ⟨1024 + l.val, by omega⟩)) (Z x t cs smp r ⟨1024 + (128 + l.val), by omega⟩)) (Z x t cs smp r ⟨1024 + (256 + l.val), by omega⟩)) (Z x t cs smp r ⟨1024 + (384 + l.val), by omega⟩)) (Z x t cs smp r ⟨1536 + l.val, by omega⟩)) (Z x t cs smp r ⟨1536 + (128 + l.val), by omega⟩)) (Z x t cs smp r ⟨1536 + (256 + l.val), by omega⟩)) (Z x t cs smp r ⟨1536 + (384 + l.val), by omega⟩)) (Z x t cs smp r ⟨2048 + l.val, by omega⟩)) (Z x t cs smp r ⟨2048 + (128 + l.val), by omega⟩)) (Z x t cs smp r ⟨2048 + (256 + l.val), by omega⟩)) (Z x t cs smp r ⟨2048 + (384 + l.val), by omega⟩)) (Z x t cs smp r ⟨2560 + l.val, by omega⟩)) (Z x t cs smp r ⟨2560 + (128 + l.val), by omega⟩)) (Z x t cs smp r ⟨2560 + (256 + l.val), by omega⟩)) (Z x t cs smp r ⟨2560 + (384 + l.val), by omega⟩)) (Z x t cs smp r ⟨3072 + l.val, by omega⟩)) (Z x t cs smp r ⟨3072 + (128 + l.val), by omega⟩)) (Z x t cs smp r ⟨3072 + (256 + l.val), by omega⟩)) (Z x t cs smp r ⟨3072 + (384 + l.val), by omega⟩)) (Z x t cs smp r ⟨3584 + l.val, by omega⟩)) (Z x t cs smp r ⟨3584 + (128 + l.val), by omega⟩)) (Z x t cs smp r ⟨3584 + (256 + l.val), by omega⟩)) (Z x t cs smp r ⟨3584 + (384 + l.val), by omega⟩) by
    unfold lanes
    pointwise [k0_pay26, k0_pay34, k0_pay41, k0_pay47, k0_pay54, k0_pay61, k0_pay67, k0_pay73, k0_pay19]
    simp only [z0_apply, z1_apply, z2_apply, z3_apply, z4_apply, z5_apply, z6_apply, z7_apply]]
  simp only [max_le_iff]
  constructor
  · rintro ⟨⟨⟨⟨⟨⟨⟨⟨⟨⟨⟨⟨⟨⟨⟨⟨⟨⟨⟨⟨⟨⟨⟨⟨⟨⟨⟨⟨⟨⟨⟨⟨hb, h0⟩, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩, h31⟩ s hs
    exact match s.val / 128, (show s.val / 128 < 32 by omega), (show s.val = 128 * (s.val / 128) + l.val by omega) with
      | 0, _, hk => (congrArg (Z x t cs smp r) (Fin.ext (show s.val = ((⟨l.val, by omega⟩ : Fin 4096)).val by simp only []; omega))).trans_le h0
      | 1, _, hk => (congrArg (Z x t cs smp r) (Fin.ext (show s.val = ((⟨128 + l.val, by omega⟩ : Fin 4096)).val by simp only []; omega))).trans_le h1
      | 2, _, hk => (congrArg (Z x t cs smp r) (Fin.ext (show s.val = ((⟨256 + l.val, by omega⟩ : Fin 4096)).val by simp only []; omega))).trans_le h2
      | 3, _, hk => (congrArg (Z x t cs smp r) (Fin.ext (show s.val = ((⟨384 + l.val, by omega⟩ : Fin 4096)).val by simp only []; omega))).trans_le h3
      | 4, _, hk => (congrArg (Z x t cs smp r) (Fin.ext (show s.val = ((⟨512 + l.val, by omega⟩ : Fin 4096)).val by simp only []; omega))).trans_le h4
      | 5, _, hk => (congrArg (Z x t cs smp r) (Fin.ext (show s.val = ((⟨512 + (128 + l.val), by omega⟩ : Fin 4096)).val by simp only []; omega))).trans_le h5
      | 6, _, hk => (congrArg (Z x t cs smp r) (Fin.ext (show s.val = ((⟨512 + (256 + l.val), by omega⟩ : Fin 4096)).val by simp only []; omega))).trans_le h6
      | 7, _, hk => (congrArg (Z x t cs smp r) (Fin.ext (show s.val = ((⟨512 + (384 + l.val), by omega⟩ : Fin 4096)).val by simp only []; omega))).trans_le h7
      | 8, _, hk => (congrArg (Z x t cs smp r) (Fin.ext (show s.val = ((⟨1024 + l.val, by omega⟩ : Fin 4096)).val by simp only []; omega))).trans_le h8
      | 9, _, hk => (congrArg (Z x t cs smp r) (Fin.ext (show s.val = ((⟨1024 + (128 + l.val), by omega⟩ : Fin 4096)).val by simp only []; omega))).trans_le h9
      | 10, _, hk => (congrArg (Z x t cs smp r) (Fin.ext (show s.val = ((⟨1024 + (256 + l.val), by omega⟩ : Fin 4096)).val by simp only []; omega))).trans_le h10
      | 11, _, hk => (congrArg (Z x t cs smp r) (Fin.ext (show s.val = ((⟨1024 + (384 + l.val), by omega⟩ : Fin 4096)).val by simp only []; omega))).trans_le h11
      | 12, _, hk => (congrArg (Z x t cs smp r) (Fin.ext (show s.val = ((⟨1536 + l.val, by omega⟩ : Fin 4096)).val by simp only []; omega))).trans_le h12
      | 13, _, hk => (congrArg (Z x t cs smp r) (Fin.ext (show s.val = ((⟨1536 + (128 + l.val), by omega⟩ : Fin 4096)).val by simp only []; omega))).trans_le h13
      | 14, _, hk => (congrArg (Z x t cs smp r) (Fin.ext (show s.val = ((⟨1536 + (256 + l.val), by omega⟩ : Fin 4096)).val by simp only []; omega))).trans_le h14
      | 15, _, hk => (congrArg (Z x t cs smp r) (Fin.ext (show s.val = ((⟨1536 + (384 + l.val), by omega⟩ : Fin 4096)).val by simp only []; omega))).trans_le h15
      | 16, _, hk => (congrArg (Z x t cs smp r) (Fin.ext (show s.val = ((⟨2048 + l.val, by omega⟩ : Fin 4096)).val by simp only []; omega))).trans_le h16
      | 17, _, hk => (congrArg (Z x t cs smp r) (Fin.ext (show s.val = ((⟨2048 + (128 + l.val), by omega⟩ : Fin 4096)).val by simp only []; omega))).trans_le h17
      | 18, _, hk => (congrArg (Z x t cs smp r) (Fin.ext (show s.val = ((⟨2048 + (256 + l.val), by omega⟩ : Fin 4096)).val by simp only []; omega))).trans_le h18
      | 19, _, hk => (congrArg (Z x t cs smp r) (Fin.ext (show s.val = ((⟨2048 + (384 + l.val), by omega⟩ : Fin 4096)).val by simp only []; omega))).trans_le h19
      | 20, _, hk => (congrArg (Z x t cs smp r) (Fin.ext (show s.val = ((⟨2560 + l.val, by omega⟩ : Fin 4096)).val by simp only []; omega))).trans_le h20
      | 21, _, hk => (congrArg (Z x t cs smp r) (Fin.ext (show s.val = ((⟨2560 + (128 + l.val), by omega⟩ : Fin 4096)).val by simp only []; omega))).trans_le h21
      | 22, _, hk => (congrArg (Z x t cs smp r) (Fin.ext (show s.val = ((⟨2560 + (256 + l.val), by omega⟩ : Fin 4096)).val by simp only []; omega))).trans_le h22
      | 23, _, hk => (congrArg (Z x t cs smp r) (Fin.ext (show s.val = ((⟨2560 + (384 + l.val), by omega⟩ : Fin 4096)).val by simp only []; omega))).trans_le h23
      | 24, _, hk => (congrArg (Z x t cs smp r) (Fin.ext (show s.val = ((⟨3072 + l.val, by omega⟩ : Fin 4096)).val by simp only []; omega))).trans_le h24
      | 25, _, hk => (congrArg (Z x t cs smp r) (Fin.ext (show s.val = ((⟨3072 + (128 + l.val), by omega⟩ : Fin 4096)).val by simp only []; omega))).trans_le h25
      | 26, _, hk => (congrArg (Z x t cs smp r) (Fin.ext (show s.val = ((⟨3072 + (256 + l.val), by omega⟩ : Fin 4096)).val by simp only []; omega))).trans_le h26
      | 27, _, hk => (congrArg (Z x t cs smp r) (Fin.ext (show s.val = ((⟨3072 + (384 + l.val), by omega⟩ : Fin 4096)).val by simp only []; omega))).trans_le h27
      | 28, _, hk => (congrArg (Z x t cs smp r) (Fin.ext (show s.val = ((⟨3584 + l.val, by omega⟩ : Fin 4096)).val by simp only []; omega))).trans_le h28
      | 29, _, hk => (congrArg (Z x t cs smp r) (Fin.ext (show s.val = ((⟨3584 + (128 + l.val), by omega⟩ : Fin 4096)).val by simp only []; omega))).trans_le h29
      | 30, _, hk => (congrArg (Z x t cs smp r) (Fin.ext (show s.val = ((⟨3584 + (256 + l.val), by omega⟩ : Fin 4096)).val by simp only []; omega))).trans_le h30
      | 31, _, hk => (congrArg (Z x t cs smp r) (Fin.ext (show s.val = ((⟨3584 + (384 + l.val), by omega⟩ : Fin 4096)).val by simp only []; omega))).trans_le h31
      | k + 32, hk, _ => absurd hk (by omega)
  · intro h
    exact ⟨⟨⟨⟨⟨⟨⟨⟨⟨⟨⟨⟨⟨⟨⟨⟨⟨⟨⟨⟨⟨⟨⟨⟨⟨⟨⟨⟨⟨⟨⟨⟨(by rw [ofBits_neg_inf]; exact bot_le), h ⟨l.val, by omega⟩ (by simp only []; omega)⟩, h ⟨128 + l.val, by omega⟩ (by simp only []; omega)⟩, h ⟨256 + l.val, by omega⟩ (by simp only []; omega)⟩, h ⟨384 + l.val, by omega⟩ (by simp only []; omega)⟩, h ⟨512 + l.val, by omega⟩ (by simp only []; omega)⟩, h ⟨512 + (128 + l.val), by omega⟩ (by simp only []; omega)⟩, h ⟨512 + (256 + l.val), by omega⟩ (by simp only []; omega)⟩, h ⟨512 + (384 + l.val), by omega⟩ (by simp only []; omega)⟩, h ⟨1024 + l.val, by omega⟩ (by simp only []; omega)⟩, h ⟨1024 + (128 + l.val), by omega⟩ (by simp only []; omega)⟩, h ⟨1024 + (256 + l.val), by omega⟩ (by simp only []; omega)⟩, h ⟨1024 + (384 + l.val), by omega⟩ (by simp only []; omega)⟩, h ⟨1536 + l.val, by omega⟩ (by simp only []; omega)⟩, h ⟨1536 + (128 + l.val), by omega⟩ (by simp only []; omega)⟩, h ⟨1536 + (256 + l.val), by omega⟩ (by simp only []; omega)⟩, h ⟨1536 + (384 + l.val), by omega⟩ (by simp only []; omega)⟩, h ⟨2048 + l.val, by omega⟩ (by simp only []; omega)⟩, h ⟨2048 + (128 + l.val), by omega⟩ (by simp only []; omega)⟩, h ⟨2048 + (256 + l.val), by omega⟩ (by simp only []; omega)⟩, h ⟨2048 + (384 + l.val), by omega⟩ (by simp only []; omega)⟩, h ⟨2560 + l.val, by omega⟩ (by simp only []; omega)⟩, h ⟨2560 + (128 + l.val), by omega⟩ (by simp only []; omega)⟩, h ⟨2560 + (256 + l.val), by omega⟩ (by simp only []; omega)⟩, h ⟨2560 + (384 + l.val), by omega⟩ (by simp only []; omega)⟩, h ⟨3072 + l.val, by omega⟩ (by simp only []; omega)⟩, h ⟨3072 + (128 + l.val), by omega⟩ (by simp only []; omega)⟩, h ⟨3072 + (256 + l.val), by omega⟩ (by simp only []; omega)⟩, h ⟨3072 + (384 + l.val), by omega⟩ (by simp only []; omega)⟩, h ⟨3584 + l.val, by omega⟩ (by simp only []; omega)⟩, h ⟨3584 + (128 + l.val), by omega⟩ (by simp only []; omega)⟩, h ⟨3584 + (256 + l.val), by omega⟩ (by simp only []; omega)⟩, h ⟨3584 + (384 + l.val), by omega⟩ (by simp only []; omega)⟩

end Cert.Softmax

end
-- ==== Proof.SoftmaxRow.lean ====
module

public import proofs.«01_k».proof.Proof.SoftmaxPay

/-! # One block of rows of `softmax_dh`, over the reals

The row maximum, the row's exponentials and their sum, the target logit, the log-sum-exp, and what the body stores from them. -/

@[expose] public section

set_option maxRecDepth 16384

noncomputable section

namespace Cert.Softmax

open Cert.KernelIdeal Cert.KernelIdeal.Gen Idealize.ShloMosaic Idealize.ShloMosaic.TcCoe Idealize.SL.Sem

/-- The signed byte a word holds at the bits that a left shift by `k` brings to the top, as a number. -/
def byteOf (k w : BitVec 32) : EReal :=
  FloatOps.sitofp (F := Ideal) .f32 (IntOp.shrsi ArithUnit.vector (IntOp.shli ArithUnit.vector w k) 24#32)

/-- Code `d` of a row of 384 packed words: byte `d / 384` of word `d % 384`. -/
def code (w : Fin 384 → BitVec 32) (d : Fin 1536) : EReal :=
  byteOf (if d.val < 384 then 24#32 else if d.val < 768 then 16#32 else if d.val < 1152 then 8#32 else 0#32)
    (w ⟨d.val % 384, Nat.mod_lt _ (by decide)⟩)

/-- The codes of a block of 256 packed rows. -/
def ctv (p : Vec Ideal S256x384 .i32) : Vec Ideal S256x1536 .bf16 := fun j => code (fun k => p (ix2 (j 0) k)) (j 1)

/-- The unpacked target block is its codes. -/
theorem ct_apply (p : Vec Ideal S256x384 .i32) (r : Fin 256) (d : Fin 1536) :
    k0_pay17 (F := Ideal) (k0_pay14 p) (k0_pay15 p) (k0_pay16 p) p (ix2 r d) = ctv p (ix2 r d) := by
  pointwise [k0_pay17, k0_pay14, k0_pay15, k0_pay16]
  show _ = code (fun k => p (ix2 r k)) d
  unfold code byteOf
  have hd := d.isLt
  split_ifs <;> first | omega | (congr 4 <;> first | (refine congrArg (ix2 r) (Fin.ext ?_); simp only []; omega) | (split_ifs <;> first | rfl | omega))

theorem ct_eq (p : Vec Ideal S256x384 .i32) :
    k0_pay75 (F := Ideal) (k0_pay17 (k0_pay14 p) (k0_pay15 p) (k0_pay16 p) p) = ctv p := by
  funext j
  obtain ⟨r, d, rfl⟩ : ∃ (r : Fin 256) (d : Fin 1536), j = ix2 r d := ⟨j 0, j 1, eq_ix2 j⟩
  refine Eq.trans ?_ (ct_apply p r d)
  pointwise [k0_pay75]

/-- The target logit of token row `r`. -/
def ZT (x : Vec Ideal S256x1536 .bf16) (p : Vec Ideal S256x384 .i32) (t : Vec Ideal S1x8x256 .f32) (r : Fin 256) : EReal :=
  HMul.hMul (α := EReal) (β := EReal) (t (ix3 0 2 r)) (∑ d : Fin 1536, HMul.hMul (α := EReal) (β := EReal) (x (ix2 r d)) (ctv p (ix2 r d))) - t (ix3 0 3 r)

theorem zt_apply (x : Vec Ideal S256x1536 .bf16) (p : Vec Ideal S256x384 .i32) (t : Vec Ideal S1x8x256 .f32) (r : Fin 256) :
    k0_pay18 (F := Ideal) x (k0_pay12 t) (k0_pay13 t) (k0_pay14 p) (k0_pay15 p) (k0_pay16 p) p (ix2 r 0) = ZT x p t r := by
  pointwise [k0_pay18, k0_pay12, k0_pay13, k0_pay9]
  simp only [ct_apply]
  rfl

/-- The greatest logit of token row `r`. -/
def M (x : Vec Ideal S256x1536 .bf16) (t : Vec Ideal S1x8x256 .f32) (cs : Vec Ideal S4096x1536 .bf16) (smp : Vec Ideal S8x4096 .f32) (r : Fin 256) : EReal := k0_pay76 (F := Ideal) (lanes x t cs smp) (ix2 r 0)

/-- What bounds the greatest logit bounds them all, and conversely. -/
theorem M_le_iff (x : Vec Ideal S256x1536 .bf16) (t : Vec Ideal S1x8x256 .f32) (cs : Vec Ideal S4096x1536 .bf16) (smp : Vec Ideal S8x4096 .f32) (r : Fin 256) (b : EReal) : M x t cs smp r ≤ b ↔ ∀ s, Z x t cs smp r s ≤ b := by
  unfold M
  pointwise [k0_pay76]
  rw [Finset.fold_max_le]
  simp only [Finset.mem_univ, forall_true_left, lanes_le_iff]
  constructor
  · rintro ⟨-, h⟩ s
    exact h ⟨s.val % 128, Nat.mod_lt _ (by decide)⟩ s rfl
  · intro h
    exact ⟨by rw [ofBits_neg_inf]; exact bot_le, fun _ s _ => h s⟩

/-- The block of exponentials `exp (z − max)`. -/
def Ev (x : Vec Ideal S256x1536 .bf16) (t : Vec Ideal S1x8x256 .f32) (cs : Vec Ideal S4096x1536 .bf16) (smp : Vec Ideal S8x4096 .f32) : Vec Ideal S256x4096 .f32 := fun j => Ideal.exp (Z x t cs smp (j 0) (j 1) - M x t cs smp (j 0))

/-- Chunk 0's exponentials, at an index. -/
theorem e0_apply (x : Vec Ideal S256x1536 .bf16) (t : Vec Ideal S1x8x256 .f32) (cs : Vec Ideal S4096x1536 .bf16) (smp : Vec Ideal S8x4096 .f32) (r : Fin 256) (j : Fin 512) :
    k0_pay77 (F := Ideal) (lanes x t cs smp) (zAt (Zv x t cs smp) 0 inb_S256x4096_S256x512_0_0) (ix2 r j) = Ev x t cs smp (ix2 r ⟨j.val, by omega⟩) := by
  pointwise [k0_pay77, zAt]
  rfl

/-- Chunk 0 of the stored exponentials is that chunk of the block. -/
theorem e0_eq (x : Vec Ideal S256x1536 .bf16) (t : Vec Ideal S1x8x256 .f32) (cs : Vec Ideal S4096x1536 .bf16) (smp : Vec Ideal S8x4096 .f32) :
    k0_pay78 (F := Ideal) (lanes x t cs smp) (zAt (Zv x t cs smp) 0 inb_S256x4096_S256x512_0_0) = zAt (Ev x t cs smp) 0 inb_S256x4096_S256x512_0_0 := by
  funext j
  obtain ⟨r, d, rfl⟩ : ∃ (r : Fin 256) (d : Fin 512), j = ix2 r d := ⟨j 0, j 1, eq_ix2 j⟩
  refine Eq.trans (b := k0_pay77 (F := Ideal) (lanes x t cs smp) (zAt (Zv x t cs smp) 0 inb_S256x4096_S256x512_0_0) (ix2 r d)) (by pointwise [k0_pay78]) ((e0_apply x t cs smp r d).trans ?_)
  pointwise [zAt]

/-- Chunk 1's exponentials, at an index. -/
theorem e1_apply (x : Vec Ideal S256x1536 .bf16) (t : Vec Ideal S1x8x256 .f32) (cs : Vec Ideal S4096x1536 .bf16) (smp : Vec Ideal S8x4096 .f32) (r : Fin 256) (j : Fin 512) :
    k0_pay79 (F := Ideal) (lanes x t cs smp) (zAt (Zv x t cs smp) 512 inb_S256x4096_S256x512_0_512) (ix2 r j) = Ev x t cs smp (ix2 r ⟨512 + j.val, by omega⟩) := by
  pointwise [k0_pay79, zAt]
  rfl

/-- Chunk 1 of the stored exponentials is that chunk of the block. -/
theorem e1_eq (x : Vec Ideal S256x1536 .bf16) (t : Vec Ideal S1x8x256 .f32) (cs : Vec Ideal S4096x1536 .bf16) (smp : Vec Ideal S8x4096 .f32) :
    k0_pay80 (F := Ideal) (lanes x t cs smp) (zAt (Zv x t cs smp) 512 inb_S256x4096_S256x512_0_512) = zAt (Ev x t cs smp) 512 inb_S256x4096_S256x512_0_512 := by
  funext j
  obtain ⟨r, d, rfl⟩ : ∃ (r : Fin 256) (d : Fin 512), j = ix2 r d := ⟨j 0, j 1, eq_ix2 j⟩
  refine Eq.trans (b := k0_pay79 (F := Ideal) (lanes x t cs smp) (zAt (Zv x t cs smp) 512 inb_S256x4096_S256x512_0_512) (ix2 r d)) (by pointwise [k0_pay80]) ((e1_apply x t cs smp r d).trans ?_)
  pointwise [zAt]

/-- Chunk 2's exponentials, at an index. -/
theorem e2_apply (x : Vec Ideal S256x1536 .bf16) (t : Vec Ideal S1x8x256 .f32) (cs : Vec Ideal S4096x1536 .bf16) (smp : Vec Ideal S8x4096 .f32) (r : Fin 256) (j : Fin 512) :
    k0_pay82 (F := Ideal) (k0_pay76 (lanes x t cs smp)) (zAt (Zv x t cs smp) 1024 inb_S256x4096_S256x512_0_1024) (ix2 r j) = Ev x t cs smp (ix2 r ⟨1024 + j.val, by omega⟩) := by
  pointwise [k0_pay82, zAt]
  rfl

/-- Chunk 2 of the stored exponentials is that chunk of the block. -/
theorem e2_eq (x : Vec Ideal S256x1536 .bf16) (t : Vec Ideal S1x8x256 .f32) (cs : Vec Ideal S4096x1536 .bf16) (smp : Vec Ideal S8x4096 .f32) :
    k0_pay83 (F := Ideal) (k0_pay76 (lanes x t cs smp)) (zAt (Zv x t cs smp) 1024 inb_S256x4096_S256x512_0_1024) = zAt (Ev x t cs smp) 1024 inb_S256x4096_S256x512_0_1024 := by
  funext j
  obtain ⟨r, d, rfl⟩ : ∃ (r : Fin 256) (d : Fin 512), j = ix2 r d := ⟨j 0, j 1, eq_ix2 j⟩
  refine Eq.trans (b := k0_pay82 (F := Ideal) (k0_pay76 (lanes x t cs smp)) (zAt (Zv x t cs smp) 1024 inb_S256x4096_S256x512_0_1024) (ix2 r d)) (by pointwise [k0_pay83]) ((e2_apply x t cs smp r d).trans ?_)
  pointwise [zAt]

/-- Chunk 3's exponentials, at an index. -/
theorem e3_apply (x : Vec Ideal S256x1536 .bf16) (t : Vec Ideal S1x8x256 .f32) (cs : Vec Ideal S4096x1536 .bf16) (smp : Vec Ideal S8x4096 .f32) (r : Fin 256) (j : Fin 512) :
    k0_pay84 (F := Ideal) (k0_pay76 (lanes x t cs smp)) (zAt (Zv x t cs smp) 1536 inb_S256x4096_S256x512_0_1536) (ix2 r j) = Ev x t cs smp (ix2 r ⟨1536 + j.val, by omega⟩) := by
  pointwise [k0_pay84, zAt]
  rfl

/-- Chunk 3 of the stored exponentials is that chunk of the block. -/
theorem e3_eq (x : Vec Ideal S256x1536 .bf16) (t : Vec Ideal S1x8x256 .f32) (cs : Vec Ideal S4096x1536 .bf16) (smp : Vec Ideal S8x4096 .f32) :
    k0_pay85 (F := Ideal) (k0_pay76 (lanes x t cs smp)) (zAt (Zv x t cs smp) 1536 inb_S256x4096_S256x512_0_1536) = zAt (Ev x t cs smp) 1536 inb_S256x4096_S256x512_0_1536 := by
  funext j
  obtain ⟨r, d, rfl⟩ : ∃ (r : Fin 256) (d : Fin 512), j = ix2 r d := ⟨j 0, j 1, eq_ix2 j⟩
  refine Eq.trans (b := k0_pay84 (F := Ideal) (k0_pay76 (lanes x t cs smp)) (zAt (Zv x t cs smp) 1536 inb_S256x4096_S256x512_0_1536) (ix2 r d)) (by pointwise [k0_pay85]) ((e3_apply x t cs smp r d).trans ?_)
  pointwise [zAt]

/-- Chunk 4's exponentials, at an index. -/
theorem e4_apply (x : Vec Ideal S256x1536 .bf16) (t : Vec Ideal S1x8x256 .f32) (cs : Vec Ideal S4096x1536 .bf16) (smp : Vec Ideal S8x4096 .f32) (r : Fin 256) (j : Fin 512) :
    k0_pay86 (F := Ideal) (k0_pay76 (lanes x t cs smp)) (zAt (Zv x t cs smp) 2048 inb_S256x4096_S256x512_0_2048) (ix2 r j) = Ev x t cs smp (ix2 r ⟨2048 + j.val, by omega⟩) := by
  pointwise [k0_pay86, zAt]
  rfl

/-- Chunk 4 of the stored exponentials is that chunk of the block. -/
theorem e4_eq (x : Vec Ideal S256x1536 .bf16) (t : Vec Ideal S1x8x256 .f32) (cs : Vec Ideal S4096x1536 .bf16) (smp : Vec Ideal S8x4096 .f32) :
    k0_pay87 (F := Ideal) (k0_pay76 (lanes x t cs smp)) (zAt (Zv x t cs smp) 2048 inb_S256x4096_S256x512_0_2048) = zAt (Ev x t cs smp) 2048 inb_S256x4096_S256x512_0_2048 := by
  funext j
  obtain ⟨r, d, rfl⟩ : ∃ (r : Fin 256) (d : Fin 512), j = ix2 r d := ⟨j 0, j 1, eq_ix2 j⟩
  refine Eq.trans (b := k0_pay86 (F := Ideal) (k0_pay76 (lanes x t cs smp)) (zAt (Zv x t cs smp) 2048 inb_S256x4096_S256x512_0_2048) (ix2 r d)) (by pointwise [k0_pay87]) ((e4_apply x t cs smp r d).trans ?_)
  pointwise [zAt]

/-- Chunk 5's exponentials, at an index. -/
theorem e5_apply (x : Vec Ideal S256x1536 .bf16) (t : Vec Ideal S1x8x256 .f32) (cs : Vec Ideal S4096x1536 .bf16) (smp : Vec Ideal S8x4096 .f32) (r : Fin 256) (j : Fin 512) :
    k0_pay89 (F := Ideal) (k0_pay76 (lanes x t cs smp)) (zAt (Zv x t cs smp) 2560 inb_S256x4096_S256x512_0_2560) (ix2 r j) = Ev x t cs smp (ix2 r ⟨2560 + j.val, by omega⟩) := by
  pointwise [k0_pay89, zAt]
  rfl

/-- Chunk 5 of the stored exponentials is that chunk of the block. -/
theorem e5_eq (x : Vec Ideal S256x1536 .bf16) (t : Vec Ideal S1x8x256 .f32) (cs : Vec Ideal S4096x1536 .bf16) (smp : Vec Ideal S8x4096 .f32) :
    k0_pay90 (F := Ideal) (k0_pay76 (lanes x t cs smp)) (zAt (Zv x t cs smp) 2560 inb_S256x4096_S256x512_0_2560) = zAt (Ev x t cs smp) 2560 inb_S256x4096_S256x512_0_2560 := by
  funext j
  obtain ⟨r, d, rfl⟩ : ∃ (r : Fin 256) (d : Fin 512), j = ix2 r d := ⟨j 0, j 1, eq_ix2 j⟩
  refine Eq.trans (b := k0_pay89 (F := Ideal) (k0_pay76 (lanes x t cs smp)) (zAt (Zv x t cs smp) 2560 inb_S256x4096_S256x512_0_2560) (ix2 r d)) (by pointwise [k0_pay90]) ((e5_apply x t cs smp r d).trans ?_)
  pointwise [zAt]

/-- Chunk 6's exponentials, at an index. -/
theorem e6_apply (x : Vec Ideal S256x1536 .bf16) (t : Vec Ideal S1x8x256 .f32) (cs : Vec Ideal S4096x1536 .bf16) (smp : Vec Ideal S8x4096 .f32) (r : Fin 256) (j : Fin 512) :
    k0_pay91 (F := Ideal) (k0_pay76 (lanes x t cs smp)) (zAt (Zv x t cs smp) 3072 inb_S256x4096_S256x512_0_3072) (ix2 r j) = Ev x t cs smp (ix2 r ⟨3072 + j.val, by omega⟩) := by
  pointwise [k0_pay91, zAt]
  rfl

/-- Chunk 6 of the stored exponentials is that chunk of the block. -/
theorem e6_eq (x : Vec Ideal S256x1536 .bf16) (t : Vec Ideal S1x8x256 .f32) (cs : Vec Ideal S4096x1536 .bf16) (smp : Vec Ideal S8x4096 .f32) :
    k0_pay92 (F := Ideal) (k0_pay76 (lanes x t cs smp)) (zAt (Zv x t cs smp) 3072 inb_S256x4096_S256x512_0_3072) = zAt (Ev x t cs smp) 3072 inb_S256x4096_S256x512_0_3072 := by
  funext j
  obtain ⟨r, d, rfl⟩ : ∃ (r : Fin 256) (d : Fin 512), j = ix2 r d := ⟨j 0, j 1, eq_ix2 j⟩
  refine Eq.trans (b := k0_pay91 (F := Ideal) (k0_pay76 (lanes x t cs smp)) (zAt (Zv x t cs smp) 3072 inb_S256x4096_S256x512_0_3072) (ix2 r d)) (by pointwise [k0_pay92]) ((e6_apply x t cs smp r d).trans ?_)
  pointwise [zAt]

/-- Chunk 7's exponentials, at an index. -/
theorem e7_apply (x : Vec Ideal S256x1536 .bf16) (t : Vec Ideal S1x8x256 .f32) (cs : Vec Ideal S4096x1536 .bf16) (smp : Vec Ideal S8x4096 .f32) (r : Fin 256) (j : Fin 512) :
    k0_pay93 (F := Ideal) (k0_pay76 (lanes x t cs smp)) (zAt (Zv x t cs smp) 3584 inb_S256x4096_S256x512_0_3584) (ix2 r j) = Ev x t cs smp (ix2 r ⟨3584 + j.val, by omega⟩) := by
  pointwise [k0_pay93, zAt]
  rfl

/-- Chunk 7 of the stored exponentials is that chunk of the block. -/
theorem e7_eq (x : Vec Ideal S256x1536 .bf16) (t : Vec Ideal S1x8x256 .f32) (cs : Vec Ideal S4096x1536 .bf16) (smp : Vec Ideal S8x4096 .f32) :
    k0_pay94 (F := Ideal) (k0_pay76 (lanes x t cs smp)) (zAt (Zv x t cs smp) 3584 inb_S256x4096_S256x512_0_3584) = zAt (Ev x t cs smp) 3584 inb_S256x4096_S256x512_0_3584 := by
  funext j
  obtain ⟨r, d, rfl⟩ : ∃ (r : Fin 256) (d : Fin 512), j = ix2 r d := ⟨j 0, j 1, eq_ix2 j⟩
  refine Eq.trans (b := k0_pay93 (F := Ideal) (k0_pay76 (lanes x t cs smp)) (zAt (Zv x t cs smp) 3584 inb_S256x4096_S256x512_0_3584) (ix2 r d)) (by pointwise [k0_pay94]) ((e7_apply x t cs smp r d).trans ?_)
  pointwise [zAt]

/-- The lanes' partial sums of the exponentials, short of the last two slices, as the body builds them. -/
def esum (x : Vec Ideal S256x1536 .bf16) (t : Vec Ideal S1x8x256 .f32) (cs : Vec Ideal S4096x1536 .bf16) (smp : Vec Ideal S8x4096 .f32) : FVec Ideal S256x128 .f32 :=
  k0_pay95 (F := Ideal) (k0_pay76 (lanes x t cs smp)) (k0_pay86 (k0_pay76 (lanes x t cs smp)) (zAt (Zv x t cs smp) 2048 inb_S256x4096_S256x512_0_2048)) (k0_pay88 (k0_pay76 (lanes x t cs smp)) (k0_pay79 (lanes x t cs smp) (zAt (Zv x t cs smp) 512 inb_S256x4096_S256x512_0_512)) (k0_pay81 (lanes x t cs smp) (zAt (Zv x t cs smp) 0 inb_S256x4096_S256x512_0_0) (zAt (Zv x t cs smp) 512 inb_S256x4096_S256x512_0_512)) (zAt (Zv x t cs smp) 1024 inb_S256x4096_S256x512_0_1024) (zAt (Zv x t cs smp) 1536 inb_S256x4096_S256x512_0_1536) (zAt (Zv x t cs smp) 2048 inb_S256x4096_S256x512_0_2048)) (zAt (Zv x t cs smp) 2560 inb_S256x4096_S256x512_0_2560) (zAt (Zv x t cs smp) 3072 inb_S256x4096_S256x512_0_3072) (zAt (Zv x t cs smp) 3584 inb_S256x4096_S256x512_0_3584)

/-- The sum over the 128 lanes of the 32 slices of a row is the sum over the row. -/
theorem sum_lanes (f : Fin 4096 → EReal) : (∑ l : Fin 128, (f ⟨l.val, by omega⟩ + f ⟨128 + l.val, by omega⟩ + f ⟨256 + l.val, by omega⟩ + f ⟨384 + l.val, by omega⟩ + f ⟨512 + l.val, by omega⟩ + f ⟨512 + (128 + l.val), by omega⟩ + f ⟨512 + (256 + l.val), by omega⟩ + f ⟨512 + (384 + l.val), by omega⟩ + f ⟨1024 + l.val, by omega⟩ + f ⟨1024 + (128 + l.val), by omega⟩ + f ⟨1024 + (256 + l.val), by omega⟩ + f ⟨1024 + (384 + l.val), by omega⟩ + f ⟨1536 + l.val, by omega⟩ + f ⟨1536 + (128 + l.val), by omega⟩ + f ⟨1536 + (256 + l.val), by omega⟩ + f ⟨1536 + (384 + l.val), by omega⟩ + f ⟨2048 + l.val, by omega⟩ + f ⟨2048 + (128 + l.val), by omega⟩ + f ⟨2048 + (256 + l.val), by omega⟩ + f ⟨2048 + (384 + l.val), by omega⟩ + f ⟨2560 + l.val, by omega⟩ + f ⟨2560 + (128 + l.val), by omega⟩ + f ⟨2560 + (256 + l.val), by omega⟩ + f ⟨2560 + (384 + l.val), by omega⟩ + f ⟨3072 + l.val, by omega⟩ + f ⟨3072 + (128 + l.val), by omega⟩ + f ⟨3072 + (256 + l.val), by omega⟩ + f ⟨3072 + (384 + l.val), by omega⟩ + f ⟨3584 + l.val, by omega⟩ + f ⟨3584 + (128 + l.val), by omega⟩ + f ⟨3584 + (256 + l.val), by omega⟩ + f ⟨3584 + (384 + l.val), by omega⟩)) = ∑ s, f s := by
  rw [show (∑ s, f s) = ∑ k : Fin 32, ∑ l : Fin 128, f ⟨128 * k.val + l.val, by omega⟩ from ?_, Finset.sum_comm]
  · refine Finset.sum_congr rfl fun l _ => ?_
    simp only [Fin.sum_univ_castSucc, Fin.sum_univ_zero, zero_add]
    refine congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg f (Fin.ext ?_)) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_))) (congrArg f (Fin.ext ?_)) <;> simp <;> omega
  · rw [← Fintype.sum_prod_type']
    refine (Fintype.sum_equiv (finProdFinEquiv (m := 32) (n := 128)).symm _ _ fun s => ?_)
    refine congrArg f (Fin.ext ?_)
    show s.val = 128 * (s.val / 128) + s.val % 128
    omega

/-- The log of the sum of the exponentials of the sampled logits of row `r`, as the body computes it. -/
def LS (x : Vec Ideal S256x1536 .bf16) (t : Vec Ideal S1x8x256 .f32) (cs : Vec Ideal S4096x1536 .bf16) (smp : Vec Ideal S8x4096 .f32) (r : Fin 256) : EReal := Ideal.log (∑ s : Fin 4096, Ev x t cs smp (ix2 r s)) + M x t cs smp r

/-- The log-sum-exp of row `r`, with the target logit `zt`. -/
def LSE (x : Vec Ideal S256x1536 .bf16) (t : Vec Ideal S1x8x256 .f32) (cs : Vec Ideal S4096x1536 .bf16) (smp : Vec Ideal S8x4096 .f32) (zt : EReal) (r : Fin 256) : EReal :=
  max zt (LS x t cs smp r) + Ideal.log1p (Ideal.exp (0 - FloatOps.absf (F := Ideal) (φ := .f32) (zt - LS x t cs smp r)))

theorem lse_apply (x : Vec Ideal S256x1536 .bf16) (t : Vec Ideal S1x8x256 .f32) (cs : Vec Ideal S4096x1536 .bf16) (smp : Vec Ideal S8x4096 .f32) (zt : FVec Ideal S256x1 .f32) (r : Fin 256) :
    k0_pay96 (F := Ideal) zt (k0_pay76 (lanes x t cs smp)) (k0_pay93 (k0_pay76 (lanes x t cs smp)) (zAt (Zv x t cs smp) 3584 inb_S256x4096_S256x512_0_3584)) (esum x t cs smp) (ix2 r 0) = LSE x t cs smp (zt (ix2 r 0)) r := by
  have hS : (∑ l : Fin 128, (HAdd.hAdd (α := EReal) (β := EReal) (HAdd.hAdd (α := EReal) (β := EReal) (esum x t cs smp (ix2 r l)) (k0_pay93 (F := Ideal) (k0_pay76 (lanes x t cs smp)) (zAt (Zv x t cs smp) 3584 inb_S256x4096_S256x512_0_3584) (ix2 r ⟨256 + l.val, by omega⟩)))
      (k0_pay93 (F := Ideal) (k0_pay76 (lanes x t cs smp)) (zAt (Zv x t cs smp) 3584 inb_S256x4096_S256x512_0_3584) (ix2 r ⟨384 + l.val, by omega⟩)))) = ∑ s : Fin 4096, Ev x t cs smp (ix2 r s) := by
    refine Eq.trans (Finset.sum_congr rfl fun l _ => ?_) (sum_lanes fun s => Ev x t cs smp (ix2 r s))
    unfold esum
    pointwise [k0_pay95, k0_pay88, k0_pay81]
    simp only [e0_apply, e1_apply, e2_apply, e3_apply, e4_apply, e5_apply, e6_apply, e7_apply]
  pointwise [k0_pay96]
  rw [hS]
  rfl

/-- The derivative of the loss in the target logit. -/
def DZT (x : Vec Ideal S256x1536 .bf16) (t : Vec Ideal S1x8x256 .f32) (cs : Vec Ideal S4096x1536 .bf16) (smp : Vec Ideal S8x4096 .f32) (p : Vec Ideal S256x384 .i32) (r : Fin 256) : EReal :=
  HMul.hMul (α := EReal) (β := EReal) (t (ix3 0 1 r)) (Ideal.exp (ZT x p t r - LSE x t cs smp (ZT x p t r) r) - 1)

/-- What the body keeps of row `r` for the next point: the factor of the row's exponentials, and the target's
    derivative times its scale. -/
def colv (x : Vec Ideal S256x1536 .bf16) (t : Vec Ideal S1x8x256 .f32) (cs : Vec Ideal S4096x1536 .bf16) (smp : Vec Ideal S8x4096 .f32) (p : Vec Ideal S256x384 .i32) : Vec Ideal S256x8 .f32 := fun j =>
  if (j 1).val = 0 then HMul.hMul (α := EReal) (β := EReal) (t (ix3 0 1 (j 0))) (Ideal.exp (M x t cs smp (j 0) - LSE x t cs smp (ZT x p t (j 0)) (j 0)))
  else if (j 1).val = 1 then HMul.hMul (α := EReal) (β := EReal) (DZT x t cs smp p (j 0)) (t (ix3 0 2 (j 0)))
  else 0

/-- The block of statistics: the loss, the target's derivative, and six rows of zeros. -/
def statv (x : Vec Ideal S256x1536 .bf16) (t : Vec Ideal S1x8x256 .f32) (cs : Vec Ideal S4096x1536 .bf16) (smp : Vec Ideal S8x4096 .f32) (p : Vec Ideal S256x384 .i32) : Vec Ideal S1x8x256 .f32 := fun j =>
  if (j 1).val = 0 then LSE x t cs smp (ZT x p t (j 2)) (j 2) - ZT x p t (j 2)
  else if (j 1).val = 1 then DZT x t cs smp p (j 2)
  else 0

theorem g_apply (t : Vec Ideal S1x8x256 .f32) (r : Fin 256) : k0_pay11 (F := Ideal) t (ix2 r 0) = t (ix3 0 1 r) := by
  pointwise [k0_pay11, k0_pay9]

theorem sct_apply (t : Vec Ideal S1x8x256 .f32) (r : Fin 256) : k0_pay12 (F := Ideal) t (ix2 r 0) = t (ix3 0 2 r) := by
  pointwise [k0_pay12, k0_pay9]

/-- The two kept columns, from the target's column of logits and the log-sum-exp. -/
theorem pay98_apply (g sc zt m : FVec Ideal S256x1 .f32) (e : FVec Ideal S256x512 .f32) (v : FVec Ideal S256x128 .f32) (r : Fin 256) (d : Fin 8) :
    k0_pay98 (F := Ideal) g sc zt m e v (ix2 r d)
      = if d.val = 0 then HMul.hMul (α := EReal) (β := EReal) (g (ix2 r 0)) (Ideal.exp (m (ix2 r 0) - k0_pay96 (F := Ideal) zt m e v (ix2 r 0)))
        else if d.val = 1 then HMul.hMul (α := EReal) (β := EReal) (HMul.hMul (α := EReal) (β := EReal) (g (ix2 r 0)) (Ideal.exp (zt (ix2 r 0) - k0_pay96 (F := Ideal) zt m e v (ix2 r 0)) - 1)) (sc (ix2 r 0))
        else 0 := by
  pointwise [k0_pay98, k0_pay97]
  have e1 : ∀ (k : ℕ) (h : k < 1), (⟨k, h⟩ : Fin 1) = 0 := fun k h => Subsingleton.elim _ _
  simp only [e1]
  by_cases h0 : d.val = 0
  · rw [dif_pos (by omega), if_pos h0]
  · rw [dif_neg (by omega), if_neg h0]
    by_cases h1 : d.val = 1
    · rw [dif_pos (by omega), if_pos h1]
    · rw [dif_neg (by omega), if_neg h1]

/-- The rows of statistics, likewise. -/
theorem pay99_apply (g zt m : FVec Ideal S256x1 .f32) (e : FVec Ideal S256x512 .f32) (v : FVec Ideal S256x128 .f32) (o : Fin 1) (d : Fin 8) (r : Fin 256) :
    k0_pay1 (F := Ideal) (k0_pay99 g zt m e v) (ix3 o d r)
      = if d.val = 0 then HSub.hSub (α := EReal) (β := EReal) (k0_pay96 (F := Ideal) zt m e v (ix2 r 0)) (zt (ix2 r 0))
        else if d.val = 1 then HMul.hMul (α := EReal) (β := EReal) (g (ix2 r 0)) (Ideal.exp (zt (ix2 r 0) - k0_pay96 (F := Ideal) zt m e v (ix2 r 0)) - 1)
        else 0 := by
  pointwise [k0_pay1, k0_pay99, k0_pay97]
  have e1 : ∀ (k : ℕ) (h : k < 1), (⟨k, h⟩ : Fin 1) = 0 := fun k h => Subsingleton.elim _ _
  simp only [e1]
  by_cases h0 : d.val = 0
  · rw [dif_pos (by omega), if_pos h0]
  · rw [dif_neg (by omega), if_neg h0]
    by_cases h1 : d.val = 1
    · rw [dif_pos (by omega), if_pos h1]
    · rw [dif_neg (by omega), if_neg h1]

theorem col_eq (x : Vec Ideal S256x1536 .bf16) (t : Vec Ideal S1x8x256 .f32) (cs : Vec Ideal S4096x1536 .bf16) (smp : Vec Ideal S8x4096 .f32) (p : Vec Ideal S256x384 .i32) :
    k0_pay98 (F := Ideal) (k0_pay11 t) (k0_pay12 t) (k0_pay18 x (k0_pay12 t) (k0_pay13 t) (k0_pay14 p) (k0_pay15 p) (k0_pay16 p) p)
      (k0_pay76 (lanes x t cs smp)) (k0_pay93 (k0_pay76 (lanes x t cs smp)) (zAt (Zv x t cs smp) 3584 inb_S256x4096_S256x512_0_3584)) (esum x t cs smp) = colv x t cs smp p := by
  funext j
  obtain ⟨r, d, rfl⟩ : ∃ (r : Fin 256) (d : Fin 8), j = ix2 r d := ⟨j 0, j 1, eq_ix2 j⟩
  refine (pay98_apply _ _ _ _ _ _ r d).trans ?_
  rw [lse_apply, zt_apply, g_apply, sct_apply]
  rfl

theorem stat_eq (x : Vec Ideal S256x1536 .bf16) (t : Vec Ideal S1x8x256 .f32) (cs : Vec Ideal S4096x1536 .bf16) (smp : Vec Ideal S8x4096 .f32) (p : Vec Ideal S256x384 .i32) :
    k0_pay1 (F := Ideal) (k0_pay99 (k0_pay11 t) (k0_pay18 x (k0_pay12 t) (k0_pay13 t) (k0_pay14 p) (k0_pay15 p) (k0_pay16 p) p)
      (k0_pay76 (lanes x t cs smp)) (k0_pay93 (k0_pay76 (lanes x t cs smp)) (zAt (Zv x t cs smp) 3584 inb_S256x4096_S256x512_0_3584)) (esum x t cs smp)) = statv x t cs smp p := by
  funext j
  obtain ⟨o, d, r, rfl⟩ : ∃ (o : Fin 1) (d : Fin 8) (r : Fin 256), j = ix3 o d r := ⟨j 0, j 1, j 2, eq_ix3 j⟩
  refine (pay99_apply _ _ _ _ _ o d r).trans ?_
  rw [lse_apply, zt_apply, g_apply]
  rfl

end Cert.Softmax

end
-- ==== Proof.SoftmaxGrad.lean ====
module

public import proofs.«01_k».proof.Proof.SoftmaxRow

/-! # What one point of `softmax_dh` stores from the point before's row block, over the reals

The gradients in the sampled logits, those times the columns' scales, and the gradient in the token rows: functions of
the exponentials, the two kept columns and the target codes that the point before left. -/

@[expose] public section

set_option maxRecDepth 16384

noncomputable section

namespace Cert.Softmax

open Cert.KernelIdeal Cert.KernelIdeal.Gen Idealize.ShloMosaic Idealize.ShloMosaic.TcCoe Idealize.SL.Sem

/-- The gradients in the sampled logits: the exponentials times the row's factor. -/
def dzv (e : Vec Ideal S256x4096 .f32) (col : Vec Ideal S256x8 .f32) : Vec Ideal S256x4096 .bf16 := fun j =>
  HMul.hMul (α := EReal) (β := EReal) (e j) (col (ix2 (j 0) 0))

/-- Those times the columns' scales. -/
def dzscv (e : Vec Ideal S256x4096 .f32) (col : Vec Ideal S256x8 .f32) (smp : Vec Ideal S8x4096 .f32) : Vec Ideal S256x4096 .bf16 := fun j =>
  HMul.hMul (α := EReal) (β := EReal) (dzv e col j) (smp (ix2 0 (j 1)))

/-- The gradient in the token rows. -/
def dhv (e : Vec Ideal S256x4096 .f32) (col : Vec Ideal S256x8 .f32) (smp : Vec Ideal S8x4096 .f32) (cs : Vec Ideal S4096x1536 .bf16)
    (ct : Vec Ideal S256x1536 .bf16) : Vec Ideal S256x1536 .bf16 := fun j =>
  HAdd.hAdd (α := EReal) (β := EReal) (∑ s : Fin 4096, HMul.hMul (α := EReal) (β := EReal) (dzscv e col smp (ix2 (j 0) s)) (cs (ix2 s (j 1))))
    (HMul.hMul (α := EReal) (β := EReal) (col (ix2 (j 0) 1)) (ct j))

/-- Column `o` of the kept columns. -/
abbrev colAt (col : Vec Ideal S256x8 .f32) (o : ℕ) (h : ∀ b, (![0, o] : Fin 2 → ℕ) b + S256x1.size b ≤ S256x8.size b) : Vec Ideal S256x1 .f32 :=
  View.ld (S := S256x8) col (Rect.unit ![0, o] S256x1.size h)

/-- 512 columns of a block of rows of the bf16 kind, from column `o`. -/
abbrev bAt (z : Vec Ideal S256x4096 .bf16) (o : ℕ) (h : ∀ b, (![0, o] : Fin 2 → ℕ) b + S256x512.size b ≤ S256x4096.size b) : Vec Ideal S256x512 .bf16 :=
  View.ld (S := S256x4096) z (Rect.unit ![0, o] S256x512.size h)

theorem dz0_eq (e : Vec Ideal S256x4096 .f32) (col : Vec Ideal S256x8 .f32) :
    k0_pay21 (F := Ideal) (colAt col 0 inb_S256x8_S256x1_0_0) (zAt e 0 inb_S256x4096_S256x512_0_0) = bAt (dzv e col) 0 inb_S256x4096_S256x512_0_0 := by
  funext j
  obtain ⟨r, d, rfl⟩ : ∃ (r : Fin 256) (d : Fin 512), j = ix2 r d := ⟨j 0, j 1, eq_ix2 j⟩
  pointwise [k0_pay21, k0_pay20, bAt, zAt, colAt]
  rfl

theorem dzsc0_eq (e : Vec Ideal S256x4096 .f32) (col : Vec Ideal S256x8 .f32) (smp : Vec Ideal S8x4096 .f32) :
    k0_pay22 (F := Ideal) (colAt col 0 inb_S256x8_S256x1_0_0) (zAt e 0 inb_S256x4096_S256x512_0_0) (smAt smp 0 0 inb_S8x4096_S1x512_0_0) = bAt (dzscv e col smp) 0 inb_S256x4096_S256x512_0_0 := by
  funext j
  obtain ⟨r, d, rfl⟩ : ∃ (r : Fin 256) (d : Fin 512), j = ix2 r d := ⟨j 0, j 1, eq_ix2 j⟩
  pointwise [k0_pay22, k0_pay20, bAt, zAt, colAt, smAt]
  rfl

theorem dz1_eq (e : Vec Ideal S256x4096 .f32) (col : Vec Ideal S256x8 .f32) :
    k0_pay28 (F := Ideal) (colAt col 0 inb_S256x8_S256x1_0_0) (zAt e 512 inb_S256x4096_S256x512_0_512) = bAt (dzv e col) 512 inb_S256x4096_S256x512_0_512 := by
  funext j
  obtain ⟨r, d, rfl⟩ : ∃ (r : Fin 256) (d : Fin 512), j = ix2 r d := ⟨j 0, j 1, eq_ix2 j⟩
  pointwise [k0_pay28, k0_pay27, bAt, zAt, colAt]
  rfl

theorem dzsc1_eq (e : Vec Ideal S256x4096 .f32) (col : Vec Ideal S256x8 .f32) (smp : Vec Ideal S8x4096 .f32) :
    k0_pay29 (F := Ideal) (colAt col 0 inb_S256x8_S256x1_0_0) (zAt e 512 inb_S256x4096_S256x512_0_512) (smAt smp 0 512 inb_S8x4096_S1x512_0_512) = bAt (dzscv e col smp) 512 inb_S256x4096_S256x512_0_512 := by
  funext j
  obtain ⟨r, d, rfl⟩ : ∃ (r : Fin 256) (d : Fin 512), j = ix2 r d := ⟨j 0, j 1, eq_ix2 j⟩
  pointwise [k0_pay29, k0_pay27, bAt, zAt, colAt, smAt]
  rfl

theorem dz2_eq (e : Vec Ideal S256x4096 .f32) (col : Vec Ideal S256x8 .f32) :
    k0_pay36 (F := Ideal) (colAt col 0 inb_S256x8_S256x1_0_0) (zAt e 1024 inb_S256x4096_S256x512_0_1024) = bAt (dzv e col) 1024 inb_S256x4096_S256x512_0_1024 := by
  funext j
  obtain ⟨r, d, rfl⟩ : ∃ (r : Fin 256) (d : Fin 512), j = ix2 r d := ⟨j 0, j 1, eq_ix2 j⟩
  pointwise [k0_pay36, k0_pay35, bAt, zAt, colAt]
  rfl

theorem dzsc2_eq (e : Vec Ideal S256x4096 .f32) (col : Vec Ideal S256x8 .f32) (smp : Vec Ideal S8x4096 .f32) :
    k0_pay37 (F := Ideal) (colAt col 0 inb_S256x8_S256x1_0_0) (zAt e 1024 inb_S256x4096_S256x512_0_1024) (smAt smp 0 1024 inb_S8x4096_S1x512_0_1024) = bAt (dzscv e col smp) 1024 inb_S256x4096_S256x512_0_1024 := by
  funext j
  obtain ⟨r, d, rfl⟩ : ∃ (r : Fin 256) (d : Fin 512), j = ix2 r d := ⟨j 0, j 1, eq_ix2 j⟩
  pointwise [k0_pay37, k0_pay35, bAt, zAt, colAt, smAt]
  rfl

theorem dz3_eq (e : Vec Ideal S256x4096 .f32) (col : Vec Ideal S256x8 .f32) :
    k0_pay43 (F := Ideal) (colAt col 0 inb_S256x8_S256x1_0_0) (zAt e 1536 inb_S256x4096_S256x512_0_1536) = bAt (dzv e col) 1536 inb_S256x4096_S256x512_0_1536 := by
  funext j
  obtain ⟨r, d, rfl⟩ : ∃ (r : Fin 256) (d : Fin 512), j = ix2 r d := ⟨j 0, j 1, eq_ix2 j⟩
  pointwise [k0_pay43, k0_pay42, bAt, zAt, colAt]
  rfl

theorem dzsc3_eq (e : Vec Ideal S256x4096 .f32) (col : Vec Ideal S256x8 .f32) (smp : Vec Ideal S8x4096 .f32) :
    k0_pay44 (F := Ideal) (colAt col 0 inb_S256x8_S256x1_0_0) (zAt e 1536 inb_S256x4096_S256x512_0_1536) (smAt smp 0 1536 inb_S8x4096_S1x512_0_1536) = bAt (dzscv e col smp) 1536 inb_S256x4096_S256x512_0_1536 := by
  funext j
  obtain ⟨r, d, rfl⟩ : ∃ (r : Fin 256) (d : Fin 512), j = ix2 r d := ⟨j 0, j 1, eq_ix2 j⟩
  pointwise [k0_pay44, k0_pay42, bAt, zAt, colAt, smAt]
  rfl

theorem dz4_eq (e : Vec Ideal S256x4096 .f32) (col : Vec Ideal S256x8 .f32) :
    k0_pay49 (F := Ideal) (colAt col 0 inb_S256x8_S256x1_0_0) (zAt e 2048 inb_S256x4096_S256x512_0_2048) = bAt (dzv e col) 2048 inb_S256x4096_S256x512_0_2048 := by
  funext j
  obtain ⟨r, d, rfl⟩ : ∃ (r : Fin 256) (d : Fin 512), j = ix2 r d := ⟨j 0, j 1, eq_ix2 j⟩
  pointwise [k0_pay49, k0_pay48, bAt, zAt, colAt]
  rfl

theorem dzsc4_eq (e : Vec Ideal S256x4096 .f32) (col : Vec Ideal S256x8 .f32) (smp : Vec Ideal S8x4096 .f32) :
    k0_pay51 (F := Ideal) (k0_pay50 (colAt col 0 inb_S256x8_S256x1_0_0) (zAt e 2048 inb_S256x4096_S256x512_0_2048) (smAt smp 0 2048 inb_S8x4096_S1x512_0_2048)) = bAt (dzscv e col smp) 2048 inb_S256x4096_S256x512_0_2048 := by
  funext j
  obtain ⟨r, d, rfl⟩ : ∃ (r : Fin 256) (d : Fin 512), j = ix2 r d := ⟨j 0, j 1, eq_ix2 j⟩
  pointwise [k0_pay50, k0_pay51, k0_pay48, bAt, zAt, colAt, smAt]
  rfl

theorem dz5_eq (e : Vec Ideal S256x4096 .f32) (col : Vec Ideal S256x8 .f32) :
    k0_pay56 (F := Ideal) (colAt col 0 inb_S256x8_S256x1_0_0) (zAt e 2560 inb_S256x4096_S256x512_0_2560) = bAt (dzv e col) 2560 inb_S256x4096_S256x512_0_2560 := by
  funext j
  obtain ⟨r, d, rfl⟩ : ∃ (r : Fin 256) (d : Fin 512), j = ix2 r d := ⟨j 0, j 1, eq_ix2 j⟩
  pointwise [k0_pay56, k0_pay55, bAt, zAt, colAt]
  rfl

theorem dzsc5_eq (e : Vec Ideal S256x4096 .f32) (col : Vec Ideal S256x8 .f32) (smp : Vec Ideal S8x4096 .f32) :
    k0_pay58 (F := Ideal) (k0_pay57 (colAt col 0 inb_S256x8_S256x1_0_0) (zAt e 2560 inb_S256x4096_S256x512_0_2560) (smAt smp 0 2560 inb_S8x4096_S1x512_0_2560)) = bAt (dzscv e col smp) 2560 inb_S256x4096_S256x512_0_2560 := by
  funext j
  obtain ⟨r, d, rfl⟩ : ∃ (r : Fin 256) (d : Fin 512), j = ix2 r d := ⟨j 0, j 1, eq_ix2 j⟩
  pointwise [k0_pay57, k0_pay58, k0_pay55, bAt, zAt, colAt, smAt]
  rfl

theorem dz6_eq (e : Vec Ideal S256x4096 .f32) (col : Vec Ideal S256x8 .f32) :
    k0_pay63 (F := Ideal) (colAt col 0 inb_S256x8_S256x1_0_0) (zAt e 3072 inb_S256x4096_S256x512_0_3072) = bAt (dzv e col) 3072 inb_S256x4096_S256x512_0_3072 := by
  funext j
  obtain ⟨r, d, rfl⟩ : ∃ (r : Fin 256) (d : Fin 512), j = ix2 r d := ⟨j 0, j 1, eq_ix2 j⟩
  pointwise [k0_pay63, k0_pay62, bAt, zAt, colAt]
  rfl

theorem dzsc6_eq (e : Vec Ideal S256x4096 .f32) (col : Vec Ideal S256x8 .f32) (smp : Vec Ideal S8x4096 .f32) :
    k0_pay64 (F := Ideal) (k0_pay62 (colAt col 0 inb_S256x8_S256x1_0_0) (zAt e 3072 inb_S256x4096_S256x512_0_3072)) (smAt smp 0 3072 inb_S8x4096_S1x512_0_3072) = bAt (dzscv e col smp) 3072 inb_S256x4096_S256x512_0_3072 := by
  funext j
  obtain ⟨r, d, rfl⟩ : ∃ (r : Fin 256) (d : Fin 512), j = ix2 r d := ⟨j 0, j 1, eq_ix2 j⟩
  pointwise [k0_pay62, k0_pay64, k0_pay62, bAt, zAt, colAt, smAt]
  rfl

theorem dz7_eq (e : Vec Ideal S256x4096 .f32) (col : Vec Ideal S256x8 .f32) :
    k0_pay69 (F := Ideal) (colAt col 0 inb_S256x8_S256x1_0_0) (zAt e 3584 inb_S256x4096_S256x512_0_3584) = bAt (dzv e col) 3584 inb_S256x4096_S256x512_0_3584 := by
  funext j
  obtain ⟨r, d, rfl⟩ : ∃ (r : Fin 256) (d : Fin 512), j = ix2 r d := ⟨j 0, j 1, eq_ix2 j⟩
  pointwise [k0_pay69, k0_pay68, bAt, zAt, colAt]
  rfl

theorem dzsc7_eq (e : Vec Ideal S256x4096 .f32) (col : Vec Ideal S256x8 .f32) (smp : Vec Ideal S8x4096 .f32) :
    k0_pay70 (F := Ideal) (k0_pay68 (colAt col 0 inb_S256x8_S256x1_0_0) (zAt e 3584 inb_S256x4096_S256x512_0_3584)) (smAt smp 0 3584 inb_S8x4096_S1x512_0_3584) = bAt (dzscv e col smp) 3584 inb_S256x4096_S256x512_0_3584 := by
  funext j
  obtain ⟨r, d, rfl⟩ : ∃ (r : Fin 256) (d : Fin 512), j = ix2 r d := ⟨j 0, j 1, eq_ix2 j⟩
  pointwise [k0_pay68, k0_pay70, k0_pay68, bAt, zAt, colAt, smAt]
  rfl

theorem dh_eq (e : Vec Ideal S256x4096 .f32) (col : Vec Ideal S256x8 .f32) (smp : Vec Ideal S8x4096 .f32) (cs : Vec Ideal S4096x1536 .bf16)
    (ct : Vec Ideal S256x1536 .bf16) :
    k0_pay74 (F := Ideal) (colAt col 1 inb_S256x8_S256x1_0_1) ct (dzscv e col smp) cs = dhv e col smp cs ct := by
  funext j
  obtain ⟨r, d, rfl⟩ : ∃ (r : Fin 256) (d : Fin 1536), j = ix2 r d := ⟨j 0, j 1, eq_ix2 j⟩
  pointwise [k0_pay74, colAt]
  rfl

end Cert.Softmax

end
-- ==== Proof.SoftmaxPointB.lean ====
module

public import proofs.«01_k».proof.Proof.SoftmaxGrad
public import Idealize.ShloMosaic.Lib.Pipeline.ReadBack

/-! # What a later point of `softmax_dh` leaves, over the reals

From the blocks it reads and what the point before left: the gradients of the row block before, and this row block's
exponentials, kept columns, target codes and statistics. -/

@[expose] public section

set_option maxRecDepth 16384

noncomputable section

namespace Cert.Softmax

open Cert.KernelIdeal Cert.KernelIdeal.Gen Idealize.ShloMosaic Idealize.ShloMosaic.TcCoe Idealize.SL.Sem

variable (c : Dev nD) (i : grid0.Coords) (arg1 : Memref sig .tc .vmem S256x1536 .bf16) (harg1 : arg1.IsWhole) (arg2 : Memref sig .tc .vmem S4096x384 .i32) (harg2 : arg2.IsWhole) (arg3 : Memref sig .tc .vmem S256x384 .i32) (harg3 : arg3.IsWhole) (arg4 : Memref sig .tc .vmem S1x8x256 .f32) (harg4 : arg4.IsWhole) (arg5 : Memref sig .tc .vmem S8x4096 .f32) (harg5 : arg5.IsWhole) (arg6 : Memref sig .tc .vmem S256x1536 .bf16) (harg6 : arg6.IsWhole) (arg7 : Memref sig .tc .vmem S256x4096 .bf16) (harg7 : arg7.IsWhole) (arg8 : Memref sig .tc .vmem S1x8x256 .f32) (harg8 : arg8.IsWhole) (arg9 : Memref sig .tc .vmem S4096x1536 .bf16) (harg9 : arg9.IsWhole) (arg10 : Memref sig .tc .vmem S256x4096 .f32) (harg10 : arg10.IsWhole) (arg11 : Memref sig .tc .vmem S256x4096 .bf16) (harg11 : arg11.IsWhole) (arg12 : Memref sig .tc .vmem S256x8 .f32) (harg12 : arg12.IsWhole) (arg13 : Memref sig .tc .vmem S256x1536 .bf16) (harg13 : arg13.IsWhole)
  (x0 : Vec Ideal S256x1536 .bf16) (x1 : Vec Ideal S4096x384 .i32) (x2 : Vec Ideal S256x384 .i32) (x3 : Vec Ideal S1x8x256 .f32) (x4 : Vec Ideal S8x4096 .f32)
  (xs0 : Vec Ideal S4096x1536 .bf16) (xs1 : Vec Ideal S256x4096 .f32) (xs3 : Vec Ideal S256x8 .f32) (xs4 : Vec Ideal S256x1536 .bf16)

/-- Chunk 0 of the stored logits, read back. -/
theorem B_z0 : kernelRun0_B.sl.v394 (F := Ideal) c arg1 harg1 arg4 harg4 arg5 harg5 arg9 harg9 arg10 x0 x3 x4 xs0
    = zAt (Zv x0 x3 xs0 x4) 0 inb_S256x4096_S256x512_0_0 := by
  unfold kernelRun0_B.sl.v394
  unfold kernelRun0_B.sl.HS1_8
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r_13 kernelRun0_B.sl.r kernelRun0_B.sl.r_1
  simp only [View.readAt_eq_ld, harg1.read_unread, harg4.read_unread, harg5.read_unread, harg9.read_unread]
  rw [View.ld_unit_lit (S := S256x1536) inb_S256x1536_S256x1536_0_0 x0 (by decide), View.ld_unit_lit (S := S1x8x256) inb_S1x8x256_S1x8x256_0_0_0 x3 (by decide)]
  exact z0_eq x0 x3 xs0 x4

/-- Chunk 1 of the stored logits, read back. -/
theorem B_z1 : kernelRun0_B.sl.v409 (F := Ideal) c arg1 harg1 arg4 harg4 arg5 harg5 arg9 harg9 arg10 x0 x3 x4 xs0
    = zAt (Zv x0 x3 xs0 x4) 512 inb_S256x4096_S256x512_0_512 := by
  unfold kernelRun0_B.sl.v409
  unfold kernelRun0_B.sl.HS1_9
  rw [View.readCov_skip _ _ _ _ _ (by decide)]
  unfold kernelRun0_B.sl.HS1_8
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r_15 kernelRun0_B.sl.r_16 kernelRun0_B.sl.r kernelRun0_B.sl.r_1
  simp only [View.readAt_eq_ld, harg1.read_unread, harg4.read_unread, harg5.read_unread, harg9.read_unread]
  rw [View.ld_unit_lit (S := S256x1536) inb_S256x1536_S256x1536_0_0 x0 (by decide), View.ld_unit_lit (S := S1x8x256) inb_S1x8x256_S1x8x256_0_0_0 x3 (by decide)]
  exact z1_eq x0 x3 xs0 x4

/-- Chunk 2 of the stored logits, read back. -/
theorem B_z2 : kernelRun0_B.sl.v424 (F := Ideal) c arg1 harg1 arg4 harg4 arg5 harg5 arg9 harg9 arg10 x0 x3 x4 xs0
    = zAt (Zv x0 x3 xs0 x4) 1024 inb_S256x4096_S256x512_0_1024 := by
  unfold kernelRun0_B.sl.v424
  unfold kernelRun0_B.sl.HS1_10
  rw [View.readCov_skip _ _ _ _ _ (by decide)]
  unfold kernelRun0_B.sl.HS1_9
  rw [View.readCov_skip _ _ _ _ _ (by decide)]
  unfold kernelRun0_B.sl.HS1_8
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r_18 kernelRun0_B.sl.r kernelRun0_B.sl.r_1
  simp only [View.readAt_eq_ld, harg1.read_unread, harg4.read_unread, harg5.read_unread, harg9.read_unread]
  rw [View.ld_unit_lit (S := S256x1536) inb_S256x1536_S256x1536_0_0 x0 (by decide), View.ld_unit_lit (S := S1x8x256) inb_S1x8x256_S1x8x256_0_0_0 x3 (by decide)]
  exact z2_eq x0 x3 xs0 x4

/-- Chunk 3 of the stored logits, read back. -/
theorem B_z3 : kernelRun0_B.sl.v439 (F := Ideal) c arg1 harg1 arg4 harg4 arg5 harg5 arg9 harg9 arg10 x0 x3 x4 xs0
    = zAt (Zv x0 x3 xs0 x4) 1536 inb_S256x4096_S256x512_0_1536 := by
  unfold kernelRun0_B.sl.v439
  unfold kernelRun0_B.sl.HS1_11
  rw [View.readCov_skip _ _ _ _ _ (by decide)]
  unfold kernelRun0_B.sl.HS1_10
  rw [View.readCov_skip _ _ _ _ _ (by decide)]
  unfold kernelRun0_B.sl.HS1_9
  rw [View.readCov_skip _ _ _ _ _ (by decide)]
  unfold kernelRun0_B.sl.HS1_8
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r kernelRun0_B.sl.r_1
  simp only [View.readAt_eq_ld, harg1.read_unread, harg4.read_unread, harg5.read_unread, harg9.read_unread]
  rw [View.ld_unit_lit (S := S256x1536) inb_S256x1536_S256x1536_0_0 x0 (by decide), View.ld_unit_lit (S := S1x8x256) inb_S1x8x256_S1x8x256_0_0_0 x3 (by decide)]
  exact z3_eq x0 x3 xs0 x4

/-- Chunk 4 of the stored logits, read back. -/
theorem B_z4 : kernelRun0_B.sl.v454 (F := Ideal) c arg1 harg1 arg4 harg4 arg5 harg5 arg9 harg9 arg10 x0 x3 x4 xs0
    = zAt (Zv x0 x3 xs0 x4) 2048 inb_S256x4096_S256x512_0_2048 := by
  unfold kernelRun0_B.sl.v454
  unfold kernelRun0_B.sl.HS1_12
  rw [View.readCov_skip _ _ _ _ _ (by decide)]
  unfold kernelRun0_B.sl.HS1_11
  rw [View.readCov_skip _ _ _ _ _ (by decide)]
  unfold kernelRun0_B.sl.HS1_10
  rw [View.readCov_skip _ _ _ _ _ (by decide)]
  unfold kernelRun0_B.sl.HS1_9
  rw [View.readCov_skip _ _ _ _ _ (by decide)]
  unfold kernelRun0_B.sl.HS1_8
  rw [View.readCov_skip _ _ _ _ _ (by decide)]
  rw [View.readCov_skip _ _ _ _ _ (by decide)]
  rw [View.readCov_skip _ _ _ _ _ (by decide)]
  rw [View.readCov_cons_toLoadRect]
  unfold kernelRun0_B.sl.r kernelRun0_B.sl.r_1
  simp only [View.readAt_eq_ld, harg1.read_unread, harg4.read_unread, harg5.read_unread, harg9.read_unread]
  rw [View.ld_unit_lit (S := S256x1536) inb_S256x1536_S256x1536_0_0 x0 (by decide), View.ld_unit_lit (S := S1x8x256) inb_S1x8x256_S1x8x256_0_0_0 x3 (by decide)]
  exact z4_eq x0 x3 xs0 x4

/-- Chunk 5 of the stored logits, read back. -/
theorem B_z5 : kernelRun0_B.sl.v469 (F := Ideal) c arg1 harg1 arg4 harg4 arg5 harg5 arg9 harg9 arg10 x0 x3 x4 xs0
    = zAt (Zv x0 x3 xs0 x4) 2560 inb_S256x4096_S256x512_0_2560 := by
  unfold kernelRun0_B.sl.v469
  unfold kernelRun0_B.sl.HS1_13
  rw [View.readCov_skip _ _ _ _ _ (by decide)]
  unfold kernelRun0_B.sl.HS1_12
  rw [View.readCov_skip _ _ _ _ _ (by decide)]
  unfold kernelRun0_B.sl.HS1_11
  rw [View.readCov_skip _ _ _ _ _ (by decide)]
  unfold kernelRun0_B.sl.HS1_10
  rw [View.readCov_skip _ _ _ _ _ (by decide)]
  unfold kernelRun0_B.sl.HS1_9
  rw [View.readCov_skip _ _ _ _ _ (by decide)]
  unfold kernelRun0_B.sl.HS1_8
  rw [View.readCov_skip _ _ _ _ _ (by decide)]
  rw [View.readCov_skip _ _ _ _ _ (by decide)]
  rw [View.readCov_cons_toLoadRect]
  unfold kernelRun0_B.sl.r kernelRun0_B.sl.r_1
  simp only [View.readAt_eq_ld, harg1.read_unread, harg4.read_unread, harg5.read_unread, harg9.read_unread]
  rw [View.ld_unit_lit (S := S256x1536) inb_S256x1536_S256x1536_0_0 x0 (by decide), View.ld_unit_lit (S := S1x8x256) inb_S1x8x256_S1x8x256_0_0_0 x3 (by decide)]
  exact z5_eq x0 x3 xs0 x4

/-- Chunk 6 of the stored logits, read back. -/
theorem B_z6 : kernelRun0_B.sl.v484 (F := Ideal) c arg1 harg1 arg4 harg4 arg5 harg5 arg9 harg9 arg10 x0 x3 x4 xs0
    = zAt (Zv x0 x3 xs0 x4) 3072 inb_S256x4096_S256x512_0_3072 := by
  unfold kernelRun0_B.sl.v484
  unfold kernelRun0_B.sl.HS1_14
  rw [View.readCov_skip _ _ _ _ _ (by decide)]
  unfold kernelRun0_B.sl.HS1_13
  rw [View.readCov_skip _ _ _ _ _ (by decide)]
  unfold kernelRun0_B.sl.HS1_12
  rw [View.readCov_skip _ _ _ _ _ (by decide)]
  unfold kernelRun0_B.sl.HS1_11
  rw [View.readCov_skip _ _ _ _ _ (by decide)]
  unfold kernelRun0_B.sl.HS1_10
  rw [View.readCov_skip _ _ _ _ _ (by decide)]
  unfold kernelRun0_B.sl.HS1_9
  rw [View.readCov_skip _ _ _ _ _ (by decide)]
  unfold kernelRun0_B.sl.HS1_8
  rw [View.readCov_skip _ _ _ _ _ (by decide)]
  rw [View.readCov_cons_toLoadRect]
  unfold kernelRun0_B.sl.r kernelRun0_B.sl.r_1
  simp only [View.readAt_eq_ld, harg1.read_unread, harg4.read_unread, harg5.read_unread, harg9.read_unread]
  rw [View.ld_unit_lit (S := S256x1536) inb_S256x1536_S256x1536_0_0 x0 (by decide), View.ld_unit_lit (S := S1x8x256) inb_S1x8x256_S1x8x256_0_0_0 x3 (by decide)]
  exact z6_eq x0 x3 xs0 x4

/-- Chunk 7 of the stored logits, read back. -/
theorem B_z7 : kernelRun0_B.sl.v499 (F := Ideal) c arg1 harg1 arg4 harg4 arg5 harg5 arg9 harg9 arg10 x0 x3 x4 xs0
    = zAt (Zv x0 x3 xs0 x4) 3584 inb_S256x4096_S256x512_0_3584 := by
  unfold kernelRun0_B.sl.v499
  unfold kernelRun0_B.sl.HS1_15
  rw [View.readCov_skip _ _ _ _ _ (by decide)]
  unfold kernelRun0_B.sl.HS1_14
  rw [View.readCov_skip _ _ _ _ _ (by decide)]
  unfold kernelRun0_B.sl.HS1_13
  rw [View.readCov_skip _ _ _ _ _ (by decide)]
  unfold kernelRun0_B.sl.HS1_12
  rw [View.readCov_skip _ _ _ _ _ (by decide)]
  unfold kernelRun0_B.sl.HS1_11
  rw [View.readCov_skip _ _ _ _ _ (by decide)]
  unfold kernelRun0_B.sl.HS1_10
  rw [View.readCov_skip _ _ _ _ _ (by decide)]
  unfold kernelRun0_B.sl.HS1_9
  rw [View.readCov_skip _ _ _ _ _ (by decide)]
  unfold kernelRun0_B.sl.HS1_8
  rw [View.readCov_cons_toLoadRect]
  unfold kernelRun0_B.sl.r kernelRun0_B.sl.r_1
  simp only [View.readAt_eq_ld, harg1.read_unread, harg4.read_unread, harg5.read_unread, harg9.read_unread]
  rw [View.ld_unit_lit (S := S256x1536) inb_S256x1536_S256x1536_0_0 x0 (by decide), View.ld_unit_lit (S := S1x8x256) inb_S1x8x256_S1x8x256_0_0_0 x3 (by decide)]
  exact z7_eq x0 x3 xs0 x4

/-- The lanes' maxima. -/
theorem B_lanes : kernelRun0_B.sl.r_29 (F := Ideal) c arg1 harg1 arg4 harg4 arg5 harg5 arg9 harg9 x0 x3 x4 xs0 = lanes x0 x3 xs0 x4 := by
  unfold kernelRun0_B.sl.r_29 kernelRun0_B.sl.r_26 kernelRun0_B.sl.r_24 kernelRun0_B.sl.r_22 kernelRun0_B.sl.r_20 kernelRun0_B.sl.r_19 kernelRun0_B.sl.r_17 kernelRun0_B.sl.r_14 kernelRun0_B.sl.r_18 kernelRun0_B.sl.r_15 kernelRun0_B.sl.r_16 kernelRun0_B.sl.r_13 kernelRun0_B.sl.r kernelRun0_B.sl.r_1
  simp only [View.readAt_eq_ld, harg1.read_unread, harg4.read_unread, harg5.read_unread, harg9.read_unread]
  rw [View.ld_unit_lit (S := S256x1536) inb_S256x1536_S256x1536_0_0 x0 (by decide), View.ld_unit_lit (S := S1x8x256) inb_S1x8x256_S1x8x256_0_0_0 x3 (by decide)]
  rfl

theorem B_m : kernelRun0_B.sl.r_30 (F := Ideal) c arg1 harg1 arg4 harg4 arg5 harg5 arg9 harg9 x0 x3 x4 xs0 = k0_pay76 (lanes x0 x3 xs0 x4) := by
  unfold kernelRun0_B.sl.r_30
  rw [B_lanes]

/-- The lanes' partial sums. -/
theorem B_esum : kernelRun0_B.sl.r_36 (F := Ideal) c arg1 harg1 arg4 harg4 arg5 harg5 arg9 harg9 arg10 x0 x3 x4 xs0 = esum x0 x3 xs0 x4 := by
  unfold kernelRun0_B.sl.r_36 kernelRun0_B.sl.r_34 kernelRun0_B.sl.r_33 kernelRun0_B.sl.r_32 kernelRun0_B.sl.r_31
  rw [B_m, B_lanes, B_z0, B_z1, B_z2, B_z3, B_z4, B_z5, B_z6, B_z7]
  rfl

theorem B_e7 : kernelRun0_B.sl.r_35 (F := Ideal) c arg1 harg1 arg4 harg4 arg5 harg5 arg9 harg9 arg10 x0 x3 x4 xs0 = k0_pay93 (k0_pay76 (lanes x0 x3 xs0 x4)) (zAt (Zv x0 x3 xs0 x4) 3584 inb_S256x4096_S256x512_0_3584) := by
  unfold kernelRun0_B.sl.r_35
  rw [B_m, B_z7]

/-- The target logits. -/
theorem B_zt : kernelRun0_B.sl.r_12 (F := Ideal) c arg1 harg1 arg3 harg3 arg4 harg4 x0 x2 x3 = k0_pay18 x0 (k0_pay12 x3) (k0_pay13 x3) (k0_pay14 x2) (k0_pay15 x2) (k0_pay16 x2) x2 := by
  unfold kernelRun0_B.sl.r_12 kernelRun0_B.sl.r_3 kernelRun0_B.sl.r_4 kernelRun0_B.sl.r_8 kernelRun0_B.sl.r_9 kernelRun0_B.sl.r_10 kernelRun0_B.sl.r
  simp only [View.readAt_eq_ld, harg1.read_unread, harg3.read_unread, harg4.read_unread]
  rw [View.ld_unit_lit (S := S256x1536) inb_S256x1536_S256x1536_0_0 x0 (by decide), View.ld_unit_lit (S := S1x8x256) inb_S1x8x256_S1x8x256_0_0_0 x3 (by decide)]
  rw [View.ld_unit_lit (S := S256x384) inb_S256x384_S256x384_0_0 x2 (by decide)]

theorem B_g : kernelRun0_B.sl.r_2 (F := Ideal) c arg4 harg4 x3 = k0_pay11 x3 := by
  unfold kernelRun0_B.sl.r_2
  simp only [View.readAt_eq_ld, harg4.read_unread]
  rw [View.ld_unit_lit (S := S1x8x256) inb_S1x8x256_S1x8x256_0_0_0 x3 (by decide)]

theorem B_sct : kernelRun0_B.sl.r_3 (F := Ideal) c arg4 harg4 x3 = k0_pay12 x3 := by
  unfold kernelRun0_B.sl.r_3
  simp only [View.readAt_eq_ld, harg4.read_unread]
  rw [View.ld_unit_lit (S := S1x8x256) inb_S1x8x256_S1x8x256_0_0_0 x3 (by decide)]

/-- The scaled gradients, read back whole. -/
theorem B_dzsc : kernelRun0_B.sl.v379 (F := Ideal) c arg5 harg5 arg10 harg10 arg11 arg12 harg12 x4 xs1 xs3 = dzscv xs1 xs3 x4 := by
  unfold kernelRun0_B.sl.v379
  rw [View.readCov_eq_canon']
  funext j
  refine (View.canon_apply_of_pieces (dzscv xs1 xs3 x4) _ (View.PiecesOf.mem ?_) _ (View.cover_of_tiledL (s := S256x4096) _ S256x512.size (by sl_kernel_rfl) _)).trans ?_
  · unfold kernelRun0_B.sl.HS2_8 kernelRun0_B.sl.r_27 kernelRun0_B.sl.r_25 kernelRun0_B.sl.r_23 kernelRun0_B.sl.r_21
    unfold kernelRun0_B.sl.r_5 kernelRun0_B.sl.v92 kernelRun0_B.sl.v133 kernelRun0_B.sl.v174 kernelRun0_B.sl.v215 kernelRun0_B.sl.v256 kernelRun0_B.sl.v297 kernelRun0_B.sl.v338
    simp only [View.readAt_eq_ld, harg5.read_unread, harg10.read_unread, harg12.read_unread]
    exact ⟨congrFun (dzsc7_eq xs1 xs3 x4), congrFun (dzsc6_eq xs1 xs3 x4), congrFun (dzsc5_eq xs1 xs3 x4), congrFun (dzsc4_eq xs1 xs3 x4), congrFun (dzsc3_eq xs1 xs3 x4), congrFun (dzsc2_eq xs1 xs3 x4), congrFun (dzsc1_eq xs1 xs3 x4), congrFun (dzsc0_eq xs1 xs3 x4), trivial⟩
  · exact congrFun (View.ld_unit_lit (S := S256x4096) inb_S256x4096_S256x4096_0_0 (dzscv xs1 xs3 x4) (by decide)) j

variable (hc0 : ¬cond0_0 i)

theorem out0_B_6_eq : out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4 = dzv xs1 xs3 := by
  unfold out0_B_6
  rw [View.read_writes_junk_eq_canon]
  funext y
  refine View.canon_apply_of_pieces (dzv xs1 xs3) _ (View.PiecesOf.mem ?_) _ (cover0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4 y)
  unfold kernelRun0_B
  dsimp only
  unfold kernelRun0_B.sl.r_28 kernelRun0_B.sl.r_5 kernelRun0_B.sl.v92 kernelRun0_B.sl.v133 kernelRun0_B.sl.v174 kernelRun0_B.sl.v215 kernelRun0_B.sl.v256 kernelRun0_B.sl.v297 kernelRun0_B.sl.v338
  simp only [View.readAt_eq_ld, harg5.read_unread, harg10.read_unread, harg12.read_unread]
  exact ⟨congrFun (dz7_eq xs1 xs3), congrFun (dz6_eq xs1 xs3), congrFun (dz5_eq xs1 xs3), congrFun (dz4_eq xs1 xs3), congrFun (dz3_eq xs1 xs3), congrFun (dz2_eq xs1 xs3), congrFun (dz1_eq xs1 xs3), congrFun (dz0_eq xs1 xs3), trivial⟩

theorem out0_B_5_eq : out0_B_5 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4 = dhv xs1 xs3 x4 xs0 xs4 := by
  unfold out0_B_5
  rw [View.read_writes_junk_eq_canon]
  unfold kernelRun0_B
  dsimp only
  rw [View.canon_cons_unit_lit' (S := S256x1536) _ _ _ (by decide), B_dzsc]
  unfold kernelRun0_B.sl.r_6 kernelRun0_B.sl.r_7
  simp only [View.readAt_eq_ld, harg9.read_unread, harg12.read_unread, harg13.read_unread]
  rw [View.ld_unit_lit (S := S256x1536) inb_S256x1536_S256x1536_0_0 xs4 (by decide), View.ld_unit_lit (S := S4096x1536) inb_S4096x1536_S4096x1536_0_0 xs0 (by decide)]
  exact dh_eq xs1 xs3 x4 xs0 xs4

theorem out0_B_7_eq : out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4 = statv x0 x3 xs0 x4 x2 := by
  unfold out0_B_7
  rw [View.read_writes_junk_eq_canon]
  unfold kernelRun0_B
  dsimp only
  rw [View.canon_cons_unit_lit' (S := S1x8x256) _ _ _ (by decide)]
  unfold kernelRun0_B.sl.r_37
  rw [B_g, B_zt, B_m, B_e7, B_esum]
  exact stat_eq x0 x3 xs0 x4 x2

theorem sout0_B_3_eq : sout0_B_3 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4 = colv x0 x3 xs0 x4 x2 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4)]
  unfold kernelRun0_B
  dsimp only
  rw [View.canon_cons_unit_lit' (S := S256x8) _ _ _ (by decide)]
  rw [B_g, B_sct, B_zt, B_m, B_e7, B_esum]
  exact col_eq x0 x3 xs0 x4 x2

theorem sout0_B_4_eq : sout0_B_4 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4 = ctv x2 := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4)]
  unfold kernelRun0_B
  dsimp only
  rw [View.canon_cons_unit_lit' (S := S256x1536) _ _ _ (by decide)]
  unfold kernelRun0_B.sl.r_11 kernelRun0_B.sl.r_8 kernelRun0_B.sl.r_9 kernelRun0_B.sl.r_10
  simp only [View.readAt_eq_ld, harg3.read_unread]
  rw [View.ld_unit_lit (S := S256x384) inb_S256x384_S256x384_0_0 x2 (by decide)]
  exact ct_eq x2

theorem sout0_B_1_eq : sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4 = Ev x0 x3 xs0 x4 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4)]
  unfold kernelRun0_B
  dsimp only
  unfold kernelRun0_B.sl.HS1_15 kernelRun0_B.sl.HS1_14 kernelRun0_B.sl.HS1_13 kernelRun0_B.sl.HS1_12 kernelRun0_B.sl.HS1_11 kernelRun0_B.sl.HS1_10 kernelRun0_B.sl.HS1_9
  rw [B_m, B_lanes, B_z0, B_z1, B_z2, B_z3, B_z4, B_z5, B_z6, B_z7]
  funext y
  refine View.canon_append_of_piecesOf (Ev x0 x3 xs0 x4) (kernelRun0_B.sl.HS1_8 (F := Ideal) c arg1 harg1 arg4 harg4 arg5 harg5 arg9 harg9 x0 x3 x4 xs0) [_, _, _, _, _, _, _, _] ?_ y (View.cover_of_tiledL (s := S256x4096) _ S256x512.size (by sl_kernel_rfl) y)
  exact ⟨congrFun (e7_eq x0 x3 xs0 x4), congrFun (e6_eq x0 x3 xs0 x4), congrFun (e5_eq x0 x3 xs0 x4), congrFun (e4_eq x0 x3 xs0 x4), congrFun (e3_eq x0 x3 xs0 x4), congrFun (e2_eq x0 x3 xs0 x4), congrFun (e1_eq x0 x3 xs0 x4), congrFun (e0_eq x0 x3 xs0 x4), trivial⟩

theorem sout0_B_0_eq : sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 xs0 xs1 xs3 xs4 = xs0 := by
  unfold sout0_B_0
  rfl

end Cert.Softmax

end
-- ==== Proof.SoftmaxCodes.lean ====
module

public import proofs.«01_k».proof.Proof.SoftmaxPointB
public import Idealize.ShloMosaic.Lib.Pipeline.ReadBack

/-! # The unpacked table of sampled rows, over the reals

The first point of `softmax_dh` unpacks the packed sampled rows, 256 rows a trip of its loop: afterwards its scratch
holds every row's codes. -/

@[expose] public section

set_option maxRecDepth 16384

noncomputable section

namespace Cert.Softmax

open Cert.KernelIdeal Cert.KernelIdeal.Gen Idealize.ShloMosaic Idealize.ShloMosaic.TcCoe Idealize.SL.Sem

/-- The codes of the packed sampled rows. -/
def csv (p : Vec Ideal S4096x384 .i32) : Vec Ideal S4096x1536 .bf16 := fun j => code (fun k => p (ix2 (j 0) k)) (j 1)

/-- Where trip `k` of the loop reads and stores: rows `256·k …`, and for the four stores columns `0, 384, 768, 1152`. -/
theorem offs : ∀ k : Fin k0_t1_loop.trips, (k0_off1 k 0 = 256 * k.val ∧ k0_off1 k 1 = 0) ∧ (k0_off2 k 0 = 256 * k.val ∧ k0_off2 k 1 = 0)
    ∧ (k0_off3 k 0 = 256 * k.val ∧ k0_off3 k 1 = 384) ∧ (k0_off4 k 0 = 256 * k.val ∧ k0_off4 k 1 = 768) ∧ (k0_off5 k 0 = 256 * k.val ∧ k0_off5 k 1 = 1152) := by
  decide +kernel

theorem pay2_code (w : Vec Ideal S256x384 .i32) (r : Fin 256) (d : Fin 384) : k0_pay2 (F := Ideal) w (ix2 r d) = byteOf 24#32 (w (ix2 r d)) := by
  pointwise [k0_pay2]
  rfl

theorem pay3_code (w : Vec Ideal S256x384 .i32) (r : Fin 256) (d : Fin 384) : k0_pay3 (F := Ideal) w (ix2 r d) = byteOf 16#32 (w (ix2 r d)) := by
  pointwise [k0_pay3]
  rfl

theorem pay4_code (w : Vec Ideal S256x384 .i32) (r : Fin 256) (d : Fin 384) : k0_pay4 (F := Ideal) w (ix2 r d) = byteOf 8#32 (w (ix2 r d)) := by
  pointwise [k0_pay4]
  rfl

theorem pay8_code (w : Vec Ideal S256x384 .i32) (r : Fin 256) (d : Fin 384) : k0_pay8 (F := Ideal) w 0#32 (ix2 r d) = byteOf 0#32 (w (ix2 r d)) := by
  pointwise [k0_pay8]
  rfl

/-- Code `o + d` of a row, `d < 384`, is byte `o / 384` of word `d`. -/
theorem code_at (w : Fin 384 → BitVec 32) (o : ℕ) (b : BitVec 32) (d : Fin 384) (e : Fin 1536) (he : e.val = o + d.val)
    (h : (o = 0 ∧ b = 24#32) ∨ (o = 384 ∧ b = 16#32) ∨ (o = 768 ∧ b = 8#32) ∨ (o = 1152 ∧ b = 0#32)) : byteOf b (w d) = code w e := by
  have hd := d.isLt
  unfold code
  have hm : e.val % 384 = d.val := by omega
  have hw : (⟨e.val % 384, Nat.mod_lt _ (by decide)⟩ : Fin 384) = d := Fin.ext hm
  rw [hw]
  rcases h with ⟨rfl, rfl⟩ | ⟨rfl, rfl⟩ | ⟨rfl, rfl⟩ | ⟨rfl, rfl⟩
  · rw [if_pos (by omega)]
  · rw [if_neg (by omega), if_pos (by omega)]
  · rw [if_neg (by omega), if_neg (by omega), if_pos (by omega)]
  · rw [if_neg (by omega), if_neg (by omega), if_neg (by omega)]

/-- A stored block of trip `k`, of byte `b`, is a block of the codes. -/
theorem block_code (p : Vec Ideal S4096x384 .i32) (o : ℕ) (b : BitVec 32)
    (h : (o = 0 ∧ b = 24#32) ∨ (o = 384 ∧ b = 16#32) ∨ (o = 768 ∧ b = 8#32) ∨ (o = 1152 ∧ b = 0#32)) (n : ℕ)
    (off off' : Fin 2 → ℕ) (h0 : off 0 = n) (h1 : off 1 = 0) (h0' : off' 0 = n) (h1' : off' 1 = o)
    (inb : ∀ a, off a + S256x384.size a ≤ S4096x384.size a) (inb' : ∀ a, off' a + S256x384.size a ≤ S4096x1536.size a)
    (r : Fin 256) (d : Fin 384) :
    byteOf b (View.ld (S := S4096x384) p (Rect.unit off S256x384.size inb) (ix2 r d)) = csv p ((Rect.unit (s := S4096x1536) off' S256x384.size inb').emb (ix2 r d)) := by
  have hi1 : ((Rect.unit (s := S4096x1536) off' S256x384.size inb').emb (ix2 r d) 1).val = o + d.val := by
    show off' 1 + 1 * d.val = _
    omega
  refine Eq.trans ?_ (code_at _ o b d _ hi1 h)
  refine congrArg (byteOf b) (congrArg p ?_)
  funext a
  apply Fin.ext
  match a with
  | ⟨0, _⟩ => show off 0 + 1 * r.val = off' 0 + 1 * r.val; omega
  | ⟨1, _⟩ => show off 1 + 1 * d.val = d.val; omega

variable (bd : Option Variants.none.V) (c : Dev nD) (i : grid0.Coords) (arg1 : Memref sig .tc .vmem S256x1536 .bf16) (harg1 : arg1.IsWhole) (arg2 : Memref sig .tc .vmem S4096x384 .i32) (harg2 : arg2.IsWhole) (arg3 : Memref sig .tc .vmem S256x384 .i32) (harg3 : arg3.IsWhole) (arg4 : Memref sig .tc .vmem S1x8x256 .f32) (harg4 : arg4.IsWhole) (arg5 : Memref sig .tc .vmem S8x4096 .f32) (harg5 : arg5.IsWhole) (arg6 : Memref sig .tc .vmem S256x1536 .bf16) (harg6 : arg6.IsWhole) (arg7 : Memref sig .tc .vmem S256x4096 .bf16) (harg7 : arg7.IsWhole) (arg8 : Memref sig .tc .vmem S1x8x256 .f32) (harg8 : arg8.IsWhole) (arg9 : Memref sig .tc .vmem S4096x1536 .bf16) (harg9 : arg9.IsWhole) (arg10 : Memref sig .tc .vmem S256x4096 .f32) (harg10 : arg10.IsWhole) (arg11 : Memref sig .tc .vmem S256x4096 .bf16) (harg11 : arg11.IsWhole) (arg12 : Memref sig .tc .vmem S256x8 .f32) (harg12 : arg12.IsWhole) (arg13 : Memref sig .tc .vmem S256x1536 .bf16) (harg13 : arg13.IsWhole) (hc : k0_cond1 i = 1#1) (x1 : Vec Ideal S4096x384 .i32)

/-- What one trip of the loop stores: blocks of the codes. -/
theorem trip_pieces (k : Fin k0_t1_loop.trips) :
    View.PiecesOf (csv x1) (tripL_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 hc (harg2.unread x1) k) := by
  obtain ⟨⟨a0, a1⟩, ⟨b0, b1⟩, ⟨c0, c1⟩, ⟨d0, d1⟩, e0, e1⟩ := offs k
  unfold tripL_k0_t1 trip_k0_t1
  dsimp only
  unfold trip_k0_t1.sl.r
  simp only [View.readAt_eq_ld, harg2.read_unread]
  refine ⟨fun j => ?_, fun j => ?_, fun j => ?_, fun j => ?_, trivial⟩
  all_goals obtain ⟨r, d, rfl⟩ : ∃ (r : Fin 256) (d : Fin 384), j = ix2 r d := ⟨j 0, j 1, eq_ix2 j⟩
  · exact (pay8_code _ r d).trans (block_code x1 1152 _ (by decide) _ _ _ a0 a1 e0 e1 (k0_off1_inb i k hc) (k0_off5_inb i k hc) r d)
  · exact (pay4_code _ r d).trans (block_code x1 768 _ (by decide) _ _ _ a0 a1 d0 d1 (k0_off1_inb i k hc) (k0_off4_inb i k hc) r d)
  · exact (pay3_code _ r d).trans (block_code x1 384 _ (by decide) _ _ _ a0 a1 c0 c1 (k0_off1_inb i k hc) (k0_off3_inb i k hc) r d)
  · exact (pay2_code _ r d).trans (block_code x1 0 _ (by decide) _ _ _ a0 a1 b0 b1 (k0_off1_inb i k hc) (k0_off2_inb i k hc) r d)

/-- What the trips before `k` store: blocks of the codes. -/
theorem loop_pieces (k : ℕ) (hk : k ≤ k0_t1_loop.trips) :
    ∀ p ∈ pb_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 hc (harg2.unread x1) k, ∀ x : p.1.shape.Idx, p.2 x = csv x1 (p.1.emb x) := by
  induction k with
  | zero => intro p hp; exact absurd hp List.not_mem_nil
  | succ k ih =>
    intro p hp
    rw [pb_k0_t1_succ Variants.none c bd i arg1 harg1 arg2 harg2 arg3 harg3 arg4 harg4 arg5 harg5 arg6 harg6 arg7 harg7 arg8 harg8 arg9 harg9 arg10 harg10 arg11 harg11 arg12 harg12 arg13 harg13 hc (harg2.unread x1) ⟨k, hk⟩] at hp
    rcases List.mem_append.mp hp with hp | hp
    · exact View.PiecesOf.mem (trip_pieces bd c i arg1 harg1 arg2 harg2 arg3 harg3 arg4 harg4 arg5 harg5 arg6 harg6 arg7 harg7 arg8 harg8 arg9 harg9 arg10 harg10 arg11 harg11 arg12 harg12 arg13 harg13 hc x1 ⟨k, hk⟩) p hp
    · exact ih (by omega) p hp

end Cert.Softmax
-- ==== Proof.SoftmaxPointA.lean ====
module

public import proofs.«01_k».proof.Proof.SoftmaxCodes
public import Idealize.ShloMosaic.Lib.Pipeline.ReadBack

/-! # What the first point of `softmax_dh` leaves, over the reals

The codes of the sampled rows, and the first row block's exponentials, kept columns, target codes and statistics. -/

@[expose] public section

set_option maxRecDepth 16384

noncomputable section

namespace Cert.Softmax

open Cert.KernelIdeal Cert.KernelIdeal.Gen Idealize.ShloMosaic Idealize.ShloMosaic.TcCoe Idealize.SL.Sem

variable (c : Dev nD) (i : grid0.Coords) (arg1 : Memref sig .tc .vmem S256x1536 .bf16) (harg1 : arg1.IsWhole) (arg2 : Memref sig .tc .vmem S4096x384 .i32) (harg2 : arg2.IsWhole) (arg3 : Memref sig .tc .vmem S256x384 .i32) (harg3 : arg3.IsWhole) (arg4 : Memref sig .tc .vmem S1x8x256 .f32) (harg4 : arg4.IsWhole) (arg5 : Memref sig .tc .vmem S8x4096 .f32) (harg5 : arg5.IsWhole) (arg6 : Memref sig .tc .vmem S256x1536 .bf16) (harg6 : arg6.IsWhole) (arg7 : Memref sig .tc .vmem S256x4096 .bf16) (harg7 : arg7.IsWhole) (arg8 : Memref sig .tc .vmem S1x8x256 .f32) (harg8 : arg8.IsWhole) (arg9 : Memref sig .tc .vmem S4096x1536 .bf16) (harg9 : arg9.IsWhole) (arg10 : Memref sig .tc .vmem S256x4096 .f32) (harg10 : arg10.IsWhole) (arg11 : Memref sig .tc .vmem S256x4096 .bf16) (harg11 : arg11.IsWhole) (arg12 : Memref sig .tc .vmem S256x8 .f32) (harg12 : arg12.IsWhole) (arg13 : Memref sig .tc .vmem S256x1536 .bf16) (harg13 : arg13.IsWhole) (hc0 : cond0_0 i)
  (x0 : Vec Ideal S256x1536 .bf16) (x1 : Vec Ideal S4096x384 .i32) (x2 : Vec Ideal S256x384 .i32) (x3 : Vec Ideal S1x8x256 .f32) (x4 : Vec Ideal S8x4096 .f32)

/-- After the loop the scratch holds every sampled row's codes. -/
theorem A_cs (y : S4096x1536.Idx) : View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 (harg2.unread x1) (Scf.trips k0_t1_loop.lb k0_t1_loop.ub k0_t1_loop.st)) y = csv x1 y := by
  have hc := scover0_A_0 (F := Ideal) c i arg1 harg1 arg2 harg2 arg3 harg3 arg4 harg4 arg5 harg5 arg6 harg6 arg7 harg7 arg8 harg8 arg9 harg9 arg10 harg10 arg11 harg11 arg12 harg12 arg13 harg13 hc0 (fun _ => (0 : EReal)) x1 (fun _ => 0#32) (fun _ => (0 : EReal)) (fun _ => (0 : EReal)) y
  unfold kernelRun0_A at hc
  exact View.canon_apply_of_pieces (csv x1) _ (loop_pieces none c i arg1 harg1 arg2 harg2 arg3 harg3 arg4 harg4 arg5 harg5 arg6 harg6 arg7 harg7 arg8 harg8 arg9 harg9 arg10 harg10 arg11 harg11 arg12 harg12 arg13 harg13 hc0 x1 _ le_rfl) y hc

theorem A_csAt (o : ℕ) (h : ∀ b, (![o, 0] : Fin 2 → ℕ) b + S512x1536.size b ≤ S4096x1536.size b) :
    arg9.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 (harg2.unread x1) (Scf.trips k0_t1_loop.lb k0_t1_loop.ub k0_t1_loop.st)) (Rect.unit (s := S4096x1536) ![o, 0] S512x1536.size h).toLoadRect = csAt (csv x1) o h := by
  rw [View.readCov_eq_canon']
  funext j
  exact A_cs c i arg1 harg1 arg2 harg2 arg3 harg3 arg4 harg4 arg5 harg5 arg6 harg6 arg7 harg7 arg8 harg8 arg9 harg9 arg10 harg10 arg11 harg11 arg12 harg12 arg13 harg13 hc0 x1 _

/-- Chunk 0 of the stored logits, read back. -/
theorem A_z0 : kernelRun0_A.sl.v394 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4
    = zAt (Zv x0 x3 (csv x1) x4) 0 inb_S256x4096_S256x512_0_0 := by
  unfold kernelRun0_A.sl.v394
  unfold kernelRun0_A.sl.HS1_9
  rw [View.readCov_skip _ _ _ _ _ (by decide)]
  unfold kernelRun0_A.sl.HS1_8
  rw [View.readCov_skip _ _ _ _ _ (by decide)]
  unfold kernelRun0_A.sl.HS1_7
  rw [View.readCov_skip _ _ _ _ _ (by decide)]
  unfold kernelRun0_A.sl.HS1_6
  rw [View.readCov_skip _ _ _ _ _ (by decide)]
  unfold kernelRun0_A.sl.HS1_5
  rw [View.readCov_skip _ _ _ _ _ (by decide)]
  unfold kernelRun0_A.sl.HS1_4
  rw [View.readCov_skip _ _ _ _ _ (by decide)]
  unfold kernelRun0_A.sl.HS1_3
  rw [View.readCov_skip _ _ _ _ _ (by decide)]
  unfold kernelRun0_A.sl.HS1_2
  rw [View.readCov_cons_toLoadRect]
  unfold kernelRun0_A.sl.r_10 kernelRun0_A.sl.r kernelRun0_A.sl.r_1
  simp only [A_csAt c i arg1 harg1 arg2 harg2 arg3 harg3 arg4 harg4 arg5 harg5 arg6 harg6 arg7 harg7 arg8 harg8 arg9 harg9 arg10 harg10 arg11 harg11 arg12 harg12 arg13 harg13 hc0 x1]
  simp only [View.readAt_eq_ld, harg1.read_unread, harg4.read_unread, harg5.read_unread]
  rw [View.ld_unit_lit (S := S256x1536) inb_S256x1536_S256x1536_0_0 x0 (by decide), View.ld_unit_lit (S := S1x8x256) inb_S1x8x256_S1x8x256_0_0_0 x3 (by decide)]
  exact z0_eq x0 x3 (csv x1) x4

/-- Chunk 1 of the stored logits, read back. -/
theorem A_z1 : kernelRun0_A.sl.v409 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4
    = zAt (Zv x0 x3 (csv x1) x4) 512 inb_S256x4096_S256x512_0_512 := by
  unfold kernelRun0_A.sl.v409
  unfold kernelRun0_A.sl.HS1_10
  rw [View.readCov_skip _ _ _ _ _ (by decide)]
  unfold kernelRun0_A.sl.HS1_9
  rw [View.readCov_skip _ _ _ _ _ (by decide)]
  unfold kernelRun0_A.sl.HS1_8
  rw [View.readCov_skip _ _ _ _ _ (by decide)]
  unfold kernelRun0_A.sl.HS1_7
  rw [View.readCov_skip _ _ _ _ _ (by decide)]
  unfold kernelRun0_A.sl.HS1_6
  rw [View.readCov_skip _ _ _ _ _ (by decide)]
  unfold kernelRun0_A.sl.HS1_5
  rw [View.readCov_skip _ _ _ _ _ (by decide)]
  unfold kernelRun0_A.sl.HS1_4
  rw [View.readCov_skip _ _ _ _ _ (by decide)]
  unfold kernelRun0_A.sl.HS1_3
  rw [View.readCov_cons_toLoadRect]
  unfold kernelRun0_A.sl.r_12 kernelRun0_A.sl.r_13 kernelRun0_A.sl.r kernelRun0_A.sl.r_1
  simp only [A_csAt c i arg1 harg1 arg2 harg2 arg3 harg3 arg4 harg4 arg5 harg5 arg6 harg6 arg7 harg7 arg8 harg8 arg9 harg9 arg10 harg10 arg11 harg11 arg12 harg12 arg13 harg13 hc0 x1]
  simp only [View.readAt_eq_ld, harg1.read_unread, harg4.read_unread, harg5.read_unread]
  rw [View.ld_unit_lit (S := S256x1536) inb_S256x1536_S256x1536_0_0 x0 (by decide), View.ld_unit_lit (S := S1x8x256) inb_S1x8x256_S1x8x256_0_0_0 x3 (by decide)]
  exact z1_eq x0 x3 (csv x1) x4

/-- Chunk 2 of the stored logits, read back. -/
theorem A_z2 : kernelRun0_A.sl.v424 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4
    = zAt (Zv x0 x3 (csv x1) x4) 1024 inb_S256x4096_S256x512_0_1024 := by
  unfold kernelRun0_A.sl.v424
  unfold kernelRun0_A.sl.HS1_11
  rw [View.readCov_skip _ _ _ _ _ (by decide)]
  unfold kernelRun0_A.sl.HS1_10
  rw [View.readCov_skip _ _ _ _ _ (by decide)]
  unfold kernelRun0_A.sl.HS1_9
  rw [View.readCov_skip _ _ _ _ _ (by decide)]
  unfold kernelRun0_A.sl.HS1_8
  rw [View.readCov_skip _ _ _ _ _ (by decide)]
  unfold kernelRun0_A.sl.HS1_7
  rw [View.readCov_skip _ _ _ _ _ (by decide)]
  unfold kernelRun0_A.sl.HS1_6
  rw [View.readCov_skip _ _ _ _ _ (by decide)]
  unfold kernelRun0_A.sl.HS1_5
  rw [View.readCov_skip _ _ _ _ _ (by decide)]
  unfold kernelRun0_A.sl.HS1_4
  rw [View.readCov_cons_toLoadRect]
  unfold kernelRun0_A.sl.r_15 kernelRun0_A.sl.r kernelRun0_A.sl.r_1
  simp only [A_csAt c i arg1 harg1 arg2 harg2 arg3 harg3 arg4 harg4 arg5 harg5 arg6 harg6 arg7 harg7 arg8 harg8 arg9 harg9 arg10 harg10 arg11 harg11 arg12 harg12 arg13 harg13 hc0 x1]
  simp only [View.readAt_eq_ld, harg1.read_unread, harg4.read_unread, harg5.read_unread]
  rw [View.ld_unit_lit (S := S256x1536) inb_S256x1536_S256x1536_0_0 x0 (by decide), View.ld_unit_lit (S := S1x8x256) inb_S1x8x256_S1x8x256_0_0_0 x3 (by decide)]
  exact z2_eq x0 x3 (csv x1) x4

/-- Chunk 3 of the stored logits, read back. -/
theorem A_z3 : kernelRun0_A.sl.v439 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4
    = zAt (Zv x0 x3 (csv x1) x4) 1536 inb_S256x4096_S256x512_0_1536 := by
  unfold kernelRun0_A.sl.v439
  unfold kernelRun0_A.sl.HS1_12
  rw [View.readCov_skip _ _ _ _ _ (by decide)]
  unfold kernelRun0_A.sl.HS1_11
  rw [View.readCov_skip _ _ _ _ _ (by decide)]
  unfold kernelRun0_A.sl.HS1_10
  rw [View.readCov_skip _ _ _ _ _ (by decide)]
  unfold kernelRun0_A.sl.HS1_9
  rw [View.readCov_skip _ _ _ _ _ (by decide)]
  unfold kernelRun0_A.sl.HS1_8
  rw [View.readCov_skip _ _ _ _ _ (by decide)]
  unfold kernelRun0_A.sl.HS1_7
  rw [View.readCov_skip _ _ _ _ _ (by decide)]
  unfold kernelRun0_A.sl.HS1_6
  rw [View.readCov_skip _ _ _ _ _ (by decide)]
  unfold kernelRun0_A.sl.HS1_5
  rw [View.readCov_cons_toLoadRect]
  unfold kernelRun0_A.sl.r kernelRun0_A.sl.r_1
  simp only [A_csAt c i arg1 harg1 arg2 harg2 arg3 harg3 arg4 harg4 arg5 harg5 arg6 harg6 arg7 harg7 arg8 harg8 arg9 harg9 arg10 harg10 arg11 harg11 arg12 harg12 arg13 harg13 hc0 x1]
  simp only [View.readAt_eq_ld, harg1.read_unread, harg4.read_unread, harg5.read_unread]
  rw [View.ld_unit_lit (S := S256x1536) inb_S256x1536_S256x1536_0_0 x0 (by decide), View.ld_unit_lit (S := S1x8x256) inb_S1x8x256_S1x8x256_0_0_0 x3 (by decide)]
  exact z3_eq x0 x3 (csv x1) x4

/-- Chunk 4 of the stored logits, read back. -/
theorem A_z4 : kernelRun0_A.sl.v454 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4
    = zAt (Zv x0 x3 (csv x1) x4) 2048 inb_S256x4096_S256x512_0_2048 := by
  unfold kernelRun0_A.sl.v454
  unfold kernelRun0_A.sl.HS1_13
  rw [View.readCov_skip _ _ _ _ _ (by decide)]
  unfold kernelRun0_A.sl.HS1_12
  rw [View.readCov_skip _ _ _ _ _ (by decide)]
  unfold kernelRun0_A.sl.HS1_11
  rw [View.readCov_skip _ _ _ _ _ (by decide)]
  unfold kernelRun0_A.sl.HS1_10
  rw [View.readCov_skip _ _ _ _ _ (by decide)]
  unfold kernelRun0_A.sl.HS1_9
  rw [View.readCov_skip _ _ _ _ _ (by decide)]
  unfold kernelRun0_A.sl.HS1_8
  rw [View.readCov_skip _ _ _ _ _ (by decide)]
  unfold kernelRun0_A.sl.HS1_7
  rw [View.readCov_skip _ _ _ _ _ (by decide)]
  unfold kernelRun0_A.sl.HS1_6
  rw [View.readCov_cons_toLoadRect]
  unfold kernelRun0_A.sl.r kernelRun0_A.sl.r_1
  simp only [A_csAt c i arg1 harg1 arg2 harg2 arg3 harg3 arg4 harg4 arg5 harg5 arg6 harg6 arg7 harg7 arg8 harg8 arg9 harg9 arg10 harg10 arg11 harg11 arg12 harg12 arg13 harg13 hc0 x1]
  simp only [View.readAt_eq_ld, harg1.read_unread, harg4.read_unread, harg5.read_unread]
  rw [View.ld_unit_lit (S := S256x1536) inb_S256x1536_S256x1536_0_0 x0 (by decide), View.ld_unit_lit (S := S1x8x256) inb_S1x8x256_S1x8x256_0_0_0 x3 (by decide)]
  exact z4_eq x0 x3 (csv x1) x4

/-- Chunk 5 of the stored logits, read back. -/
theorem A_z5 : kernelRun0_A.sl.v469 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4
    = zAt (Zv x0 x3 (csv x1) x4) 2560 inb_S256x4096_S256x512_0_2560 := by
  unfold kernelRun0_A.sl.v469
  unfold kernelRun0_A.sl.HS1_14
  rw [View.readCov_skip _ _ _ _ _ (by decide)]
  unfold kernelRun0_A.sl.HS1_13
  rw [View.readCov_skip _ _ _ _ _ (by decide)]
  unfold kernelRun0_A.sl.HS1_12
  rw [View.readCov_skip _ _ _ _ _ (by decide)]
  unfold kernelRun0_A.sl.HS1_11
  rw [View.readCov_skip _ _ _ _ _ (by decide)]
  unfold kernelRun0_A.sl.HS1_10
  rw [View.readCov_skip _ _ _ _ _ (by decide)]
  unfold kernelRun0_A.sl.HS1_9
  rw [View.readCov_skip _ _ _ _ _ (by decide)]
  unfold kernelRun0_A.sl.HS1_8
  rw [View.readCov_skip _ _ _ _ _ (by decide)]
  unfold kernelRun0_A.sl.HS1_7
  rw [View.readCov_cons_toLoadRect]
  unfold kernelRun0_A.sl.r kernelRun0_A.sl.r_1
  simp only [A_csAt c i arg1 harg1 arg2 harg2 arg3 harg3 arg4 harg4 arg5 harg5 arg6 harg6 arg7 harg7 arg8 harg8 arg9 harg9 arg10 harg10 arg11 harg11 arg12 harg12 arg13 harg13 hc0 x1]
  simp only [View.readAt_eq_ld, harg1.read_unread, harg4.read_unread, harg5.read_unread]
  rw [View.ld_unit_lit (S := S256x1536) inb_S256x1536_S256x1536_0_0 x0 (by decide), View.ld_unit_lit (S := S1x8x256) inb_S1x8x256_S1x8x256_0_0_0 x3 (by decide)]
  exact z5_eq x0 x3 (csv x1) x4

/-- Chunk 6 of the stored logits, read back. -/
theorem A_z6 : kernelRun0_A.sl.v484 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4
    = zAt (Zv x0 x3 (csv x1) x4) 3072 inb_S256x4096_S256x512_0_3072 := by
  unfold kernelRun0_A.sl.v484
  unfold kernelRun0_A.sl.HS1_15
  rw [View.readCov_skip _ _ _ _ _ (by decide)]
  unfold kernelRun0_A.sl.HS1_14
  rw [View.readCov_skip _ _ _ _ _ (by decide)]
  unfold kernelRun0_A.sl.HS1_13
  rw [View.readCov_skip _ _ _ _ _ (by decide)]
  unfold kernelRun0_A.sl.HS1_12
  rw [View.readCov_skip _ _ _ _ _ (by decide)]
  unfold kernelRun0_A.sl.HS1_11
  rw [View.readCov_skip _ _ _ _ _ (by decide)]
  unfold kernelRun0_A.sl.HS1_10
  rw [View.readCov_skip _ _ _ _ _ (by decide)]
  unfold kernelRun0_A.sl.HS1_9
  rw [View.readCov_skip _ _ _ _ _ (by decide)]
  unfold kernelRun0_A.sl.HS1_8
  rw [View.readCov_cons_toLoadRect]
  unfold kernelRun0_A.sl.r kernelRun0_A.sl.r_1
  simp only [A_csAt c i arg1 harg1 arg2 harg2 arg3 harg3 arg4 harg4 arg5 harg5 arg6 harg6 arg7 harg7 arg8 harg8 arg9 harg9 arg10 harg10 arg11 harg11 arg12 harg12 arg13 harg13 hc0 x1]
  simp only [View.readAt_eq_ld, harg1.read_unread, harg4.read_unread, harg5.read_unread]
  rw [View.ld_unit_lit (S := S256x1536) inb_S256x1536_S256x1536_0_0 x0 (by decide), View.ld_unit_lit (S := S1x8x256) inb_S1x8x256_S1x8x256_0_0_0 x3 (by decide)]
  exact z6_eq x0 x3 (csv x1) x4

/-- Chunk 7 of the stored logits, read back. -/
theorem A_z7 : kernelRun0_A.sl.v499 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4
    = zAt (Zv x0 x3 (csv x1) x4) 3584 inb_S256x4096_S256x512_0_3584 := by
  unfold kernelRun0_A.sl.v499
  unfold kernelRun0_A.sl.HS1_16
  rw [View.readCov_skip _ _ _ _ _ (by decide)]
  unfold kernelRun0_A.sl.HS1_15
  rw [View.readCov_skip _ _ _ _ _ (by decide)]
  unfold kernelRun0_A.sl.HS1_14
  rw [View.readCov_skip _ _ _ _ _ (by decide)]
  unfold kernelRun0_A.sl.HS1_13
  rw [View.readCov_skip _ _ _ _ _ (by decide)]
  unfold kernelRun0_A.sl.HS1_12
  rw [View.readCov_skip _ _ _ _ _ (by decide)]
  unfold kernelRun0_A.sl.HS1_11
  rw [View.readCov_skip _ _ _ _ _ (by decide)]
  unfold kernelRun0_A.sl.HS1_10
  rw [View.readCov_skip _ _ _ _ _ (by decide)]
  unfold kernelRun0_A.sl.HS1_9
  rw [View.readCov_cons_toLoadRect]
  unfold kernelRun0_A.sl.r kernelRun0_A.sl.r_1
  simp only [A_csAt c i arg1 harg1 arg2 harg2 arg3 harg3 arg4 harg4 arg5 harg5 arg6 harg6 arg7 harg7 arg8 harg8 arg9 harg9 arg10 harg10 arg11 harg11 arg12 harg12 arg13 harg13 hc0 x1]
  simp only [View.readAt_eq_ld, harg1.read_unread, harg4.read_unread, harg5.read_unread]
  rw [View.ld_unit_lit (S := S256x1536) inb_S256x1536_S256x1536_0_0 x0 (by decide), View.ld_unit_lit (S := S1x8x256) inb_S1x8x256_S1x8x256_0_0_0 x3 (by decide)]
  exact z7_eq x0 x3 (csv x1) x4

/-- The lanes' maxima. -/
theorem A_lanes : kernelRun0_A.sl.r_26 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4 = lanes x0 x3 (csv x1) x4 := by
  unfold kernelRun0_A.sl.r_26 kernelRun0_A.sl.r_23 kernelRun0_A.sl.r_21 kernelRun0_A.sl.r_19 kernelRun0_A.sl.r_17 kernelRun0_A.sl.r_16 kernelRun0_A.sl.r_14 kernelRun0_A.sl.r_11 kernelRun0_A.sl.r_15 kernelRun0_A.sl.r_12 kernelRun0_A.sl.r_13 kernelRun0_A.sl.r_10 kernelRun0_A.sl.r kernelRun0_A.sl.r_1
  simp only [A_csAt c i arg1 harg1 arg2 harg2 arg3 harg3 arg4 harg4 arg5 harg5 arg6 harg6 arg7 harg7 arg8 harg8 arg9 harg9 arg10 harg10 arg11 harg11 arg12 harg12 arg13 harg13 hc0 x1]
  simp only [View.readAt_eq_ld, harg1.read_unread, harg4.read_unread, harg5.read_unread]
  rw [View.ld_unit_lit (S := S256x1536) inb_S256x1536_S256x1536_0_0 x0 (by decide), View.ld_unit_lit (S := S1x8x256) inb_S1x8x256_S1x8x256_0_0_0 x3 (by decide)]
  rfl

theorem A_m : kernelRun0_A.sl.r_27 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4 = (k0_pay76 (lanes x0 x3 (csv x1) x4)) := by
  unfold kernelRun0_A.sl.r_27
  rw [A_lanes]

/-- The lanes' partial sums. -/
theorem A_esum : kernelRun0_A.sl.r_33 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4 = esum x0 x3 (csv x1) x4 := by
  unfold kernelRun0_A.sl.r_33 kernelRun0_A.sl.r_31 kernelRun0_A.sl.r_30 kernelRun0_A.sl.r_29 kernelRun0_A.sl.r_28
  rw [A_m, A_lanes, A_z0, A_z1, A_z2, A_z3, A_z4, A_z5, A_z6, A_z7]
  rfl

theorem A_e7 : kernelRun0_A.sl.r_32 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4 = k0_pay93 (k0_pay76 (lanes x0 x3 (csv x1) x4)) (zAt (Zv x0 x3 (csv x1) x4) 3584 inb_S256x4096_S256x512_0_3584) := by
  unfold kernelRun0_A.sl.r_32
  rw [A_m, A_z7]

/-- The target logits. -/
theorem A_zt : kernelRun0_A.sl.r_9 (F := Ideal) c arg1 harg1 arg3 harg3 arg4 harg4 x0 x2 x3 = k0_pay18 x0 (k0_pay12 x3) (k0_pay13 x3) (k0_pay14 x2) (k0_pay15 x2) (k0_pay16 x2) x2 := by
  unfold kernelRun0_A.sl.r_9 kernelRun0_A.sl.r_3 kernelRun0_A.sl.r_4 kernelRun0_A.sl.r_5 kernelRun0_A.sl.r_6 kernelRun0_A.sl.r_7 kernelRun0_A.sl.r
  simp only [View.readAt_eq_ld, harg1.read_unread, harg3.read_unread, harg4.read_unread]
  rw [View.ld_unit_lit (S := S256x1536) inb_S256x1536_S256x1536_0_0 x0 (by decide), View.ld_unit_lit (S := S1x8x256) inb_S1x8x256_S1x8x256_0_0_0 x3 (by decide)]
  rw [View.ld_unit_lit (S := S256x384) inb_S256x384_S256x384_0_0 x2 (by decide)]

theorem A_g : kernelRun0_A.sl.r_2 (F := Ideal) c arg4 harg4 x3 = k0_pay11 x3 := by
  unfold kernelRun0_A.sl.r_2
  simp only [View.readAt_eq_ld, harg4.read_unread]
  rw [View.ld_unit_lit (S := S1x8x256) inb_S1x8x256_S1x8x256_0_0_0 x3 (by decide)]

theorem A_sct : kernelRun0_A.sl.r_3 (F := Ideal) c arg4 harg4 x3 = k0_pay12 x3 := by
  unfold kernelRun0_A.sl.r_3
  simp only [View.readAt_eq_ld, harg4.read_unread]
  rw [View.ld_unit_lit (S := S1x8x256) inb_S1x8x256_S1x8x256_0_0_0 x3 (by decide)]

theorem out0_A_7_eq : out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = statv x0 x3 (csv x1) x4 x2 := by
  unfold out0_A_7
  rw [View.read_writes_junk_eq_canon]
  unfold kernelRun0_A
  dsimp only
  rw [View.canon_cons_unit_lit' (S := S1x8x256) _ _ _ (by decide)]
  unfold kernelRun0_A.sl.r_34
  rw [A_g, A_zt, A_m, A_e7, A_esum]
  exact stat_eq x0 x3 (csv x1) x4 x2

theorem sout0_A_0_eq : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = csv x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  funext y
  exact A_cs c i arg1 harg1 arg2 harg2 arg3 harg3 arg4 harg4 arg5 harg5 arg6 harg6 arg7 harg7 arg8 harg8 arg9 harg9 arg10 harg10 arg11 harg11 arg12 harg12 arg13 harg13 hc0 x1 y

theorem sout0_A_3_eq : sout0_A_3 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = colv x0 x3 (csv x1) x4 x2 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  rw [View.canon_cons_unit_lit' (S := S256x8) _ _ _ (by decide)]
  rw [A_g, A_sct, A_zt, A_m, A_e7, A_esum]
  exact col_eq x0 x3 (csv x1) x4 x2

theorem sout0_A_4_eq : sout0_A_4 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = ctv x2 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  rw [View.canon_cons_unit_lit' (S := S256x1536) _ _ _ (by decide)]
  unfold kernelRun0_A.sl.r_8 kernelRun0_A.sl.r_5 kernelRun0_A.sl.r_6 kernelRun0_A.sl.r_7
  simp only [View.readAt_eq_ld, harg3.read_unread]
  rw [View.ld_unit_lit (S := S256x384) inb_S256x384_S256x384_0_0 x2 (by decide)]
  exact ct_eq x2

theorem sout0_A_1_eq : sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 = Ev x0 x3 (csv x1) x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4)]
  unfold kernelRun0_A
  dsimp only
  unfold kernelRun0_A.sl.HS1_16 kernelRun0_A.sl.HS1_15 kernelRun0_A.sl.HS1_14 kernelRun0_A.sl.HS1_13 kernelRun0_A.sl.HS1_12 kernelRun0_A.sl.HS1_11 kernelRun0_A.sl.HS1_10
  rw [A_m, A_lanes, A_z0, A_z1, A_z2, A_z3, A_z4, A_z5, A_z6, A_z7]
  funext y
  refine View.canon_append_of_piecesOf (Ev x0 x3 (csv x1) x4) (kernelRun0_A.sl.HS1_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x3 x4) [_, _, _, _, _, _, _, _] ?_ y (View.cover_of_tiledL (s := S256x4096) _ S256x512.size (by sl_kernel_rfl) y)
  exact ⟨congrFun (e7_eq x0 x3 (csv x1) x4), congrFun (e6_eq x0 x3 (csv x1) x4), congrFun (e5_eq x0 x3 (csv x1) x4), congrFun (e4_eq x0 x3 (csv x1) x4), congrFun (e3_eq x0 x3 (csv x1) x4), congrFun (e2_eq x0 x3 (csv x1) x4), congrFun (e1_eq x0 x3 (csv x1) x4), congrFun (e0_eq x0 x3 (csv x1) x4), trivial⟩

end Cert.Softmax
-- ==== Proof.SoftmaxInputs.lean ====
module

public import proofs.«01_k».proof.Proof.SoftmaxPointA
public import proofs.«01_k».proof.Proof.Gen.KernelIdeal.Value
public import Idealize.ShloMosaic.Lib.Pointwise

/-! # What the blocks of `softmax_dh` hold, in terms of the arguments

The rows of scales, `log q` and ids that the host stacks, and the block each grid point reads. -/

@[expose] public section

set_option maxRecDepth 16384

noncomputable section

namespace Cert.Softmax

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The token rows. -/
abbrev aX : Vec Ideal S32768x1536 .bf16 := m ((c : Thread nD τ).loc main_arg0)
/-- The packed rows: 4096 sampled, then one for each token. -/
abbrev aP : Vec Ideal S36864x384 .i32 := m ((c : Thread nD τ).loc main_arg1)
/-- Their scales. -/
abbrev aS : Vec Ideal S36864 .f32 := m ((c : Thread nD τ).loc main_arg2)
/-- Their `log q`. -/
abbrev aQ : Vec Ideal S36864 .f32 := m ((c : Thread nD τ).loc main_arg3)
/-- The sampled ids. -/
abbrev aI : Vec Ideal S4096 .i32 := m ((c : Thread nD τ).loc main_arg4)
/-- The target ids. -/
abbrev aT : Vec Ideal S32768 .i32 := m ((c : Thread nD τ).loc main_arg5)
/-- The tokens' gradients. -/
abbrev aG : Vec Ideal S32768 .f32 := m ((c : Thread nD τ).loc main_arg6)

/-- An id as a number. -/
def idv (w : BitVec 32) : EReal := FloatOps.sitofp (F := Ideal) .f32 w

/-- The stacked rows of the sampled columns. -/
abbrev SMP : Vec Ideal S8x4096 .f32 := V m c main_v12

/-- The stacked rows of the tokens, block by block. -/
abbrev TOK : Vec Ideal S128x8x256 .f32 := V m c main_v27

theorem SMP_0 (s : Fin 4096) : SMP m c (ix2 0 s) = aS m c (ix1 ⟨s.val, by omega⟩) := by
  unfold SMP
  unfold_abbrev_sides
  after_results_simp
  pointwise
  after_results_simp
  pointwise

theorem SMP_1 (s : Fin 4096) : SMP m c (ix2 1 s) = aQ m c (ix1 ⟨s.val, by omega⟩) := by
  unfold SMP
  unfold_abbrev_sides
  after_results_simp
  pointwise
  after_results_simp
  pointwise

theorem SMP_2 (s : Fin 4096) : SMP m c (ix2 2 s) = idv (aI m c (ix1 s)) := by
  unfold SMP
  unfold_abbrev_sides
  after_results_simp
  pointwise
  after_results_simp
  pointwise
  rfl

theorem TOK_0 (b : Fin 128) (r : Fin 256) : TOK m c (ix3 b 0 r) = idv (aT m c (ix1 ⟨b.val * 256 + r.val, by omega⟩)) := by
  unfold TOK
  unfold_abbrev_sides
  after_results_simp
  pointwise
  after_results_simp
  pointwise
  rfl

theorem TOK_1 (b : Fin 128) (r : Fin 256) : TOK m c (ix3 b 1 r) = aG m c (ix1 ⟨b.val * 256 + r.val, by omega⟩) := by
  unfold TOK
  unfold_abbrev_sides
  after_results_simp
  pointwise
  after_results_simp
  pointwise

theorem TOK_2 (b : Fin 128) (r : Fin 256) : TOK m c (ix3 b 2 r) = aS m c (ix1 ⟨4096 + (b.val * 256 + r.val), by omega⟩) := by
  unfold TOK
  unfold_abbrev_sides
  after_results_simp
  pointwise
  after_results_simp
  pointwise

theorem TOK_3 (b : Fin 128) (r : Fin 256) : TOK m c (ix3 b 3 r) = aQ m c (ix1 ⟨4096 + (b.val * 256 + r.val), by omega⟩) := by
  unfold TOK
  unfold_abbrev_sides
  after_results_simp
  pointwise
  after_results_simp
  pointwise

/-- The block of token rows point `t` computes: the last one twice. -/
def bk (t : Fin cfg0.N) : Fin 128 := ⟨min t.val 127, by omega⟩

/-- Row `r` of block `b` among the tokens. -/
def tokRow (b : Fin 128) (r : Fin 256) : Fin 32768 := ⟨b.val * 256 + r.val, by omega⟩

/-- The packed row of token `R`. -/
def tgtRow (R : Fin 32768) : Fin 36864 := ⟨4096 + R.val, by omega⟩

/-- The packed row of sampled column `s`. -/
def smpRow (s : Fin 4096) : Fin 36864 := ⟨s.val, by omega⟩

/-- Window 0's block: token rows. -/
theorem iblk0_apply (t : Fin cfg0.N) (r : Fin 256) (d : Fin 1536) :
    (iblk m c 0 t : Vec Ideal S256x1536 .bf16) (ix2 r d) = aX m c (ix2 (tokRow (bk t) r) d) := by
  have hi : ∀ t : Fin cfg0.N, win0_0.index t 0 = min t.val 127 ∧ win0_0.index t 1 = 0 :=
    (by decide +kernel : ∀ t : Fin grid0.N, _)
  unfold iblk
  rw [View.read_apply]
  refine congrArg (m (c.tc.loc main_arg0)) (?_ : _ = _)
  funext a
  apply Fin.ext
  match a with
  | ⟨0, _⟩ => show win0_0.index t 0 * 256 + 1 * r.val = min t.val 127 * 256 + r.val; rw [(hi t).1]; omega
  | ⟨1, _⟩ => show win0_0.index t 1 * 1536 + 1 * d.val = d.val; rw [(hi t).2]; omega

/-- Window 1's block: the sampled packed rows. -/
theorem iblk1_apply (t : Fin cfg0.N) (s : Fin 4096) (k : Fin 384) :
    (iblk m c 1 t : Vec Ideal S4096x384 .i32) (ix2 s k) = aP m c (ix2 (smpRow s) k) := by
  have hi : ∀ t : Fin cfg0.N, win0_1.index t 0 = 0 ∧ win0_1.index t 1 = 0 :=
    (by decide +kernel : ∀ t : Fin grid0.N, _)
  unfold iblk
  rw [View.read_apply]
  refine congrArg (m (c.tc.loc main_arg1)) (?_ : _ = _)
  funext a
  apply Fin.ext
  match a with
  | ⟨0, _⟩ => show win0_1.index t 0 * 4096 + 1 * s.val = s.val; rw [(hi t).1]; omega
  | ⟨1, _⟩ => show win0_1.index t 1 * 384 + 1 * k.val = k.val; rw [(hi t).2]; omega

/-- Window 2's block: the tokens' packed target rows. -/
theorem iblk2_apply (t : Fin cfg0.N) (r : Fin 256) (k : Fin 384) :
    (iblk m c 2 t : Vec Ideal S256x384 .i32) (ix2 r k) = aP m c (ix2 (tgtRow (tokRow (bk t) r)) k) := by
  have hi : ∀ t : Fin cfg0.N, win0_2.index t 0 = 16 + min t.val 127 ∧ win0_2.index t 1 = 0 :=
    (by decide +kernel : ∀ t : Fin grid0.N, _)
  unfold iblk
  rw [View.read_apply]
  refine congrArg (m (c.tc.loc main_arg1)) (?_ : _ = _)
  funext a
  apply Fin.ext
  match a with
  | ⟨0, _⟩ => show win0_2.index t 0 * 256 + 1 * r.val = 4096 + (min t.val 127 * 256 + r.val); rw [(hi t).1]; omega
  | ⟨1, _⟩ => show win0_2.index t 1 * 384 + 1 * k.val = k.val; rw [(hi t).2]; omega

/-- Window 3's block: the tokens' numbers. -/
theorem iblk3_apply (t : Fin cfg0.N) (k : Fin 8) (r : Fin 256) :
    (iblk m c 3 t : Vec Ideal S1x8x256 .f32) (ix3 0 k r) = TOK m c (ix3 (bk t) k r) := by
  have hi : ∀ t : Fin cfg0.N, win0_3.index t 0 = min t.val 127 ∧ win0_3.index t 1 = 0 ∧ win0_3.index t 2 = 0 :=
    (by decide +kernel : ∀ t : Fin grid0.N, _)
  unfold iblk
  rw [View.read_apply]
  show V m c main_v27 _ = V m c main_v27 _
  congr 1
  funext a
  apply Fin.ext
  match a with
  | ⟨0, _⟩ => show win0_3.index t 0 * 1 + 1 * 0 = min t.val 127; rw [(hi t).1]; omega
  | ⟨1, _⟩ => show win0_3.index t 1 * 8 + 1 * k.val = k.val; rw [(hi t).2.1]; omega
  | ⟨2, _⟩ => show win0_3.index t 2 * 256 + 1 * r.val = r.val; rw [(hi t).2.2]; omega

/-- Window 4's block: the sampled columns' numbers. -/
theorem iblk4_apply (t : Fin cfg0.N) (k : Fin 8) (s : Fin 4096) :
    (iblk m c 4 t : Vec Ideal S8x4096 .f32) (ix2 k s) = SMP m c (ix2 k s) := by
  have hi : ∀ t : Fin cfg0.N, win0_4.index t 0 = 0 ∧ win0_4.index t 1 = 0 :=
    (by decide +kernel : ∀ t : Fin grid0.N, _)
  unfold iblk
  rw [View.read_apply]
  show V m c main_v12 _ = V m c main_v12 _
  congr 1
  funext a
  apply Fin.ext
  match a with
  | ⟨0, _⟩ => show win0_4.index t 0 * 8 + 1 * k.val = k.val; rw [(hi t).1]; omega
  | ⟨1, _⟩ => show win0_4.index t 1 * 4096 + 1 * s.val = s.val; rw [(hi t).2]; omega

end Cert.Softmax
-- ==== Proof.SoftmaxState.lean ====
module

public import proofs.«01_k».proof.Proof.SoftmaxInputs
public import proofs.«01_k».proof.Proof.SoftmaxPointB
public import proofs.«01_k».proof.Proof.SoftmaxPointA

/-! # What `softmax_dh` carries from point to point, and what each point leaves

After every point the kept codes are those of the sampled rows, and the exponentials, the two kept columns and the target
codes are those of that point's block of tokens. So from the second point on the written gradients are those of the block
of the point before. -/

@[expose] public section

set_option maxRecDepth 16384

noncomputable section

namespace Cert.Softmax

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- Point `t`'s token rows. -/
abbrev bX (t : Fin cfg0.N) : Vec Ideal S256x1536 .bf16 := iblk m c 0 t
/-- Its packed target rows. -/
abbrev bP (t : Fin cfg0.N) : Vec Ideal S256x384 .i32 := iblk m c 2 t
/-- Its tokens' numbers. -/
abbrev bT (t : Fin cfg0.N) : Vec Ideal S1x8x256 .f32 := iblk m c 3 t
/-- The sampled columns' numbers. -/
abbrev bS (t : Fin cfg0.N) : Vec Ideal S8x4096 .f32 := iblk m c 4 t

/-- The sampled codes. -/
def CS : Vec Ideal S4096x1536 .bf16 := fun j => code (fun k => aP m c (ix2 (smpRow (j 0)) k)) (j 1)

theorem csv_iblk1 (t : Fin cfg0.N) : csv (iblk m c 1 t) = CS m c := by
  funext j
  unfold csv CS
  congr 1
  funext k
  exact iblk1_apply m c t (j 0) k

/-- What the scratch holds after point `n`. -/
theorem state (n : ℕ) : ∀ hn : n < cfg0.N,
    (outsAt0 m c n hn).2.2.2.1 = CS m c ∧
    (outsAt0 m c n hn).2.2.2.2.1 = Ev (bX m c ⟨n, hn⟩) (bT m c ⟨n, hn⟩) (CS m c) (bS m c ⟨n, hn⟩) ∧
    (outsAt0 m c n hn).2.2.2.2.2.1 = colv (bX m c ⟨n, hn⟩) (bT m c ⟨n, hn⟩) (CS m c) (bS m c ⟨n, hn⟩) (bP m c ⟨n, hn⟩) ∧
    (outsAt0 m c n hn).2.2.2.2.2.2 = ctv (bP m c ⟨n, hn⟩) := by
  induction n with
  | zero =>
    intro hn
    rw [outsAt0_A m c ⟨0, hn⟩ rfl]
    dsimp only
    refine ⟨?_, ?_, ?_, ?_⟩
    · rw [sout0_A_0_eq, csv_iblk1]
    · rw [sout0_A_1_eq, csv_iblk1]
    · rw [sout0_A_3_eq, csv_iblk1]
    · rw [sout0_A_4_eq]
  | succ n ih =>
    intro hn
    have hN : cfg0.N = 129 := N_0
    have h0 : ¬ (⟨n + 1, hn⟩ : Fin cfg0.N).val % 129 = 0 := by show ¬ (n + 1) % 129 = 0; omega
    obtain ⟨i0, i1, i3, i4⟩ := ih (by omega)
    rw [outsAt0_B m c ⟨n + 1, hn⟩ h0]
    dsimp only
    refine ⟨?_, ?_, ?_, ?_⟩
    · rw [sout0_B_0_eq]; exact i0
    · rw [sout0_B_1_eq]; exact congrArg (fun C => Ev _ _ C _) i0
    · rw [sout0_B_3_eq]; exact congrArg (fun C => colv _ _ C _ _) i0
    · rw [sout0_B_4_eq]

/-- The gradient in the token rows that point `n + 1` leaves: block `n`'s. -/
theorem out_dh (n : ℕ) (hn : n + 1 < cfg0.N) :
    (outsAt0 m c (n + 1) hn).1 = dhv (Ev (bX m c ⟨n, by omega⟩) (bT m c ⟨n, by omega⟩) (CS m c) (bS m c ⟨n, by omega⟩))
      (colv (bX m c ⟨n, by omega⟩) (bT m c ⟨n, by omega⟩) (CS m c) (bS m c ⟨n, by omega⟩) (bP m c ⟨n, by omega⟩))
      (bS m c ⟨n + 1, hn⟩) (CS m c) (ctv (bP m c ⟨n, by omega⟩)) := by
  have hN : cfg0.N = 129 := N_0
  have h0 : ¬ (⟨n + 1, hn⟩ : Fin cfg0.N).val % 129 = 0 := by show ¬ (n + 1) % 129 = 0; omega
  obtain ⟨i0, i1, i3, i4⟩ := state m c n (by omega)
  rw [outsAt0_B m c ⟨n + 1, hn⟩ h0]
  dsimp only
  rw [out0_B_5_eq]
  rw [← i1, ← i3, ← i4, ← i0]
  rfl

/-- The gradient in the sampled logits that point `n + 1` leaves: block `n`'s. -/
theorem out_dz (n : ℕ) (hn : n + 1 < cfg0.N) :
    (outsAt0 m c (n + 1) hn).2.1 = dzv (Ev (bX m c ⟨n, by omega⟩) (bT m c ⟨n, by omega⟩) (CS m c) (bS m c ⟨n, by omega⟩))
      (colv (bX m c ⟨n, by omega⟩) (bT m c ⟨n, by omega⟩) (CS m c) (bS m c ⟨n, by omega⟩) (bP m c ⟨n, by omega⟩)) := by
  have hN : cfg0.N = 129 := N_0
  have h0 : ¬ (⟨n + 1, hn⟩ : Fin cfg0.N).val % 129 = 0 := by show ¬ (n + 1) % 129 = 0; omega
  obtain ⟨i0, i1, i3, i4⟩ := state m c n (by omega)
  rw [outsAt0_B m c ⟨n + 1, hn⟩ h0]
  dsimp only
  rw [out0_B_6_eq]
  rw [← i1, ← i3]
  rfl

/-- The losses and target derivatives that point `n` leaves: its own block's. -/
theorem out_stat (n : ℕ) (hn : n < cfg0.N) :
    (outsAt0 m c n hn).2.2.1 = statv (bX m c ⟨n, hn⟩) (bT m c ⟨n, hn⟩) (CS m c) (bS m c ⟨n, hn⟩) (bP m c ⟨n, hn⟩) := by
  have hN : cfg0.N = 129 := N_0
  match n, hn with
  | 0, hn =>
    rw [outsAt0_A m c ⟨0, hn⟩ rfl]
    dsimp only
    rw [out0_A_7_eq, csv_iblk1]
  | n + 1, hn =>
    have h0 : ¬ (⟨n + 1, hn⟩ : Fin cfg0.N).val % 129 = 0 := by show ¬ (n + 1) % 129 = 0; omega
    obtain ⟨i0, i1, i3, i4⟩ := state m c n (by omega)
    rw [outsAt0_B m c ⟨n + 1, hn⟩ h0]
    dsimp only
    rw [out0_B_7_eq]
    exact congrArg (fun C => statv _ _ C _ _) i0

end Cert.Softmax
-- ==== Proof.SoftmaxMath.lean ====
module

public import Idealize.ShloMosaic.PureOps.Ideal
public import Idealize.ShloMosaic.Lib.Pointwise

/-! # The arithmetic of one softmax row over the extended reals

The kernel subtracts the row's greatest logit before exponentiating and adds it back under the logarithm; the reference
does not. Where no logit is `+∞` the two agree. -/

@[expose] public section

noncomputable section

namespace Cert.Softmax

open Idealize.ShloMosaic

/-- The greatest of a row's logits. -/
def rowMax (z : Fin 4096 → EReal) : EReal := Finset.univ.sup z

/-- The log-sum-exp of a row as the kernel takes it, from the greatest logit. -/
def rowLS (z : Fin 4096 → EReal) : EReal := Ideal.log (∑ s, Ideal.exp (z s - rowMax z)) + rowMax z

/-- The log-sum-exp of two numbers. -/
def lae (a b : EReal) : EReal := max a b + Ideal.log1p (Ideal.exp (0 - FloatOps.absf (F := Ideal) (φ := .f32) (a - b)))

theorem rowMax_lt_top {z : Fin 4096 → EReal} (hz : ∀ s, z s < ⊤) : rowMax z < ⊤ :=
  (Finset.sup_lt_iff bot_lt_top).2 fun s _ => hz s

theorem le_rowMax (z : Fin 4096 → EReal) (s : Fin 4096) : z s ≤ rowMax z := Finset.le_sup (f := z) (Finset.mem_univ s)

theorem exp_nonneg (x : EReal) : 0 ≤ Ideal.exp x := by
  induction x using EReal.rec with
  | bot => exact le_refl _
  | top => exact le_top
  | coe r => exact EReal.coe_nonneg.2 (Real.exp_pos r).le

/-- The real number whose coercion is the exponential of a logit below `+∞`. -/
def rexp (x : EReal) : ℝ := (Ideal.exp x).toReal

theorem exp_eq_rexp {x : EReal} (h : x < ⊤) : Ideal.exp x = (rexp x : EReal) := by
  induction x using EReal.rec with
  | bot => rfl
  | top => exact absurd h (lt_irrefl _)
  | coe r => rfl

theorem exp_sub_coe {x : EReal} (h : x < ⊤) (μ : ℝ) : Ideal.exp (x - (μ : EReal)) = ((rexp x * Real.exp (-μ) : ℝ) : EReal) := by
  induction x using EReal.rec with
  | bot =>
    have h0 : rexp ⊥ = 0 := rfl
    rw [EReal.bot_sub, h0, zero_mul]; rfl
  | top => exact absurd h (lt_irrefl _)
  | coe r =>
    have h0 : rexp (r : EReal) = Real.exp r := rfl
    rw [h0, ← Real.exp_add, ← EReal.coe_sub, ← sub_eq_add_neg]
    rfl

theorem coe_sum_real {ι : Type*} (t : Finset ι) (f : ι → ℝ) : ∑ s ∈ t, (f s : EReal) = ((∑ s ∈ t, f s : ℝ) : EReal) := by
  classical
  induction t using Finset.induction_on with
  | empty => rfl
  | insert a t ha ih => rw [Finset.sum_insert ha, Finset.sum_insert ha, ih, EReal.coe_add]

/-- The two ways of taking a row's log-sum-exp agree. -/
theorem rowLS_eq {z : Fin 4096 → EReal} (hz : ∀ s, z s < ⊤) : rowLS z = Ideal.log (∑ s, Ideal.exp (z s)) := by
  have hM := rowMax_lt_top hz
  unfold rowLS
  have hle := le_rowMax z
  have hat : ∃ s, rowMax z = z s := by
    obtain ⟨s, _, h⟩ := Finset.exists_mem_eq_sup Finset.univ ⟨0, Finset.mem_univ _⟩ z
    exact ⟨s, h⟩
  generalize rowMax z = M at *
  induction M using EReal.rec with
  | bot =>
    have hb : ∀ s, z s = ⊥ := fun s => le_bot_iff.1 (hle s)
    simp only [hb, EReal.bot_sub]
    rw [EReal.add_bot]
    have : (∑ s : Fin 4096, Ideal.exp ⊥) = 0 := Finset.sum_eq_zero fun _ _ => rfl
    rw [this]
    show ⊥ = (if (0 : ℝ) ≤ 0 then ⊥ else _)
    rw [if_pos (le_refl _)]
  | top => exact absurd hM (lt_irrefl _)
  | coe μ =>
    obtain ⟨s0, h0⟩ := hat
    have e1 : ∀ s, Ideal.exp (z s - (μ : EReal)) = ((rexp (z s) * Real.exp (-μ) : ℝ) : EReal) := fun s => exp_sub_coe (hz s) μ
    have e2 : ∀ s, Ideal.exp (z s) = (rexp (z s) : EReal) := fun s => exp_eq_rexp (hz s)
    simp only [e1, e2]
    rw [coe_sum_real, coe_sum_real, ← Finset.sum_mul]
    have hpos : 0 < ∑ s, rexp (z s) := by
      refine Finset.sum_pos' (fun s _ => ?_) ⟨s0, Finset.mem_univ _, ?_⟩
      · exact EReal.toReal_nonneg (exp_nonneg _)
      · rw [← h0]; exact Real.exp_pos μ
    have hpos' : 0 < (∑ s, rexp (z s)) * Real.exp (-μ) := mul_pos hpos (Real.exp_pos _)
    show (if (∑ s, rexp (z s)) * Real.exp (-μ) ≤ 0 then (⊥ : EReal) else ((Real.log ((∑ s, rexp (z s)) * Real.exp (-μ)) : ℝ) : EReal)) + (μ : EReal)
      = if (∑ s, rexp (z s)) ≤ 0 then (⊥ : EReal) else ((Real.log (∑ s, rexp (z s)) : ℝ) : EReal)
    rw [if_neg (not_le.2 hpos), if_neg (not_le.2 hpos'), Real.log_mul hpos.ne' (Real.exp_pos _).ne', Real.log_exp, ← EReal.coe_add]
    congr 1
    ring

/-- Scaling a row's exponentials by the greatest logit's own is exponentiating against the log-sum-exp. -/
theorem exp_mul_exp {z M : EReal} (hz : z ≤ M) (hM : M < ⊤) (L : EReal) : Ideal.exp (z - M) * Ideal.exp (M - L) = Ideal.exp (z - L) := by
  induction M using EReal.rec with
  | bot =>
    rw [le_bot_iff.1 hz, EReal.bot_sub, EReal.bot_sub]
    exact zero_mul _
  | top => exact absurd hM (lt_irrefl _)
  | coe μ =>
    induction z using EReal.rec with
    | bot => rw [EReal.bot_sub, EReal.bot_sub]; exact zero_mul _
    | top => exact absurd (lt_of_le_of_lt hz hM) (lt_irrefl _)
    | coe r =>
      induction L using EReal.rec with
      | bot =>
        have h1 : (μ : EReal) - ⊥ = ⊤ := rfl
        have h2 : (r : EReal) - ⊥ = ⊤ := rfl
        rw [h1, h2, ← EReal.coe_sub]
        exact EReal.coe_mul_top_of_pos (Real.exp_pos _)
      | top =>
        have h1 : (μ : EReal) - ⊤ = ⊥ := rfl
        have h2 : (r : EReal) - ⊤ = ⊥ := rfl
        rw [h1, h2]
        exact mul_zero _
      | coe l =>
        rw [← EReal.coe_sub, ← EReal.coe_sub, ← EReal.coe_sub]
        show ((Real.exp (r - μ) : ℝ) : EReal) * ((Real.exp (μ - l) : ℝ) : EReal) = ((Real.exp (r - l) : ℝ) : EReal)
        rw [← EReal.coe_mul, ← Real.exp_add]
        congr 2
        ring

end Cert.Softmax
-- ==== Proof.SoftmaxTokens.lean ====
module

public import proofs.«01_k».proof.Proof.SoftmaxState
public import proofs.«01_k».proof.Proof.SoftmaxMath

/-! # What `softmax_dh` computes, token by token

The loss, the gradients in the logits and the gradient in the token rows, written plainly over the arguments, and the
points' blocks as rows of them, where no sampled logit is `+∞`. -/

@[expose] public section

set_option maxRecDepth 16384

noncomputable section

namespace Cert.Softmax

open Cert.KernelIdeal Cert.KernelIdeal.Gen Cert.KernelIdeal.Value Idealize.ShloMosaic Idealize.ShloMosaic.TcCoe Idealize.SL.Sem

/-- The seven arguments. -/
structure Args where
  /-- token rows -/
  x : Fin 32768 → Fin 1536 → EReal
  /-- packed rows -/
  p : Fin 36864 → Fin 384 → BitVec 32
  /-- scales -/
  s : Fin 36864 → EReal
  /-- `log q` -/
  q : Fin 36864 → EReal
  /-- sampled ids -/
  i : Fin 4096 → BitVec 32
  /-- target ids -/
  t : Fin 32768 → BitVec 32
  /-- gradients -/
  g : Fin 32768 → EReal

namespace Args

variable (A : Args)

/-- The logits of token `R`'s sampled columns, `-∞` where the id is the target's. -/
def zs (R : Fin 32768) (s : Fin 4096) : EReal :=
  if idv (A.i s) = idv (A.t R) then ⊥
  else (∑ d, A.x R d * code (A.p (smpRow s)) d) * A.s (smpRow s) - A.q (smpRow s)

/-- Token `R`'s target logit. -/
def zt (R : Fin 32768) : EReal :=
  A.s (tgtRow R) * (∑ d, A.x R d * code (A.p (tgtRow R)) d) - A.q (tgtRow R)

/-- Its log-sum-exp. -/
def lse (R : Fin 32768) : EReal := lae (A.zt R) (Ideal.log (∑ s, Ideal.exp (A.zs R s)))

/-- The loss's derivative in a sampled logit. -/
def dz (R : Fin 32768) (s : Fin 4096) : EReal := A.g R * Ideal.exp (A.zs R s - A.lse R)

/-- Its derivative in the target logit. -/
def dzt (R : Fin 32768) : EReal := A.g R * (Ideal.exp (A.zt R - A.lse R) - 1)

/-- Its derivative in the token row. -/
def dh (R : Fin 32768) (d : Fin 1536) : EReal :=
  (∑ s, (A.dz R s * A.s (smpRow s)) * code (A.p (smpRow s)) d) + (A.dzt R * A.s (tgtRow R)) * code (A.p (tgtRow R)) d

/-- The written rows of token numbers: the loss, the target derivative, zeros. -/
def stat (k : Fin 8) (R : Fin 32768) : EReal :=
  if k.val = 0 then A.lse R - A.zt R else if k.val = 1 then A.dzt R else 0

end Args

variable (m : (ℓ : Loc nD τ sig) → Buf (Elt Ideal) ℓ) (c : Dev nD)

/-- The kernel's arguments. -/
def KA : Args where
  x R d := aX m c (ix2 R d)
  p R k := aP m c (ix2 R k)
  s R := aS m c (ix1 R)
  q R := aQ m c (ix1 R)
  i s := aI m c (ix1 s)
  t R := aT m c (ix1 R)
  g R := aG m c (ix1 R)

theorem CS_apply (s : Fin 4096) (d : Fin 1536) : CS m c (ix2 s d) = code ((KA m c).p (smpRow s)) d := rfl

theorem ctv_apply (t : Fin cfg0.N) (r : Fin 256) (d : Fin 1536) :
    ctv (bP m c t) (ix2 r d) = code ((KA m c).p (tgtRow (tokRow (bk t) r))) d := by
  show code (fun k => bP m c t (ix2 r k)) d = _
  congr 1
  funext k
  exact iblk2_apply m c t r k

theorem bX_apply (t : Fin cfg0.N) (r : Fin 256) (d : Fin 1536) : bX m c t (ix2 r d) = (KA m c).x (tokRow (bk t) r) d :=
  iblk0_apply m c t r d

theorem bT_0 (t : Fin cfg0.N) (r : Fin 256) : bT m c t (ix3 0 0 r) = idv ((KA m c).t (tokRow (bk t) r)) :=
  (iblk3_apply m c t 0 r).trans (TOK_0 m c _ _)

theorem bT_1 (t : Fin cfg0.N) (r : Fin 256) : bT m c t (ix3 0 1 r) = (KA m c).g (tokRow (bk t) r) :=
  (iblk3_apply m c t 1 r).trans (TOK_1 m c _ _)

theorem bT_2 (t : Fin cfg0.N) (r : Fin 256) : bT m c t (ix3 0 2 r) = (KA m c).s (tgtRow (tokRow (bk t) r)) :=
  (iblk3_apply m c t 2 r).trans (TOK_2 m c _ _)

theorem bT_3 (t : Fin cfg0.N) (r : Fin 256) : bT m c t (ix3 0 3 r) = (KA m c).q (tgtRow (tokRow (bk t) r)) :=
  (iblk3_apply m c t 3 r).trans (TOK_3 m c _ _)

theorem bS_0 (t : Fin cfg0.N) (s : Fin 4096) : bS m c t (ix2 0 s) = (KA m c).s (smpRow s) :=
  (iblk4_apply m c t 0 s).trans (SMP_0 m c s)

theorem bS_1 (t : Fin cfg0.N) (s : Fin 4096) : bS m c t (ix2 1 s) = (KA m c).q (smpRow s) :=
  (iblk4_apply m c t 1 s).trans (SMP_1 m c s)

theorem bS_2 (t : Fin cfg0.N) (s : Fin 4096) : bS m c t (ix2 2 s) = idv ((KA m c).i s) :=
  (iblk4_apply m c t 2 s).trans (SMP_2 m c s)

/-- A block's sampled logits are its tokens'. -/
theorem Z_eq (t : Fin cfg0.N) (r : Fin 256) (s : Fin 4096) :
    Z (bX m c t) (bT m c t) (CS m c) (bS m c t) r s = (KA m c).zs (tokRow (bk t) r) s := by
  unfold Z Args.zs
  rw [bS_2, bT_0, bS_0, bS_1, ofBits_neg_inf]
  simp only [bX_apply, CS_apply]

/-- A block's target logits are its tokens'. -/
theorem ZT_eq (t : Fin cfg0.N) (r : Fin 256) :
    ZT (bX m c t) (bP m c t) (bT m c t) r = (KA m c).zt (tokRow (bk t) r) := by
  unfold ZT Args.zt
  rw [bT_2, bT_3]
  simp only [bX_apply, ctv_apply]

theorem M_eq (t : Fin cfg0.N) (r : Fin 256) :
    M (bX m c t) (bT m c t) (CS m c) (bS m c t) r = rowMax ((KA m c).zs (tokRow (bk t) r)) := by
  refine le_antisymm ?_ ?_
  · rw [M_le_iff]
    intro s
    rw [Z_eq]
    exact le_rowMax _ s
  · refine Finset.sup_le fun s _ => ?_
    rw [← Z_eq]
    exact (M_le_iff _ _ _ _ r _).1 (le_refl _) s

theorem Ev_apply (t : Fin cfg0.N) (r : Fin 256) (s : Fin 4096) :
    Ev (bX m c t) (bT m c t) (CS m c) (bS m c t) (ix2 r s)
      = Ideal.exp ((KA m c).zs (tokRow (bk t) r) s - rowMax ((KA m c).zs (tokRow (bk t) r))) := by
  show Ideal.exp (Z _ _ _ _ r s - M _ _ _ _ r) = _
  rw [Z_eq, M_eq]

variable (hz : ∀ R s, (KA m c).zs R s < ⊤)
include hz

/-- A block's log-sum-exps are its tokens'. -/
theorem LSE_eq (t : Fin cfg0.N) (r : Fin 256) :
    LSE (bX m c t) (bT m c t) (CS m c) (bS m c t) (ZT (bX m c t) (bP m c t) (bT m c t) r) r = (KA m c).lse (tokRow (bk t) r) := by
  have hLS : LS (bX m c t) (bT m c t) (CS m c) (bS m c t) r = Ideal.log (∑ s, Ideal.exp ((KA m c).zs (tokRow (bk t) r) s)) := by
    rw [← rowLS_eq (hz _)]
    unfold LS rowLS
    rw [M_eq]
    simp only [Ev_apply]
  unfold LSE Args.lse lae
  rw [hLS, ZT_eq]

theorem DZT_eq (t : Fin cfg0.N) (r : Fin 256) :
    DZT (bX m c t) (bT m c t) (CS m c) (bS m c t) (bP m c t) r = (KA m c).dzt (tokRow (bk t) r) := by
  unfold DZT Args.dzt
  rw [LSE_eq m c hz, ZT_eq, bT_1]

/-- A block's gradients in the sampled logits are its tokens'. -/
theorem dz_block_eq (t : Fin cfg0.N) (r : Fin 256) (s : Fin 4096) :
    dzv (Ev (bX m c t) (bT m c t) (CS m c) (bS m c t)) (colv (bX m c t) (bT m c t) (CS m c) (bS m c t) (bP m c t)) (ix2 r s)
      = (KA m c).dz (tokRow (bk t) r) s := by
  show HMul.hMul (α := EReal) (β := EReal) (Ev _ _ _ _ (ix2 r s)) (HMul.hMul (α := EReal) (β := EReal) (bT m c t (ix3 0 1 r))
    (Ideal.exp (M _ _ _ _ r - LSE _ _ _ _ (ZT (bX m c t) (bP m c t) (bT m c t) r) r))) = _
  rw [LSE_eq m c hz, M_eq, Ev_apply, bT_1, mul_left_comm, exp_mul_exp (le_rowMax _ s) (rowMax_lt_top (hz _))]
  rfl

/-- A block's gradients in the token rows are its tokens'. -/
theorem dh_block_eq (t u : Fin cfg0.N) (r : Fin 256) (d : Fin 1536) :
    dhv (Ev (bX m c t) (bT m c t) (CS m c) (bS m c t)) (colv (bX m c t) (bT m c t) (CS m c) (bS m c t) (bP m c t))
      (bS m c u) (CS m c) (ctv (bP m c t)) (ix2 r d) = (KA m c).dh (tokRow (bk t) r) d := by
  show HAdd.hAdd (α := EReal) (β := EReal) (∑ s : Fin 4096, HMul.hMul (α := EReal) (β := EReal)
      (HMul.hMul (α := EReal) (β := EReal) (dzv _ _ (ix2 r s)) (bS m c u (ix2 0 s))) (CS m c (ix2 s d)))
    (HMul.hMul (α := EReal) (β := EReal) (HMul.hMul (α := EReal) (β := EReal) (DZT (bX m c t) (bT m c t) (CS m c) (bS m c t) (bP m c t) r)
      (bT m c t (ix3 0 2 r))) (ctv (bP m c t) (ix2 r d))) = _
  rw [DZT_eq m c hz, bT_2, ctv_apply]
  simp only [dz_block_eq m c hz, bS_0, CS_apply]
  rfl

/-- A block's written token numbers are its tokens'. -/
theorem stat_block_eq (t : Fin cfg0.N) (k : Fin 8) (r : Fin 256) :
    statv (bX m c t) (bT m c t) (CS m c) (bS m c t) (bP m c t) (ix3 0 k r) = (KA m c).stat k (tokRow (bk t) r) := by
  show (if k.val = 0 then LSE _ _ _ _ (ZT (bX m c t) (bP m c t) (bT m c t) r) r - ZT (bX m c t) (bP m c t) (bT m c t) r
    else if k.val = 1 then DZT _ _ _ _ (bP m c t) r else 0) = _
  rw [LSE_eq m c hz, ZT_eq, DZT_eq m c hz]
  rfl

end Cert.Softmax
-- ==== Proof.SoftmaxArrays.lean ====
module

public import proofs.«01_k».proof.Proof.SoftmaxTokens

/-! # What the three result arrays of `softmax_dh` hold at the end

Every block of rows is written back by the point after the one that computes it, and every block of token numbers by its
own point; so each array holds its tokens' values. -/

@[expose] public section

set_option maxRecDepth 16384

noncomputable section

namespace Cert.Softmax

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The gradient in the token rows. -/
def DH (A : Args) : Vec Ideal S32768x1536 .bf16 := fun j => A.dh (j 0) (j 1)

/-- The gradient in the sampled logits. -/
def DZ (A : Args) : Vec Ideal S32768x4096 .bf16 := fun j => A.dz (j 0) (j 1)

/-- The losses and target derivatives, by blocks of 256 tokens. -/
def STAT (A : Args) : Vec Ideal S128x8x256 .f32 := fun j => A.stat (j 1) (tokRow (j 0) (j 2))

theorem hi5 : ∀ t : Fin cfg0.N, win0_5.index t 0 = t.val - 1 ∧ win0_5.index t 1 = 0 := (by decide +kernel : ∀ t : Fin grid0.N, _)
theorem hi6 : ∀ t : Fin cfg0.N, win0_6.index t 0 = t.val - 1 ∧ win0_6.index t 1 = 0 := (by decide +kernel : ∀ t : Fin grid0.N, _)
theorem hi7 : ∀ t : Fin cfg0.N, win0_7.index t 0 = min t.val 127 ∧ win0_7.index t 1 = 0 ∧ win0_7.index t 2 = 0 := (by decide +kernel : ∀ t : Fin grid0.N, _)
theorem hf5 : ∀ t : Fin cfg0.N, (cfg0.win 5).flush t = true ↔ t.val ≠ 0 := (by decide +kernel : ∀ t : Fin grid0.N, win0_5.flush t = true ↔ t.val ≠ 0)
theorem hf6 : ∀ t : Fin cfg0.N, (cfg0.win 6).flush t = true ↔ t.val ≠ 0 := (by decide +kernel : ∀ t : Fin grid0.N, win0_6.flush t = true ↔ t.val ≠ 0)
theorem hf7 : ∀ t : Fin cfg0.N, (cfg0.win 7).flush t = true ↔ t.val ≠ 127 := (by decide +kernel : ∀ t : Fin grid0.N, win0_7.flush t = true ↔ t.val ≠ 127)

variable (hz : ∀ R s, (KA m c).zs R s < ⊤)
include hz

/-- The gradients in the token rows that a point leaves are the rows' of the block before. -/
theorem out_dh_rows (n : ℕ) (hn : n + 1 < cfg0.N) :
    (outsAt0 m c (n + 1) hn).1 = (fun j => (KA m c).dh (tokRow (bk ⟨n, by omega⟩) (j 0)) (j 1) : Vec Ideal S256x1536 .bf16) := by
  rw [out_dh m c n hn]
  funext j
  obtain ⟨r, d, rfl⟩ : ∃ (r : Fin 256) (d : Fin 1536), j = ix2 r d := ⟨j 0, j 1, eq_ix2 j⟩
  exact dh_block_eq m c hz ⟨n, by omega⟩ ⟨n + 1, hn⟩ r d

/-- The gradients in the sampled logits that a point leaves are the rows' of the block before. -/
theorem out_dz_rows (n : ℕ) (hn : n + 1 < cfg0.N) :
    (outsAt0 m c (n + 1) hn).2.1 = (fun j => (KA m c).dz (tokRow (bk ⟨n, by omega⟩) (j 0)) (j 1) : Vec Ideal S256x4096 .bf16) := by
  rw [out_dz m c n hn]
  funext j
  obtain ⟨r, d, rfl⟩ : ∃ (r : Fin 256) (d : Fin 4096), j = ix2 r d := ⟨j 0, j 1, eq_ix2 j⟩
  exact dz_block_eq m c hz ⟨n, by omega⟩ r d

/-- What a point writes back is its block of the final array. -/
theorem flushed_DH (t : Fin cfg0.N) (hf : (cfg0.win 5).flush t = true) :
    (dats m 0 c).flushed 5 t = ((cfg0.win 5).blk t).view.read (Elt Ideal) (DH (KA m c)) := by
  have h0 := (hf5 t).1 hf
  have hN : cfg0.N = 129 := N_0
  rw [flushed5]
  obtain ⟨t, ht⟩ := t
  match t, ht, h0 with
  | n + 1, ht, _ =>
    show (outsAt0 m c (n + 1) ht).1 = _
    rw [out_dh_rows m c hz n ht]
    funext j
    obtain ⟨r, d, rfl⟩ : ∃ (r : Fin 256) (d : Fin 1536), j = ix2 r d := ⟨j 0, j 1, eq_ix2 j⟩
    rw [View.read_apply]
    show DH (KA m c) (ix2 (tokRow (bk ⟨n, by omega⟩) r) d) = DH (KA m c) _
    refine congrArg (DH (KA m c)) (?_ : ix2 (tokRow (bk ⟨n, by omega⟩) r) d = _)
    funext a
    apply Fin.ext
    match a with
    | ⟨0, _⟩ => show min n 127 * 256 + r.val = win0_5.index ⟨n + 1, ht⟩ 0 * 256 + 1 * r.val; rw [(hi5 ⟨n + 1, ht⟩).1]; show min n 127 * 256 + r.val = (n + 1 - 1) * 256 + 1 * r.val; omega
    | ⟨1, _⟩ => show d.val = win0_5.index ⟨n + 1, ht⟩ 1 * 1536 + 1 * d.val; rw [(hi5 ⟨n + 1, ht⟩).2]; omega

/-- The final array. -/
theorem final_DH : (dats m 0 c).arrAt 5 cfg0.N = DH (KA m c) :=
  (dats m 0 c).arrAt_eq_of_cover 5 (DH (KA m c)) (flushed_DH m c hz) fun i => by
    have hN : cfg0.N = 129 := N_0
    have h0 : (i 0 : Nat) < 32768 := (i 0).isLt
    have h1 : (i 1 : Nat) < 1536 := (i 1).isLt
    have hp : ∃ p : Fin cfg0.N, p.val ≠ 0 ∧ p.val - 1 = (i 0 : Nat) / 256 :=
      ⟨⟨(i 0 : Nat) / 256 + 1, by omega⟩, by show (i 0 : Nat) / 256 + 1 ≠ 0; omega, by show (i 0 : Nat) / 256 + 1 - 1 = (i 0 : Nat) / 256; omega⟩
    obtain ⟨p, hp, hb⟩ := hp
    refine ⟨p, (hf5 p).2 hp, ?_⟩
    show i ∈ ((View.whole main_v28_0).slice (win0_5.rect p)).set
    rw [View.set_slice_whole, Rect.mem_set_unit]
    intro a
    match a with
    | ⟨0, _⟩ =>
      show win0_5.index p 0 * 256 ≤ (i 0 : Nat) ∧ (i 0 : Nat) < win0_5.index p 0 * 256 + 256
      rw [(hi5 p).1]
      omega
    | ⟨1, _⟩ =>
      show win0_5.index p 1 * 1536 ≤ (i 1 : Nat) ∧ (i 1 : Nat) < win0_5.index p 1 * 1536 + 1536
      rw [(hi5 p).2]
      omega

/-- What a point writes back is its block of the final array. -/
theorem flushed_DZ (t : Fin cfg0.N) (hf : (cfg0.win 6).flush t = true) :
    (dats m 0 c).flushed 6 t = ((cfg0.win 6).blk t).view.read (Elt Ideal) (DZ (KA m c)) := by
  have h0 := (hf6 t).1 hf
  have hN : cfg0.N = 129 := N_0
  rw [flushed6]
  obtain ⟨t, ht⟩ := t
  match t, ht, h0 with
  | n + 1, ht, _ =>
    show (outsAt0 m c (n + 1) ht).2.1 = _
    rw [out_dz_rows m c hz n ht]
    funext j
    obtain ⟨r, d, rfl⟩ : ∃ (r : Fin 256) (d : Fin 4096), j = ix2 r d := ⟨j 0, j 1, eq_ix2 j⟩
    rw [View.read_apply]
    show DZ (KA m c) (ix2 (tokRow (bk ⟨n, by omega⟩) r) d) = DZ (KA m c) _
    refine congrArg (DZ (KA m c)) (?_ : ix2 (tokRow (bk ⟨n, by omega⟩) r) d = _)
    funext a
    apply Fin.ext
    match a with
    | ⟨0, _⟩ => show min n 127 * 256 + r.val = win0_6.index ⟨n + 1, ht⟩ 0 * 256 + 1 * r.val; rw [(hi6 ⟨n + 1, ht⟩).1]; show min n 127 * 256 + r.val = (n + 1 - 1) * 256 + 1 * r.val; omega
    | ⟨1, _⟩ => show d.val = win0_6.index ⟨n + 1, ht⟩ 1 * 4096 + 1 * d.val; rw [(hi6 ⟨n + 1, ht⟩).2]; omega

/-- The final array. -/
theorem final_DZ : (dats m 0 c).arrAt 6 cfg0.N = DZ (KA m c) :=
  (dats m 0 c).arrAt_eq_of_cover 6 (DZ (KA m c)) (flushed_DZ m c hz) fun i => by
    have hN : cfg0.N = 129 := N_0
    have h0 : (i 0 : Nat) < 32768 := (i 0).isLt
    have h1 : (i 1 : Nat) < 4096 := (i 1).isLt
    have hp : ∃ p : Fin cfg0.N, p.val ≠ 0 ∧ p.val - 1 = (i 0 : Nat) / 256 :=
      ⟨⟨(i 0 : Nat) / 256 + 1, by omega⟩, by show (i 0 : Nat) / 256 + 1 ≠ 0; omega, by show (i 0 : Nat) / 256 + 1 - 1 = (i 0 : Nat) / 256; omega⟩
    obtain ⟨p, hp, hb⟩ := hp
    refine ⟨p, (hf6 p).2 hp, ?_⟩
    show i ∈ ((View.whole main_v28_1).slice (win0_6.rect p)).set
    rw [View.set_slice_whole, Rect.mem_set_unit]
    intro a
    match a with
    | ⟨0, _⟩ =>
      show win0_6.index p 0 * 256 ≤ (i 0 : Nat) ∧ (i 0 : Nat) < win0_6.index p 0 * 256 + 256
      rw [(hi6 p).1]
      omega
    | ⟨1, _⟩ =>
      show win0_6.index p 1 * 4096 ≤ (i 1 : Nat) ∧ (i 1 : Nat) < win0_6.index p 1 * 4096 + 4096
      rw [(hi6 p).2]
      omega

/-- What a point writes back is its block of the final array. -/
theorem flushed_STAT (t : Fin cfg0.N) (_hf : (cfg0.win 7).flush t = true) :
    (dats m 0 c).flushed 7 t = ((cfg0.win 7).blk t).view.read (Elt Ideal) (STAT (KA m c)) := by
  rw [flushed7]
  show (outsAt0 m c t.val t.isLt).2.2.1 = _
  rw [out_stat m c t.val t.isLt]
  funext j
  obtain ⟨o, k, r, rfl⟩ : ∃ (o : Fin 1) (k : Fin 8) (r : Fin 256), j = ix3 o k r := ⟨j 0, j 1, j 2, eq_ix3 j⟩
  obtain rfl : o = 0 := Subsingleton.elim _ _
  refine (stat_block_eq m c hz t k r).trans ?_
  rw [View.read_apply]
  show STAT (KA m c) (ix3 (bk t) k r) = STAT (KA m c) _
  refine congrArg (STAT (KA m c)) (?_ : ix3 (bk t) k r = _)
  funext a
  apply Fin.ext
  match a with
  | ⟨0, _⟩ => show min t.val 127 = win0_7.index t 0 * 1 + 1 * 0; rw [(hi7 t).1]; omega
  | ⟨1, _⟩ => show k.val = win0_7.index t 1 * 8 + 1 * k.val; rw [(hi7 t).2.1]; omega
  | ⟨2, _⟩ => show r.val = win0_7.index t 2 * 256 + 1 * r.val; rw [(hi7 t).2.2]; omega

/-- The final array. -/
theorem final_STAT : (dats m 0 c).arrAt 7 cfg0.N = STAT (KA m c) :=
  (dats m 0 c).arrAt_eq_of_cover 7 (STAT (KA m c)) (flushed_STAT m c hz) fun i => by
    have hN : cfg0.N = 129 := N_0
    have h0 : (i 0 : Nat) < 128 := (i 0).isLt
    have h1 : (i 1 : Nat) < 8 := (i 1).isLt
    have h2 : (i 2 : Nat) < 256 := (i 2).isLt
    have hp : ∃ p : Fin cfg0.N, p.val ≠ 127 ∧ min p.val 127 = (i 0 : Nat) :=
      if h : (i 0 : Nat) = 127 then ⟨⟨128, by omega⟩, by show 128 ≠ 127; omega, by show min 128 127 = (i 0 : Nat); omega⟩
      else ⟨⟨(i 0 : Nat), by omega⟩, h, by show min (i 0 : Nat) 127 = (i 0 : Nat); omega⟩
    obtain ⟨p, hp, hb⟩ := hp
    refine ⟨p, (hf7 p).2 hp, ?_⟩
    show i ∈ ((View.whole main_v28_2).slice (win0_7.rect p)).set
    rw [View.set_slice_whole, Rect.mem_set_unit]
    intro a
    match a with
    | ⟨0, _⟩ =>
      show win0_7.index p 0 * 1 ≤ (i 0 : Nat) ∧ (i 0 : Nat) < win0_7.index p 0 * 1 + 1
      rw [(hi7 p).1]
      omega
    | ⟨1, _⟩ =>
      show win0_7.index p 1 * 8 ≤ (i 1 : Nat) ∧ (i 1 : Nat) < win0_7.index p 1 * 8 + 8
      rw [(hi7 p).2.1]
      omega
    | ⟨2, _⟩ =>
      show win0_7.index p 2 * 256 ≤ (i 2 : Nat) ∧ (i 2 : Nat) < win0_7.index p 2 * 256 + 256
      rw [(hi7 p).2.2]
      omega

end Cert.Softmax
-- ==== Proof.SoftmaxBytes.lean ====
module

public import proofs.«01_k».proof.Proof.SoftmaxMath

/-! # The two ways of taking a signed byte out of a packed word

The kernel shifts the byte to the top of the word and arithmetically back down; the reference shifts it to the bottom,
masks it, and subtracts 256 where it is over 127. They agree. -/

@[expose] public section

namespace Cert.Softmax.Ref
open Idealize.ShloMosaic

/-- The bits of 255. -/
theorem bit255 (i : ℕ) : (255#32).getLsbD i = decide (i < 8) := by
  by_cases h : i < 32
  · have : ∀ i : Fin 32, (255#32).getLsbD i.val = decide (i.val < 8) := by decide
    exact this ⟨i, h⟩
  · rw [BitVec.getLsbD_of_ge _ _ (by omega)]
    symm
    rw [decide_eq_false_iff_not]
    omega

/-- Shifted down and masked, a word leaves its byte. -/
theorem low_byte (w : BitVec 32) (n : ℕ) (hn : n ≤ 24) : w.sshiftRight n &&& 255#32 = (w.extractLsb' n 8).setWidth 32 := by
  apply BitVec.eq_of_getLsbD_eq
  intro i hi
  rw [BitVec.getLsbD_and, bit255, BitVec.getLsbD_sshiftRight, BitVec.getLsbD_setWidth, BitVec.getLsbD_extractLsb']
  by_cases h : i < 8
  · simp [h, hi, show n + i < 32 by omega, show ¬ 32 ≤ i by omega]
  · simp [h]

/-- Shifted up and back down, a word leaves what its byte alone leaves. -/
theorem top_byte (w : BitVec 32) (n : ℕ) (hn : n ≤ 24) :
    (w <<< (24 - n)).sshiftRight 24 = ((w.extractLsb' n 8).setWidth 32 <<< 24).sshiftRight 24 := by
  have hb : ∀ i, i < 8 → (w <<< (24 - n)).getLsbD (24 + i) = ((w.extractLsb' n 8).setWidth 32 <<< 24).getLsbD (24 + i) := by
    intro i hi
    rw [BitVec.getLsbD_shiftLeft, BitVec.getLsbD_shiftLeft, BitVec.getLsbD_setWidth, BitVec.getLsbD_extractLsb']
    have e1 : 24 + i - (24 - n) = n + i := by omega
    have e2 : 24 + i - 24 = i := by omega
    rw [e1, e2]
    simp [hi, show 24 + i < 32 by omega, show ¬ 24 + i < 24 - n by omega, show i < 32 by omega]
  have hm : (w <<< (24 - n)).msb = ((w.extractLsb' n 8).setWidth 32 <<< 24).msb := by
    rw [BitVec.msb_eq_getLsbD_last, BitVec.msb_eq_getLsbD_last]
    exact hb 7 (by omega)
  apply BitVec.eq_of_getLsbD_eq
  intro i hi
  rw [BitVec.getLsbD_sshiftRight, BitVec.getLsbD_sshiftRight, hm]
  by_cases h : 24 + i < 32
  · rw [if_pos h, if_pos h, hb i (by omega)]
  · rw [if_neg h, if_neg h]

/-- A byte taken by shifting it to the top and back down is the byte taken from the bottom and made signed. -/
theorem byte_of_bits (u : BitVec 8) :
    (u.setWidth 32 <<< 24).sshiftRight 24 = if (127#32).slt (u.setWidth 32) then u.setWidth 32 - 256#32 else u.setWidth 32 := by
  revert u
  decide +kernel

/-- The two ways agree on a word. -/
theorem byte_eq (w : BitVec 32) (n : ℕ) (hn : n ≤ 24) :
    (if (127#32).slt (w.sshiftRight n &&& 255#32) then (w.sshiftRight n &&& 255#32) - 256#32 else w.sshiftRight n &&& 255#32)
      = (w <<< (24 - n)).sshiftRight 24 := by
  rw [low_byte w n hn, top_byte w n hn, byte_of_bits]

/-- The two ways agree, as the programs write them. -/
theorem ref_byte (w k : BitVec 32) (n : ℕ) (hn : n ≤ 24) (b : ℕ) (hk' : k.toNat = 24 - n) (hb : b < 4) (hnb : n = 8 * b) :
    Scalar.select (IntOp.cmpi CmpIPredicate.sgt (IntOp.andi (IntOp.shrsi ArithUnit.host w (IntOp.addi (0#32) (IntOp.muli (8#32) (BitVec.ofNat 32 b)))) 255#32) 127#32)
        (IntOp.subi (IntOp.andi (IntOp.shrsi ArithUnit.host w (IntOp.addi (0#32) (IntOp.muli (8#32) (BitVec.ofNat 32 b)))) 255#32) 256#32)
        (IntOp.andi (IntOp.shrsi ArithUnit.host w (IntOp.addi (0#32) (IntOp.muli (8#32) (BitVec.ofNat 32 b)))) 255#32)
      = IntOp.shrsi ArithUnit.vector (IntOp.shli ArithUnit.vector w k) 24#32 := by
  have e1 : IntOp.shrsi ArithUnit.host w (IntOp.addi (0#32) (IntOp.muli (8#32) (BitVec.ofNat 32 b))) = w.sshiftRight n := by
    have hv : (IntOp.addi (0#32) (IntOp.muli (8#32) (BitVec.ofNat 32 b))).toNat = n := by
      subst hnb
      match b, hb with
      | 0, _ => rfl
      | 1, _ => rfl
      | 2, _ => rfl
      | 3, _ => rfl
    unfold IntOp.shrsi
    rw [hv, if_pos (by omega), BitVec.sshiftRight', hv]
  have e2 : IntOp.shli ArithUnit.vector w k = w <<< (24 - n) := by
    unfold IntOp.shli
    rw [hk', if_pos (by omega), BitVec.shiftLeft_eq', hk']
  have e3 : ∀ v : BitVec 32, IntOp.shrsi ArithUnit.vector v 24#32 = v.sshiftRight 24 := fun v => rfl
  rw [e1, e2, e3, ← byte_eq w n hn]
  show (if BitVec.ofBool ((127#32).slt (w.sshiftRight n &&& 255#32)) = 1 then _ else _) = _
  by_cases h : (127#32).slt (w.sshiftRight n &&& 255#32) = true
  · rw [h]; rfl
  · rw [Bool.not_eq_true] at h
    rw [h]; rfl

end Cert.Softmax.Ref
-- ==== Proof.SoftmaxReference.lean ====
module

public import proofs.«01_k».proof.Proof.SoftmaxTokens
public import proofs.«01_k».proof.Proof.SoftmaxBytes
public import proofs.«01_k».proof.Proof.Gen.ReferenceIdeal.Read

/-! # What the softmax reference computes, token by token -/

@[expose] public section

set_option maxRecDepth 16384

noncomputable section

namespace Cert.Softmax.Ref

open Cert.ReferenceIdeal Cert.ReferenceIdeal.Gen Cert.ReferenceIdeal.Read Idealize.ShloMosaic Idealize.ShloMosaic.TcCoe Idealize.SL.Sem

variable (X : Vec Ideal S32768x1536 .bf16) (P : Vec Ideal S36864x384 .i32) (S Q : Vec Ideal S36864 .f32)
  (I : Vec Ideal S4096 .i32) (T : Vec Ideal S32768 .i32) (G : Vec Ideal S32768 .f32)

/-- The arguments, by token. -/
def RA : Args where
  x R d := X (ix2 R d)
  p R k := P (ix2 R k)
  s R := S (ix1 R)
  q R := Q (ix1 R)
  i s := I (ix1 s)
  t R := T (ix1 R)
  g R := G (ix1 R)

/-- The reference's codes. -/
theorem ref_code (R : Fin 36864) (d : Fin 1536) : val_main_v18 (F := Ideal) P (ix2 R d) = code (fun k => P (ix2 R k)) d := by
  rw [val_main_v18_apply, val_main_v17_apply, val_main_v16_apply, val_main_v13_apply, val_main_v15_apply, val_main_v11_apply, val_main_v9_apply,
    val_main_v7_apply, val_main_v8_apply, val_main_v6_apply, val_main_v5_apply, val_main_v4_apply, val_main_v3_apply, val_main_v2_apply, val_main_v1_apply,
    val_main_v0_apply, val_main_v10_apply, val_main_v12_apply, val_main_v14_apply]
  simp only [val_main_c_apply, val_main_c_0_apply, val_main_c_1_apply, val_main_c_2_apply, val_main_c_3_apply]
  have hw : P (idx_main_v0 (idx_main_v7 (idx_main_v17 (ix2 R d)))) = P (ix2 R ⟨d.val % 384, Nat.mod_lt _ (by decide)⟩) := by
    refine congrArg P ?_
    funext a
    apply Fin.ext
    match a with
    | ⟨0, _⟩ => show (R.val * 1536 + d.val) / 1536 = R.val; omega
    | ⟨1, _⟩ => show (R.val * 1536 + d.val) % 384 = d.val % 384; omega
  have hb : ((ix2 R d 0 : Fin 36864).val * 1536 + (ix2 R d 1 : Fin 1536).val) / 384 % 4 = d.val / 384 := by
    show (R.val * 1536 + d.val) / 384 % 4 = d.val / 384
    omega
  refine (congrArg (FloatOps.sitofp (F := Ideal) .bf16) ?_ : _ = FloatOps.sitofp (F := Ideal) .bf16 (IntOp.shrsi ArithUnit.vector (IntOp.shli ArithUnit.vector
    (P (ix2 R ⟨d.val % 384, Nat.mod_lt _ (by decide)⟩))
    (if d.val < 384 then 24#32 else if d.val < 768 then 16#32 else if d.val < 1152 then 8#32 else 0#32)) 24#32))
  rw [hw]
  refine Eq.trans ?_ (ref_byte (P (ix2 R ⟨d.val % 384, Nat.mod_lt _ (by decide)⟩)) _ (8 * (d.val / 384)) (by omega) (d.val / 384) ?_ (by omega) rfl)
  · rw [← hb]
  · split
    · rw [show d.val / 384 = 0 by omega]; rfl
    · split
      · rw [show d.val / 384 = 1 by omega]; rfl
      · split
        · rw [show d.val / 384 = 2 by omega]; rfl
        · rw [show d.val / 384 = 3 by omega]; rfl

/-- Two ids are equal as numbers just where they are equal. -/
theorem idv_inj (a b : BitVec 32) : idv a = idv b ↔ a = b := by
  constructor
  · intro h
    have h1 : ((a.toInt : ℝ) : EReal) = ((b.toInt : ℝ) : EReal) := h
    exact BitVec.eq_of_toInt_eq (by exact_mod_cast EReal.coe_injective h1)
  · rintro rfl; rfl

/-- The reference's masked logits. -/
theorem ref_zs (R : Fin 32768) (s : Fin 4096) : val_main_v37 (F := Ideal) X P S Q I T (ix2 R s) = (RA X P S Q I T G).zs R s := by
  pointwise [val_main_v37, val_main_v36, val_main_v35, val_main_v34, val_main_v33, val_main_v32, val_main_v31, val_main_v30, val_main_v29, val_main_v28, val_main_v27, val_main_v26, val_main_v25, val_main_v23, val_main_v21, val_main_call1_v1, val_main_call1_v0, val_main_cst, val_main_v19]
  unfold Args.zs
  simp only [ref_code]
  show (if BitVec.ofBool (T (ix1 R) == I (ix1 s)) = 1 then Ideal.ofBits .f32 4286578688#32 else _) = if idv (I (ix1 s)) = idv (T (ix1 R)) then ⊥ else _
  by_cases h : I (ix1 s) = T (ix1 R)
  · refine Eq.trans ?_ (if_pos ((idv_inj _ _).2 h)).symm
    rw [h, beq_self_eq_true]
    exact ofBits_neg_inf
  · refine Eq.trans ?_ (if_neg (fun e => h ((idv_inj _ _).1 e))).symm
    rw [beq_eq_false_iff_ne.2 (Ne.symm h)]
    exact congrArg (fun v : EReal => v - (Q (ix1 (smpRow s)) : EReal)) (mul_comm _ _)

/-- Its target logits. -/
theorem ref_zt (R : Fin 32768) : val_main_v40 (F := Ideal) X P S Q (ix1 R) = (RA X P S Q I T G).zt R := by
  pointwise [val_main_v40, val_main_v39, val_main_v38, val_main_v24, val_main_v22, val_main_v20]
  unfold Args.zt
  simp only [ref_code]
  rfl

/-- Its log-sum-exps. -/
theorem ref_lse (R : Fin 32768) : val_main_v53 (F := Ideal) X P S Q I T (ix1 R) = (RA X P S Q I T G).lse R := by
  pointwise [val_main_v53, val_main_v52, val_main_v51, val_main_v50, val_main_v49, val_main_v48, val_main_v47, val_main_v46, val_main_v45, val_main_v44, val_main_v43, val_main_v42, val_main_v41, val_main_cst_4]
  rw [if_neg (not_not.2 rfl), ref_zt X P S Q I T G]
  simp only [ref_zs X P S Q I T G]
  unfold Args.lse lae
  rw [zero_sub]

/-- Its gradients in the sampled logits. -/
theorem ref_dz (R : Fin 32768) (s : Fin 4096) : val_main_v63 (F := Ideal) X P S Q I T G (ix2 R s) = (RA X P S Q I T G).dz R s := by
  pointwise [val_main_v63, val_main_v62, val_main_v61, val_main_v57, val_main_v56, val_main_v55, val_main_v54]
  rw [ref_zs X P S Q I T G, ref_lse X P S Q I T G]
  rfl

/-- Its gradients in the target logits. -/
theorem ref_dzt (R : Fin 32768) : val_main_v66 (F := Ideal) X P S Q I T G (ix1 R) = (RA X P S Q I T G).dzt R := by
  pointwise [val_main_v66, val_main_v65, val_main_v64, val_main_v59, val_main_v58, val_main_cst_5]
  rw [ref_zt X P S Q I T G, ref_lse X P S Q I T G]
  rfl

/-- Its gradients in the token rows. -/
theorem ref_dh (R : Fin 32768) (d : Fin 1536) : val_main_v78 (F := Ideal) X P S Q I T G (ix2 R d) = (RA X P S Q I T G).dh R d := by
  pointwise [val_main_v78, val_main_v77, val_main_v76, val_main_v75, val_main_v74, val_main_v73, val_main_v72, val_main_v71, val_main_v70, val_main_v69, val_main_v68, val_main_v67, val_main_v22, val_main_v21, val_main_v20, val_main_v19]
  simp only [ref_dz, ref_dzt, ref_code]
  rfl

/-- Its token numbers. -/
theorem ref_stat (b : Fin 128) (k : Fin 8) (r : Fin 256) : val_main_v91 (F := Ideal) X P S Q I T G (ix3 b k r) = (RA X P S Q I T G).stat k (tokRow b r) := by
  pointwise [val_main_v91, val_main_v90, val_main_v88, val_main_v87, val_main_v86, val_main_v85, val_main_v84, val_main_v83, val_main_v82, val_main_v81, val_main_v80, val_main_v79, val_main_cst_6, val_main_v60]
  unfold Args.stat
  by_cases h0 : k.val = 0
  · refine (dif_pos (by omega)).trans ?_
    refine Eq.trans ?_ (if_pos h0).symm
    exact congrArg₂ (fun a b : EReal => a - b) (ref_lse X P S Q I T G (tokRow b r)) (ref_zt X P S Q I T G (tokRow b r))
  · refine (dif_neg (by omega)).trans ?_
    refine Eq.trans ?_ (if_neg h0).symm
    by_cases h1 : k.val = 1
    · refine (dif_pos (by omega)).trans ?_
      refine Eq.trans ?_ (if_pos h1).symm
      exact ref_dzt X P S Q I T G (tokRow b r)
    · refine (dif_neg (by omega)).trans ?_
      refine Eq.trans ?_ (if_neg h1).symm
      simp only [dite_eq_ite, ite_self]

end Cert.Softmax.Ref
-- ==== Proof.SoftmaxTame.lean ====
module

public import proofs.«01_k».proof.Pre_tame
public import proofs.«01_k».proof.Proof.SoftmaxTokens

/-! # The precondition keeps every sampled logit below `+∞` -/

@[expose] public section

set_option maxRecDepth 16384

noncomputable section

namespace Cert.Softmax

open Idealize.ShloMosaic Cert.Pre_tame

/-- The shape facts the precondition takes. -/
theorem tameFacts : Cert.Pre_tame.Facts where
  bcast_S_S32768x1536 := by decide
  slices_S36864_S4096_0 := by decide
  bcast_S_S4096 := by decide

/-- A number whose size is below `+∞` is real. -/
theorem real_of_abs_lt {x : EReal} (h : FloatOps.absf (F := Ideal) (φ := .f32) x < (⊤ : EReal)) : ∃ r : ℝ, x = r := by
  have h' : max x (-x) < ⊤ := h
  induction x using EReal.rec with
  | bot => rw [EReal.neg_bot, max_eq_right bot_le] at h'; exact absurd h' (lt_irrefl _)
  | top => rw [max_eq_left le_top] at h'; exact absurd h' (lt_irrefl _)
  | coe r => exact ⟨r, rfl⟩

theorem code_real (w : Fin 384 → BitVec 32) (d : Fin 1536) : ∃ r : ℝ, code w d = r := ⟨_, rfl⟩

theorem ofBool_eq_one {b : Bool} (h : BitVec.ofBool b = 1#1) : b = true := by
  cases b
  · exact absurd h (by decide)
  · rfl

/-- Finite token rows and sampled scales, and sampled `log q` above `-∞`, leave every sampled logit below `+∞`. -/
theorem zs_lt_top (A : Args) (hx : ∀ R d, ∃ r : ℝ, A.x R d = r) (hs : ∀ s, ∃ r : ℝ, A.s (smpRow s) = r)
    (hq : ∀ s, ⊥ < A.q (smpRow s)) (R : Fin 32768) (s : Fin 4096) : A.zs R s < ⊤ := by
  unfold Args.zs
  split
  · exact bot_lt_top
  · choose x hx using hx
    choose w hw using hs
    choose u hu using code_real (A.p (smpRow s))
    simp only [hx, hw, hu]
    have e : ∀ d, (x R d : EReal) * (u d : EReal) = ((x R d * u d : ℝ) : EReal) := fun d => (EReal.coe_mul _ _).symm
    simp only [e]
    rw [coe_sum_real, ← EReal.coe_mul]
    have hq' := hq s
    generalize A.q (smpRow s) = q at hq'
    induction q using EReal.rec with
    | bot => exact absurd hq' (lt_irrefl _)
    | top => rw [EReal.sub_top]; exact bot_lt_top
    | coe q => rw [← EReal.coe_sub]; exact EReal.coe_lt_top _

variable (X : Vec Ideal S32768x1536 .bf16) (P : Vec Ideal S36864x384 .i32) (S Q : Vec Ideal S36864 .f32)
  (I : Vec Ideal S4096 .i32) (T : Vec Ideal S32768 .i32) (G : Vec Ideal S32768 .f32)

theorem inf_bf16 : Ideal.ofBits .bf16 0x7F80#16 = (⊤ : EReal) := by simp [Ideal.ofBits, Ideal.ieee]
theorem inf_f32 : Ideal.ofBits .f32 0x7F800000#32 = (⊤ : EReal) := by simp [Ideal.ofBits, Ideal.ieee]

theorem tame_x (h : (@Cert.Pre_tame.fn tameFacts Ideal _ X P S Q I T G).1 = fun _ => 1#1) (R : Fin 32768) (d : Fin 1536) :
    ∃ r : ℝ, (X (ix2 R d) : EReal) = r := by
  have h1 := congrFun h (ix2 R d)
  have h2 : BitVec.ofBool (decide (FloatOps.absf (F := Ideal) (φ := .f32) (X (ix2 R d)) < Ideal.ofBits .bf16 0x7F80#16)) = 1#1 := h1
  rw [inf_bf16] at h2
  exact real_of_abs_lt (of_decide_eq_true (ofBool_eq_one h2))

theorem tame_s (h : (@Cert.Pre_tame.fn tameFacts Ideal _ X P S Q I T G).2.1 = fun _ => 1#1) (s : Fin 4096) :
    ∃ r : ℝ, (S (ix1 (smpRow s)) : EReal) = r := by
  have h1 := congrFun h (ix1 s)
  have e : extractStridedSlice S4096 ![0] S tameFacts.slices_S36864_S4096_0 (ix1 s) = S (ix1 (smpRow s)) :=
    extractStridedSlice_apply ![0] S tameFacts.slices_S36864_S4096_0 (ix1 s) (ix1 (smpRow s)) (fun a => match a with
      | ⟨0, _⟩ => by show s.val = 0 + s.val; omega)
  have h2 : BitVec.ofBool (decide (FloatOps.absf (F := Ideal) (φ := .f32) (extractStridedSlice S4096 ![0] S tameFacts.slices_S36864_S4096_0 (ix1 s)) < Ideal.ofBits .f32 0x7F800000#32)) = 1#1 := h1
  rw [e, inf_f32] at h2
  exact real_of_abs_lt (of_decide_eq_true (ofBool_eq_one h2))

theorem tame_q (h : (@Cert.Pre_tame.fn tameFacts Ideal _ X P S Q I T G).2.2 = fun _ => 1#1) (s : Fin 4096) :
    (⊥ : EReal) < Q (ix1 (smpRow s)) := by
  have h1 := congrFun h (ix1 s)
  have e : extractStridedSlice S4096 ![0] Q tameFacts.slices_S36864_S4096_0 (ix1 s) = Q (ix1 (smpRow s)) :=
    extractStridedSlice_apply ![0] Q tameFacts.slices_S36864_S4096_0 (ix1 s) (ix1 (smpRow s)) (fun a => match a with
      | ⟨0, _⟩ => by show s.val = 0 + s.val; omega)
  have h2 : BitVec.ofBool (decide ((Ideal.ofBits .f32 0xFF800000#32 : EReal) < extractStridedSlice S4096 ![0] Q tameFacts.slices_S36864_S4096_0 (ix1 s))) = 1#1 := h1
  rw [e, ofBits_neg_inf] at h2
  exact of_decide_eq_true (ofBool_eq_one h2)

end Cert.Softmax
-- ==== Proof.SoftmaxValue.lean ====
module

public import proofs.«01_k».proof.Defs
public import proofs.«01_k».proof.Proof.SoftmaxArrays
public import proofs.«01_k».proof.Proof.SoftmaxReference
public import proofs.«01_k».proof.Proof.SoftmaxTame
public import proofs.«01_k».proof.Proof.Gen.ReferenceIdeal.Run

/-! # The softmax kernel and its reference end with the same three arrays -/

@[expose] public section

set_option maxRecDepth 16384

noncomputable section

namespace Cert.Softmax

open Idealize.ShloMosaic Idealize.SL.Sem Cert.KernelIdeal Cert.KernelIdeal.Value

variable (X : Vec Ideal S32768x1536 .bf16) (P : Vec Ideal S36864x384 .i32) (S Q : Vec Ideal S36864 .f32)
  (I : Vec Ideal S4096 .i32) (T : Vec Ideal S32768 .i32) (G : Vec Ideal S32768 .f32)

/-- The reference's first result is the array of gradients in the token rows. -/
theorem ref_DH : Cert.ReferenceIdeal.Read.val_main_v78 (F := Ideal) X P S Q I T G = DH (Ref.RA X P S Q I T G) := by
  funext j
  obtain ⟨R, d, rfl⟩ : ∃ (R : Fin 32768) (d : Fin 1536), j = ix2 R d := ⟨j 0, j 1, eq_ix2 j⟩
  exact Ref.ref_dh X P S Q I T G R d

/-- Its second result is the array of gradients in the sampled logits. -/
theorem ref_DZ : Cert.ReferenceIdeal.Read.val_main_v89 (F := Ideal) X P S Q I T G = DZ (Ref.RA X P S Q I T G) := by
  funext j
  obtain ⟨R, s, rfl⟩ : ∃ (R : Fin 32768) (s : Fin 4096), j = ix2 R s := ⟨j 0, j 1, eq_ix2 j⟩
  exact Ref.ref_dz X P S Q I T G R s

/-- Its third result is the array of losses and target derivatives. -/
theorem ref_STAT : Cert.ReferenceIdeal.Read.val_main_v91 (F := Ideal) X P S Q I T G = STAT (Ref.RA X P S Q I T G) := by
  funext j
  obtain ⟨b, k, r, rfl⟩ : ∃ (b : Fin 128) (k : Fin 8) (r : Fin 256), j = ix3 b k r := ⟨j 0, j 1, j 2, eq_ix3 j⟩
  exact Ref.ref_stat X P S Q I T G b k r

/-- Under the precondition no sampled logit of the kernel's is `+∞`. -/
theorem tame_zs (m : (ℓ : Loc nD τ sig) → Buf (Elt Ideal) ℓ) (h : Cert.Pre_KernelIdeal_tame (hPre_tame := tameFacts) m)
    (c : Dev nD) (R : Fin 32768) (s : Fin 4096) : (KA m c).zs R s < ⊤ :=
  zs_lt_top (KA m c) (tame_x (aX m c) (aP m c) (aS m c) (aQ m c) (aI m c) (aT m c) (aG m c) (h c).1)
    (tame_s (aX m c) (aP m c) (aS m c) (aQ m c) (aI m c) (aT m c) (aG m c) (h c).2.1)
    (tame_q (aX m c) (aP m c) (aS m c) (aQ m c) (aI m c) (aT m c) (aG m c) (h c).2.2) R s

/-- From tame arguments the softmax kernel and its reference end with equal results. -/
theorem algebraic : Cert.algebraic_KernelIdeal_ReferenceIdeal_pre_tame (hPre_tame := tameFacts) := fun m ρ m' ρ' hpre hag =>
  ⟨fun c => DH (KA m c), fun c => DZ (KA m c), fun c => STAT (KA m c),
    (θ_run _ _ _).mono (fun _ h c => ⟨(h c).1.trans (final_DH m c (tame_zs m hpre c)), (h c).2.1.trans (final_DZ m c (tame_zs m hpre c)),
        (h c).2.2.1.trans (final_STAT m c (tame_zs m hpre c)), (h c).2.2.2⟩)
      (run_blocks (F := Ideal) m ρ),
    (θ_run _ _ _).mono (fun _ h c => by
        obtain ⟨a0, a1, a2, a3, a4, a5, a6⟩ := hag c
        refine ⟨(h c).1.trans ?_, (h c).2.1.trans ?_, (h c).2.2.1.trans ?_, (h c).2.2.2⟩
        · rw [Cert.ReferenceIdeal.Read.val_main_v78_eq, a0, a1, a2, a3, a4, a5, a6]
          exact ref_DH (aX m c) (aP m c) (aS m c) (aQ m c) (aI m c) (aT m c) (aG m c)
        · rw [Cert.ReferenceIdeal.Read.val_main_v89_eq, a0, a1, a2, a3, a4, a5, a6]
          exact ref_DZ (aX m c) (aP m c) (aS m c) (aQ m c) (aI m c) (aT m c) (aG m c)
        · rw [Cert.ReferenceIdeal.Read.val_main_v91_eq, a0, a1, a2, a3, a4, a5, a6]
          exact ref_STAT (aX m c) (aP m c) (aS m c) (aQ m c) (aI m c) (aT m c) (aG m c))
      (Cert.ReferenceIdeal.Value.run (F := Ideal) m' ρ')⟩

end Cert.Softmax
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwReferenceIdeal
public import proofs.«01_k».proof.Proof.Gen.KernelIdeal.Value
public import proofs.«01_k».proof.Proof.Gen.DwKernelIdeal.Value
public import proofs.«01_k».proof.Proof.Gen.ReferenceIdeal.Run
public import proofs.«01_k».proof.Proof.Gen.ReferenceIdeal.Read
public import proofs.«01_k».proof.Proof.Gen.DwReferenceIdeal.Run
public import proofs.«01_k».proof.Proof.Gen.DwReferenceIdeal.Read
public import Idealize.ShloMosaic.Adequacy
public import Idealize.ShloMosaic.Init
public import Idealize.ShloMosaic.Lib.Quiescent
public import proofs.«01_k».proof.Proof.DwValue
public import proofs.«01_k».proof.Proof.CopyValue
public import proofs.«01_k».proof.Proof.AddValue
public import proofs.«01_k».proof.Proof.SoftmaxValue

@[expose] public section

noncomputable section

namespace Cert.Proof

open Idealize.ShloMosaic Idealize.SL.Sem Cert.Kernel

/-- The weight-gradient kernel and its reference end with equal result arrays. -/
theorem dw_algebraic : Cert.algebraic_DwKernelIdeal_DwReferenceIdeal := fun m ρ m' ρ' _ hag =>
  ⟨fun c => Cert.DwKernelIdeal.Value.G2 (F := Ideal) m c, Cert.DwKernelIdeal.Value.run (F := Ideal) m ρ,
    (θ_run _ _ _).mono (fun _ h c => ⟨(h c).1.trans (by
      rw [(hag c).1, (hag c).2]
      exact (Cert.DwReferenceIdeal.Read.val_main_v0_eq _ _).trans (Cert.DwValue.G2_eq m c).symm), (h c).2⟩)
      (Cert.DwReferenceIdeal.Value.run (F := Ideal) m' ρ')⟩

/-- The weight-gradient reference runs, leaves its arguments unchanged and has no semaphore. -/
theorem dw_reference_frame : Cert.quiescent_DwReferenceIdeal := fun m ρ _ =>
  (θ_run Cert.DwReferenceIdeal.defs _ _).mono (fun r h => ⟨fun c => (h c).2, sem_eq_zero_of_no_sems (by decide) r.2⟩)
    (Cert.DwReferenceIdeal.Value.run (F := Ideal) m ρ)

/-- The softmax reference runs, leaves its arguments unchanged and has no semaphore. -/
theorem softmax_reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.DwKernel.Gen.facts, Cert.DwKernelIdeal.Gen.facts, Cert.DwReferenceIdeal.Gen.facts,
  Cert.CopyKernel.Gen.facts, Cert.CopyKernelIdeal.Gen.facts, Cert.CopyReferenceIdeal.Gen.facts,
  Cert.AddKernel.Gen.facts, Cert.AddKernelIdeal.Gen.facts, Cert.AddReferenceIdeal.Gen.facts, Cert.Softmax.tameFacts, AddEach.eachFacts,
  fun m ρ _ => Cert.Kernel.Gen.frame m ρ, fun m ρ _ => Cert.KernelIdeal.Gen.frame m ρ, fun m ρ _ => Cert.KernelIdeal.Gen.frame m ρ,
  softmax_reference_frame, fun m ρ _ => softmax_reference_frame m ρ trivial,
  fun m ρ _ => Cert.DwKernel.Gen.frame m ρ, fun m ρ _ => Cert.DwKernelIdeal.Gen.frame m ρ, dw_reference_frame,
  CopyValue.kernel_frame, CopyValue.ideal_frame, CopyValue.reference_frame,
  AddValue.kernel_frame, AddValue.ideal_frame, AddValue.reference_frame, fun m ρ _ => AddValue.reference_frame m ρ trivial,
  trivial, Cert.Softmax.algebraic, trivial, dw_algebraic, trivial, CopyValue.algebraic, trivial, AddValue.algebraic⟩

end Cert.Proof

end
